-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_EmbedS (m : (ℓ : Loc Cert.EmbedS.nD Cert.EmbedS.τ Cert.EmbedS.sig) → Buf (Elt Bits) ℓ) : Prop :=
  True

def Pre_EmbedSIdeal (m : (ℓ : Loc Cert.EmbedSIdeal.nD Cert.EmbedSIdeal.τ Cert.EmbedSIdeal.sig) → Buf (Elt Ideal) ℓ) : Prop :=
  True

def Pre_EmbedSRefIdeal (m : (ℓ : Loc Cert.EmbedSRefIdeal.nD Cert.EmbedSRefIdeal.τ Cert.EmbedSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Experts [hPre_plan : Cert.Pre_plan.Facts] (m : (ℓ : Loc Cert.Experts.nD Cert.Experts.τ Cert.Experts.sig) → Buf (Elt Bits) ℓ) : Prop :=
  ∀ c : Dev Cert.Experts.nD,
    (Cert.Pre_plan.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_plan : Cert.Pre_plan.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_plan [hPre_plan : Cert.Pre_plan.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_plan.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_inputs [hPre_finite_inputs : Cert.Pre_finite_inputs.Facts] (m : (ℓ : Loc Cert.PoolIdeal.nD Cert.PoolIdeal.τ Cert.PoolIdeal.sig) → Buf (Elt Ideal) ℓ) : Prop :=
  ∀ c : Dev Cert.PoolIdeal.nD,
    (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_inputs [hPre_finite_inputs : Cert.Pre_finite_inputs.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSIdeal_finite_buffer [hPre_finite_buffer : Cert.Pre_finite_buffer.Facts] (m : (ℓ : Loc Cert.PoolSIdeal.nD Cert.PoolSIdeal.τ Cert.PoolSIdeal.sig) → Buf (Elt Ideal) ℓ) : Prop :=
  ∀ c : Dev Cert.PoolSIdeal.nD,
    (Cert.Pre_finite_buffer.fn (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2))) = (fun _ => 1#1)

def Pre_PoolSRefIdeal (m : (ℓ : Loc Cert.PoolSRefIdeal.nD Cert.PoolSRefIdeal.τ Cert.PoolSRefIdeal.sig) → Buf (Elt Ideal) ℓ) : Prop :=
  True

def Pre_PoolSRefIdeal_finite_buffer [hPre_finite_buffer : Cert.Pre_finite_buffer.Facts] (m : (ℓ : Loc Cert.PoolSRefIdeal.nD Cert.PoolSRefIdeal.τ Cert.PoolSRefIdeal.sig) → Buf (Elt Ideal) ℓ) : Prop :=
  ∀ c : Dev Cert.PoolSRefIdeal.nD,
    (Cert.Pre_finite_buffer.fn (F := Ideal) (m ((c.tc : Thread Cert.PoolSRefIdeal.nD Cert.PoolSRefIdeal.τ).loc Cert.PoolSRefIdeal.main_arg0)) (m ((c.tc : Thread Cert.PoolSRefIdeal.nD Cert.PoolSRefIdeal.τ).loc Cert.PoolSRefIdeal.main_arg1)) (m ((c.tc : Thread Cert.PoolSRefIdeal.nD Cert.PoolSRefIdeal.τ).loc Cert.PoolSRefIdeal.main_arg2))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4)
      ∧ r.2.mem ((c.tc : Thread Cert.Embed.nD Cert.Embed.τ).loc Cert.Embed.main_arg5) = m ((c.tc : Thread Cert.Embed.nD Cert.Embed.τ).loc Cert.Embed.main_arg5)
      ∧ r.2.mem ((c.tc : Thread Cert.Embed.nD Cert.Embed.τ).loc Cert.Embed.main_arg6) = m ((c.tc : Thread Cert.Embed.nD Cert.Embed.τ).loc Cert.Embed.main_arg6))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
      ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4)
      ∧ r.2.mem ((c.tc : Thread Cert.EmbedRefIdeal.nD Cert.EmbedRefIdeal.τ).loc Cert.EmbedRefIdeal.main_arg5) = m ((c.tc : Thread Cert.EmbedRefIdeal.nD Cert.EmbedRefIdeal.τ).loc Cert.EmbedRefIdeal.main_arg5)
      ∧ r.2.mem ((c.tc : Thread Cert.EmbedRefIdeal.nD Cert.EmbedRefIdeal.τ).loc Cert.EmbedRefIdeal.main_arg6) = m ((c.tc : Thread Cert.EmbedRefIdeal.nD Cert.EmbedRefIdeal.τ).loc Cert.EmbedRefIdeal.main_arg6))
      ∧ r.2.sem = fun _ => 0)

def quiescent_EmbedS [hEmbedS : Cert.EmbedS.Facts] : Prop :=
  ∀ (m : (ℓ : Loc Cert.EmbedS.nD Cert.EmbedS.τ Cert.EmbedS.sig) → Buf (Elt Bits) ℓ) (g : Dev Cert.EmbedS.nD → PrngReg), Pre_EmbedS m →
    θ_run (Cert.EmbedS.defs (F := Bits)) (onTc (τ := Cert.EmbedS.τ) (Cert.EmbedS.main (F := Bits))) ⟨m, fun _ => 0, g⟩ (fun r => (∀ c : Dev Cert.EmbedS.nD,
      r.2.mem ((c.tc : Thread Cert.EmbedS.nD Cert.EmbedS.τ).loc Cert.EmbedS.main_arg0) = m ((c.tc : Thread Cert.EmbedS.nD Cert.EmbedS.τ).loc Cert.EmbedS.main_arg0)
      ∧ r.2.mem ((c.tc : Thread Cert.EmbedS.nD Cert.EmbedS.τ).loc Cert.EmbedS.main_arg1) = m ((c.tc : Thread Cert.EmbedS.nD Cert.EmbedS.τ).loc Cert.EmbedS.main_arg1)
      ∧ r.2.mem ((c.tc : Thread Cert.EmbedS.nD Cert.EmbedS.τ).loc Cert.EmbedS.main_arg2) = m ((c.tc : Thread Cert.EmbedS.nD Cert.EmbedS.τ).loc Cert.EmbedS.main_arg2)
      ∧ r.2.mem ((c.tc : Thread Cert.EmbedS.nD Cert.EmbedS.τ).loc Cert.EmbedS.main_arg3) = m ((c.tc : Thread Cert.EmbedS.nD Cert.EmbedS.τ).loc Cert.EmbedS.main_arg3)
      ∧ r.2.mem ((c.tc : Thread Cert.EmbedS.nD Cert.EmbedS.τ).loc Cert.EmbedS.main_arg4) = m ((c.tc : Thread Cert.EmbedS.nD Cert.EmbedS.τ).loc Cert.EmbedS.main_arg4)
      ∧ r.2.mem ((c.tc : Thread Cert.EmbedS.nD Cert.EmbedS.τ).loc Cert.EmbedS.main_arg5) = m ((c.tc : Thread Cert.EmbedS.nD Cert.EmbedS.τ).loc Cert.EmbedS.main_arg5)
      ∧ r.2.mem ((c.tc : Thread Cert.EmbedS.nD Cert.EmbedS.τ).loc Cert.EmbedS.main_arg6) = m ((c.tc : Thread Cert.EmbedS.nD Cert.EmbedS.τ).loc Cert.EmbedS.main_arg6))
      ∧ r.2.sem = fun _ => 0)

def quiescent_EmbedSIdeal [hEmbedSIdeal : Cert.EmbedSIdeal.Facts] : Prop :=
  ∀ (m : (ℓ : Loc Cert.EmbedSIdeal.nD Cert.EmbedSIdeal.τ Cert.EmbedSIdeal.sig) → Buf (Elt Ideal) ℓ) (g : Dev Cert.EmbedSIdeal.nD → PrngReg), Pre_EmbedSIdeal m →
    θ_run (Cert.EmbedSIdeal.defs (F := Ideal)) (onTc (τ := Cert.EmbedSIdeal.τ) (Cert.EmbedSIdeal.main (F := Ideal))) ⟨m, fun _ => 0, g⟩ (fun r => (∀ c : Dev Cert.EmbedSIdeal.nD,
      r.2.mem ((c.tc : Thread Cert.EmbedSIdeal.nD Cert.EmbedSIdeal.τ).loc Cert.EmbedSIdeal.main_arg0) = m ((c.tc : Thread Cert.EmbedSIdeal.nD Cert.EmbedSIdeal.τ).loc Cert.EmbedSIdeal.main_arg0)
      ∧ r.2.mem ((c.tc : Thread Cert.EmbedSIdeal.nD Cert.EmbedSIdeal.τ).loc Cert.EmbedSIdeal.main_arg1) = m ((c.tc : Thread Cert.EmbedSIdeal.nD Cert.EmbedSIdeal.τ).loc Cert.EmbedSIdeal.main_arg1)
      ∧ r.2.mem ((c.tc : Thread Cert.EmbedSIdeal.nD Cert.EmbedSIdeal.τ).loc Cert.EmbedSIdeal.main_arg2) = m ((c.tc : Thread Cert.EmbedSIdeal.nD Cert.EmbedSIdeal.τ).loc Cert.EmbedSIdeal.main_arg2)
      ∧ r.2.mem ((c.tc : Thread Cert.EmbedSIdeal.nD Cert.EmbedSIdeal.τ).loc Cert.EmbedSIdeal.main_arg3) = m ((c.tc : Thread Cert.EmbedSIdeal.nD Cert.EmbedSIdeal.τ).loc Cert.EmbedSIdeal.main_arg3)
      ∧ r.2.mem ((c.tc : Thread Cert.EmbedSIdeal.nD Cert.EmbedSIdeal.τ).loc Cert.EmbedSIdeal.main_arg4) = m ((c.tc : Thread Cert.EmbedSIdeal.nD Cert.EmbedSIdeal.τ).loc Cert.EmbedSIdeal.main_arg4)
      ∧ r.2.mem ((c.tc : Thread Cert.EmbedSIdeal.nD Cert.EmbedSIdeal.τ).loc Cert.EmbedSIdeal.main_arg5) = m ((c.tc : Thread Cert.EmbedSIdeal.nD Cert.EmbedSIdeal.τ).loc Cert.EmbedSIdeal.main_arg5)
      ∧ r.2.mem ((c.tc : Thread Cert.EmbedSIdeal.nD Cert.EmbedSIdeal.τ).loc Cert.EmbedSIdeal.main_arg6) = m ((c.tc : Thread Cert.EmbedSIdeal.nD Cert.EmbedSIdeal.τ).loc Cert.EmbedSIdeal.main_arg6))
      ∧ r.2.sem = fun _ => 0)

def quiescent_EmbedSRefIdeal [hEmbedSRefIdeal : Cert.EmbedSRefIdeal.Facts] : Prop :=
  ∀ (m : (ℓ : Loc Cert.EmbedSRefIdeal.nD Cert.EmbedSRefIdeal.τ Cert.EmbedSRefIdeal.sig) → Buf (Elt Ideal) ℓ) (g : Dev Cert.EmbedSRefIdeal.nD → PrngReg), Pre_EmbedSRefIdeal m →
    θ_run (Cert.EmbedSRefIdeal.defs (F := Ideal)) (onTc (τ := Cert.EmbedSRefIdeal.τ) (Cert.EmbedSRefIdeal.main (F := Ideal))) ⟨m, fun _ => 0, g⟩ (fun r => (∀ c : Dev Cert.EmbedSRefIdeal.nD,
      r.2.mem ((c.tc : Thread Cert.EmbedSRefIdeal.nD Cert.EmbedSRefIdeal.τ).loc Cert.EmbedSRefIdeal.main_arg0) = m ((c.tc : Thread Cert.EmbedSRefIdeal.nD Cert.EmbedSRefIdeal.τ).loc Cert.EmbedSRefIdeal.main_arg0)
      ∧ r.2.mem ((c.tc : Thread Cert.EmbedSRefIdeal.nD Cert.EmbedSRefIdeal.τ).loc Cert.EmbedSRefIdeal.main_arg1) = m ((c.tc : Thread Cert.EmbedSRefIdeal.nD Cert.EmbedSRefIdeal.τ).loc Cert.EmbedSRefIdeal.main_arg1)
      ∧ r.2.mem ((c.tc : Thread Cert.EmbedSRefIdeal.nD Cert.EmbedSRefIdeal.τ).loc Cert.EmbedSRefIdeal.main_arg2) = m ((c.tc : Thread Cert.EmbedSRefIdeal.nD Cert.EmbedSRefIdeal.τ).loc Cert.EmbedSRefIdeal.main_arg2)
      ∧ r.2.mem ((c.tc : Thread Cert.EmbedSRefIdeal.nD Cert.EmbedSRefIdeal.τ).loc Cert.EmbedSRefIdeal.main_arg3) = m ((c.tc : Thread Cert.EmbedSRefIdeal.nD Cert.EmbedSRefIdeal.τ).loc Cert.EmbedSRefIdeal.main_arg3)
      ∧ r.2.mem ((c.tc : Thread Cert.EmbedSRefIdeal.nD Cert.EmbedSRefIdeal.τ).loc Cert.EmbedSRefIdeal.main_arg4) = m ((c.tc : Thread Cert.EmbedSRefIdeal.nD Cert.EmbedSRefIdeal.τ).loc Cert.EmbedSRefIdeal.main_arg4)
      ∧ r.2.mem ((c.tc : Thread Cert.EmbedSRefIdeal.nD Cert.EmbedSRefIdeal.τ).loc Cert.EmbedSRefIdeal.main_arg5) = m ((c.tc : Thread Cert.EmbedSRefIdeal.nD Cert.EmbedSRefIdeal.τ).loc Cert.EmbedSRefIdeal.main_arg5)
      ∧ r.2.mem ((c.tc : Thread Cert.EmbedSRefIdeal.nD Cert.EmbedSRefIdeal.τ).loc Cert.EmbedSRefIdeal.main_arg6) = m ((c.tc : Thread Cert.EmbedSRefIdeal.nD Cert.EmbedSRefIdeal.τ).loc Cert.EmbedSRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def quiescent_Experts [hExperts : Cert.Experts.Facts] [hPre_plan : Cert.Pre_plan.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_plan : Cert.Pre_plan.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_plan [hExpertsRefIdeal : Cert.ExpertsRefIdeal.Facts] [hPre_plan : Cert.Pre_plan.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_plan m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_inputs [hPoolIdeal : Cert.PoolIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_inputs m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_finite_inputs [hPoolRefIdeal : Cert.PoolRefIdeal.Facts] [hPre_finite_inputs : Cert.Pre_finite_inputs.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_inputs m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ r.2.sem = fun _ => 0)

def quiescent_PoolSIdeal_pre_finite_buffer [hPoolSIdeal : Cert.PoolSIdeal.Facts] [hPre_finite_buffer : Cert.Pre_finite_buffer.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal_finite_buffer m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2))
      ∧ r.2.sem = fun _ => 0)

def quiescent_PoolSRefIdeal_pre_finite_buffer [hPoolSRefIdeal : Cert.PoolSRefIdeal.Facts] [hPre_finite_buffer : Cert.Pre_finite_buffer.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal_finite_buffer m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v7)) (v2 : (c : Dev Cert.ProjIdeal.nD) → Buf (Elt Ideal) ((c.tc : Thread Cert.ProjIdeal.nD Cert.ProjIdeal.τ).loc Cert.ProjIdeal.main_v9)) (v3 : (c : Dev Cert.ProjIdeal.nD) → Buf (Elt Ideal) ((c.tc : Thread Cert.ProjIdeal.nD Cert.ProjIdeal.τ).loc Cert.ProjIdeal.main_v5_0)) (v4 : (c : Dev Cert.ProjIdeal.nD) → Buf (Elt Ideal) ((c.tc : Thread Cert.ProjIdeal.nD Cert.ProjIdeal.τ).loc Cert.ProjIdeal.main_v5_4)) (v5 : (c : Dev Cert.ProjIdeal.nD) → Buf (Elt Ideal) ((c.tc : Thread Cert.ProjIdeal.nD Cert.ProjIdeal.τ).loc Cert.ProjIdeal.main_v5_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v7) = v1 c
          ∧ r.2.mem ((c.tc : Thread Cert.ProjIdeal.nD Cert.ProjIdeal.τ).loc Cert.ProjIdeal.main_v9) = v2 c
          ∧ r.2.mem ((c.tc : Thread Cert.ProjIdeal.nD Cert.ProjIdeal.τ).loc Cert.ProjIdeal.main_v5_0) = v3 c
          ∧ r.2.mem ((c.tc : Thread Cert.ProjIdeal.nD Cert.ProjIdeal.τ).loc Cert.ProjIdeal.main_v5_4) = v4 c
          ∧ r.2.mem ((c.tc : Thread Cert.ProjIdeal.nD Cert.ProjIdeal.τ).loc Cert.ProjIdeal.main_v5_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v26) = v2 c
          ∧ r.2.mem ((c.tc : Thread Cert.ProjRefIdeal.nD Cert.ProjRefIdeal.τ).loc Cert.ProjRefIdeal.main_v30) = v3 c
          ∧ r.2.mem ((c.tc : Thread Cert.ProjRefIdeal.nD Cert.ProjRefIdeal.τ).loc Cert.ProjRefIdeal.main_v32) = v4 c
          ∧ r.2.mem ((c.tc : Thread Cert.ProjRefIdeal.nD Cert.ProjRefIdeal.τ).loc Cert.ProjRefIdeal.main_v34) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)
      ∧ m' ((c.tc : Thread Cert.EmbedRefIdeal.nD Cert.EmbedRefIdeal.τ).loc Cert.EmbedRefIdeal.main_arg5) = m ((c.tc : Thread Cert.EmbedIdeal.nD Cert.EmbedIdeal.τ).loc Cert.EmbedIdeal.main_arg5)
      ∧ m' ((c.tc : Thread Cert.EmbedRefIdeal.nD Cert.EmbedRefIdeal.τ).loc Cert.EmbedRefIdeal.main_arg6) = m ((c.tc : Thread Cert.EmbedIdeal.nD Cert.EmbedIdeal.τ).loc Cert.EmbedIdeal.main_arg6)) →
    ∃ (v0 : (c : Dev Cert.EmbedIdeal.nD) → Buf (Elt Ideal) ((c.tc : Thread Cert.EmbedIdeal.nD Cert.EmbedIdeal.τ).loc Cert.EmbedIdeal.main_v9)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v9) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
          ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v42) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4)
          ∧ r.2.mem ((c.tc : Thread Cert.EmbedRefIdeal.nD Cert.EmbedRefIdeal.τ).loc Cert.EmbedRefIdeal.main_arg5) = m' ((c.tc : Thread Cert.EmbedRefIdeal.nD Cert.EmbedRefIdeal.τ).loc Cert.EmbedRefIdeal.main_arg5)
          ∧ r.2.mem ((c.tc : Thread Cert.EmbedRefIdeal.nD Cert.EmbedRefIdeal.τ).loc Cert.EmbedRefIdeal.main_arg6) = m' ((c.tc : Thread Cert.EmbedRefIdeal.nD Cert.EmbedRefIdeal.τ).loc Cert.EmbedRefIdeal.main_arg6))

def preserves_EmbedS_EmbedSIdeal : Prop :=
  True

def algebraic_EmbedSIdeal_EmbedSRefIdeal [hEmbedSIdeal : Cert.EmbedSIdeal.Facts] [hEmbedSRefIdeal : Cert.EmbedSRefIdeal.Facts] : Prop :=
  ∀ (m : (ℓ : Loc Cert.EmbedSIdeal.nD Cert.EmbedSIdeal.τ Cert.EmbedSIdeal.sig) → Buf (Elt Ideal) ℓ) (g : Dev Cert.EmbedSIdeal.nD → PrngReg)
    (m' : (ℓ : Loc Cert.EmbedSRefIdeal.nD Cert.EmbedSRefIdeal.τ Cert.EmbedSRefIdeal.sig) → Buf (Elt Ideal) ℓ) (g' : Dev Cert.EmbedSRefIdeal.nD → PrngReg), Pre_EmbedSIdeal m →
    (∀ c : Dev Cert.EmbedSIdeal.nD,
      m' ((c.tc : Thread Cert.EmbedSRefIdeal.nD Cert.EmbedSRefIdeal.τ).loc Cert.EmbedSRefIdeal.main_arg0) = m ((c.tc : Thread Cert.EmbedSIdeal.nD Cert.EmbedSIdeal.τ).loc Cert.EmbedSIdeal.main_arg0)
      ∧ m' ((c.tc : Thread Cert.EmbedSRefIdeal.nD Cert.EmbedSRefIdeal.τ).loc Cert.EmbedSRefIdeal.main_arg1) = m ((c.tc : Thread Cert.EmbedSIdeal.nD Cert.EmbedSIdeal.τ).loc Cert.EmbedSIdeal.main_arg1)
      ∧ m' ((c.tc : Thread Cert.EmbedSRefIdeal.nD Cert.EmbedSRefIdeal.τ).loc Cert.EmbedSRefIdeal.main_arg2) = m ((c.tc : Thread Cert.EmbedSIdeal.nD Cert.EmbedSIdeal.τ).loc Cert.EmbedSIdeal.main_arg2)
      ∧ m' ((c.tc : Thread Cert.EmbedSRefIdeal.nD Cert.EmbedSRefIdeal.τ).loc Cert.EmbedSRefIdeal.main_arg3) = m ((c.tc : Thread Cert.EmbedSIdeal.nD Cert.EmbedSIdeal.τ).loc Cert.EmbedSIdeal.main_arg3)
      ∧ m' ((c.tc : Thread Cert.EmbedSRefIdeal.nD Cert.EmbedSRefIdeal.τ).loc Cert.EmbedSRefIdeal.main_arg4) = m ((c.tc : Thread Cert.EmbedSIdeal.nD Cert.EmbedSIdeal.τ).loc Cert.EmbedSIdeal.main_arg4)
      ∧ m' ((c.tc : Thread Cert.EmbedSRefIdeal.nD Cert.EmbedSRefIdeal.τ).loc Cert.EmbedSRefIdeal.main_arg5) = m ((c.tc : Thread Cert.EmbedSIdeal.nD Cert.EmbedSIdeal.τ).loc Cert.EmbedSIdeal.main_arg5)
      ∧ m' ((c.tc : Thread Cert.EmbedSRefIdeal.nD Cert.EmbedSRefIdeal.τ).loc Cert.EmbedSRefIdeal.main_arg6) = m ((c.tc : Thread Cert.EmbedSIdeal.nD Cert.EmbedSIdeal.τ).loc Cert.EmbedSIdeal.main_arg6)) →
    ∃ (v0 : (c : Dev Cert.EmbedSIdeal.nD) → Buf (Elt Ideal) ((c.tc : Thread Cert.EmbedSIdeal.nD Cert.EmbedSIdeal.τ).loc Cert.EmbedSIdeal.main_v9)),
      θ_run (Cert.EmbedSIdeal.defs (F := Ideal)) (onTc (τ := Cert.EmbedSIdeal.τ) (Cert.EmbedSIdeal.main (F := Ideal))) ⟨m, fun _ => 0, g⟩ (fun r => ∀ c : Dev Cert.EmbedSIdeal.nD,
          r.2.mem ((c.tc : Thread Cert.EmbedSIdeal.nD Cert.EmbedSIdeal.τ).loc Cert.EmbedSIdeal.main_v9) = v0 c
          ∧ r.2.mem ((c.tc : Thread Cert.EmbedSIdeal.nD Cert.EmbedSIdeal.τ).loc Cert.EmbedSIdeal.main_arg0) = m ((c.tc : Thread Cert.EmbedSIdeal.nD Cert.EmbedSIdeal.τ).loc Cert.EmbedSIdeal.main_arg0)
          ∧ r.2.mem ((c.tc : Thread Cert.EmbedSIdeal.nD Cert.EmbedSIdeal.τ).loc Cert.EmbedSIdeal.main_arg1) = m ((c.tc : Thread Cert.EmbedSIdeal.nD Cert.EmbedSIdeal.τ).loc Cert.EmbedSIdeal.main_arg1)
          ∧ r.2.mem ((c.tc : Thread Cert.EmbedSIdeal.nD Cert.EmbedSIdeal.τ).loc Cert.EmbedSIdeal.main_arg2) = m ((c.tc : Thread Cert.EmbedSIdeal.nD Cert.EmbedSIdeal.τ).loc Cert.EmbedSIdeal.main_arg2)
          ∧ r.2.mem ((c.tc : Thread Cert.EmbedSIdeal.nD Cert.EmbedSIdeal.τ).loc Cert.EmbedSIdeal.main_arg3) = m ((c.tc : Thread Cert.EmbedSIdeal.nD Cert.EmbedSIdeal.τ).loc Cert.EmbedSIdeal.main_arg3)
          ∧ r.2.mem ((c.tc : Thread Cert.EmbedSIdeal.nD Cert.EmbedSIdeal.τ).loc Cert.EmbedSIdeal.main_arg4) = m ((c.tc : Thread Cert.EmbedSIdeal.nD Cert.EmbedSIdeal.τ).loc Cert.EmbedSIdeal.main_arg4)
          ∧ r.2.mem ((c.tc : Thread Cert.EmbedSIdeal.nD Cert.EmbedSIdeal.τ).loc Cert.EmbedSIdeal.main_arg5) = m ((c.tc : Thread Cert.EmbedSIdeal.nD Cert.EmbedSIdeal.τ).loc Cert.EmbedSIdeal.main_arg5)
          ∧ r.2.mem ((c.tc : Thread Cert.EmbedSIdeal.nD Cert.EmbedSIdeal.τ).loc Cert.EmbedSIdeal.main_arg6) = m ((c.tc : Thread Cert.EmbedSIdeal.nD Cert.EmbedSIdeal.τ).loc Cert.EmbedSIdeal.main_arg6))
      ∧ θ_run (Cert.EmbedSRefIdeal.defs (F := Ideal)) (onTc (τ := Cert.EmbedSRefIdeal.τ) (Cert.EmbedSRefIdeal.main (F := Ideal))) ⟨m', fun _ => 0, g'⟩ (fun r => ∀ c : Dev Cert.EmbedSRefIdeal.nD,
          r.2.mem ((c.tc : Thread Cert.EmbedSRefIdeal.nD Cert.EmbedSRefIdeal.τ).loc Cert.EmbedSRefIdeal.main_v42) = v0 c
          ∧ r.2.mem ((c.tc : Thread Cert.EmbedSRefIdeal.nD Cert.EmbedSRefIdeal.τ).loc Cert.EmbedSRefIdeal.main_arg0) = m' ((c.tc : Thread Cert.EmbedSRefIdeal.nD Cert.EmbedSRefIdeal.τ).loc Cert.EmbedSRefIdeal.main_arg0)
          ∧ r.2.mem ((c.tc : Thread Cert.EmbedSRefIdeal.nD Cert.EmbedSRefIdeal.τ).loc Cert.EmbedSRefIdeal.main_arg1) = m' ((c.tc : Thread Cert.EmbedSRefIdeal.nD Cert.EmbedSRefIdeal.τ).loc Cert.EmbedSRefIdeal.main_arg1)
          ∧ r.2.mem ((c.tc : Thread Cert.EmbedSRefIdeal.nD Cert.EmbedSRefIdeal.τ).loc Cert.EmbedSRefIdeal.main_arg2) = m' ((c.tc : Thread Cert.EmbedSRefIdeal.nD Cert.EmbedSRefIdeal.τ).loc Cert.EmbedSRefIdeal.main_arg2)
          ∧ r.2.mem ((c.tc : Thread Cert.EmbedSRefIdeal.nD Cert.EmbedSRefIdeal.τ).loc Cert.EmbedSRefIdeal.main_arg3) = m' ((c.tc : Thread Cert.EmbedSRefIdeal.nD Cert.EmbedSRefIdeal.τ).loc Cert.EmbedSRefIdeal.main_arg3)
          ∧ r.2.mem ((c.tc : Thread Cert.EmbedSRefIdeal.nD Cert.EmbedSRefIdeal.τ).loc Cert.EmbedSRefIdeal.main_arg4) = m' ((c.tc : Thread Cert.EmbedSRefIdeal.nD Cert.EmbedSRefIdeal.τ).loc Cert.EmbedSRefIdeal.main_arg4)
          ∧ r.2.mem ((c.tc : Thread Cert.EmbedSRefIdeal.nD Cert.EmbedSRefIdeal.τ).loc Cert.EmbedSRefIdeal.main_arg5) = m' ((c.tc : Thread Cert.EmbedSRefIdeal.nD Cert.EmbedSRefIdeal.τ).loc Cert.EmbedSRefIdeal.main_arg5)
          ∧ r.2.mem ((c.tc : Thread Cert.EmbedSRefIdeal.nD Cert.EmbedSRefIdeal.τ).loc Cert.EmbedSRefIdeal.main_arg6) = m' ((c.tc : Thread Cert.EmbedSRefIdeal.nD Cert.EmbedSRefIdeal.τ).loc Cert.EmbedSRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v8) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v9)) (v1 : (c : Dev Cert.ProjSIdeal.nD) → Buf (Elt Ideal) ((c.tc : Thread Cert.ProjSIdeal.nD Cert.ProjSIdeal.τ).loc Cert.ProjSIdeal.main_v10)) (v2 : (c : Dev Cert.ProjSIdeal.nD) → Buf (Elt Ideal) ((c.tc : Thread Cert.ProjSIdeal.nD Cert.ProjSIdeal.τ).loc Cert.ProjSIdeal.main_v12)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v9) = v0 c
          ∧ r.2.mem ((c.tc : Thread Cert.ProjSIdeal.nD Cert.ProjSIdeal.τ).loc Cert.ProjSIdeal.main_v10) = v1 c
          ∧ r.2.mem ((c.tc : Thread Cert.ProjSIdeal.nD Cert.ProjSIdeal.τ).loc Cert.ProjSIdeal.main_v12) = v2 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v25) = v0 c
          ∧ r.2.mem ((c.tc : Thread Cert.ProjSRefIdeal.nD Cert.ProjSRefIdeal.τ).loc Cert.ProjSRefIdeal.main_v26) = v1 c
          ∧ r.2.mem ((c.tc : Thread Cert.ProjSRefIdeal.nD Cert.ProjSRefIdeal.τ).loc Cert.ProjSRefIdeal.main_v28) = v2 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_plan : Cert.Pre_plan.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v37) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Pool_PoolIdeal : Prop :=
  True

def algebraic_PoolIdeal_PoolRefIdeal_pre_finite_inputs [hPoolIdeal : Cert.PoolIdeal.Facts] [hPoolRefIdeal : Cert.PoolRefIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_inputs m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v71) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_PoolS_PoolSIdeal : Prop :=
  True

def algebraic_PoolSIdeal_PoolSRefIdeal_pre_finite_buffer [hPoolSIdeal : Cert.PoolSIdeal.Facts] [hPoolSRefIdeal : Cert.PoolSRefIdeal.Facts] [hPre_finite_buffer : Cert.Pre_finite_buffer.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal_finite_buffer m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)) →
    ∃ (v0 : (c : Dev Cert.PoolSIdeal.nD) → Buf (Elt Ideal) ((c.tc : Thread Cert.PoolSIdeal.nD Cert.PoolSIdeal.τ).loc Cert.PoolSIdeal.main_v6)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v6) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v75) = v0 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hEmbed : Cert.Embed.Facts) (hEmbedIdeal : Cert.EmbedIdeal.Facts) (hEmbedRefIdeal : Cert.EmbedRefIdeal.Facts) (hEmbedS : Cert.EmbedS.Facts) (hEmbedSIdeal : Cert.EmbedSIdeal.Facts) (hEmbedSRefIdeal : Cert.EmbedSRefIdeal.Facts) (hMix : Cert.Mix.Facts) (hMixIdeal : Cert.MixIdeal.Facts) (hMixRefIdeal : Cert.MixRefIdeal.Facts) (hProjS : Cert.ProjS.Facts) (hProjSIdeal : Cert.ProjSIdeal.Facts) (hProjSRefIdeal : Cert.ProjSRefIdeal.Facts) (hExperts : Cert.Experts.Facts) (hExpertsIdeal : Cert.ExpertsIdeal.Facts) (hExpertsRefIdeal : Cert.ExpertsRefIdeal.Facts) (hPool : Cert.Pool.Facts) (hPoolIdeal : Cert.PoolIdeal.Facts) (hPoolRefIdeal : Cert.PoolRefIdeal.Facts) (hPoolS : Cert.PoolS.Facts) (hPoolSIdeal : Cert.PoolSIdeal.Facts) (hPoolSRefIdeal : Cert.PoolSRefIdeal.Facts) (hPre_finite : Cert.Pre_finite.Facts) (hPre_plan : Cert.Pre_plan.Facts) (hPre_finite_inputs : Cert.Pre_finite_inputs.Facts) (hPre_finite_buffer : Cert.Pre_finite_buffer.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_EmbedS (hEmbedS := hEmbedS)
    ∧ quiescent_EmbedSIdeal (hEmbedSIdeal := hEmbedSIdeal)
    ∧ quiescent_EmbedSRefIdeal (hEmbedSRefIdeal := hEmbedSRefIdeal)
    ∧ quiescent_Mix (hMix := hMix)
    ∧ quiescent_MixIdeal (hMixIdeal := hMixIdeal)
    ∧ quiescent_MixRefIdeal (hMixRefIdeal := hMixRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Experts (hExperts := hExperts) (hPre_plan := hPre_plan)
    ∧ quiescent_ExpertsIdeal (hExpertsIdeal := hExpertsIdeal) (hPre_plan := hPre_plan)
    ∧ quiescent_ExpertsRefIdeal (hExpertsRefIdeal := hExpertsRefIdeal)
    ∧ quiescent_ExpertsRefIdeal_pre_plan (hExpertsRefIdeal := hExpertsRefIdeal) (hPre_plan := hPre_plan)
    ∧ quiescent_Pool (hPool := hPool)
    ∧ quiescent_PoolIdeal (hPoolIdeal := hPoolIdeal)
    ∧ quiescent_PoolIdeal_pre_finite_inputs (hPoolIdeal := hPoolIdeal) (hPre_finite_inputs := hPre_finite_inputs)
    ∧ quiescent_PoolRefIdeal (hPoolRefIdeal := hPoolRefIdeal)
    ∧ quiescent_PoolRefIdeal_pre_finite_inputs (hPoolRefIdeal := hPoolRefIdeal) (hPre_finite_inputs := hPre_finite_inputs)
    ∧ quiescent_PoolS (hPoolS := hPoolS)
    ∧ quiescent_PoolSIdeal (hPoolSIdeal := hPoolSIdeal)
    ∧ quiescent_PoolSIdeal_pre_finite_buffer (hPoolSIdeal := hPoolSIdeal) (hPre_finite_buffer := hPre_finite_buffer)
    ∧ quiescent_PoolSRefIdeal (hPoolSRefIdeal := hPoolSRefIdeal)
    ∧ quiescent_PoolSRefIdeal_pre_finite_buffer (hPoolSRefIdeal := hPoolSRefIdeal) (hPre_finite_buffer := hPre_finite_buffer)
    ∧ preserves_Attn_AttnIdeal
    ∧ algebraic_AttnIdeal_AttnRefIdeal_pre_finite (hAttnIdeal := hAttnIdeal) (hAttnRefIdeal := hAttnRefIdeal) (hPre_finite := hPre_finite)
    ∧ preserves_Proj_ProjIdeal
    ∧ algebraic_ProjIdeal_ProjRefIdeal (hProjIdeal := hProjIdeal) (hProjRefIdeal := hProjRefIdeal)
    ∧ preserves_Embed_EmbedIdeal
    ∧ algebraic_EmbedIdeal_EmbedRefIdeal (hEmbedIdeal := hEmbedIdeal) (hEmbedRefIdeal := hEmbedRefIdeal)
    ∧ preserves_EmbedS_EmbedSIdeal
    ∧ algebraic_EmbedSIdeal_EmbedSRefIdeal (hEmbedSIdeal := hEmbedSIdeal) (hEmbedSRefIdeal := hEmbedSRefIdeal)
    ∧ preserves_Mix_MixIdeal
    ∧ algebraic_MixIdeal_MixRefIdeal (hMixIdeal := hMixIdeal) (hMixRefIdeal := hMixRefIdeal)
    ∧ preserves_ProjS_ProjSIdeal
    ∧ algebraic_ProjSIdeal_ProjSRefIdeal (hProjSIdeal := hProjSIdeal) (hProjSRefIdeal := hProjSRefIdeal)
    ∧ preserves_Experts_ExpertsIdeal
    ∧ algebraic_ExpertsIdeal_ExpertsRefIdeal (hExpertsIdeal := hExpertsIdeal) (hExpertsRefIdeal := hExpertsRefIdeal) (hPre_plan := hPre_plan)
    ∧ preserves_Pool_PoolIdeal
    ∧ algebraic_PoolIdeal_PoolRefIdeal_pre_finite_inputs (hPoolIdeal := hPoolIdeal) (hPoolRefIdeal := hPoolRefIdeal) (hPre_finite_inputs := hPre_finite_inputs)
    ∧ preserves_PoolS_PoolSIdeal
    ∧ algebraic_PoolSIdeal_PoolSRefIdeal_pre_finite_buffer (hPoolSIdeal := hPoolSIdeal) (hPoolSRefIdeal := hPoolSRefIdeal) (hPre_finite_buffer := hPre_finite_buffer)
-- ==== Pre_finite.lean ====
abbrev S8192x1024 : Shape := ⟨2, ![8192, 1024]⟩
abbrev S8 : Shape := ⟨1, ![8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x1024 .bf16) (main_arg1 : FVec F S8192x1024 .bf16) (main_arg2 : FVec F S8192x1024 .bf16) (main_arg3 : FVec F S8 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8 .f32 := Host.absf main_arg3
  let main_cst_2 : FVec F S_ .f32 := constant S_ .f32 0x7F800000#32
  let main_v12 : FVec F S8 .f32 := broadcastInDim S8 ![] bcast_S_S8 main_cst_2
  let main_v13 : IVec S8 1 := cmpf .olt main_v11 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v10 main_v14
  main_v15
-- ==== Pre_finite_buffer.lean ====
abbrev S32x19x1024 : Shape := ⟨3, ![32, 19, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S32x19x1024 : S_.BroadcastsInDim S32x19x1024 (![] : Fin 0 → Fin S32x19x1024.rank)
  reducesTo_S32x19x1024_S_d0_1_2 : S32x19x1024.ReducesTo [0, 1, 2] S_
  h_S_ : 0 < S_.numel

variable [Facts]

def fn {F : FTy → Type} [FloatOps F] (main_arg0 : FVec F S32x19x1024 .f32) (main_arg1 : FVec F S1x4x256x256 .f32) (main_arg2 : FVec F S1x1024 .f32) : IVec S_ 1 :=
  let main_v0 : FVec F S32x19x1024 .f32 := Host.absf main_arg0
  let main_cst : FVec F S_ .f32 := constant S_ .f32 0x7F800000#32
  let main_v1 : FVec F S32x19x1024 .f32 := broadcastInDim S32x19x1024 ![] bcast_S_S32x19x1024 main_cst
  let main_v2 : IVec S32x19x1024 1 := cmpf .olt main_v0 main_v1
  let main_c : IVec S_ 1 := constantI S_ 1 1#1
  let main_v3 : IVec S_ 1 := (fun x v => Host.reduce IntOp.andi x v reducesTo_S32x19x1024_S_d0_1_2 h_S_) main_v2 main_c
  main_v3
-- ==== Pre_finite_inputs.lean ====
abbrev S8192x1024 : Shape := ⟨2, ![8192, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S1x4x256x256 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_plan.lean ====
abbrev S323 : Shape := ⟨1, ![323]⟩
abbrev S66560x2048 : Shape := ⟨2, ![66560, 2048]⟩
abbrev S64x2048x512 : Shape := ⟨3, ![64, 2048, 512]⟩
abbrev S64x512x2048 : Shape := ⟨3, ![64, 512, 2048]⟩
abbrev S_ : Shape := ⟨0, ![]⟩
abbrev S322 : Shape := ⟨1, ![322]⟩

class Facts : Prop where
  bcast_S_S323 : S_.BroadcastsInDim S323 (![] : Fin 0 → Fin S323.rank)
  slices_S323_S322_1 : S323.Slices ![1] S322
  slices_S323_S322_0 : S323.Slices ![0] S322
  bcast_S_S322 : S_.BroadcastsInDim S322 (![] : Fin 0 → Fin S322.rank)
  reducesTo_S323_S_d0 : S323.ReducesTo [0] S_
  h_S_ : 0 < S_.numel
  reducesTo_S322_S_d0 : S322.ReducesTo [0] S_

variable [Facts]

def fn_part3 {F : FTy → Type} [FloatOps F] (main_v23 : IVec S323 1) (main_v32 : IVec S323 1) (main_v39 : IVec S323 1) (main_v49 : IVec S322 1) (main_v55 : IVec S322 1) (main_v57 : IVec S322 1) (main_v58 : IVec S322 32) : IVec S_ 1 :=
  let main_c_12 : IVec S_ 32 := constantI S_ 32 66560#32
  let main_v59 : IVec S322 32 := broadcastInDim S322 ![] bcast_S_S322 main_c_12
  let main_v60 : IVec S322 1 := cmpi .eq main_v58 main_v59
  let main_v61 : IVec S322 1 := ori main_v57 main_v60
  let main_v62 : IVec S322 1 := andi main_v55 main_v61
  let main_v63 : IVec S323 1 := andi main_v23 main_v32
  let main_v64 : IVec S323 1 := andi main_v63 main_v39
  let main_c_13 : IVec S_ 1 := constantI S_ 1 1#1
  let main_v65 : IVec S_ 1 := (fun x v => Host.reduce IntOp.andi x v reducesTo_S323_S_d0 h_S_) main_v64 main_c_13
  let main_v66 : IVec S322 1 := ori main_v49 main_v62
  let main_c_14 : IVec S_ 1 := constantI S_ 1 1#1
  let main_v67 : IVec S_ 1 := (fun x v => Host.reduce IntOp.andi x v reducesTo_S322_S_d0 h_S_) main_v66 main_c_14
  let main_v68 : IVec S_ 1 := andi main_v65 main_v67
  main_v68

def fn_part2 {F : FTy → Type} [FloatOps F] (main_arg0 : IVec S323 32) (main_arg2 : IVec S323 32) (main_v1 : IVec S323 1) (main_v4 : IVec S323 32) (main_v23 : IVec S323 1) (main_v32 : IVec S323 1) (main_v36 : IVec S323 1) : IVec S_ 1 :=
  let main_c_10 : IVec S_ 32 := constantI S_ 32 66560#32
  let main_v37 : IVec S323 32 := broadcastInDim S323 ![] bcast_S_S323 main_c_10
  let main_v38 : IVec S323 1 := cmpi .eq main_v4 main_v37
  let main_v39 : IVec S323 1 := ori main_v36 main_v38
  let main_v40 : IVec S322 1 := (extractStridedSlice S322 ![1] · slices_S323_S322_1) main_v1
  let main_v41 : IVec S322 1 := (extractStridedSlice S322 ![0] · slices_S323_S322_0) main_v1
  let main_v42 : IVec S322 1 := andi main_v40 main_v41
  let main_c_11 : IVec S_ 32 := constantI S_ 32 256#32
  let main_v43 : IVec S323 32 := broadcastInDim S323 ![] bcast_S_S323 main_c_11
  let main_v44 : IVec S323 32 := muli main_v43 main_arg0
  let main_v45 : IVec S323 32 := addi main_v44 main_arg2
  let main_v46 : IVec S322 32 := (extractStridedSlice S322 ![1] · slices_S323_S322_1) main_v45
  let main_v47 : IVec S322 32 := (extractStridedSlice S322 ![0] · slices_S323_S322_0) main_v4
  let main_v48 : IVec S322 1 := cmpi .eq main_v46 main_v47
  let main_v49 : IVec S322 1 := andi main_v42 main_v48
  let main_v50 : IVec S322 1 := (extractStridedSlice S322 ![1] · slices_S323_S322_1) main_v1
  let main_v51 : IVec S322 1 := noti main_v50
  let main_v52 : IVec S322 32 := (extractStridedSlice S322 ![1] · slices_S323_S322_1) main_arg0
  let main_v53 : IVec S322 32 := (extractStridedSlice S322 ![0] · slices_S323_S322_0) main_arg0
  let main_v54 : IVec S322 1 := cmpi .eq main_v52 main_v53
  let main_v55 : IVec S322 1 := andi main_v51 main_v54
  let main_v56 : IVec S322 1 := (extractStridedSlice S322 ![0] · slices_S323_S322_0) main_v1
  let main_v57 : IVec S322 1 := noti main_v56
  let main_v58 : IVec S322 32 := (extractStridedSlice S322 ![0] · slices_S323_S322_0) main_v4
  fn_part3 (F := F) main_v23 main_v32 main_v39 main_v49 main_v55 main_v57 main_v58

def fn_part1 {F : FTy → Type} [FloatOps F] (main_arg0 : IVec S323 32) (main_arg2 : IVec S323 32) (main_arg3 : IVec S323 32) (main_v0 : IVec S323 32) (main_v1 : IVec S323 1) (main_v4 : IVec S323 32) (main_v15 : IVec S323 1) (main_v17 : IVec S323 1) : IVec S_ 1 :=
  let main_v18 : IVec S323 1 := andi main_v15 main_v17
  let main_v19 : IVec S323 1 := cmpi .sle main_arg2 main_arg3
  let main_v20 : IVec S323 1 := andi main_v18 main_v19
  let main_c_5 : IVec S_ 32 := constantI S_ 32 256#32
  let main_v21 : IVec S323 32 := broadcastInDim S323 ![] bcast_S_S323 main_c_5
  let main_v22 : IVec S323 1 := cmpi .sle main_arg3 main_v21
  let main_v23 : IVec S323 1 := andi main_v20 main_v22
  let main_c_6 : IVec S_ 32 := constantI S_ 32 0#32
  let main_v24 : IVec S323 32 := broadcastInDim S323 ![] bcast_S_S323 main_c_6
  let main_v25 : IVec S323 1 := cmpi .ne main_v0 main_v24
  let main_c_7 : IVec S_ 32 := constantI S_ 32 0#32
  let main_v26 : IVec S323 32 := broadcastInDim S323 ![] bcast_S_S323 main_c_7
  let main_v27 : IVec S323 1 := cmpi .eq main_arg0 main_v26
  let main_c_8 : IVec S_ 32 := constantI S_ 32 0#32
  let main_v28 : IVec S323 32 := broadcastInDim S323 ![] bcast_S_S323 main_c_8
  let main_v29 : IVec S323 1 := cmpi .eq main_arg2 main_v28
  let main_v30 : IVec S323 1 := andi main_v27 main_v29
  let main_v31 : IVec S323 1 := andi main_v30 main_v1
  let main_v32 : IVec S323 1 := ori main_v25 main_v31
  let main_c_9 : IVec S_ 32 := constantI S_ 32 322#32
  let main_v33 : IVec S323 32 := broadcastInDim S323 ![] bcast_S_S323 main_c_9
  let main_v34 : IVec S323 1 := cmpi .ne main_v0 main_v33
  let main_v35 : IVec S323 1 := noti main_v1
  let main_v36 : IVec S323 1 := ori main_v34 main_v35
  fn_part2 (F := F) main_arg0 main_arg2 main_v1 main_v4 main_v23 main_v32 main_v36

def fn {F : FTy → Type} [FloatOps F] (main_arg0 : IVec S323 32) (main_arg1 : IVec S323 32) (main_arg2 : IVec S323 32) (main_arg3 : IVec S323 32) (main_arg4 : FVec F S66560x2048 .f32) (main_arg5 : FVec F S64x2048x512 .f32) (main_arg6 : FVec F S64x2048x512 .f32) (main_arg7 : FVec F S64x512x2048 .f32) : IVec S_ 1 :=
  let main_v0 : IVec S323 32 := iotaInDim S323 32 0
  let main_v1 : IVec S323 1 := cmpi .slt main_arg2 main_arg3
  let main_c : IVec S_ 32 := constantI S_ 32 256#32
  let main_v2 : IVec S323 32 := broadcastInDim S323 ![] bcast_S_S323 main_c
  let main_v3 : IVec S323 32 := muli main_v2 main_arg0
  let main_v4 : IVec S323 32 := addi main_v3 main_arg3
  let main_c_0 : IVec S_ 32 := constantI S_ 32 0#32
  let main_v5 : IVec S323 32 := broadcastInDim S323 ![] bcast_S_S323 main_c_0
  let main_v6 : IVec S323 1 := cmpi .sge main_arg0 main_v5
  let main_c_1 : IVec S_ 32 := constantI S_ 32 260#32
  let main_v7 : IVec S323 32 := broadcastInDim S323 ![] bcast_S_S323 main_c_1
  let main_v8 : IVec S323 1 := cmpi .slt main_arg0 main_v7
  let main_v9 : IVec S323 1 := andi main_v6 main_v8
  let main_c_2 : IVec S_ 32 := constantI S_ 32 0#32
  let main_v10 : IVec S323 32 := broadcastInDim S323 ![] bcast_S_S323 main_c_2
  let main_v11 : IVec S323 1 := cmpi .sge main_arg1 main_v10
  let main_v12 : IVec S323 1 := andi main_v9 main_v11
  let main_c_3 : IVec S_ 32 := constantI S_ 32 64#32
  let main_v13 : IVec S323 32 := broadcastInDim S323 ![] bcast_S_S323 main_c_3
  let main_v14 : IVec S323 1 := cmpi .slt main_arg1 main_v13
  let main_v15 : IVec S323 1 := andi main_v12 main_v14
  let main_c_4 : IVec S_ 32 := constantI S_ 32 0#32
  let main_v16 : IVec S323 32 := broadcastInDim S323 ![] bcast_S_S323 main_c_4
  let main_v17 : IVec S323 1 := cmpi .sge main_arg2 main_v16
  fn_part1 (F := F) main_arg0 main_arg2 main_arg3 main_v0 main_v1 main_v4 main_v15 main_v17
-- ==== Attn.lean ====
abbrev S8192x1024 : Shape := ⟨2, ![8192, 1024]⟩
abbrev S8 : Shape := ⟨1, ![8]⟩
abbrev S256x512 : Shape := ⟨2, ![256, 512]⟩
abbrev S8192x512 : Shape := ⟨2, ![8192, 512]⟩
abbrev S1 : Shape := ⟨1, ![1]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 5
  | .vmem => 8
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8, .f32⟩
  | .hbm, ⟨4, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S256x512, .bf16⟩
  | .local _ .vmem, ⟨7, _⟩ => ⟨S256x512, .bf16⟩
  | .local _ .smem, ⟨0, _⟩ => ⟨S8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def k0_mult1 (i : grid0.Coords) : BitVec 32 :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c256_i32_19 : BitVec 32 := 256#32
  let v55 : BitVec 32 := Scalar.muli v44 c256_i32_19
  v55
def k0_off2 (i : grid0.Coords) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c256_i32_19 : BitVec 32 := 256#32
  let v55 : BitVec 32 := Scalar.muli v44 c256_i32_19
  let v56 : BitVec 32 := v55
  let v57 : Index := Scalar.indexCast v56
  let c0_20 : Index := 0#32
  ![v57.toNat, 0]
def k0_off3 (i : grid0.Coords) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c256_i32_19 : BitVec 32 := 256#32
  let v55 : BitVec 32 := Scalar.muli v44 c256_i32_19
  let v56 : BitVec 32 := v55
  let v60 : Index := Scalar.indexCast v56
  let c128_22 : Index := 128#32
  ![v60.toNat, 128]
def k0_off4 (i : grid0.Coords) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c256_i32_19 : BitVec 32 := 256#32
  let v55 : BitVec 32 := Scalar.muli v44 c256_i32_19
  let v56 : BitVec 32 := v55
  let v63 : Index := Scalar.indexCast v56
  let c256_24 : Index := 256#32
  ![v63.toNat, 256]
def k0_off5 (i : grid0.Coords) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c256_i32_19 : BitVec 32 := 256#32
  let v55 : BitVec 32 := Scalar.muli v44 c256_i32_19
  let v56 : BitVec 32 := v55
  let v66 : Index := Scalar.indexCast v56
  let c384_26 : Index := 384#32
  ![v66.toNat, 384]
@[reducible] def k0_t1_loop (i : grid0.Coords) : Scf.Loop 32 :=
  let c0_i32_68 : BitVec 32 := 0#32
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_70 : BitVec 32 := 1#32
  ⟨c0_i32_68, v217, c1_i32_70⟩
def k0_mult2 (i : grid0.Coords) (k0_t1 : Fin (k0_t1_loop i).trips) : BitVec 32 :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let c1_i32_70 : BitVec 32 := 1#32
  let arg7 : BitVec 32 := Scf.iv c0_i32_68 c1_i32_70 k0_t1
  let v229 : BitVec 32 := Scalar.subi v228 arg7
  let c256_i32_81 : BitVec 32 := 256#32
  let v230 : BitVec 32 := Scalar.muli v229 c256_i32_81
  v230
def k0_off6 (i : grid0.Coords) (k0_t1 : Fin (k0_t1_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let c1_i32_70 : BitVec 32 := 1#32
  let arg7 : BitVec 32 := Scf.iv c0_i32_68 c1_i32_70 k0_t1
  let v229 : BitVec 32 := Scalar.subi v228 arg7
  let c256_i32_81 : BitVec 32 := 256#32
  let v230 : BitVec 32 := Scalar.muli v229 c256_i32_81
  let v231 : BitVec 32 := v230
  let v232 : Index := Scalar.indexCast v231
  let c0_82 : Index := 0#32
  ![v232.toNat, 0]
def k0_off7 (i : grid0.Coords) (k0_t1 : Fin (k0_t1_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let c1_i32_70 : BitVec 32 := 1#32
  let arg7 : BitVec 32 := Scf.iv c0_i32_68 c1_i32_70 k0_t1
  let v229 : BitVec 32 := Scalar.subi v228 arg7
  let c256_i32_81 : BitVec 32 := 256#32
  let v230 : BitVec 32 := Scalar.muli v229 c256_i32_81
  let v231 : BitVec 32 := v230
  let v235 : Index := Scalar.indexCast v231
  let c128_84 : Index := 128#32
  ![v235.toNat, 128]
def k0_off8 (i : grid0.Coords) (k0_t1 : Fin (k0_t1_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let c1_i32_70 : BitVec 32 := 1#32
  let arg7 : BitVec 32 := Scf.iv c0_i32_68 c1_i32_70 k0_t1
  let v229 : BitVec 32 := Scalar.subi v228 arg7
  let c256_i32_81 : BitVec 32 := 256#32
  let v230 : BitVec 32 := Scalar.muli v229 c256_i32_81
  let v231 : BitVec 32 := v230
  let v238 : Index := Scalar.indexCast v231
  let c256_86 : Index := 256#32
  ![v238.toNat, 256]
def k0_off9 (i : grid0.Coords) (k0_t1 : Fin (k0_t1_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let c1_i32_70 : BitVec 32 := 1#32
  let arg7 : BitVec 32 := Scf.iv c0_i32_68 c1_i32_70 k0_t1
  let v229 : BitVec 32 := Scalar.subi v228 arg7
  let c256_i32_81 : BitVec 32 := 256#32
  let v230 : BitVec 32 := Scalar.muli v229 c256_i32_81
  let v231 : BitVec 32 := v230
  let v241 : Index := Scalar.indexCast v231
  let c384_88 : Index := 384#32
  ![v241.toNat, 384]
@[reducible] def k0_t2_loop (i : grid0.Coords) : Scf.Loop 32 :=
  let c0_i32_68 : BitVec 32 := 0#32
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let v214 : BitVec 32 := Scalar.addi c0_i32_68 v213
  let c1_i32_71 : BitVec 32 := 1#32
  ⟨v217, v214, c1_i32_71⟩
def k0_mult3 (i : grid0.Coords) (k0_t2 : Fin (k0_t2_loop i).trips) : BitVec 32 :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_71 : BitVec 32 := 1#32
  let arg7 : BitVec 32 := Scf.iv v217 c1_i32_71 k0_t2
  let v229 : BitVec 32 := Scalar.subi v228 arg7
  let c256_i32_81 : BitVec 32 := 256#32
  let v230 : BitVec 32 := Scalar.muli v229 c256_i32_81
  v230
def k0_off10 (i : grid0.Coords) (k0_t2 : Fin (k0_t2_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_71 : BitVec 32 := 1#32
  let arg7 : BitVec 32 := Scf.iv v217 c1_i32_71 k0_t2
  let v229 : BitVec 32 := Scalar.subi v228 arg7
  let c256_i32_81 : BitVec 32 := 256#32
  let v230 : BitVec 32 := Scalar.muli v229 c256_i32_81
  let v231 : BitVec 32 := v230
  let v232 : Index := Scalar.indexCast v231
  let c0_82 : Index := 0#32
  ![v232.toNat, 0]
def k0_off11 (i : grid0.Coords) (k0_t2 : Fin (k0_t2_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_71 : BitVec 32 := 1#32
  let arg7 : BitVec 32 := Scf.iv v217 c1_i32_71 k0_t2
  let v229 : BitVec 32 := Scalar.subi v228 arg7
  let c256_i32_81 : BitVec 32 := 256#32
  let v230 : BitVec 32 := Scalar.muli v229 c256_i32_81
  let v231 : BitVec 32 := v230
  let v235 : Index := Scalar.indexCast v231
  let c128_84 : Index := 128#32
  ![v235.toNat, 128]
def k0_off12 (i : grid0.Coords) (k0_t2 : Fin (k0_t2_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_71 : BitVec 32 := 1#32
  let arg7 : BitVec 32 := Scf.iv v217 c1_i32_71 k0_t2
  let v229 : BitVec 32 := Scalar.subi v228 arg7
  let c256_i32_81 : BitVec 32 := 256#32
  let v230 : BitVec 32 := Scalar.muli v229 c256_i32_81
  let v231 : BitVec 32 := v230
  let v238 : Index := Scalar.indexCast v231
  let c256_86 : Index := 256#32
  ![v238.toNat, 256]
def k0_off13 (i : grid0.Coords) (k0_t2 : Fin (k0_t2_loop i).trips) : Fin 2 → Nat :=
  let arg1 : BitVec 32 := BitVec.ofNat 32 (i 1).val
  let c256_i32 : BitVec 32 := 256#32
  let v27 : BitVec 32 := Scalar.muli arg1 c256_i32
  let c0_i32_9 : BitVec 32 := 0#32
  let v29 : BitVec 1 := Scalar.cmpi .sgt v27 c0_i32_9
  let v30 : BitVec 32 := Scalar.extui v29
  let c0_i32_10 : BitVec 32 := 0#32
  let v31 : BitVec 1 := Scalar.cmpi .slt v27 c0_i32_10
  let v32 : BitVec 32 := Scalar.extui v31
  let v33 : BitVec 32 := Scalar.subi v30 v32
  let c256_i32_8 : BitVec 32 := 256#32
  let c0_i32_11 : BitVec 32 := 0#32
  let v34 : BitVec 1 := Scalar.cmpi .sgt c256_i32_8 c0_i32_11
  let v35 : BitVec 32 := Scalar.extui v34
  let c0_i32_12 : BitVec 32 := 0#32
  let v36 : BitVec 1 := Scalar.cmpi .slt c256_i32_8 c0_i32_12
  let v37 : BitVec 32 := Scalar.extui v36
  let v38 : BitVec 32 := Scalar.subi v35 v37
  let v39 : BitVec 1 := Scalar.cmpi .ne v33 v38
  let v40 : BitVec 32 := Scalar.remsi v27 c256_i32_8
  let c0_i32_13 : BitVec 32 := 0#32
  let v41 : BitVec 1 := Scalar.cmpi .ne v40 c0_i32_13
  let v42 : BitVec 1 := Scalar.andi v39 v41
  let v28 : BitVec 32 := Scalar.divsi v27 c256_i32_8
  let c1_i32_14 : BitVec 32 := 1#32
  let v43 : BitVec 32 := Scalar.subi v28 c1_i32_14
  let v44 : BitVec 32 := Scalar.select v42 v43 v28
  let c1_i32_80 : BitVec 32 := 1#32
  let v228 : BitVec 32 := Scalar.subi v44 c1_i32_80
  let c0_i32_68 : BitVec 32 := 0#32
  let v213 : BitVec 32 := Scalar.subi v44 c0_i32_68
  let c1_i32_69 : BitVec 32 := 1#32
  let v215 : BitVec 32 := Scalar.divsi v213 c1_i32_69
  let v216 : BitVec 32 := Scalar.muli v215 c1_i32_69
  let v217 : BitVec 32 := Scalar.addi c0_i32_68 v216
  let c1_i32_71 : BitVec 32 := 1#32
  let arg7 : BitVec 32 := Scf.iv v217 c1_i32_71 k0_t2
  let v229 : BitVec 32 := Scalar.subi v228 arg7
  let c256_i32_81 : BitVec 32 := 256#32
  let v230 : BitVec 32 := Scalar.muli v229 c256_i32_81
  let v231 : BitVec 32 := v230
  let v241 : Index := Scalar.indexCast v231
  let c384_88 : Index := 384#32
  ![v241.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S8192x1024 : Shape := ⟨2, ![8192, 1024]⟩
abbrev S8 : Shape := ⟨1, ![8]⟩
abbrev S8192x8x128 : Shape := ⟨3, ![8192, 8, 128]⟩
abbrev S8192 : Shape := ⟨1, ![8192]⟩
abbrev S8x8192x8192 : Shape := ⟨3, ![8, 8192, 8192]⟩
abbrev S8x1x1 : Shape := ⟨3, ![8, 1, 1]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192x8191 : Shape := ⟨3, ![8, 8192, 8191]⟩
abbrev S8x8192x1 : Shape := ⟨3, ![8, 8192, 1]⟩
abbrev S8x128x8192 : Shape := ⟨3, ![8, 128, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8, .f32⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8192x1024, .f32⟩
  | .hbm, ⟨9, _⟩ => ⟨S8192x8x128, .f32⟩
  | .hbm, ⟨10, _⟩ => ⟨S8192, .i32⟩
  | .hbm, ⟨11, _⟩ => ⟨S8x8192x8192, .f32⟩
  | .hbm, ⟨12, _⟩ => ⟨S8x1x1, .f32⟩
  | .hbm, ⟨13, _⟩ => ⟨S8x8192x8192, .f32⟩
  | .hbm, ⟨14, _⟩ => ⟨S8x8192x8192, .f32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x8191, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S_, .f32⟩
  | .hbm, ⟨70, _⟩ => ⟨S8x8192x8192, .i1⟩
  | .hbm, ⟨71, _⟩ => ⟨S8x8192x8192, .f32⟩
  | .hbm, ⟨72, _⟩ => ⟨S8x8192x8192, .f32⟩
  | .hbm, ⟨73, _⟩ => ⟨S8x128x8192, .f32⟩
  | .hbm, ⟨74, _⟩ => ⟨S8192x8x128, .f32⟩
  | .hbm, ⟨75, _⟩ => ⟨S8192x1024, .f32⟩
  | .hbm, ⟨76, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_0 : Ref sig .tc := ⟨.hbm, 47, rfl⟩
abbrev main_v22 : Ref sig .tc := ⟨.hbm, 48, rfl⟩
abbrev main_v23 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Proj.lean ====
abbrev S1x8192x2048 : Shape := ⟨3, ![1, 8192, 2048]⟩
abbrev S1x2048 : Shape := ⟨2, ![1, 2048]⟩
abbrev S1x2048x4096 : Shape := ⟨3, ![1, 2048, 4096]⟩
abbrev S8192x2048 : Shape := ⟨2, ![8192, 2048]⟩
abbrev S2048 : Shape := ⟨1, ![2048]⟩
abbrev S2048x4096 : Shape := ⟨2, ![2048, 4096]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1x1x8192x8x128 : Shape := ⟨5, ![1, 1, 8192, 8, 128]⟩
abbrev S15x1024 : Shape := ⟨2, ![15, 1024]⟩
abbrev S1x1x15x1024 : Shape := ⟨4, ![1, 1, 15, 1024]⟩

abbrev nBuf : Space → Nat
  | .hbm => 18
  | .vmem => 18
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x4096, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x4096, .f32⟩
  | .hbm, ⟨7, _⟩ => ⟨S2048x4096, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S1x1x8192x8x128, .f32⟩
  | .hbm, ⟨15, _⟩ => ⟨S1x1x8192x8x128, .f32⟩
  | .hbm, ⟨16, _⟩ => ⟨S15x1024, .f32⟩
  | .hbm, ⟨17, _⟩ => ⟨S1x1x15x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjRefIdeal.lean ====
abbrev S1x8192x2048 : Shape := ⟨3, ![1, 8192, 2048]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x4096 : Shape := ⟨3, ![1, 8192, 4096]⟩
abbrev S1x8192x1024 : Shape := ⟨3, ![1, 8192, 1024]⟩
abbrev S1x8192x8x128 : Shape := ⟨4, ![1, 8192, 8, 128]⟩
abbrev S1x1x8192x8x128 : Shape := ⟨5, ![1, 1, 8192, 8, 128]⟩
abbrev S1x15x1024 : Shape := ⟨3, ![1, 15, 1024]⟩
abbrev S1x1x15x1024 : Shape := ⟨4, ![1, 1, 15, 1024]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x4096, .f32⟩
  | .hbm, ⟨3, _⟩ => ⟨S2048, .f32⟩
  | .hbm, ⟨4, _⟩ => ⟨S2048x4096, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S1x8192x4096, .f32⟩
  | .hbm, ⟨22, _⟩ => ⟨S1x8192x1024, .f32⟩
  | .hbm, ⟨23, _⟩ => ⟨S1x8192x8x128, .f32⟩
  | .hbm, ⟨24, _⟩ => ⟨S1x8192x1024, .f32⟩
  | .hbm, ⟨25, _⟩ => ⟨S1x8192x8x128, .f32⟩
  | .hbm, ⟨26, _⟩ => ⟨S1x8192x1024, .f32⟩
  | .hbm, ⟨27, _⟩ => ⟨S1x8192x8x128, .f32⟩
  | .hbm, ⟨28, _⟩ => ⟨S1x8192x1024, .f32⟩
  | .hbm, ⟨29, _⟩ => ⟨S1x1x8192x8x128, .f32⟩
  | .hbm, ⟨30, _⟩ => ⟨S1x1x8192x8x128, .f32⟩
  | .hbm, ⟨31, _⟩ => ⟨S1x15x1024, .f32⟩
  | .hbm, ⟨32, _⟩ => ⟨S1x1x15x1024, .f32⟩
  | .hbm, ⟨33, _⟩ => ⟨S_, .f32⟩
  | .hbm, ⟨34, _⟩ => ⟨S1x8192x8x128, .f32⟩
  | .hbm, ⟨35, _⟩ => ⟨S1x8192x8x128, .f32⟩
  | .hbm, ⟨36, _⟩ => ⟨S8192x1024, .f32⟩
  | .hbm, ⟨37, _⟩ => ⟨S8192x1024, .bf16⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x1024, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Embed.lean ====
abbrev S8320x2048 : Shape := ⟨2, ![8320, 2048]⟩
abbrev S1x1x8192x256 : Shape := ⟨4, ![1, 1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S1x8192x256 : Shape := ⟨3, ![1, 8192, 256]⟩
abbrev S8192x256 : Shape := ⟨2, ![8192, 256]⟩
abbrev S2048x2048 : Shape := ⟨2, ![2048, 2048]⟩
abbrev S256x2048 : Shape := ⟨2, ![256, 2048]⟩
abbrev S8192x2048 : Shape := ⟨2, ![8192, 2048]⟩
abbrev S256x256 : Shape := ⟨2, ![256, 256]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x1x8192x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S1x8192x256, .f32⟩
  | .hbm, ⟨8, _⟩ => ⟨S8192x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S1x2048, .f32⟩
  | .hbm, ⟨16, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EmbedRefIdeal.lean ====
abbrev S8320x2048 : Shape := ⟨2, ![8320, 2048]⟩
abbrev S1x1x8192x256 : Shape := ⟨4, ![1, 1, 8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S8192x2048 : Shape := ⟨2, ![8192, 2048]⟩
abbrev S1x8192x256 : Shape := ⟨3, ![1, 8192, 256]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x1x8192x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S8320x2048, .f32⟩
  | .hbm, ⟨8, _⟩ => ⟨S8192x2048, .f32⟩
  | .hbm, ⟨9, _⟩ => ⟨S1x8192x256, .f32⟩
  | .hbm, ⟨10, _⟩ => ⟨S8192x256, .f32⟩
  | .hbm, ⟨11, _⟩ => ⟨S256x2048, .f32⟩
  | .hbm, ⟨12, _⟩ => ⟨S8192x2048, .f32⟩
  | .hbm, ⟨13, _⟩ => ⟨S2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== EmbedS.lean ====
abbrev S8320x2048 : Shape := ⟨2, ![8320, 2048]⟩
abbrev S1x32x4x256 : Shape := ⟨4, ![1, 32, 4, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S32x4x256 : Shape := ⟨3, ![32, 4, 256]⟩
abbrev S128x256 : Shape := ⟨2, ![128, 256]⟩
abbrev S2048x2048 : Shape := ⟨2, ![2048, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 17
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x32x4x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S32x4x256, .f32⟩
  | .hbm, ⟨8, _⟩ => ⟨S128x256, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S1x2048, .f32⟩
  | .hbm, ⟨16, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S1x2048, .f32⟩
  | .local _ .vmem, ⟨4, _⟩ => ⟨S2048x2048, .bf16⟩
  | .local _ .vmem, ⟨5, _⟩ => ⟨S256x2048, .bf16⟩
  | .local _ .vmem, ⟨6, _⟩ => ⟨S1x2048, .f32⟩
  | .local _ .vmem, ⟨7, _⟩ => ⟨S128x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== EmbedSRefIdeal.lean ====
abbrev S8320x2048 : Shape := ⟨2, ![8320, 2048]⟩
abbrev S1x32x4x256 : Shape := ⟨4, ![1, 32, 4, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S128x2048 : Shape := ⟨2, ![128, 2048]⟩
abbrev S32x4x256 : Shape := ⟨3, ![32, 4, 256]⟩
abbrev S128x256 : Shape := ⟨2, ![128, 256]⟩
abbrev S256x2048 : Shape := ⟨2, ![256, 2048]⟩
abbrev S_ : Shape := ⟨0, ![]⟩
abbrev S128 : Shape := ⟨1, ![128]⟩
abbrev S128x1 : Shape := ⟨2, ![128, 1]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S1x32x4x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S2048, .f32⟩
  | .hbm, ⟨7, _⟩ => ⟨S8320x2048, .f32⟩
  | .hbm, ⟨8, _⟩ => ⟨S128x2048, .f32⟩
  | .hbm, ⟨9, _⟩ => ⟨S32x4x256, .f32⟩
  | .hbm, ⟨10, _⟩ => ⟨S128x256, .f32⟩
  | .hbm, ⟨11, _⟩ => ⟨S256x2048, .f32⟩
  | .hbm, ⟨12, _⟩ => ⟨S128x2048, .f32⟩
  | .hbm, ⟨13, _⟩ => ⟨S2048, .f32⟩
  | .hbm, ⟨14, _⟩ => ⟨S128x2048, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x2048, .f32⟩
  | .hbm, ⟨26, _⟩ => ⟨S128x2048, .f32⟩
  | .hbm, ⟨27, _⟩ => ⟨S1x2048, .f32⟩
  | .hbm, ⟨28, _⟩ => ⟨S128x2048, .f32⟩
  | .hbm, ⟨29, _⟩ => ⟨S128x2048, .f32⟩
  | .hbm, ⟨30, _⟩ => ⟨S2048x2048, .f32⟩
  | .hbm, ⟨31, _⟩ => ⟨S128x2048, .f32⟩
  | .hbm, ⟨32, _⟩ => ⟨S128x2048, .f32⟩
  | .hbm, ⟨33, _⟩ => ⟨S128x2048, .f32⟩
  | .hbm, ⟨34, _⟩ => ⟨S_, .f32⟩
  | .hbm, ⟨35, _⟩ => ⟨S128x2048, .f32⟩
  | .hbm, ⟨36, _⟩ => ⟨S128x2048, .f32⟩
  | .hbm, ⟨37, _⟩ => ⟨S_, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x2048, .f32⟩
  | .hbm, ⟨54, _⟩ => ⟨S128x2048, .f32⟩
  | .hbm, ⟨55, _⟩ => ⟨S1x2048, .f32⟩
  | .hbm, ⟨56, _⟩ => ⟨S128x2048, .f32⟩
  | .hbm, ⟨57, _⟩ => ⟨S128x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Mix.lean ====
abbrev S1x8192x2048 : Shape := ⟨3, ![1, 8192, 2048]⟩
abbrev S32x4x2048 : Shape := ⟨3, ![32, 4, 2048]⟩
abbrev S8320x1024 : Shape := ⟨2, ![8320, 1024]⟩
abbrev S1x2048x2048 : Shape := ⟨3, ![1, 2048, 2048]⟩
abbrev S8192x2048 : Shape := ⟨2, ![8192, 2048]⟩
abbrev S128x2048 : Shape := ⟨2, ![128, 2048]⟩
abbrev S8320x2048 : Shape := ⟨2, ![8320, 2048]⟩
abbrev S2048x2048 : Shape := ⟨2, ![2048, 2048]⟩
abbrev S640x2048 : Shape := ⟨2, ![640, 2048]⟩
abbrev S640x1024 : Shape := ⟨2, ![640, 1024]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S8320x1024, .bf16⟩
  | .hbm, ⟨3, _⟩ => ⟨S8320x1024, .bf16⟩
  | .hbm, ⟨4, _⟩ => ⟨S1x2048x2048, .f32⟩
  | .hbm, ⟨5, _⟩ => ⟨S8192x2048, .f32⟩
  | .hbm, ⟨6, _⟩ => ⟨S128x2048, .f32⟩
  | .hbm, ⟨7, _⟩ => ⟨S8320x2048, .f32⟩
  | .hbm, ⟨8, _⟩ => ⟨S2048x2048, .f32⟩
  | .hbm, ⟨9, _⟩ => ⟨S2048x2048, .bf16⟩
  | .hbm, ⟨10, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S1024x2048, .bf16⟩
  | .local _ .vmem, ⟨7, _⟩ => ⟨S1024x2048, .bf16⟩
  | .local _ .vmem, ⟨8, _⟩ => ⟨S640x2048, .f32⟩
  | .local _ .vmem, ⟨9, _⟩ => ⟨S640x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S1x8192x2048 : Shape := ⟨3, ![1, 8192, 2048]⟩
abbrev S32x4x2048 : Shape := ⟨3, ![32, 4, 2048]⟩
abbrev S8320x1024 : Shape := ⟨2, ![8320, 1024]⟩
abbrev S1x2048x2048 : Shape := ⟨3, ![1, 2048, 2048]⟩
abbrev S8192x2048 : Shape := ⟨2, ![8192, 2048]⟩
abbrev S128x2048 : Shape := ⟨2, ![128, 2048]⟩
abbrev S8320x2048 : Shape := ⟨2, ![8320, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S8320x1024, .bf16⟩
  | .hbm, ⟨3, _⟩ => ⟨S8320x1024, .bf16⟩
  | .hbm, ⟨4, _⟩ => ⟨S1x2048x2048, .f32⟩
  | .hbm, ⟨5, _⟩ => ⟨S8192x2048, .f32⟩
  | .hbm, ⟨6, _⟩ => ⟨S128x2048, .f32⟩
  | .hbm, ⟨7, _⟩ => ⟨S8320x2048, .f32⟩
  | .hbm, ⟨8, _⟩ => ⟨S8320x1024, .f32⟩
  | .hbm, ⟨9, _⟩ => ⟨S8320x1024, .f32⟩
  | .hbm, ⟨10, _⟩ => ⟨S8320x2048, .f32⟩
  | .hbm, ⟨11, _⟩ => ⟨S2048x2048, .f32⟩
  | .hbm, ⟨12, _⟩ => ⟨S8320x2048, .f32⟩
  | .hbm, ⟨13, _⟩ => ⟨S8320x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== ProjS.lean ====
abbrev S32x4x2048 : Shape := ⟨3, ![32, 4, 2048]⟩
abbrev S1x32x15x1024 : Shape := ⟨4, ![1, 32, 15, 1024]⟩
abbrev S1x2048 : Shape := ⟨2, ![1, 2048]⟩
abbrev S1x2048x4096 : Shape := ⟨3, ![1, 2048, 4096]⟩
abbrev S128x2048 : Shape := ⟨2, ![128, 2048]⟩
abbrev S2048 : Shape := ⟨1, ![2048]⟩
abbrev S2048x4096 : Shape := ⟨2, ![2048, 4096]⟩
abbrev S128x1024 : Shape := ⟨2, ![128, 1024]⟩
abbrev S2048x1024 : Shape := ⟨2, ![2048, 1024]⟩
abbrev S128 : Shape := ⟨1, ![128]⟩
abbrev S128x1 : Shape := ⟨2, ![128, 1]⟩
abbrev S32x15x1024 : Shape := ⟨3, ![32, 15, 1024]⟩
abbrev S32x4x1024 : Shape := ⟨3, ![32, 4, 1024]⟩
abbrev S32x19x1024 : Shape := ⟨3, ![32, 19, 1024]⟩
abbrev S1x32x4x8x128 : Shape := ⟨5, ![1, 32, 4, 8, 128]⟩

abbrev nBuf : Space → Nat
  | .hbm => 22
  | .vmem => 11
  | .smem => 0
  | _ => 0

abbrev bufTy : (tb : Table) → Fin (tcTables nBuf tb) → BufTy
  | .hbm, ⟨0, _⟩ => ⟨S32x4x2048, .f32⟩
  | .hbm, ⟨1, _⟩ => ⟨S1x32x15x1024, .f32⟩
  | .hbm, ⟨2, _⟩ => ⟨S1x2048, .f32⟩
  | .hbm, ⟨3, _⟩ => ⟨S1x2048x4096, .f32⟩
  | .hbm, ⟨4, _⟩ => ⟨S128x2048, .f32⟩
  | .hbm, ⟨5, _⟩ => ⟨S2048, .f32⟩
  | .hbm, ⟨6, _⟩ => ⟨S1x2048, .f32⟩
  | .hbm, ⟨7, _⟩ => ⟨S2048x4096, .f32⟩
  | .hbm, ⟨8, _⟩ => ⟨S2048x4096, .bf16⟩
  | .hbm, ⟨9, _⟩ => ⟨S128x1024, .bf16⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .bf16⟩
  | .hbm, ⟨14, _⟩ => ⟨S128x1024, .bf16⟩
  | .hbm, ⟨15, _⟩ => ⟨S32x15x1024, .f32⟩
  | .hbm, ⟨16, _⟩ => ⟨S32x4x1024, .f32⟩
  | .hbm, ⟨17, _⟩ => ⟨S32x19x1024, .f32⟩
  | .hbm, ⟨18, _⟩ => ⟨S1x32x4x8x128, .f32⟩
  | .hbm, ⟨19, _⟩ => ⟨S1x32x4x8x128, .f32⟩
  | .hbm, ⟨20, _⟩ => ⟨S32x15x1024, .f32⟩
  | .hbm, ⟨21, _⟩ => ⟨S1x32x15x1024, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ProjSRefIdeal.lean ====
abbrev S32x4x2048 : Shape := ⟨3, ![32, 4, 2048]⟩
abbrev S1x32x15x1024 : Shape := ⟨4, ![1, 32, 15, 1024]⟩
abbrev S1x2048 : Shape := ⟨2, ![1, 2048]⟩
abbrev S1x2048x4096 : Shape := ⟨3, ![1, 2048, 4096]⟩
abbrev S2048 : Shape := ⟨1, ![2048]⟩
abbrev S2048x4096 : Shape := ⟨2, ![2048, 4096]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x4096 : Shape := ⟨3, ![32, 4, 4096]⟩
abbrev S32x4x1024 : Shape := ⟨3, ![32, 4, 1024]⟩
abbrev S32x4x8x128 : Shape := ⟨4, ![32, 4, 8, 128]⟩
abbrev S32x15x1024 : Shape := ⟨3, ![32, 15, 1024]⟩
abbrev S32x19x1024 : Shape := ⟨3, ![32, 19, 1024]⟩
abbrev S1x32x4x8x128 : Shape := ⟨5, ![1, 32, 4, 8, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x32x15x1024, .f32⟩
  | .hbm, ⟨2, _⟩ => ⟨S1x2048, .f32⟩
  | .hbm, ⟨3, _⟩ => ⟨S1x2048x4096, .f32⟩
  | .hbm, ⟨4, _⟩ => ⟨S2048, .f32⟩
  | .hbm, ⟨5, _⟩ => ⟨S2048x4096, .f32⟩
  | .hbm, ⟨6, _⟩ => ⟨S32x4x2048, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x2048, .f32⟩
  | .hbm, ⟨18, _⟩ => ⟨S32x4x2048, .f32⟩
  | .hbm, ⟨19, _⟩ => ⟨S1x1x2048, .f32⟩
  | .hbm, ⟨20, _⟩ => ⟨S32x4x2048, .f32⟩
  | .hbm, ⟨21, _⟩ => ⟨S32x4x2048, .f32⟩
  | .hbm, ⟨22, _⟩ => ⟨S32x4x4096, .f32⟩
  | .hbm, ⟨23, _⟩ => ⟨S32x4x1024, .f32⟩
  | .hbm, ⟨24, _⟩ => ⟨S32x4x8x128, .f32⟩
  | .hbm, ⟨25, _⟩ => ⟨S32x4x1024, .f32⟩
  | .hbm, ⟨26, _⟩ => ⟨S32x4x8x128, .f32⟩
  | .hbm, ⟨27, _⟩ => ⟨S32x4x1024, .f32⟩
  | .hbm, ⟨28, _⟩ => ⟨S32x4x8x128, .f32⟩
  | .hbm, ⟨29, _⟩ => ⟨S32x4x1024, .f32⟩
  | .hbm, ⟨30, _⟩ => ⟨S32x15x1024, .f32⟩
  | .hbm, ⟨31, _⟩ => ⟨S32x19x1024, .f32⟩
  | .hbm, ⟨32, _⟩ => ⟨S1x32x4x8x128, .f32⟩
  | .hbm, ⟨33, _⟩ => ⟨S1x32x4x8x128, .f32⟩
  | .hbm, ⟨34, _⟩ => ⟨S32x15x1024, .f32⟩
  | .hbm, ⟨35, _⟩ => ⟨S1x32x15x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Experts.lean ====
abbrev S323 : Shape := ⟨1, ![323]⟩
abbrev S66560x2048 : Shape := ⟨2, ![66560, 2048]⟩
abbrev S64x2048x512 : Shape := ⟨3, ![64, 2048, 512]⟩
abbrev S64x512x2048 : Shape := ⟨3, ![64, 512, 2048]⟩
abbrev S256x2048 : Shape := ⟨2, ![256, 2048]⟩
abbrev S1 : Shape := ⟨1, ![1]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩
abbrev S256x1 : Shape := ⟨2, ![256, 1]⟩

abbrev nBuf : Space → Nat
  | .hbm => 5
  | .vmem => 13
  | .smem => 4
  | _ => 0

abbrev bufTy : (tb : Table) → Fin (tcTables nBuf tb) → BufTy
  | .hbm, ⟨0, _⟩ => ⟨S66560x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S66560x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S323, .i32⟩
  | .local _ .smem, ⟨1, _⟩ => ⟨S323, .i32⟩
  | .local _ .smem, ⟨2, _⟩ => ⟨S323, .i32⟩
  | .local _ .smem, ⟨3, _⟩ => ⟨S323, .i32⟩
  | _, _ => ⟨S66560x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![323], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (v1 : BitVec 32) (v3 : BitVec 32) : BitVec 1 :=
  let v15 : BitVec 1 := Scalar.cmpi .sgt v3 v1
  let v16 : BitVec 32 := Scalar.extui v15
  let c0_i32_2 : BitVec 32 := 0#32
  let v17 : BitVec 1 := Scalar.cmpi .ne v16 c0_i32_2
  v17

def k0_cond3 (v1 : BitVec 32) : BitVec 1 :=
  let c0_i32_12 : BitVec 32 := 0#32
  let v30 : BitVec 1 := Scalar.cmpi .eq v1 c0_i32_12
  let v31 : BitVec 32 := Scalar.extui v30
  let c0_i32_13 : BitVec 32 := 0#32
  let v32 : BitVec 1 := Scalar.cmpi .ne v31 c0_i32_13
  v32

def k0_cond4 (v1 : BitVec 32) : BitVec 1 :=
  let c0_i32_14 : BitVec 32 := 0#32
  let v33 : BitVec 1 := Scalar.cmpi .sgt v1 c0_i32_14
  let v34 : BitVec 32 := Scalar.extui v33
  let c0_i32_15 : BitVec 32 := 0#32
  let v35 : BitVec 1 := Scalar.cmpi .ne v34 c0_i32_15
  v35

def cc0_transform_0 (k0_off1_inb : ∀ i : grid0.Coords, ∀ a, (k0_off1 i) a + S1.size a ≤ S323.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S323) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S323.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S323) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S323.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S323) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S323.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S323) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S323.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S323) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S323 : Shape := ⟨1, ![323]⟩
abbrev S66560x2048 : Shape := ⟨2, ![66560, 2048]⟩
abbrev S64x2048x512 : Shape := ⟨3, ![64, 2048, 512]⟩
abbrev S64x512x2048 : Shape := ⟨3, ![64, 512, 2048]⟩
abbrev S66560 : Shape := ⟨1, ![66560]⟩
abbrev S1x66560 : Shape := ⟨2, ![1, 66560]⟩
abbrev S64x512x66560 : Shape := ⟨3, ![64, 512, 66560]⟩
abbrev S64x66560x512 : Shape := ⟨3, ![64, 66560, 512]⟩
abbrev S_ : Shape := ⟨0, ![]⟩
abbrev S64x66560x2048 : Shape := ⟨3, ![64, 66560, 2048]⟩
abbrev S64 : Shape := ⟨1, ![64]⟩
abbrev S64x1 : Shape := ⟨2, ![64, 1]⟩
abbrev S323x1 : Shape := ⟨2, ![323, 1]⟩
abbrev S323x66560 : Shape := ⟨2, ![323, 66560]⟩
abbrev S323x1x66560 : Shape := ⟨3, ![323, 1, 66560]⟩
abbrev S323x1x1 : Shape := ⟨3, ![323, 1, 1]⟩
abbrev S1x64x1 : Shape := ⟨3, ![1, 64, 1]⟩
abbrev S323x64x1 : Shape := ⟨3, ![323, 64, 1]⟩
abbrev S323x64x66560 : Shape := ⟨3, ![323, 64, 66560]⟩
abbrev S64x66560 : Shape := ⟨2, ![64, 66560]⟩
abbrev S64x66560x1 : Shape := ⟨3, ![64, 66560, 1]⟩

abbrev nBuf : Space → Nat
  | .hbm => 61
  | .vmem => 0
  | .smem => 0
  | _ => 0

abbrev bufTy : (tb : Table) → Fin (tcTables nBuf tb) → BufTy
  | .hbm, ⟨0, _⟩ => ⟨S323, .i32⟩
  | .hbm, ⟨1, _⟩ => ⟨S323, .i32⟩
  | .hbm, ⟨2, _⟩ => ⟨S323, .i32⟩
  | .hbm, ⟨3, _⟩ => ⟨S323, .i32⟩
  | .hbm, ⟨4, _⟩ => ⟨S66560x2048, .f32⟩
  | .hbm, ⟨5, _⟩ => ⟨S64x2048x512, .f32⟩
  | .hbm, ⟨6, _⟩ => ⟨S64x2048x512, .f32⟩
  | .hbm, ⟨7, _⟩ => ⟨S64x512x2048, .f32⟩
  | .hbm, ⟨8, _⟩ => ⟨S66560, .i32⟩
  | .hbm, ⟨9, _⟩ => ⟨S1x66560, .i32⟩
  | .hbm, ⟨10, _⟩ => ⟨S64x512x66560, .f32⟩
  | .hbm, ⟨11, _⟩ => ⟨S64x66560x512, .f32⟩
  | .hbm, ⟨12, _⟩ => ⟨S64x66560x512, .f32⟩
  | .hbm, ⟨13, _⟩ => ⟨S64x66560x512, .f32⟩
  | .hbm, ⟨14, _⟩ => ⟨S_, .f32⟩
  | .hbm, ⟨15, _⟩ => ⟨S64x66560x512, .f32⟩
  | .hbm, ⟨16, _⟩ => ⟨S64x66560x512, .f32⟩
  | .hbm, ⟨17, _⟩ => ⟨S_, .f32⟩
  | .hbm, ⟨18, _⟩ => ⟨S64x66560x512, .f32⟩
  | .hbm, ⟨19, _⟩ => ⟨S64x66560x512, .f32⟩
  | .hbm, ⟨20, _⟩ => ⟨S64x66560x512, .f32⟩
  | .hbm, ⟨21, _⟩ => ⟨S64x512x66560, .f32⟩
  | .hbm, ⟨22, _⟩ => ⟨S64x66560x512, .f32⟩
  | .hbm, ⟨23, _⟩ => ⟨S64x66560x512, .f32⟩
  | .hbm, ⟨24, _⟩ => ⟨S64x66560x2048, .f32⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S323, .i32⟩
  | .hbm, ⟨29, _⟩ => ⟨S323, .i32⟩
  | .hbm, ⟨30, _⟩ => ⟨S323x1, .i32⟩
  | .hbm, ⟨31, _⟩ => ⟨S323x1, .i32⟩
  | .hbm, ⟨32, _⟩ => ⟨S323x1, .i32⟩
  | .hbm, ⟨33, _⟩ => ⟨S323x66560, .i32⟩
  | .hbm, ⟨34, _⟩ => ⟨S323x66560, .i32⟩
  | .hbm, ⟨35, _⟩ => ⟨S323x66560, .i1⟩
  | .hbm, ⟨36, _⟩ => ⟨S323x1, .i32⟩
  | .hbm, ⟨37, _⟩ => ⟨S323x1, .i32⟩
  | .hbm, ⟨38, _⟩ => ⟨S323x66560, .i32⟩
  | .hbm, ⟨39, _⟩ => ⟨S323x66560, .i32⟩
  | .hbm, ⟨40, _⟩ => ⟨S323x66560, .i1⟩
  | .hbm, ⟨41, _⟩ => ⟨S323x66560, .i1⟩
  | .hbm, ⟨42, _⟩ => ⟨S323x1x66560, .i1⟩
  | .hbm, ⟨43, _⟩ => ⟨S323x1x1, .i32⟩
  | .hbm, ⟨44, _⟩ => ⟨S1x64x1, .i32⟩
  | .hbm, ⟨45, _⟩ => ⟨S323x64x1, .i32⟩
  | .hbm, ⟨46, _⟩ => ⟨S323x64x1, .i32⟩
  | .hbm, ⟨47, _⟩ => ⟨S323x64x1, .i1⟩
  | .hbm, ⟨48, _⟩ => ⟨S323x64x66560, .i1⟩
  | .hbm, ⟨49, _⟩ => ⟨S323x64x66560, .i1⟩
  | .hbm, ⟨50, _⟩ => ⟨S323x64x66560, .i1⟩
  | .hbm, ⟨51, _⟩ => ⟨S_, .i1⟩
  | .hbm, ⟨52, _⟩ => ⟨S64x66560, .i1⟩
  | .hbm, ⟨53, _⟩ => ⟨S64x66560x1, .i1⟩
  | .hbm, ⟨54, _⟩ => ⟨S_, .f32⟩
  | .hbm, ⟨55, _⟩ => ⟨S_, .f32⟩
  | .hbm, ⟨56, _⟩ => ⟨S64x66560x2048, .i1⟩
  | .hbm, ⟨57, _⟩ => ⟨S64x66560x2048, .f32⟩
  | .hbm, ⟨58, _⟩ => ⟨S64x66560x2048, .f32⟩
  | .hbm, ⟨59, _⟩ => ⟨S_, .f32⟩
  | .hbm, ⟨60, _⟩ => ⟨S66560x2048, .f32⟩
  | _, _ => ⟨S323, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_0 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Pool.lean ====
abbrev S8192x1024 : Shape := ⟨2, ![8192, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S256x1024 : Shape := ⟨2, ![256, 1024]⟩
abbrev S128x1024 : Shape := ⟨2, ![128, 1024]⟩
abbrev S384x1024 : Shape := ⟨2, ![384, 1024]⟩
abbrev S256x384 : Shape := ⟨2, ![256, 384]⟩
abbrev S256x1 : Shape := ⟨2, ![256, 1]⟩
abbrev S384x256 : Shape := ⟨2, ![384, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S1024, .f32⟩
  | .hbm, ⟨6, _⟩ => ⟨S1x1024, .f32⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S128x1024, .f32⟩
  | .local _ .vmem, ⟨3, _⟩ => ⟨S128x1024, .f32⟩
  | .local _ .vmem, ⟨4, _⟩ => ⟨S4x256x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolRefIdeal.lean ====
abbrev S8192x1024 : Shape := ⟨2, ![8192, 1024]⟩
abbrev S1x4x256x256 : Shape := ⟨4, ![1, 4, 256, 256]⟩
abbrev S1x1024 : Shape := ⟨2, ![1, 1024]⟩
abbrev S_ : Shape := ⟨0, ![]⟩
abbrev S8192 : Shape := ⟨1, ![8192]⟩
abbrev S8192x256 : Shape := ⟨2, ![8192, 256]⟩
abbrev S8194x256 : Shape := ⟨2, ![8194, 256]⟩
abbrev S8192x1 : Shape := ⟨2, ![8192, 1]⟩
abbrev S8196x256 : Shape := ⟨2, ![8196, 256]⟩
abbrev S8200x256 : Shape := ⟨2, ![8200, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x256 : Shape := ⟨3, ![4, 256, 256]⟩
abbrev S4x256x8192 : Shape := ⟨3, ![4, 256, 8192]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x4x256x256, .f32⟩
  | .hbm, ⟨2, _⟩ => ⟨S1x1024, .f32⟩
  | .hbm, ⟨3, _⟩ => ⟨S_, .f32⟩
  | .hbm, ⟨4, _⟩ => ⟨S_, .f32⟩
  | .hbm, ⟨5, _⟩ => ⟨S8192x1024, .f32⟩
  | .hbm, ⟨6, _⟩ => ⟨S8192, .i32⟩
  | .hbm, ⟨7, _⟩ => ⟨S8192x256, .f32⟩
  | .hbm, ⟨8, _⟩ => ⟨S_, .i32⟩
  | .hbm, ⟨9, _⟩ => ⟨S_, .f32⟩
  | .hbm, ⟨10, _⟩ => ⟨S8194x256, .f32⟩
  | .hbm, ⟨11, _⟩ => ⟨S8192x256, .f32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .i32⟩
  | .hbm, ⟨27, _⟩ => ⟨S_, .f32⟩
  | .hbm, ⟨28, _⟩ => ⟨S8196x256, .f32⟩
  | .hbm, ⟨29, _⟩ => ⟨S8192x256, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S_, .i32⟩
  | .hbm, ⟨45, _⟩ => ⟨S_, .f32⟩
  | .hbm, ⟨46, _⟩ => ⟨S8200x256, .f32⟩
  | .hbm, ⟨47, _⟩ => ⟨S8192x256, .f32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S8192x1, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S_, .i32⟩
  | .hbm, ⟨63, _⟩ => ⟨S_, .f32⟩
  | .hbm, ⟨64, _⟩ => ⟨S8208x256, .f32⟩
  | .hbm, ⟨65, _⟩ => ⟨S8192x256, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S8192x1, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S8192x256, .f32⟩
  | .hbm, ⟨78, _⟩ => ⟨S8192x256, .f32⟩
  | .hbm, ⟨79, _⟩ => ⟨S8192x1x256, .f32⟩
  | .hbm, ⟨80, _⟩ => ⟨S8192x1x256, .f32⟩
  | .hbm, ⟨81, _⟩ => ⟨S8192x1x256, .f32⟩
  | .hbm, ⟨82, _⟩ => ⟨S8192x1x256, .f32⟩
  | .hbm, ⟨83, _⟩ => ⟨S8192x4x256, .f32⟩
  | .hbm, ⟨84, _⟩ => ⟨S4x256x256, .f32⟩
  | .hbm, ⟨85, _⟩ => ⟨S4x256x8192, .f32⟩
  | .hbm, ⟨86, _⟩ => ⟨S8192x4x256, .f32⟩
  | .hbm, ⟨87, _⟩ => ⟨S8192x1024, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_call3_v0 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_call4_v0 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== PoolS.lean ====
abbrev S32x19x1024 : Shape := ⟨3, ![32, 19, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S_ : Shape := ⟨0, ![]⟩
abbrev S32x20x1024 : Shape := ⟨3, ![32, 20, 1024]⟩
abbrev S640x1024 : Shape := ⟨2, ![640, 1024]⟩
abbrev S128x1024 : Shape := ⟨2, ![128, 1024]⟩
abbrev S128x640 : Shape := ⟨2, ![128, 640]⟩
abbrev S128x1 : Shape := ⟨2, ![128, 1]⟩
abbrev S640x256 : Shape := ⟨2, ![640, 256]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 12
  | .vmem => 4
  | .smem => 0
  | _ => 0

abbrev bufTy : (tb : Table) → Fin (tcTables nBuf tb) → BufTy
  | .hbm, ⟨0, _⟩ => ⟨S32x19x1024, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S32x20x1024, .f32⟩
  | .hbm, ⟨10, _⟩ => ⟨S640x1024, .f32⟩
  | .hbm, ⟨11, _⟩ => ⟨S128x1024, .bf16⟩
  | .local _ .vmem, ⟨0, _⟩ => ⟨S640x1024, .f32⟩
  | .local _ .vmem, ⟨1, _⟩ => ⟨S4x256x256, .bf16⟩
  | .local _ .vmem, ⟨2, _⟩ => ⟨S1x1024, .f32⟩
  | .local _ .vmem, ⟨3, _⟩ => ⟨S128x1024, .bf16⟩
  | _, _ => ⟨S32x19x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PoolSRefIdeal.lean ====
abbrev S32x19x1024 : Shape := ⟨3, ![32, 19, 1024]⟩
abbrev S1x4x256x256 : Shape := ⟨4, ![1, 4, 256, 256]⟩
abbrev S1x1024 : Shape := ⟨2, ![1, 1024]⟩
abbrev S_ : Shape := ⟨0, ![]⟩
abbrev S19 : Shape := ⟨1, ![19]⟩
abbrev S32x19x256 : Shape := ⟨3, ![32, 19, 256]⟩
abbrev S32x21x256 : Shape := ⟨3, ![32, 21, 256]⟩
abbrev S1x19x1 : Shape := ⟨3, ![1, 19, 1]⟩
abbrev S32x23x256 : Shape := ⟨3, ![32, 23, 256]⟩
abbrev S32x27x256 : Shape := ⟨3, ![32, 27, 256]⟩
abbrev S32x35x256 : Shape := ⟨3, ![32, 35, 256]⟩
abbrev S32x19x1x256 : Shape := ⟨4, ![32, 19, 1, 256]⟩
abbrev S32x19x4x256 : Shape := ⟨4, ![32, 19, 4, 256]⟩
abbrev S4x256x256 : Shape := ⟨3, ![4, 256, 256]⟩
abbrev S4x256x32x19 : Shape := ⟨4, ![4, 256, 32, 19]⟩
abbrev S1024 : Shape := ⟨1, ![1024]⟩
abbrev S1x1x1024 : Shape := ⟨3, ![1, 1, 1024]⟩
abbrev S32x4x1024 : Shape := ⟨3, ![32, 4, 1024]⟩
abbrev S128x1024 : Shape := ⟨2, ![128, 1024]⟩

abbrev nBuf : Space → Nat
  | .hbm => 98
  | .vmem => 0
  | .smem => 0
  | _ => 0

abbrev bufTy : (tb : Table) → Fin (tcTables nBuf tb) → BufTy
  | .hbm, ⟨0, _⟩ => ⟨S32x19x1024, .f32⟩
  | .hbm, ⟨1, _⟩ => ⟨S1x4x256x256, .f32⟩
  | .hbm, ⟨2, _⟩ => ⟨S1x1024, .f32⟩
  | .hbm, ⟨3, _⟩ => ⟨S_, .f32⟩
  | .hbm, ⟨4, _⟩ => ⟨S_, .f32⟩
  | .hbm, ⟨5, _⟩ => ⟨S32x19x1024, .f32⟩
  | .hbm, ⟨6, _⟩ => ⟨S19, .i32⟩
  | .hbm, ⟨7, _⟩ => ⟨S_, .i32⟩
  | .hbm, ⟨8, _⟩ => ⟨S19, .i32⟩
  | .hbm, ⟨9, _⟩ => ⟨S19, .i32⟩
  | .hbm, ⟨10, _⟩ => ⟨S32x19x256, .f32⟩
  | .hbm, ⟨11, _⟩ => ⟨S_, .i32⟩
  | .hbm, ⟨12, _⟩ => ⟨S_, .f32⟩
  | .hbm, ⟨13, _⟩ => ⟨S32x21x256, .f32⟩
  | .hbm, ⟨14, _⟩ => ⟨S32x19x256, .f32⟩
  | .hbm, ⟨15, _⟩ => ⟨S_, .i32⟩
  | .hbm, ⟨16, _⟩ => ⟨S19, .i32⟩
  | .hbm, ⟨17, _⟩ => ⟨S19, .i32⟩
  | .hbm, ⟨18, _⟩ => ⟨S_, .i32⟩
  | .hbm, ⟨19, _⟩ => ⟨S19, .i32⟩
  | .hbm, ⟨20, _⟩ => ⟨S19, .i32⟩
  | .hbm, ⟨21, _⟩ => ⟨S19, .f32⟩
  | .hbm, ⟨22, _⟩ => ⟨S1x19x1, .f32⟩
  | .hbm, ⟨23, _⟩ => ⟨S32x19x256, .f32⟩
  | .hbm, ⟨24, _⟩ => ⟨S32x19x256, .f32⟩
  | .hbm, ⟨25, _⟩ => ⟨S32x19x256, .f32⟩
  | .hbm, ⟨26, _⟩ => ⟨S32x19x256, .f32⟩
  | .hbm, ⟨27, _⟩ => ⟨S32x19x256, .f32⟩
  | .hbm, ⟨28, _⟩ => ⟨S32x19x256, .f32⟩
  | .hbm, ⟨29, _⟩ => ⟨S_, .i32⟩
  | .hbm, ⟨30, _⟩ => ⟨S_, .f32⟩
  | .hbm, ⟨31, _⟩ => ⟨S32x23x256, .f32⟩
  | .hbm, ⟨32, _⟩ => ⟨S32x19x256, .f32⟩
  | .hbm, ⟨33, _⟩ => ⟨S_, .i32⟩
  | .hbm, ⟨34, _⟩ => ⟨S19, .i32⟩
  | .hbm, ⟨35, _⟩ => ⟨S19, .i32⟩
  | .hbm, ⟨36, _⟩ => ⟨S_, .i32⟩
  | .hbm, ⟨37, _⟩ => ⟨S19, .i32⟩
  | .hbm, ⟨38, _⟩ => ⟨S19, .i32⟩
  | .hbm, ⟨39, _⟩ => ⟨S19, .f32⟩
  | .hbm, ⟨40, _⟩ => ⟨S1x19x1, .f32⟩
  | .hbm, ⟨41, _⟩ => ⟨S32x19x256, .f32⟩
  | .hbm, ⟨42, _⟩ => ⟨S32x19x256, .f32⟩
  | .hbm, ⟨43, _⟩ => ⟨S32x19x256, .f32⟩
  | .hbm, ⟨44, _⟩ => ⟨S32x19x256, .f32⟩
  | .hbm, ⟨45, _⟩ => ⟨S32x19x256, .f32⟩
  | .hbm, ⟨46, _⟩ => ⟨S32x19x256, .f32⟩
  | .hbm, ⟨47, _⟩ => ⟨S_, .i32⟩
  | .hbm, ⟨48, _⟩ => ⟨S_, .f32⟩
  | .hbm, ⟨49, _⟩ => ⟨S32x27x256, .f32⟩
  | .hbm, ⟨50, _⟩ => ⟨S32x19x256, .f32⟩
  | .hbm, ⟨51, _⟩ => ⟨S_, .i32⟩
  | .hbm, ⟨52, _⟩ => ⟨S19, .i32⟩
  | .hbm, ⟨53, _⟩ => ⟨S19, .i32⟩
  | .hbm, ⟨54, _⟩ => ⟨S_, .i32⟩
  | .hbm, ⟨55, _⟩ => ⟨S19, .i32⟩
  | .hbm, ⟨56, _⟩ => ⟨S19, .i32⟩
  | .hbm, ⟨57, _⟩ => ⟨S19, .f32⟩
  | .hbm, ⟨58, _⟩ => ⟨S1x19x1, .f32⟩
  | .hbm, ⟨59, _⟩ => ⟨S32x19x256, .f32⟩
  | .hbm, ⟨60, _⟩ => ⟨S32x19x256, .f32⟩
  | .hbm, ⟨61, _⟩ => ⟨S32x19x256, .f32⟩
  | .hbm, ⟨62, _⟩ => ⟨S32x19x256, .f32⟩
  | .hbm, ⟨63, _⟩ => ⟨S32x19x256, .f32⟩
  | .hbm, ⟨64, _⟩ => ⟨S32x19x256, .f32⟩
  | .hbm, ⟨65, _⟩ => ⟨S_, .i32⟩
  | .hbm, ⟨66, _⟩ => ⟨S_, .f32⟩
  | .hbm, ⟨67, _⟩ => ⟨S32x35x256, .f32⟩
  | .hbm, ⟨68, _⟩ => ⟨S32x19x256, .f32⟩
  | .hbm, ⟨69, _⟩ => ⟨S_, .i32⟩
  | .hbm, ⟨70, _⟩ => ⟨S19, .i32⟩
  | .hbm, ⟨71, _⟩ => ⟨S19, .i32⟩
  | .hbm, ⟨72, _⟩ => ⟨S_, .i32⟩
  | .hbm, ⟨73, _⟩ => ⟨S19, .i32⟩
  | .hbm, ⟨74, _⟩ => ⟨S19, .i32⟩
  | .hbm, ⟨75, _⟩ => ⟨S19, .f32⟩
  | .hbm, ⟨76, _⟩ => ⟨S1x19x1, .f32⟩
  | .hbm, ⟨77, _⟩ => ⟨S32x19x256, .f32⟩
  | .hbm, ⟨78, _⟩ => ⟨S32x19x256, .f32⟩
  | .hbm, ⟨79, _⟩ => ⟨S32x19x256, .f32⟩
  | .hbm, ⟨80, _⟩ => ⟨S32x19x256, .f32⟩
  | .hbm, ⟨81, _⟩ => ⟨S32x19x256, .f32⟩
  | .hbm, ⟨82, _⟩ => ⟨S32x19x1x256, .f32⟩
  | .hbm, ⟨83, _⟩ => ⟨S32x19x1x256, .f32⟩
  | .hbm, ⟨84, _⟩ => ⟨S32x19x1x256, .f32⟩
  | .hbm, ⟨85, _⟩ => ⟨S32x19x1x256, .f32⟩
  | .hbm, ⟨86, _⟩ => ⟨S32x19x4x256, .f32⟩
  | .hbm, ⟨87, _⟩ => ⟨S4x256x256, .f32⟩
  | .hbm, ⟨88, _⟩ => ⟨S4x256x32x19, .f32⟩
  | .hbm, ⟨89, _⟩ => ⟨S32x19x4x256, .f32⟩
  | .hbm, ⟨90, _⟩ => ⟨S32x19x1024, .f32⟩
  | .hbm, ⟨91, _⟩ => ⟨S1024, .f32⟩
  | .hbm, ⟨92, _⟩ => ⟨S1x1x1024, .f32⟩
  | .hbm, ⟨93, _⟩ => ⟨S32x19x1024, .f32⟩
  | .hbm, ⟨94, _⟩ => ⟨S32x19x1024, .f32⟩
  | .hbm, ⟨95, _⟩ => ⟨S32x4x1024, .f32⟩
  | .hbm, ⟨96, _⟩ => ⟨S128x1024, .f32⟩
  | .hbm, ⟨97, _⟩ => ⟨S128x1024, .bf16⟩
  | _, _ => ⟨S32x19x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_call3_v0 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_call4_v0 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.AttnBlock.lean ====
/-
  The stick-breaking attention kernel, read one head and one key block at a time. The four heads of a grid point are
  the same function at different columns: this module says what that function is and that each head's part of the
  kernel's loop body, and of its first (causally masked) block, is that function.
-/
module

public import proofs.«01_k».proof.Proof.Gen.AttnIdeal.Value
public import Idealize.ShloMosaic.Lib.Tactic
public import Idealize.ShloMosaic.Lib.LoopRemainder
public import Idealize.ShloMosaic.Lib.Pointwise

@[expose] public section

set_option maxRecDepth 16384

noncomputable section

namespace Cert.AttnIdeal.Val

open Cert.AttnIdeal Cert.AttnIdeal.Gen Idealize.ShloMosaic Idealize.ShloMosaic.TcCoe Idealize.SL.Sem Idealize.ShloMosaic.Tactic

variable {F : FTy → Type} [FloatOps F]

/-- What the loop carries for four heads: each head's running log of the unspent stick, and its output so far. -/
abbrev Acc8 (F : FTy → Type) : Type :=
  FVec F S256x1 .f32 × FVec F S256x128 .f32 × FVec F S256x1 .f32 × FVec F S256x128 .f32 × FVec F S256x1 .f32 × FVec F S256x128 .f32 × FVec F S256x1 .f32 × FVec F S256x128 .f32

/-- One head's part of what the loop carries. -/
def head (n : Fin 4) (p : Acc8 F) : FVec F S256x1 .f32 × FVec F S256x128 .f32 :=
  match n with
  | 0 => (p.1, p.2.1)
  | 1 => (p.2.2.1, p.2.2.2.1)
  | 2 => (p.2.2.2.2.1, p.2.2.2.2.2.1)
  | 3 => (p.2.2.2.2.2.2.1, p.2.2.2.2.2.2.2)

/-- The logits of 256 queries against 256 keys. -/
def logits (b : Elt F .f32) (q k : Vec F S256x128 .bf16) : FVec F S256x256 .f32 :=
  addf (matmul dot_S256x128_S256x128_S256x256_1_1_0_0_n_n none q k (constant S256x256 .f32 0x00000000#32)) (broadcast S256x256 b)

/-- The softplus of the logits, as the kernel spells it. -/
def softp (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- Minus the sum of the later entries of the same row, in two parts of lower precision. -/
def later (u : FVec F S256x256 .bf16) (s : FVec F S256x256 .f32) : FVec F S256x256 .f32 :=
  addf (matmul dot_S256x256_S256x256_S256x256_1_0_0_1_n_n none (truncf .bf16 s bitsLt_bf16_f32) u (constant S256x256 .f32 0x00000000#32))
    (matmul dot_S256x256_S256x256_S256x256_1_0_0_1_n_n none
      (truncf .bf16 (subf s (extf .f32 (truncf .bf16 s bitsLt_bf16_f32) bitsLt_bf16_f32)) bitsLt_bf16_f32) u (constant S256x256 .f32 0x00000000#32))

/-- The weights of a block: logits `z`, their softplus `p`, the entries `s` summed, the log carried in `c`. -/
def weights (u : FVec F S256x256 .bf16) (c : FVec F S256x1 .f32) (z p s : FVec F S256x256 .f32) : FVec F S256x256 .f32 :=
  exp (addf (addf (subf z p) (later u s)) (broadcastTo S256x256 c broadcasts_S256x1_S256x256))

/-- The log of the unspent stick after a block. -/
def carried (c : FVec F S256x1 .f32) (s : FVec F S256x256 .f32) : FVec F S256x1 .f32 :=
  subf c (shapeCast S256x1 (multiReduction .add [1] S256 s 0x00000000#32 reduces_S256x256_S256 (.inl rfl) rfl) shapeCasts_S256_S256x1)

/-- The output after a block of weights `w` and values `v`. -/
def gathered (a : FVec F S256x128 .f32) (w : FVec F S256x256 .f32) (v : Vec F S256x128 .bf16) : FVec F S256x128 .f32 :=
  addf a (matmul dot_S256x256_S256x128_S256x128_1_0_0_1_n_n none (truncf .bf16 w bitsLt_bf16_f32) v (constant S256x128 .f32 0x00000000#32))

/-- One block that needs no mask. -/
def step (u : FVec F S256x256 .bf16) (b : Elt F .f32) (q k v : Vec F S256x128 .bf16) (p : FVec F S256x1 .f32 × FVec F S256x128 .f32) :
    FVec F S256x1 .f32 × FVec F S256x128 .f32 :=
  (carried p.1 (softp (logits b q k)), gathered p.2 (weights u p.1 (logits b q k) (softp (logits b q k)) (softp (logits b q k))) v)

/-- The first block, the queries' own, under the causal mask `w`. -/
def first (u : FVec F S256x256 .bf16) (w : IVec S256x256 1) (b : Elt F .f32) (q k v : Vec F S256x128 .bf16) :
    FVec F S256x1 .f32 × FVec F S256x128 .f32 :=
  (carried k0_pay65 (select w (softp (logits b q k)) (broadcast S256x256 (Scalar.ofBits .f32 0x00000000#32))),
   gathered k0_pay66
     (select w (weights u k0_pay65 (logits b q k) (softp (logits b q k))
         (select w (softp (logits b q k)) (broadcast S256x256 (Scalar.ofBits .f32 0x00000000#32))))
       (broadcast S256x256 (Scalar.ofBits .f32 0x00000000#32))) v)

/-- One of four things by its number. -/
def pick {α : Type} (a b c d : α) (n : Fin 4) : α := match n with | 0 => a | 1 => b | 2 => c | 3 => d

/-- A head's 256 rows of a buffer of keys or values at trip `k`. -/
def tripLd (x : Vec F S8192x512 .bf16) (i : grid0.Coords) (k : Fin (k0_t1_loop i).trips) : Fin 4 → Vec F S256x128 .bf16
  | 0 => View.ld x (Rect.unit (s := S8192x512) (k0_off6 i k) S256x128.size (k0_off6_inb i k))
  | 1 => View.ld x (Rect.unit (s := S8192x512) (k0_off7 i k) S256x128.size (k0_off7_inb i k))
  | 2 => View.ld x (Rect.unit (s := S8192x512) (k0_off8 i k) S256x128.size (k0_off8_inb i k))
  | 3 => View.ld x (Rect.unit (s := S8192x512) (k0_off9 i k) S256x128.size (k0_off9_inb i k))

/-- One trip of the loop does the unmasked block, head by head. -/
theorem trip_head (𝒱 : Variants) (c : Dev nD) (bd : Option 𝒱.V) (i : grid0.Coords) (arg2 : Memref sig .tc .smem S8 .f32) (harg2 : arg2.IsWhole) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole) (v3 v7 v11 v15 : Elt F .f32) (v16 v17 v18 v19 : Vec F S256x128 .bf16) (v26 : FVec F S256x256 .bf16) (v44 : BitVec 32) (c0_i32_68 : BitVec 32)
    (X4 : BufTy.Contents (Elt F) arg4.view.ty) (X5 : BufTy.Contents (Elt F) arg5.view.ty)
    (k : Fin (k0_t1_loop i).trips) (acc : Acc8 F) (n : Fin 4) :
    head n (tripR_k0_t1 𝒱 c bd i arg2 harg2 arg3 harg3 arg4 harg4 arg5 harg5 arg6 harg6 v3 v7 v11 v15 v16 v17 v18 v19 v26 v44 c0_i32_68 X4 X5 k acc)
      = step v26 (pick v3 v7 v11 v15 n) (pick v16 v17 v18 v19 n)
          (tripLd (arg4.view.read (Elt F) X4) i k n) (tripLd (arg5.view.read (Elt F) X5) i k n) (head n acc) := by
  unfold tripR_k0_t1
  unfold trip_k0_t1
  dsimp only
  sl_unfold_run_names
  match n with
  | 0 => rfl
  | 1 => rfl
  | 2 => rfl
  | 3 => rfl

/-- The queries' own 256 rows of a buffer of keys or values. -/
def ownLd (x : Vec F S8192x512 .bf16) (i : grid0.Coords) : Fin 4 → Vec F S256x128 .bf16
  | 0 => View.ld x (Rect.unit (s := S8192x512) (k0_off2 i) S256x128.size (k0_off2_inb i))
  | 1 => View.ld x (Rect.unit (s := S8192x512) (k0_off3 i) S256x128.size (k0_off3_inb i))
  | 2 => View.ld x (Rect.unit (s := S8192x512) (k0_off4 i) S256x128.size (k0_off4_inb i))
  | 3 => View.ld x (Rect.unit (s := S8192x512) (k0_off5 i) S256x128.size (k0_off5_inb i))

/-- A head's queries. -/
def qLd (x : Vec F S256x512 .bf16) : Fin 4 → Vec F S256x128 .bf16
  | 0 => View.ld x (Rect.unit (s := S256x512) ![0, 0] S256x128.size inb_S256x512_S256x128_0_0)
  | 1 => View.ld x (Rect.unit (s := S256x512) ![0, 128] S256x128.size inb_S256x512_S256x128_0_128)
  | 2 => View.ld x (Rect.unit (s := S256x512) ![0, 256] S256x128.size inb_S256x512_S256x128_0_256)
  | 3 => View.ld x (Rect.unit (s := S256x512) ![0, 384] S256x128.size inb_S256x512_S256x128_0_384)

/-- A head's bias. -/
def biasLd (x : Vec F S8 .f32) (i : grid0.Coords) (n : Fin 4) : Elt F .f32 :=
  match n with
  | 0 => View.ld x (Rect.unit (s := S8) (k0_off1 i 0#32) S1.size (k0_off1_inb i 0)) (Shape.Idx.first (s := S1) (by decide))
  | 1 => View.ld x (Rect.unit (s := S8) (k0_off1 i 1#32) S1.size (k0_off1_inb i 1)) (Shape.Idx.first (s := S1) (by decide))
  | 2 => View.ld x (Rect.unit (s := S8) (k0_off1 i 2#32) S1.size (k0_off1_inb i 2)) (Shape.Idx.first (s := S1) (by decide))
  | 3 => View.ld x (Rect.unit (s := S8) (k0_off1 i 3#32) S1.size (k0_off1_inb i 3)) (Shape.Idx.first (s := S1) (by decide))

/-- The causal mask of a grid point's first block. -/
def causal (i : grid0.Coords) : IVec S256x256 1 :=
  k0_pay64 (BitVec.ofNat 32 (i 1).val) (Scalar.muli (BitVec.ofNat 32 (i 1).val) 256#32) 256#32
    (Scalar.divsi (Scalar.muli (BitVec.ofNat 32 (i 1).val) 256#32) 256#32)
    (Scalar.subi (Scalar.extui (Scalar.cmpi .sgt (Scalar.muli (BitVec.ofNat 32 (i 1).val) 256#32) 0#32))
      (Scalar.extui (Scalar.cmpi .slt (Scalar.muli (BitVec.ofNat 32 (i 1).val) 256#32) 0#32)))
    (Scalar.cmpi .sgt 256#32 0#32)

/-- The four pieces a grid point writes, a head each. -/
def pieces (S : Acc8 F) : List (View.Piece (Elt F) S256x512 .bf16) :=
  [⟨Rect.unit (s := S256x512) ![0, 384] S256x128.size inb_S256x512_S256x128_0_384, truncf .bf16 (head 3 S).2 bitsLt_bf16_f32⟩,
   ⟨Rect.unit (s := S256x512) ![0, 256] S256x128.size inb_S256x512_S256x128_0_256, truncf .bf16 (head 2 S).2 bitsLt_bf16_f32⟩,
   ⟨Rect.unit (s := S256x512) ![0, 128] S256x128.size inb_S256x512_S256x128_0_128, truncf .bf16 (head 1 S).2 bitsLt_bf16_f32⟩,
   ⟨Rect.unit (s := S256x512) ![0, 0] S256x128.size inb_S256x512_S256x128_0_0, truncf .bf16 (head 0 S).2 bitsLt_bf16_f32⟩]

/-- The number of a grid point's own key block, as the kernel computes it. -/
def ownWord (i : grid0.Coords) : BitVec 32 :=
  Scalar.select
    (Scalar.andi
      (Scalar.cmpi .ne
        (Scalar.subi (Scalar.extui (Scalar.cmpi .sgt (Scalar.muli (BitVec.ofNat 32 (i 1).val) 256#32) 0#32))
          (Scalar.extui (Scalar.cmpi .slt (Scalar.muli (BitVec.ofNat 32 (i 1).val) 256#32) 0#32)))
        (Scalar.subi (Scalar.extui (Scalar.cmpi .sgt 256#32 0#32)) (Scalar.extui (Scalar.cmpi .slt 256#32 0#32))))
      (Scalar.cmpi .ne (Scalar.remsi (Scalar.muli (BitVec.ofNat 32 (i 1).val) 256#32) 256#32) 0#32))
    (Scalar.subi (Scalar.divsi (Scalar.muli (BitVec.ofNat 32 (i 1).val) 256#32) 256#32) 1#32)
    (Scalar.divsi (Scalar.muli (BitVec.ofNat 32 (i 1).val) 256#32) 256#32)

/-- What the loop starts from: the masked block of every head. -/
def start (i : grid0.Coords) (x0 : Vec F S8 .f32) (x1 : Vec F S256x512 .bf16) (x2 x3 : Vec F S8192x512 .bf16) : Acc8 F :=
  let g (n : Fin 4) := first k0_pay63 (causal i) (biasLd x0 i n) (qLd x1 n) (ownLd x2 i n) (ownLd x3 i n)
  ((g 0).1, (g 0).2, (g 1).1, (g 1).2, (g 2).1, (g 2).2, (g 3).1, (g 3).2)

/-- What a grid point does, head by head: the masked block, then a block a trip, then the output's four pieces. -/
theorem run_heads (c : Dev nD) (i : grid0.Coords) (arg2 : Memref sig .tc .smem S8 .f32) (harg2 : arg2.IsWhole) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole)
    (x0 : Vec F S8 .f32) (x1 : Vec F S256x512 .bf16) (x2 : Vec F S8192x512 .bf16) (x3 : Vec F S8192x512 .bf16) :
    ∃ S : ℕ → Acc8 F,
      (∀ n, head n (S 0) = first k0_pay63 (causal i) (biasLd x0 i n) (qLd x1 n) (ownLd x2 i n) (ownLd x3 i n)) ∧
      (∀ (k : Fin (k0_t1_loop i).trips) n, head n (S (k.val + 1))
        = step k0_pay63 (biasLd x0 i n) (qLd x1 n) (tripLd x2 i k n) (tripLd x3 i k n) (head n (S k.val))) ∧
      (kernelRun0_A c i arg2 harg2 arg3 harg3 arg4 harg4 arg5 harg5 arg6 harg6 x0 x1 x2 x3).1 = pieces (S (k0_t1_loop i).trips) := by
  have h2 := harg2.read_unread x0
  have h3 := harg3.read_unread x1
  have h4 := harg4.read_unread x2
  have h5 := harg5.read_unread x3
  refine ⟨st_k0_t1 Variants.none c none i arg2 harg2 arg3 harg3 arg4 harg4 arg5 harg5 arg6 harg6
    (biasLd (arg2.view.read (Elt F) (harg2.unread x0)) i 0) (biasLd (arg2.view.read (Elt F) (harg2.unread x0)) i 1)
    (biasLd (arg2.view.read (Elt F) (harg2.unread x0)) i 2) (biasLd (arg2.view.read (Elt F) (harg2.unread x0)) i 3)
    (qLd (arg3.view.read (Elt F) (harg3.unread x1)) 0) (qLd (arg3.view.read (Elt F) (harg3.unread x1)) 1)
    (qLd (arg3.view.read (Elt F) (harg3.unread x1)) 2) (qLd (arg3.view.read (Elt F) (harg3.unread x1)) 3)
    k0_pay63 (ownWord i) 0#32 (harg4.unread x2) (harg5.unread x3)
    (start i (arg2.view.read (Elt F) (harg2.unread x0)) (arg3.view.read (Elt F) (harg3.unread x1))
      (arg4.view.read (Elt F) (harg4.unread x2)) (arg5.view.read (Elt F) (harg5.unread x3))), fun n => ?_, fun k n => ?_, ?_⟩
  · rw [st_k0_t1_zero, h2, h3, h4, h5]
    match n with
    | 0 => rfl
    | 1 => rfl
    | 2 => rfl
    | 3 => rfl
  · rw [st_k0_t1_succ, trip_head, h2, h3, h4, h5]
    match n with
    | 0 => rfl
    | 1 => rfl
    | 2 => rfl
    | 3 => rfl
  · unfold kernelRun0_A
    dsimp only
    simp only [Scf.rem_trips, st_k0_t2_zero]
    sl_unfold_run_names
    rfl

end Cert.AttnIdeal.Val
-- ==== Proof.StickMath.lean ====
/-
  Stick-breaking weights over the real numbers: the weight of a key is the part of the stick it takes of what the later
  keys left, and the sums over the keys cut at any key.
-/
module

public import Idealize.ShloMosaic.PureOps.Ideal
public import Idealize.ShloMosaic.PureOps.Ideal.Laws
public import Mathlib.Analysis.SpecialFunctions.Log.Basic
public import Mathlib.Algebra.BigOperators.Intervals

@[expose] public section

noncomputable section

namespace Cert.Stick

open Idealize.ShloMosaic

/-- The softplus of a real number. -/
def sp (x : ℝ) : ℝ := max x 0 + Real.log (1 + Real.exp (-|x|))

/-- The sum of the softplus of the logits from key `a` up to, not including, key `s`. -/
def tail (z : ℕ → ℝ) (a s : ℕ) : ℝ := ∑ t ∈ Finset.Ico a s, sp (z t)

/-- The weight of key `t` for the query `s`. -/
def wt (z : ℕ → ℝ) (s t : ℕ) : ℝ := Real.exp (z t - sp (z t) - tail z (t + 1) s)

/-- The weighted sum of the values of the keys from `a` up to, not including, `s`. -/
def out (z : ℕ → ℝ) (v : ℕ → EReal) (a s : ℕ) : EReal := ∑ t ∈ Finset.Ico a s, (wt z s t : EReal) * v t

/-- Minus the softplus of minus a number is the number less its softplus. -/
theorem sp_neg (x : ℝ) : -sp (-x) = x - sp x := by
  unfold sp
  rw [abs_neg]
  rcases le_total x 0 with h | h
  · rw [max_eq_left (by linarith : (0 : ℝ) ≤ -x), max_eq_right h]; ring
  · rw [max_eq_right (by linarith : -x ≤ (0 : ℝ)), max_eq_left h]; ring

/-- The sum of real numbers is the same sum over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of one and an exponential. -/
theorem log_one_add_exp (y : ℝ) : Ideal.log (1 + Ideal.exp (y : EReal)) = ((Real.log (1 + Real.exp y) : ℝ) : EReal) := by
  have h : (0 : ℝ) < 1 + Real.exp y := by positivity
  rw [Ideal.exp_coe, ← EReal.coe_one, ← EReal.coe_add, Ideal.log_coe, if_neg (not_le.mpr h)]

/-- The larger of two real numbers is the larger among the extended reals. -/
theorem coe_max (x y : ℝ) : ((max x y : ℝ) : EReal) = max (x : EReal) y := EReal.coe_strictMono.monotone.map_max

/-- The absolute value of a real number among the extended reals. -/
theorem abs_coe (x : ℝ) : max (x : EReal) (-(x : EReal)) = ((|x| : ℝ) : EReal) := by
  rw [← EReal.coe_neg, ← coe_max]; rfl

/-- The softplus as the kernel spells it. -/
theorem softplus_coe (x : ℝ) :
    max (x : EReal) 0 + Ideal.log (1 + Ideal.exp (0 - max (x : EReal) (-(x : EReal)))) = (sp x : EReal) := by
  rw [abs_coe, zero_sub, ← EReal.coe_neg, log_one_add_exp, ← EReal.coe_zero, ← coe_max, ← EReal.coe_add]; rfl

/-- A sum over `n` places of the entries in a window of them is the sum over the window. -/
theorem sum_window {M : Type} [AddCommMonoid M] (n a lo hi : ℕ) (h : hi ≤ n) (f : ℕ → M) :
    (∑ x : Fin n, if lo ≤ x.val ∧ x.val < hi then f (a + x.val) else 0) = ∑ t ∈ Finset.Ico (a + lo) (a + hi), f t := by
  rw [Fin.sum_univ_eq_sum_range (fun x => if lo ≤ x ∧ x < hi then f (a + x) else 0), Finset.sum_ite, Finset.sum_const_zero, add_zero,
    add_comm a lo, add_comm a hi, ← Finset.sum_Ico_add f lo hi a]
  refine Finset.sum_congr ?_ fun _ _ => rfl
  ext x
  simp only [Finset.mem_filter, Finset.mem_range, Finset.mem_Ico]
  omega

/-- Minus the sum of the later entries, as the kernel takes it: a product with minus ones above the diagonal, twice, the
    second time with what the first one's rounding left, which is nothing. -/
theorem later_coe {n : ℕ} (e : Fin n → ℝ) (j : Fin n) :
    ((∑ x, (e x : EReal) * (if j < x then (-1 : EReal) else 0)) + ∑ x, ((e x : EReal) - e x) * (if j < x then (-1 : EReal) else 0))
      = ((-(∑ x, if j < x then e x else 0) : ℝ) : EReal) := by
  have h0 : ∀ x, ((e x : EReal) - e x) = 0 := fun x => by rw [← EReal.coe_sub, sub_self, EReal.coe_zero]
  have h1 : ∀ x, (e x : EReal) * (if j < x then (-1 : EReal) else 0) = ((-(if j < x then e x else 0) : ℝ) : EReal) := fun x => by
    split
    · rw [mul_neg, mul_one, EReal.coe_neg]
    · rw [mul_zero, neg_zero, EReal.coe_zero]
  simp only [h0, h1, zero_mul, Finset.sum_const_zero, add_zero]
  rw [← coe_sum, Finset.sum_neg_distrib]

/-- The exponential a block takes for key `a + j`: its logit less its softplus, less the later softplus of the block's
    window, less what the blocks after it summed. -/
theorem exp_coe (z : ℕ → ℝ) (a j hi s : ℕ) (hj : a + j < a + hi) (hs : a + hi ≤ s) :
    Ideal.exp ((((z (a + j) : ℝ) : EReal) - (sp (z (a + j)) : EReal)
        + ((-(∑ t ∈ Finset.Ico (a + (j + 1)) (a + hi), sp (z t)) : ℝ) : EReal)) + ((-(tail z (a + hi) s) : ℝ) : EReal))
      = (wt z s (a + j) : EReal) := by
  rw [← EReal.coe_sub, ← EReal.coe_add, ← EReal.coe_add, Ideal.exp_coe]
  unfold wt tail
  rw [← Finset.sum_Ico_consecutive _ (by omega : a + j + 1 ≤ a + hi) hs]
  congr 2
  rw [show a + (j + 1) = a + j + 1 from rfl]
  ring

/-- The tail from `a` is the window's and the rest. -/
theorem tail_add (z : ℕ → ℝ) (a b s : ℕ) (h1 : a ≤ b) (h2 : b ≤ s) :
    tail z a b + tail z b s = tail z a s := Finset.sum_Ico_consecutive _ h1 h2

/-- The output from `a` is the window's and the rest. -/
theorem out_add (z : ℕ → ℝ) (v : ℕ → EReal) (a b s : ℕ) (h1 : a ≤ b) (h2 : b ≤ s) :
    out z v b s + ∑ t ∈ Finset.Ico a b, (wt z s t : EReal) * v t = out z v a s := by
  rw [add_comm]; exact Finset.sum_Ico_consecutive _ h1 h2

/-- No key, no output. -/
theorem out_self (z : ℕ → ℝ) (v : ℕ → EReal) (s : ℕ) : out z v s s = 0 := by
  unfold out; rw [Finset.Ico_self, Finset.sum_empty]

end Cert.Stick
-- ==== Proof.AttnValue.lean ====
/-
  The stick-breaking attention kernel's blocks over the extended reals: each operation at an index, and what a block
  adds to a head when its logits are real numbers.
-/
module

public import proofs.«01_k».proof.Proof.AttnBlock
public import proofs.«01_k».proof.Proof.StickMath
public import Idealize.ShloMosaic.Lib.WordCmp

@[expose] public section

set_option maxRecDepth 16384

noncomputable section

namespace Cert.AttnIdeal.Val

open Cert.AttnIdeal Cert.AttnIdeal.Gen Idealize.ShloMosaic Idealize.ShloMosaic.TcCoe Idealize.SL.Sem Idealize.ShloMosaic.Tactic
open Cert.Stick

/-! ## The block's operations at an index -/

/-- A logit: the product of a query's row and a key's row, and the bias. -/
theorem logits_apply (b : Elt Ideal .f32) (q k : Vec Ideal S256x128 .bf16) (r j : Fin 256) :
    logits (F := Ideal) b q k (ix2 r j) = (∑ d : Fin 128, (q (ix2 r d) : EReal) * k (ix2 j d)) + b := by
  pointwise [logits]

/-- The softplus of a logit. -/
theorem softp_apply (z : FVec Ideal S256x256 .f32) (r j : Fin 256) :
    softp z (ix2 r j) = max (z (ix2 r j) : EReal) 0
      + Ideal.log (1 + Ideal.exp (0 - max (z (ix2 r j) : EReal) (-(z (ix2 r j) : EReal)))) := by
  pointwise [softp]
  rfl

/-- A weight. -/
theorem weights_apply (u : FVec Ideal S256x256 .bf16) (c : FVec Ideal S256x1 .f32) (z p s : FVec Ideal S256x256 .f32) (r j : Fin 256) :
    weights u c z p s (ix2 r j) = Ideal.exp (((z (ix2 r j) : EReal) - p (ix2 r j)
      + ((∑ x : Fin 256, (s (ix2 r x) : EReal) * u (ix2 x j)) + ∑ x : Fin 256, ((s (ix2 r x) : EReal) - s (ix2 r x)) * u (ix2 x j)))
      + c (ix2 r 0)) := by
  pointwise [weights, later]

/-- The log carried on. -/
theorem carried_apply (c : FVec Ideal S256x1 .f32) (s : FVec Ideal S256x256 .f32) (r : Fin 256) :
    carried c s (ix2 r 0) = (c (ix2 r 0) : EReal) - ∑ x : Fin 256, (s (ix2 r x) : EReal) := by
  pointwise [carried]

/-- The output added to. -/
theorem gathered_apply (a : FVec Ideal S256x128 .f32) (w : FVec Ideal S256x256 .f32) (v : Vec Ideal S256x128 .bf16) (r : Fin 256) (d : Fin 128) :
    gathered a w v (ix2 r d) = (a (ix2 r d) : EReal) + ∑ x : Fin 256, (w (ix2 r x) : EReal) * v (ix2 x d) := by
  pointwise [gathered]

/-- A choice on a bit that says a proposition. -/
theorem select_ofBool {α : Type} (p : Prop) [Decidable p] (a b : α) :
    Scalar.select (BitVec.ofBool (decide p)) a b = if p then a else b := by
  by_cases h : p <;> simp [Scalar.select, h]

/-- Small numbers compare as words as they do as numbers. -/
theorem slt_small (a b : ℕ) (ha : a < 2 ^ 31) (hb : b < 2 ^ 31) :
    IntOp.cmpi .slt (BitVec.ofNat 32 a) (BitVec.ofNat 32 b) = BitVec.ofBool (decide (a < b)) := by
  have ea : (BitVec.ofNat 32 a).toNat = a := by rw [BitVec.toNat_ofNat]; omega
  have eb : (BitVec.ofNat 32 b).toNat = b := by rw [BitVec.toNat_ofNat]; omega
  rw [WordCmp.cmpi_slt_of_lt (by rw [ea]; exact ha) (by rw [eb]; exact hb), ea, eb]

/-- Small numbers compare as words as they do as numbers, the other way round. -/
theorem sgt_small (a b : ℕ) (ha : a < 2 ^ 31) (hb : b < 2 ^ 31) :
    IntOp.cmpi .sgt (BitVec.ofNat 32 a) (BitVec.ofNat 32 b) = BitVec.ofBool (decide (b < a)) := slt_small b a hb ha

/-- The bits of minus one. -/
theorem ofBits_neg_one : Ideal.ofBits .f32 3212836864#32 = (-1 : EReal) := by
  rw [show Ideal.ofBits .f32 3212836864#32 = ((-(1 : ℝ)) : EReal) from by
    simp [Ideal.ofBits, Ideal.ieee, -EReal.coe_mul, -EReal.coe_neg]; norm_num]
  simp

/-- The matrix of minus ones: a key's column has them at the later keys' rows. -/
theorem upper_apply (r j : Fin 256) :
    k0_pay63 (F := Ideal) (ix2 r j) = if j < r then (-1 : EReal) else 0 := by
  pointwise [k0_pay63]
  rw [sgt_small _ _ (by omega) (by omega), ofBits_neg_one, select_ofBool]
  rfl

/-- How far the queries' rows are from their own key block's, as the kernel computes it. -/
def shift (i : grid0.Coords) : BitVec 32 :=
  Scalar.subi (Scalar.muli (BitVec.ofNat 32 (i 1).val) 256#32) (Scalar.muli (ownWord i) 256#32)

/-- It is nothing. -/
theorem shift_eq (i : grid0.Coords) : shift i = 0#32 := by
  have h : ∀ n : Fin 32, (fun n : ℕ => Scalar.subi (Scalar.muli (BitVec.ofNat 32 n) 256#32) (Scalar.muli (Scalar.select
    (Scalar.andi
      (Scalar.cmpi .ne
        (Scalar.subi (Scalar.extui (Scalar.cmpi .sgt (Scalar.muli (BitVec.ofNat 32 n) 256#32) 0#32))
          (Scalar.extui (Scalar.cmpi .slt (Scalar.muli (BitVec.ofNat 32 n) 256#32) 0#32)))
        (Scalar.subi (Scalar.extui (Scalar.cmpi .sgt 256#32 0#32)) (Scalar.extui (Scalar.cmpi .slt 256#32 0#32))))
      (Scalar.cmpi .ne (Scalar.remsi (Scalar.muli (BitVec.ofNat 32 n) 256#32) 256#32) 0#32))
    (Scalar.subi (Scalar.divsi (Scalar.muli (BitVec.ofNat 32 n) 256#32) 256#32) 1#32)
    (Scalar.divsi (Scalar.muli (BitVec.ofNat 32 n) 256#32) 256#32)) 256#32)) n.val = 0#32 := by decide +kernel
  exact h (i 1)

/-- The causal mask: a query looks at the keys before it. -/
theorem causal_apply (i : grid0.Coords) (r j : Fin 256) :
    causal i (ix2 r j) = BitVec.ofBool (decide (j < r)) := by
  have h : causal i (ix2 r j) = IntOp.cmpi .slt (BitVec.ofNat 32 j.val) (IntOp.addi (BitVec.ofNat 32 r.val) (shift i)) := by
    pointwise [causal, k0_pay64]
    rfl
  rw [h, shift_eq]
  show IntOp.cmpi .slt (BitVec.ofNat 32 j.val) (BitVec.ofNat 32 r.val + 0#32) = _
  rw [BitVec.add_zero, slt_small _ _ (by omega) (by omega)]
  rfl

/-! ## A block over real logits -/

section Row

variable {z : ℕ → ℝ} {vals : Fin 128 → ℕ → EReal} {a s : ℕ} {r : Fin 256}
  {b : Elt Ideal .f32} {q k v : Vec Ideal S256x128 .bf16}

/-- The softplus of a real logit. -/
theorem softp_row (hz : ∀ j : Fin 256, logits (F := Ideal) b q k (ix2 r j) = ((z (a + j.val) : ℝ) : EReal)) (j : Fin 256) :
    softp (logits (F := Ideal) b q k) (ix2 r j) = ((sp (z (a + j.val)) : ℝ) : EReal) := by
  rw [softp_apply, hz, softplus_coe]

/-- A block's weights, before its mask: the summed entries are the softplus of the keys up to `hi`. -/
theorem weights_row (hz : ∀ j : Fin 256, logits (F := Ideal) b q k (ix2 r j) = ((z (a + j.val) : ℝ) : EReal))
    {c : FVec Ideal S256x1 .f32} {sm : FVec Ideal S256x256 .f32} {hi : ℕ} (h256 : hi ≤ 256) (hs : a + hi ≤ s)
    (hsm : ∀ x : Fin 256, sm (ix2 r x) = (((if x.val < hi then sp (z (a + x.val)) else 0) : ℝ) : EReal))
    (hc : c (ix2 r 0) = ((-(tail z (a + hi) s) : ℝ) : EReal)) (j : Fin 256) (hj : j.val < hi) :
    weights k0_pay63 c (logits (F := Ideal) b q k) (softp (logits (F := Ideal) b q k)) sm (ix2 r j) = ((wt z s (a + j.val) : ℝ) : EReal) := by
  rw [weights_apply, hz, softp_row hz, hc]
  simp only [hsm, upper_apply]
  have e : (∑ x : Fin 256, if j < x then (if x.val < hi then sp (z (a + x.val)) else 0) else 0)
      = ∑ t ∈ Finset.Ico (a + (j.val + 1)) (a + hi), sp (z t) := by
    rw [← sum_window 256 a (j.val + 1) hi h256 (fun t => sp (z t))]
    refine Finset.sum_congr rfl fun x _ => ?_
    by_cases h1 : j < x <;> by_cases h2 : x.val < hi <;> simp [h1, h2, Nat.succ_le_iff]
  rw [later_coe (fun x : Fin 256 => if x.val < hi then sp (z (a + x.val)) else 0) j, e, exp_coe z a j.val hi s (by omega) hs]

/-- What the carried log becomes. -/
theorem carried_row {c : FVec Ideal S256x1 .f32} {sm : FVec Ideal S256x256 .f32} {hi : ℕ} (h256 : hi ≤ 256) (hs : a + hi ≤ s)
    (hsm : ∀ x : Fin 256, sm (ix2 r x) = (((if x.val < hi then sp (z (a + x.val)) else 0) : ℝ) : EReal))
    (hc : c (ix2 r 0) = ((-(tail z (a + hi) s) : ℝ) : EReal)) :
    carried c sm (ix2 r 0) = ((-(tail z a s) : ℝ) : EReal) := by
  rw [carried_apply, hc]
  simp only [hsm]
  rw [← coe_sum Finset.univ (fun x : Fin 256 => if x.val < hi then sp (z (a + x.val)) else 0), ← EReal.coe_sub, ← tail_add z a (a + hi) s (by omega) hs]
  have h := sum_window 256 a 0 hi h256 (fun t => sp (z t))
  simp only [Nat.zero_le, true_and, Nat.add_zero] at h
  rw [h]
  congr 1
  unfold tail
  ring

/-- What the output becomes. -/
theorem gathered_row {p : FVec Ideal S256x128 .f32} {w : FVec Ideal S256x256 .f32} {hi : ℕ} (h256 : hi ≤ 256) (hs : a + hi ≤ s)
    (hw : ∀ x : Fin 256, w (ix2 r x) = if x.val < hi then ((wt z s (a + x.val) : ℝ) : EReal) else 0)
    (hv : ∀ (j : Fin 256) d, v (ix2 j d) = vals d (a + j.val))
    (d : Fin 128) (hp : p (ix2 r d) = out z (vals d) (a + hi) s) :
    gathered p w v (ix2 r d) = out z (vals d) a s := by
  rw [gathered_apply, hp, ← out_add z (vals d) a (a + hi) s (by omega) hs]
  simp only [hw, hv]
  have h := sum_window 256 a 0 hi h256 (fun t => ((wt z s t : ℝ) : EReal) * vals d t)
  simp only [Nat.zero_le, true_and, Nat.add_zero] at h
  rw [← h]
  congr 1
  refine Finset.sum_congr rfl fun x _ => ?_
  by_cases h2 : x.val < hi <;> simp [h2]

/-- A block before the diagonal takes a row's sums from its last key on to its first key on. -/
theorem step_row (hz : ∀ j : Fin 256, logits (F := Ideal) b q k (ix2 r j) = ((z (a + j.val) : ℝ) : EReal))
    (hv : ∀ (j : Fin 256) d, v (ix2 j d) = vals d (a + j.val)) (hs : a + 256 ≤ s)
    {p : FVec Ideal S256x1 .f32 × FVec Ideal S256x128 .f32}
    (hc : p.1 (ix2 r 0) = ((-(tail z (a + 256) s) : ℝ) : EReal)) (ho : ∀ d, p.2 (ix2 r d) = out z (vals d) (a + 256) s) :
    (step k0_pay63 b q k v p).1 (ix2 r 0) = ((-(tail z a s) : ℝ) : EReal)
      ∧ ∀ d, (step k0_pay63 b q k v p).2 (ix2 r d) = out z (vals d) a s := by
  have hsm : ∀ x : Fin 256, softp (logits (F := Ideal) b q k) (ix2 r x) = (((if x.val < 256 then sp (z (a + x.val)) else 0) : ℝ) : EReal) :=
    fun x => by rw [softp_row hz, if_pos x.isLt]
  refine ⟨carried_row le_rfl hs hsm hc, fun d => gathered_row le_rfl hs (fun x => ?_) hv d (ho d)⟩
  rw [weights_row hz le_rfl hs hsm hc x x.isLt, if_pos x.isLt]

/-- The nothing the first block starts from: its log. -/
theorem zero_log (r : Fin 256) : k0_pay65 (F := Ideal) (ix2 r 0) = (0 : EReal) := by
  pointwise [k0_pay65]

/-- The nothing the first block starts from: its output. -/
theorem zero_out (r : Fin 256) (d : Fin 128) : k0_pay66 (F := Ideal) (ix2 r d) = (0 : EReal) := by
  pointwise [k0_pay66]

/-- The first block, the queries' own: a row's sums over the keys of the block before the query. -/
theorem first_row (i : grid0.Coords) (hz : ∀ j : Fin 256, logits (F := Ideal) b q k (ix2 r j) = ((z (a + j.val) : ℝ) : EReal))
    (hv : ∀ (j : Fin 256) d, v (ix2 j d) = vals d (a + j.val)) :
    (first k0_pay63 (causal i) b q k v).1 (ix2 r 0) = ((-(tail z a (a + r.val)) : ℝ) : EReal)
      ∧ ∀ d, (first k0_pay63 (causal i) b q k v).2 (ix2 r d) = out z (vals d) a (a + r.val) := by
  have hsel : ∀ (x : FVec Ideal S256x256 .f32) (j : Fin 256),
      select (causal i) x (broadcast S256x256 (Scalar.ofBits (F := Ideal) .f32 0x00000000#32)) (ix2 r j) = if j.val < r.val then (x (ix2 r j) : EReal) else 0 := fun x j => by
    pointwise
    rw [causal_apply, select_ofBool]
    rfl
  have hsm : ∀ x : Fin 256, select (causal i) (softp (logits (F := Ideal) b q k)) (broadcast S256x256 (Scalar.ofBits .f32 0x00000000#32)) (ix2 r x)
      = (((if x.val < r.val then sp (z (a + x.val)) else 0) : ℝ) : EReal) := fun x => by
    rw [hsel, softp_row hz]; split <;> rfl
  have hc : k0_pay65 (F := Ideal) (ix2 r 0) = ((-(tail z (a + r.val) (a + r.val)) : ℝ) : EReal) := by
    rw [zero_log, tail, Finset.Ico_self, Finset.sum_empty, neg_zero]; rfl
  refine ⟨carried_row r.isLt.le le_rfl hsm hc, fun d => gathered_row r.isLt.le le_rfl (fun x => ?_) hv d (by rw [zero_out, out_self])⟩
  rw [hsel]
  split
  · rename_i h
    exact weights_row hz r.isLt.le le_rfl hsm hc x h
  · rfl

end Row

end Cert.AttnIdeal.Val
-- ==== Proof.AttnGeom.lean ====
/-
  Where the attention kernel's loads fall: each offset the kernel computes, in closed form over the grid's points and
  the loop's trips, and each load at an index.
-/
module

public import proofs.«01_k».proof.Proof.AttnBlock
public import Idealize.ShloMosaic.Lib.Pipeline.ValueKit

@[expose] public section

set_option maxRecDepth 16384

noncomputable section

namespace Cert.AttnIdeal.Val

open Cert.AttnIdeal Cert.AttnIdeal.Gen Idealize.ShloMosaic Idealize.ShloMosaic.TcCoe Idealize.SL.Sem Idealize.ShloMosaic.Tactic

/-- The point's block of queries. -/
abbrev rowOf (t : Fin grid0.N) : ℕ := (grid0.coords t 1).val

/-- The point's half of the heads. -/
abbrev halfOf (t : Fin grid0.N) : ℕ := (grid0.coords t 0).val

/-- The loop makes a trip for each block of keys before the queries' own. -/
theorem trips_eq : ∀ t : Fin grid0.N, (k0_t1_loop (grid0.coords t)).trips = rowOf t := by decide +kernel

/-- The queries' own block of keys, for the four heads. -/
theorem own_off : ∀ t : Fin grid0.N,
    k0_off2 (grid0.coords t) = ![256 * rowOf t, 0] ∧ k0_off3 (grid0.coords t) = ![256 * rowOf t, 128]
      ∧ k0_off4 (grid0.coords t) = ![256 * rowOf t, 256] ∧ k0_off5 (grid0.coords t) = ![256 * rowOf t, 384] := by decide +kernel

/-- The block of keys of a trip, for the four heads: from the last before the queries' own down to the first. -/
theorem trip_off : ∀ (t : Fin grid0.N) (k : Fin (k0_t1_loop (grid0.coords t)).trips),
    k0_off6 (grid0.coords t) k = ![256 * (rowOf t - 1 - k.val), 0] ∧ k0_off7 (grid0.coords t) k = ![256 * (rowOf t - 1 - k.val), 128]
      ∧ k0_off8 (grid0.coords t) k = ![256 * (rowOf t - 1 - k.val), 256] ∧ k0_off9 (grid0.coords t) k = ![256 * (rowOf t - 1 - k.val), 384] := by
  decide +kernel

/-- The bias of the four heads. -/
theorem bias_off : ∀ t : Fin grid0.N,
    k0_off1 (grid0.coords t) 0#32 = ![4 * halfOf t] ∧ k0_off1 (grid0.coords t) 1#32 = ![4 * halfOf t + 1]
      ∧ k0_off1 (grid0.coords t) 2#32 = ![4 * halfOf t + 2] ∧ k0_off1 (grid0.coords t) 3#32 = ![4 * halfOf t + 3] := by decide +kernel

variable {F : FTy → Type} [FloatOps F]

/-- A head's queries are 128 columns of the block. -/
theorem qLd_apply (x : Vec F S256x512 .bf16) (n : Fin 4) (r : Fin 256) (d : Fin 128) (i : S256x512.Idx)
    (h0 : (i 0).val = r.val) (h1 : (i 1).val = 128 * n.val + d.val) : qLd x n (ix2 r d) = x i := by
  match n with
  | 0 => exact View.ld_unit_apply_of _ _ _ _ _ i fun a => match a with | 0 => by simpa using h0 | 1 => by simpa using h1
  | 1 => exact View.ld_unit_apply_of _ _ _ _ _ i fun a => match a with | 0 => by simpa using h0 | 1 => by simpa using h1
  | 2 => exact View.ld_unit_apply_of _ _ _ _ _ i fun a => match a with | 0 => by simpa using h0 | 1 => by simpa using h1
  | 3 => exact View.ld_unit_apply_of _ _ _ _ _ i fun a => match a with | 0 => by simpa using h0 | 1 => by simpa using h1

/-- A load of 256 rows and 128 columns, at an index. -/
theorem ld_rows (x : Vec F S8192x512 .bf16) (off : Fin 2 → ℕ) (inb : ∀ a, off a + S256x128.size a ≤ S8192x512.size a) (a b : ℕ) (ho : off = ![a, b])
    (j : Fin 256) (d : Fin 128) (i : S8192x512.Idx) (h0 : (i 0).val = a + j.val) (h1 : (i 1).val = b + d.val) :
    View.ld x (Rect.unit (s := S8192x512) off S256x128.size inb) (ix2 j d) = x i := by
  subst ho
  exact View.ld_unit_apply_of _ _ _ _ _ i fun a => match a with | 0 => h0 | 1 => h1

/-- A head's own keys or values are the queries' rows, and 128 columns. -/
theorem ownLd_apply (t : Fin grid0.N) (x : Vec F S8192x512 .bf16) (n : Fin 4) (j : Fin 256) (d : Fin 128) (i : S8192x512.Idx)
    (h0 : (i 0).val = 256 * rowOf t + j.val) (h1 : (i 1).val = 128 * n.val + d.val) : ownLd x (grid0.coords t) n (ix2 j d) = x i := by
  obtain ⟨e0, e1, e2, e3⟩ := own_off t
  match n with
  | 0 => exact ld_rows x _ _ _ _ e0 j d i h0 h1
  | 1 => exact ld_rows x _ _ _ _ e1 j d i h0 h1
  | 2 => exact ld_rows x _ _ _ _ e2 j d i h0 h1
  | 3 => exact ld_rows x _ _ _ _ e3 j d i h0 h1

/-- A head's keys or values of a trip are an earlier block's rows, and 128 columns. -/
theorem tripLd_apply (t : Fin grid0.N) (x : Vec F S8192x512 .bf16) (k : Fin (k0_t1_loop (grid0.coords t)).trips) (n : Fin 4) (j : Fin 256) (d : Fin 128) (i : S8192x512.Idx)
    (h0 : (i 0).val = 256 * (rowOf t - 1 - k.val) + j.val) (h1 : (i 1).val = 128 * n.val + d.val) :
    tripLd x (grid0.coords t) k n (ix2 j d) = x i := by
  obtain ⟨e0, e1, e2, e3⟩ := trip_off t k
  match n with
  | 0 => exact ld_rows x _ _ _ _ e0 j d i h0 h1
  | 1 => exact ld_rows x _ _ _ _ e1 j d i h0 h1
  | 2 => exact ld_rows x _ _ _ _ e2 j d i h0 h1
  | 3 => exact ld_rows x _ _ _ _ e3 j d i h0 h1

/-- A load of one bias. -/
theorem ld_bias (x : Vec F S8 .f32) (off : Fin 1 → ℕ) (inb : ∀ a, off a + S1.size a ≤ S8.size a) (a : ℕ) (ho : off = ![a]) (i : S8.Idx) (h0 : (i 0).val = a) :
    View.ld x (Rect.unit (s := S8) off S1.size inb) (Shape.Idx.first (s := S1) (by decide)) = x i := by
  subst ho
  exact View.ld_unit_apply_of _ _ _ _ _ i fun a => match a with | 0 => h0

/-- A head's bias. -/
theorem biasLd_apply (t : Fin grid0.N) (x : Vec F S8 .f32) (n : Fin 4) (i : S8.Idx) (h0 : (i 0).val = 4 * halfOf t + n.val) :
    biasLd x (grid0.coords t) n = x i := by
  obtain ⟨e0, e1, e2, e3⟩ := bias_off t
  match n with
  | 0 => exact ld_bias x _ _ _ e0 i h0
  | 1 => exact ld_bias x _ _ _ e1 i h0
  | 2 => exact ld_bias x _ _ _ e2 i h0
  | 3 => exact ld_bias x _ _ _ e3 i h0

/-! ## The windows' blocks -/

/-- The block indices of the five windows. -/
theorem index_eq : ∀ t : Fin grid0.N, win0_0.index t = ![0] ∧ win0_1.index t = ![rowOf t, halfOf t]
    ∧ win0_2.index t = ![0, halfOf t] ∧ win0_3.index t = ![0, halfOf t] ∧ win0_4.index t = ![rowOf t, halfOf t] := by decide +kernel

variable (m : (ℓ : Loc nD τ sig) → Buf (Elt F) ℓ)

/-- A point's biases: all of them. -/
theorem iblk0_apply (c : Dev nD) (t : Fin cfg0.N) : (iblk m c 0 t : Vec F S8 .f32) = m ((c : Thread nD τ).loc main_arg3) := by
  have e : win0_0.index t 0 = 0 := by rw [(index_eq t).1]; rfl
  funext y
  refine congrArg (m ((c : Thread nD τ).loc main_arg3)) (funext fun a => Fin.ext ?_)
  match a with
  | 0 => show win0_0.index t 0 * 8 + 1 * (y 0).val = (y 0).val; rw [e]; omega

/-- A point's queries: 256 rows, and half the columns. -/
theorem iblk1_apply (c : Dev nD) (t : Fin cfg0.N) (y : S256x512.Idx) (i : S8192x1024.Idx)
    (h0 : (i 0).val = 256 * rowOf t + (y 0).val) (h1 : (i 1).val = 512 * halfOf t + (y 1).val) :
    (iblk m c 1 t : Vec F S256x512 .bf16) y = m ((c : Thread nD τ).loc main_arg0) i := by
  have e : win0_1.index t 0 = rowOf t ∧ win0_1.index t 1 = halfOf t := by rw [(index_eq t).2.1]; exact ⟨rfl, rfl⟩
  refine congrArg (m ((c : Thread nD τ).loc main_arg0)) (funext fun a => Fin.ext ?_)
  match a with
  | 0 => show win0_1.index t 0 * 256 + 1 * (y 0).val = (i 0).val; rw [e.1]; omega
  | 1 => show win0_1.index t 1 * 512 + 1 * (y 1).val = (i 1).val; rw [e.2]; omega

/-- A point's keys: every row, and half the columns. -/
theorem iblk2_apply (c : Dev nD) (t : Fin cfg0.N) (y : S8192x512.Idx) (i : S8192x1024.Idx)
    (h0 : (i 0).val = (y 0).val) (h1 : (i 1).val = 512 * halfOf t + (y 1).val) :
    (iblk m c 2 t : Vec F S8192x512 .bf16) y = m ((c : Thread nD τ).loc main_arg1) i := by
  have e : win0_2.index t 0 = 0 ∧ win0_2.index t 1 = halfOf t := by rw [(index_eq t).2.2.1]; exact ⟨rfl, rfl⟩
  refine congrArg (m ((c : Thread nD τ).loc main_arg1)) (funext fun a => Fin.ext ?_)
  match a with
  | 0 => show win0_2.index t 0 * 8192 + 1 * (y 0).val = (i 0).val; rw [e.1]; omega
  | 1 => show win0_2.index t 1 * 512 + 1 * (y 1).val = (i 1).val; rw [e.2]; omega

/-- A point's values: every row, and half the columns. -/
theorem iblk3_apply (c : Dev nD) (t : Fin cfg0.N) (y : S8192x512.Idx) (i : S8192x1024.Idx)
    (h0 : (i 0).val = (y 0).val) (h1 : (i 1).val = 512 * halfOf t + (y 1).val) :
    (iblk m c 3 t : Vec F S8192x512 .bf16) y = m ((c : Thread nD τ).loc main_arg2) i := by
  have e : win0_3.index t 0 = 0 ∧ win0_3.index t 1 = halfOf t := by rw [(index_eq t).2.2.2.1]; exact ⟨rfl, rfl⟩
  refine congrArg (m ((c : Thread nD τ).loc main_arg2)) (funext fun a => Fin.ext ?_)
  match a with
  | 0 => show win0_3.index t 0 * 8192 + 1 * (y 0).val = (i 0).val; rw [e.1]; omega
  | 1 => show win0_3.index t 1 * 512 + 1 * (y 1).val = (i 1).val; rw [e.2]; omega

end Cert.AttnIdeal.Val
-- ==== Proof.StickSpec.lean ====
/-
  Stick-breaking attention over the extended reals, as one function of the queries, keys, values and biases.
-/
module

public import proofs.«01_k».proof.Proof.StickMath
public import Idealize.ShloMosaic.Lib.Pointwise

@[expose] public section

noncomputable section

namespace Cert.Stick

open Idealize.ShloMosaic

/-- The shape of the queries, keys, values and outputs: a row a token, 128 columns a head. -/
abbrev Rows : Shape := ⟨2, ![8192, 1024]⟩
/-- The shape of the biases: one a head. -/
abbrev Heads : Shape := ⟨1, ![8]⟩

/-- An array's entry at any two numbers: nothing outside it. -/
def at2 (x : Rows.Idx → EReal) (s c : ℕ) : EReal := if h : s < 8192 ∧ c < 1024 then x (ix2 ⟨s, h.1⟩ ⟨c, h.2⟩) else 0

/-- A bias at any number: nothing outside. -/
def at1 (x : Heads.Idx → EReal) (h : ℕ) : EReal := if h' : h < 8 then x (ix1 ⟨h, h'⟩) else 0

/-- An entry is the array's at its own numbers. -/
theorem at2_eq (x : Rows.Idx → EReal) (i : Rows.Idx) {s c : ℕ} (h0 : (i 0).val = s) (h1 : (i 1).val = c) : x i = at2 x s c := by
  subst h0 h1
  unfold at2
  rw [dif_pos (show (i 0).val < 8192 ∧ (i 1).val < 1024 from ⟨(i 0).isLt, (i 1).isLt⟩)]
  congr 1
  funext a
  match a with | 0 => rfl | 1 => rfl

/-- A bias is the array's at its own number. -/
theorem at1_eq (x : Heads.Idx → EReal) (i : Heads.Idx) {h : ℕ} (h0 : (i 0).val = h) : x i = at1 x h := by
  subst h0
  unfold at1
  rw [dif_pos (show (i 0).val < 8 from (i 0).isLt)]
  congr 1
  funext a
  match a with | 0 => rfl

/-- The real logit of query `s` and key `t` in head `h`. -/
def logit (Q K : Rows.Idx → EReal) (B : Heads.Idx → EReal) (h s t : ℕ) : ℝ :=
  (∑ d : Fin 128, (at2 Q s (128 * h + d.val)).toReal * (at2 K t (128 * h + d.val)).toReal) + (at1 B h).toReal

/-- Stick-breaking attention: at row `s` and column `c`, the weighted sum of column `c` of the values at the rows before. -/
def attn (Q K V : Rows.Idx → EReal) (B : Heads.Idx → EReal) : Rows.Idx → EReal := fun i =>
  out (logit Q K B ((i 1).val / 128) (i 0).val) (fun t => at2 V t (i 1).val) 0 (i 0).val

/-- An array of real numbers. -/
def Finite {S : Shape} (x : S.Idx → EReal) : Prop := ∀ i, x i ≠ ⊤ ∧ x i ≠ ⊥

/-- An array of real numbers is real at any two numbers. -/
theorem Finite.at2 {x : Rows.Idx → EReal} (hx : Finite x) (s c : ℕ) : (((at2 x s c).toReal : ℝ) : EReal) = Stick.at2 x s c := by
  unfold Stick.at2
  split
  · exact EReal.coe_toReal (hx _).1 (hx _).2
  · rfl

/-- Biases of real numbers are real at any number. -/
theorem Finite.at1 {x : Heads.Idx → EReal} (hx : Finite x) (h : ℕ) : (((at1 x h).toReal : ℝ) : EReal) = Stick.at1 x h := by
  unfold Stick.at1
  split
  · exact EReal.coe_toReal (hx _).1 (hx _).2
  · rfl

/-- The logit of real arrays is the sum of products and the bias. -/
theorem logit_coe {Q K : Rows.Idx → EReal} {B : Heads.Idx → EReal} (hQ : Finite Q) (hK : Finite K) (hB : Finite B) (h s t : ℕ) :
    (∑ d : Fin 128, at2 Q s (128 * h + d.val) * at2 K t (128 * h + d.val)) + at1 B h = ((logit Q K B h s t : ℝ) : EReal) := by
  unfold logit
  rw [EReal.coe_add, coe_sum, hB.at1]
  congr 1
  refine Finset.sum_congr rfl fun d _ => ?_
  rw [EReal.coe_mul, hQ.at2, hK.at2]

end Cert.Stick
-- ==== Proof.AttnArray.lean ====
/-
  What the attention kernel leaves in its result: stick-breaking attention of its queries, keys, values and biases.
-/
module

public import proofs.«01_k».proof.Proof.AttnValue
public import proofs.«01_k».proof.Proof.AttnGeom
public import proofs.«01_k».proof.Proof.StickSpec

@[expose] public section

set_option maxRecDepth 16384

noncomputable section

namespace Cert.AttnIdeal.Val

open Cert.AttnIdeal Cert.AttnIdeal.Gen Idealize.ShloMosaic Idealize.ShloMosaic.TcCoe Idealize.SL.Sem Idealize.ShloMosaic.Tactic
open Cert.Stick

section Point

variable {Q K V : Rows.Idx → EReal} {B : Heads.Idx → EReal} (t : Fin grid0.N)
  {x0 : Vec Ideal S8 .f32} {x1 : Vec Ideal S256x512 .bf16} {x2 x3 : Vec Ideal S8192x512 .bf16}

/-- The logits a block computes are the real ones of its keys. -/
theorem block_logits (hQ : Finite Q) (hK : Finite K) (hB : Finite B) (h0 : ∀ y : S8.Idx, x0 y = at1 B (y 0).val)
    (h1 : ∀ y : S256x512.Idx, x1 y = at2 Q (256 * rowOf t + (y 0).val) (512 * halfOf t + (y 1).val)) (a : ℕ) (n : Fin 4)
    (k : Vec Ideal S256x128 .bf16) (hk : ∀ (j : Fin 256) (d : Fin 128), k (ix2 j d) = at2 K (a + j.val) (512 * halfOf t + (128 * n.val + d.val)))
    (r j : Fin 256) :
    logits (F := Ideal) (biasLd x0 (grid0.coords t) n) (qLd x1 n) k (ix2 r j)
      = ((logit Q K B (4 * halfOf t + n.val) (256 * rowOf t + r.val) (a + j.val) : ℝ) : EReal) := by
  have hh : halfOf t < 2 := (grid0.coords t 0).isLt
  have e (d : Fin 128) : 128 * (4 * halfOf t + n.val) + d.val = 512 * halfOf t + (128 * n.val + d.val) := by omega
  rw [logits_apply, ← logit_coe hQ hK hB,
    biasLd_apply t x0 n (ix1 ⟨4 * halfOf t + n.val, by omega⟩) rfl, h0]
  congr 1
  refine Finset.sum_congr rfl fun d _ => ?_
  rw [hk, qLd_apply x1 n r d (ix2 r ⟨128 * n.val + d.val, by omega⟩) rfl rfl, h1, e]
  rfl

/-- What a point's loop carries, head by head and row by row: the sums over the keys it has been through. -/
theorem point_rows (hQ : Finite Q) (hK : Finite K) (hB : Finite B) (h0 : ∀ y : S8.Idx, x0 y = at1 B (y 0).val)
    (h1 : ∀ y : S256x512.Idx, x1 y = at2 Q (256 * rowOf t + (y 0).val) (512 * halfOf t + (y 1).val))
    (h2 : ∀ y : S8192x512.Idx, x2 y = at2 K (y 0).val (512 * halfOf t + (y 1).val))
    (h3 : ∀ y : S8192x512.Idx, x3 y = at2 V (y 0).val (512 * halfOf t + (y 1).val))
    (S : ℕ → Acc8 Ideal) (n : Fin 4)
    (hS0 : head n (S 0) = first k0_pay63 (causal (grid0.coords t)) (biasLd x0 (grid0.coords t) n) (qLd x1 n)
      (ownLd x2 (grid0.coords t) n) (ownLd x3 (grid0.coords t) n))
    (hS1 : ∀ k : Fin (k0_t1_loop (grid0.coords t)).trips, head n (S (k.val + 1))
      = step k0_pay63 (biasLd x0 (grid0.coords t) n) (qLd x1 n) (tripLd x2 (grid0.coords t) k n) (tripLd x3 (grid0.coords t) k n) (head n (S k.val)))
    (r : Fin 256) : ∀ k, k ≤ rowOf t →
      (head n (S k)).1 (ix2 r 0) = ((-(tail (logit Q K B (4 * halfOf t + n.val) (256 * rowOf t + r.val)) (256 * (rowOf t - k)) (256 * rowOf t + r.val)) : ℝ) : EReal)
        ∧ ∀ d, (head n (S k)).2 (ix2 r d) = out (logit Q K B (4 * halfOf t + n.val) (256 * rowOf t + r.val))
            (fun u => at2 V u (512 * halfOf t + (128 * n.val + d.val))) (256 * (rowOf t - k)) (256 * rowOf t + r.val) := by
  have hr : rowOf t < 32 := (grid0.coords t 1).isLt
  intro k
  induction k with
  | zero =>
    intro _
    rw [hS0, Nat.sub_zero]
    refine first_row (vals := fun d u => at2 V u (512 * halfOf t + (128 * n.val + d.val))) (grid0.coords t)
      (fun j => block_logits t hQ hK hB h0 h1 (256 * rowOf t) n _ (fun j d => ?_) r j) (fun j d => ?_)
    · rw [ownLd_apply t x2 n j d (ix2 ⟨256 * rowOf t + j.val, by omega⟩ ⟨128 * n.val + d.val, by omega⟩) rfl rfl, h2]; rfl
    · rw [ownLd_apply t x3 n j d (ix2 ⟨256 * rowOf t + j.val, by omega⟩ ⟨128 * n.val + d.val, by omega⟩) rfl rfl, h3]; rfl
  | succ k ih =>
    intro hk
    have ih := ih (by omega)
    have hlt : k < (k0_t1_loop (grid0.coords t)).trips := by rw [trips_eq]; omega
    have ea : 256 * (rowOf t - k) = 256 * (rowOf t - 1 - k) + 256 := by omega
    rw [ea] at ih
    rw [show rowOf t - (k + 1) = rowOf t - 1 - k by omega, hS1 ⟨k, hlt⟩]
    refine step_row (vals := fun d u => at2 V u (512 * halfOf t + (128 * n.val + d.val)))
      (fun j => block_logits t hQ hK hB h0 h1 (256 * (rowOf t - 1 - k)) n _ (fun j d => ?_) r j) (fun j d => ?_) (by omega) ih.1 ih.2
    · rw [tripLd_apply t x2 ⟨k, hlt⟩ n j d (ix2 ⟨256 * (rowOf t - 1 - k) + j.val, by omega⟩ ⟨128 * n.val + d.val, by omega⟩) rfl rfl, h2]; rfl
    · rw [tripLd_apply t x3 ⟨k, hlt⟩ n j d (ix2 ⟨256 * (rowOf t - 1 - k) + j.val, by omega⟩ ⟨128 * n.val + d.val, by omega⟩) rfl rfl, h3]; rfl

end Point

/-- An index of a piece is its row and column. -/
theorem exists_ix2 (x : S256x128.Idx) : ∃ (r : Fin 256) (d : Fin 128), x = ix2 r d :=
  ⟨x 0, x 1, by funext a; match a with | 0 => rfl | 1 => rfl⟩

variable (m : (ℓ : Loc nD τ sig) → Buf (Elt Ideal) ℓ)

/-- The result array after the run is stick-breaking attention of the arguments, when queries, keys and biases are real. -/
theorem final (c : Dev nD) (hQ : Finite (S := Rows) (m ((c : Thread nD τ).loc main_arg0))) (hK : Finite (S := Rows) (m ((c : Thread nD τ).loc main_arg1)))
    (hB : Finite (S := Heads) (m ((c : Thread nD τ).loc main_arg3))) :
    (dats m 0 c).arrAt 4 cfg0.N = attn (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  unfold outsAt0 out0_A_4
  rw [View.read_writes_eq_canon _ _ _ (fun z => cover0_A_4 _ _ _ _ _ _ _ _ _ _ _ _ _ _ _ _ z)]
  obtain ⟨S, hS0, hS1, hS⟩ := run_heads (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)
  rw [hS, trips_eq]
  have hr : rowOf t < 32 := (grid0.coords t 1).isLt
  have hh : halfOf t < 2 := (grid0.coords t 0).isLt
  have hp := fun n => point_rows (V := m ((c : Thread nD τ).loc main_arg2)) t hQ hK hB
    (fun z => by rw [iblk0_apply]; exact at1_eq _ z rfl)
    (fun z => (iblk1_apply m c t z (ix2 ⟨256 * rowOf t + (z 0).val, by have : (z 0).val < 256 := (z 0).isLt; omega⟩ ⟨512 * halfOf t + (z 1).val, by have : (z 1).val < 512 := (z 1).isLt; omega⟩) rfl rfl).trans (at2_eq _ _ rfl rfl))
    (fun z => (iblk2_apply m c t z (ix2 (z 0) ⟨512 * halfOf t + (z 1).val, by have : (z 1).val < 512 := (z 1).isLt; omega⟩) rfl rfl).trans (at2_eq _ _ rfl rfl))
    (fun z => (iblk3_apply m c t z (ix2 (z 0) ⟨512 * halfOf t + (z 1).val, by have : (z 1).val < 512 := (z 1).isLt; omega⟩) rfl rfl).trans (at2_eq _ _ rfl rfl))
    S n (hS0 n) (fun k => hS1 k n)
  have e : win0_4.index t 0 = rowOf t ∧ win0_4.index t 1 = halfOf t := by rw [(index_eq t).2.2.2.2]; exact ⟨rfl, rfl⟩
  have e0 : (((win0_4.blk t).view.emb y) 0 : ℕ) = 256 * rowOf t + (y 0).val := by
    show win0_4.index t 0 * 256 + 1 * (y 0).val = _; rw [e.1]; omega
  have e1 : (((win0_4.blk t).view.emb y) 1 : ℕ) = 512 * halfOf t + (y 1).val := by
    show win0_4.index t 1 * 512 + 1 * (y 1).val = _; rw [e.2]; omega
  have hread : ∀ (n : Fin 4) (r : Fin 256) (d : Fin 128), (y 0).val = r.val → (y 1).val = 128 * n.val + d.val →
      (head n (S (rowOf t))).2 (ix2 r d) = attn (m ((c : Thread nD τ).loc main_arg0)) (m ((c : Thread nD τ).loc main_arg1))
        (m ((c : Thread nD τ).loc main_arg2)) (m ((c : Thread nD τ).loc main_arg3)) ((win0_4.blk t).view.emb y) := by
    intro n r d hx0 hx1
    rw [(hp n r (rowOf t) le_rfl).2 d]
    unfold attn
    rw [e0, e1, Nat.sub_self, hx0, hx1, show (512 * halfOf t + (128 * n.val + d.val)) / 128 = 4 * halfOf t + n.val by omega]
  unfold pieces
  canon_tiles x h
  · obtain ⟨r, d, rfl⟩ := exists_ix2 x; exact hread 3 r d h0 h1
  · obtain ⟨r, d, rfl⟩ := exists_ix2 x; exact hread 2 r d h0 h1
  · obtain ⟨r, d, rfl⟩ := exists_ix2 x; exact hread 1 r d h0 h1
  · obtain ⟨r, d, rfl⟩ := exists_ix2 x; exact hread 0 r d h0 (h1.trans (Nat.zero_add _).symm)

end Cert.AttnIdeal.Val
-- ==== Proof.AttnRef.lean ====
/-
  What the attention's reference leaves in its result: stick-breaking attention of its queries, keys, values and biases.
-/
module

public import proofs.«01_k».proof.Proof.Gen.AttnRefIdeal.Run
public import proofs.«01_k».proof.Proof.Gen.AttnRefIdeal.Read
public import proofs.«01_k».proof.Proof.StickSpec
public import Idealize.ShloMosaic.Lib.WordCmp

@[expose] public section

set_option maxRecDepth 16384

noncomputable section

namespace Cert.AttnRefIdeal.Val

open Cert.AttnRefIdeal Cert.AttnRefIdeal.Gen Cert.AttnRefIdeal.Read Idealize.ShloMosaic Idealize.ShloMosaic.TcCoe
open Cert.Stick

variable {x0 x1 x2 : (⟨S8192x1024, .bf16⟩ : BufTy).Contents (Elt Ideal)} {x3 : (⟨S8, .f32⟩ : BufTy).Contents (Elt Ideal)}

/-- The reference's logit is the real one. -/
theorem logit_ref (hQ : Finite (S := Rows) x0) (hK : Finite (S := Rows) x1) (hB : Finite (S := Heads) x3) (h : Fin 8) (s t : Fin 8192) :
    val_main_v10 (F := Ideal) x0 x1 x3 (ix3 h s t) = ((logit x0 x1 x3 h.val s.val t.val : ℝ) : EReal) := by
  rw [← logit_coe hQ hK hB, val_main_v10_apply, val_main_v7_apply]
  simp only [val_main_v1_apply, val_main_v0_apply, val_main_v3_apply, val_main_v2_apply, val_main_v9_apply, val_main_v8_apply]
  refine congrArg₂ (· + ·) (Finset.sum_congr rfl fun d _ => congrArg₂ (· * ·) (at2_eq x0 _ ?_ ?_) (at2_eq x1 _ ?_ ?_)) (at1_eq x3 _ ?_)
  · show ((s.val * 8 + h.val) * 128 + d.val) / 1024 = s.val; omega
  · show ((s.val * 8 + h.val) * 128 + d.val) % 1024 = 128 * h.val + d.val; omega
  · show ((t.val * 8 + h.val) * 128 + d.val) / 1024 = t.val; omega
  · show ((t.val * 8 + h.val) * 128 + d.val) % 1024 = 128 * h.val + d.val; omega
  · rfl

/-- The softplus as the reference spells it. -/
theorem softplus_ref (z : ℝ) : max (z : EReal) 0 + Ideal.log1p (Ideal.exp (-max (z : EReal) (-(z : EReal)))) = ((sp z : ℝ) : EReal) := by
  have h := softplus_coe z
  rw [zero_sub] at h
  exact h

/-- The log of the part of the stick a key leaves. -/
theorem keep_ref (i : S8x8192x8192.Idx) (z : ℝ) (hz : val_main_v10 (F := Ideal) x0 x1 x3 i = (z : EReal)) :
    val_main_v17 (F := Ideal) x0 x1 x3 i = ((-sp z : ℝ) : EReal) := by
  pointwise [val_main_v17, val_main_call0_v1, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0, val_main_v16]
  rw [hz, if_neg (by simp), neg_neg, EReal.coe_neg]
  exact congrArg Neg.neg (softplus_ref z)

/-- The log of the part of the stick a key takes. -/
theorem take_ref (i : S8x8192x8192.Idx) (z : ℝ) (hz : val_main_v10 (F := Ideal) x0 x1 x3 i = (z : EReal)) :
    val_main_v24 (F := Ideal) x0 x1 x3 i = ((z - sp z : ℝ) : EReal) := by
  pointwise [val_main_v24, val_main_call3_v1, val_main_call3_call0_v4, val_main_call3_call0_v6, val_main_call3_call0_v11, val_main_call3_call0_v10, val_main_call3_call0_v9, val_main_call3_call0_v8, val_main_call3_call0_v7, val_main_call3_call0_v5, val_main_call3_call0_v3, val_main_call3_call0_v2, val_main_call3_call0_v1, val_main_call3_call0_v0, val_main_call3_call0_cst, val_main_call3_v0]
  rw [hz, if_neg (by simp), ← sp_neg, EReal.coe_neg]
  have h := softplus_ref (-z)
  rw [EReal.coe_neg] at h
  exact congrArg Neg.neg h

/-- The causal mask: the keys before the query. -/
theorem mask_ref (s t : Fin 8192) : val_main_v15 (F := Ideal) (ix2 s t) = BitVec.ofBool (decide (t.val < s.val)) := by
  pointwise [val_main_v15, val_main_v14, val_main_v13, val_main_v12, val_main_v11, val_main_v6]
  have es : (BitVec.ofNat 32 s.val).toNat = s.val := by rw [BitVec.toNat_ofNat]; omega
  have et : (BitVec.ofNat 32 t.val).toNat = t.val := by rw [BitVec.toNat_ofNat]; omega
  rw [WordCmp.cmpi_slt_of_lt (by rw [et]; omega) (by rw [es]; omega), es, et]

/-- A choice by the mask's bit. -/
theorem select_mask {α : Type} (p : Prop) [Decidable p] (a b : α) :
    Scalar.select (BitVec.ofBool (decide p)) a b = if p then a else b := by
  by_cases h : p <;> simp [Scalar.select, h]

/-- Adding up along a list is adding the list's sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The window of one sum: a row of 8192 places. -/
abbrev Win : Shape := ⟨3, ![1, 1, 8192]⟩

/-- The window's places. -/
theorem win_numel : Win.numel = 8192 := by
  unfold Shape.numel
  rw [Fin.prod_univ_three]
  show 1 * 1 * 8192 = 8192
  omega

/-- A place's coordinates in the window. -/
theorem win_coords (n : Fin Win.numel) :
    ((Win.rowMajor.symm n) 0).val = 0 ∧ ((Win.rowMajor.symm n) 1).val = 0 ∧ ((Win.rowMajor.symm n) 2).val = n.val := by
  have h0 : ((Win.rowMajor.symm n) 0).val < 1 := ((Win.rowMajor.symm n) 0).isLt
  have h1 : ((Win.rowMajor.symm n) 1).val < 1 := ((Win.rowMajor.symm n) 1).isLt
  have h := Shape.rowMajor_val_three (Win.rowMajor.symm n)
  rw [Equiv.apply_symm_apply] at h
  have h' : n.val = (((Win.rowMajor.symm n) 0).val * 1 + ((Win.rowMajor.symm n) 1).val) * 8192 + ((Win.rowMajor.symm n) 2).val := h
  omega

/-- The running sum from a place to the end of its row. -/
theorem suffix_sum (x : FVec Ideal S8x8192x8192 .f32) (v : FVec Ideal S_ .f32) (hv : ∀ i, v i = (0 : EReal)) (hw) (hu) (h : Fin 8) (s t : Fin 8192) :
    Host.reduceWindowAdd (t := S8x8192x8192) (u := S_) ![1, 1, 8192] ![1, 1, 1] ![0, 0, 0] ![0, 0, 8191] x v hw hu (ix3 h s t)
      = ∑ n : Fin 8192, if ht : t.val + n.val < 8192 then (x (ix3 h s ⟨t.val + n.val, ht⟩) : EReal) else 0 := by
  unfold Host.reduceWindowAdd
  rw [hv, Ideal.hostReduceWindowAdd_def]
  unfold Ideal.hostReduceWindowAdd Host.reduceWindow
  refine (foldl_sum (ι := Fin Win.numel) _ _ _).trans ?_
  rw [zero_add, ← Fin.sum_univ_def, ← Equiv.sum_comp (finCongr win_numel)]
  refine Finset.sum_congr rfl fun n _ => ?_
  obtain ⟨c0, c1, c2⟩ := win_coords n
  by_cases hlt : t.val + n.val < 8192
  · rw [dif_pos (show t.val + ((finCongr win_numel) n).val < 8192 from hlt), dif_pos ?_]
    · refine congrArg x (funext fun a => ?_)
      match a with
      | 0 => apply Fin.ext; show h.val * 1 + ((Win.rowMajor.symm n) 0).val - 0 = h.val; omega
      | 1 => apply Fin.ext; show s.val * 1 + ((Win.rowMajor.symm n) 1).val - 0 = s.val; omega
      | 2 => apply Fin.ext; show t.val * 1 + ((Win.rowMajor.symm n) 2).val - 0 = t.val + n.val; omega
    · intro a
      match a with
      | 0 => show 0 ≤ h.val * 1 + ((Win.rowMajor.symm n) 0).val ∧ h.val * 1 + ((Win.rowMajor.symm n) 0).val - 0 < 8; omega
      | 1 => show 0 ≤ s.val * 1 + ((Win.rowMajor.symm n) 1).val ∧ s.val * 1 + ((Win.rowMajor.symm n) 1).val - 0 < 8192; omega
      | 2 => show 0 ≤ t.val * 1 + ((Win.rowMajor.symm n) 2).val ∧ t.val * 1 + ((Win.rowMajor.symm n) 2).val - 0 < 8192; omega
  · rw [dif_neg (show ¬ t.val + ((finCongr win_numel) n).val < 8192 from hlt), dif_neg]
    intro hall
    have h2 : 0 ≤ t.val * 1 + ((Win.rowMajor.symm n) 2).val ∧ t.val * 1 + ((Win.rowMajor.symm n) 2).val - 0 < 8192 := hall 2
    omega

/-- The log of the later keys' part, from a key on. -/
theorem later_ref (z : ℕ → ℝ) (h : Fin 8) (s : Fin 8192) (hz : ∀ t : Fin 8192, val_main_v10 (F := Ideal) x0 x1 x3 (ix3 h s t) = ((z t.val : ℝ) : EReal)) (t : Fin 8192) :
    val_main_v19 (F := Ideal) x0 x1 x3 (ix3 h s t) = ((-(tail z t.val s.val) : ℝ) : EReal) := by
  have hx : ∀ u : Fin 8192, (val_main_v18 (F := Ideal) x0 x1 x3 (ix3 h s u) : EReal) = (((if u.val < s.val then -sp (z u.val) else 0) : ℝ) : EReal) := fun u => by
    pointwise [val_main_v18, val_main_call1_v1, val_main_call1_v2, val_main_call1_v0, val_main_cst]
    rw [mask_ref, select_mask, keep_ref _ _ (hz u)]
    split
    · rfl
    · exact Ideal.ofBits_zero_f32
  unfold val_main_v19
  rw [suffix_sum _ _ (fun i => by pointwise [val_main_call2_v0, val_main_call2_cst])]
  simp only [hx]
  have e : ∀ n : Fin 8192, (if ht : t.val + n.val < 8192 then (((if t.val + n.val < s.val then -sp (z (t.val + n.val)) else 0 : ℝ)) : EReal) else 0)
      = (((if 0 ≤ n.val ∧ n.val < s.val - t.val then -sp (z (t.val + n.val)) else 0) : ℝ) : EReal) := fun n => by
    by_cases h1 : t.val + n.val < s.val
    · rw [dif_pos (by omega), if_pos h1, if_pos (by omega)]
    · rw [if_neg h1, if_neg (by omega)]; split <;> rfl
  rw [Finset.sum_congr rfl fun n _ => e n, ← coe_sum, sum_window 8192 t.val 0 (s.val - t.val) (by omega) (fun u => -sp (z u))]
  congr 1
  unfold tail
  rw [Finset.sum_neg_distrib, Nat.add_zero]
  by_cases h1 : t.val ≤ s.val
  · rw [show t.val + (s.val - t.val) = s.val by omega]
  · rw [Finset.Ico_eq_empty (by omega), Finset.Ico_eq_empty (by omega)]

/-- A weight of the reference. -/
theorem weight_ref (z : ℕ → ℝ) (h : Fin 8) (s : Fin 8192) (hz : ∀ t : Fin 8192, val_main_v10 (F := Ideal) x0 x1 x3 (ix3 h s t) = ((z t.val : ℝ) : EReal)) (t : Fin 8192) :
    val_main_v27 (F := Ideal) x0 x1 x3 (ix3 h s t) = if t.val < s.val then ((wt z s.val t.val : ℝ) : EReal) else 0 := by
  have h23 : val_main_v23 (F := Ideal) x0 x1 x3 (ix3 h s t) = ((-(tail z (t.val + 1) s.val) : ℝ) : EReal) := by
    pointwise [val_main_v23, val_main_v22, val_main_v20, val_main_cst_0]
    split
    · rw [later_ref z h s hz]
      show ((-(tail z (1 + t.val) s.val) : ℝ) : EReal) = _
      rw [Nat.add_comm]
    · unfold tail
      rw [Finset.Ico_eq_empty (by omega), Finset.sum_empty, neg_zero]; rfl
  pointwise [val_main_v27, val_main_call4_v1, val_main_v26, val_main_call4_v2, val_main_call4_v0, val_main_cst_1, val_main_v25]
  rw [mask_ref, select_mask, take_ref _ _ (hz t), h23]
  split
  · rw [← EReal.coe_add, Ideal.exp_coe, wt, sub_eq_add_neg]
    rfl
  · exact Ideal.ofBits_zero_f32

/-- The reference's result. -/
theorem out_ref (hQ : Finite (S := Rows) x0) (hK : Finite (S := Rows) x1) (hB : Finite (S := Heads) x3) :
    val_main_v31 (F := Ideal) x0 x1 x2 x3 = attn x0 x1 x2 x3 := by
  funext i
  rw [val_main_v31_apply, val_main_v30_apply, val_main_v29_apply, val_main_v28_apply]
  simp only [val_main_v5_apply, val_main_v4_apply]
  have h0 : (i 0).val < 8192 := (i 0).isLt
  have h1 : (i 1).val < 1024 := (i 1).isLt
  unfold attn out
  have hs := sum_window 8192 0 0 (i 0).val h0.le (fun t => ((wt (logit x0 x1 x3 ((i 1).val / 128) (i 0).val) (i 0).val t : ℝ) : EReal) * at2 x2 t (i 1).val)
  simp only [Nat.zero_add, Nat.zero_le, true_and] at hs
  rw [← hs]
  refine Finset.sum_congr rfl fun t _ => ?_
  have ew := weight_ref (logit x0 x1 x3 ((i 1).val / 128) (i 0).val) ⟨(i 1).val / 128, by omega⟩ ⟨(i 0).val, h0⟩ (fun t => logit_ref hQ hK hB _ _ t) t
  have ei : ridx_main_v28 (idx_main_v29 (idx_main_v30 i)) t = ix3 (⟨(i 1).val / 128, by omega⟩ : Fin 8) (⟨(i 0).val, h0⟩ : Fin 8192) t := by
    funext a
    match a with
    | 0 => apply Fin.ext; show ((i 0).val * 1024 + (i 1).val) / 128 % 8 = (i 1).val / 128; omega
    | 1 => apply Fin.ext; show ((i 0).val * 1024 + (i 1).val) / 1024 = (i 0).val; omega
    | 2 => rfl
  rw [ei, ew]
  have ev : x2 (idx_main_v5 (lidx_main_v28 (idx_main_v29 (idx_main_v30 i)) t)) = at2 x2 t.val (i 1).val := at2_eq x2 _
    (by show ((t.val * 8 + ((i 0).val * 1024 + (i 1).val) / 128 % 8) * 128 + ((i 0).val * 1024 + (i 1).val) % 128) / 1024 = t.val; omega)
    (by show ((t.val * 8 + ((i 0).val * 1024 + (i 1).val) / 128 % 8) * 128 + ((i 0).val * 1024 + (i 1).val) % 128) % 1024 = (i 1).val; omega)
  show (x2 _ : EReal) * _ = _
  rw [ev]
  split
  · exact mul_comm _ _
  · exact mul_zero _

end Cert.AttnRefIdeal.Val
-- ==== Proof.AttnPre.lean ====
/- What the precondition `finite` says of the arrays it reads, in plain words: every number of the queries, of the
   keys and of the bias is a real one. -/
module

public import proofs.«01_k».proof.Pre_finite
public import proofs.«01_k».proof.Proof.StickSpec
public import Idealize.ShloMosaic.PureOps.Ideal
public import Idealize.ShloMosaic.Lib.ValueIdx
public import Idealize.ShloMosaic.Lib.ReduceAll
public import Idealize.ShloMosaic.Lib.Affine
public import Idealize.ShloMosaic.Lib.Pipeline.ValueKit

@[expose] public section

noncomputable section

namespace Cert.Pre_finite.Val

open Cert.Pre_finite Cert.Stick Idealize.ShloMosaic

/-- The shapes the precondition's operations take fit. -/
instance facts : Cert.Pre_finite.Facts where
  bitsLt_bf16_f32 := by decide
  bcast_S_S8192x1024 := by decide
  reducesTo_S8192x1024_S_d0_1 := by decide
  h_S_ := by decide
  bcast_S_S8 := by decide
  reducesTo_S8_S_d0 := by decide

/-- The bits of the float above every real. -/
theorem top_bits : Ideal.ofBits .f32 0x7F800000#32 = (⊤ : EReal) := by
  simp [Ideal.ofBits, Ideal.ieee]

/-- A number whose absolute value compares below the top is neither end of the line. -/
theorem real_of_abs (a : EReal) (h : FloatOps.cmpf (F := Ideal) (φ := .f32) .olt (max a (-a) : EReal) (Ideal.ofBits .f32 0x7F800000#32) = 1#1) : a ≠ ⊤ ∧ a ≠ ⊥ := by
  rw [top_bits] at h
  have h' : max a (-a) < ⊤ := by
    by_contra hn
    have h2 : BitVec.ofBool (decide (max a (-a) < (⊤ : EReal))) = 1#1 := h
    rw [decide_eq_false hn] at h2
    exact absurd h2 (by decide)
  constructor
  · rintro rfl; simp at h'
  · rintro rfl; simp at h'

/-- Both bits of an "and" that is one. -/
theorem both (a b : IVec S_ 1) (h : andi a b = fun _ => 1#1) : (a = fun _ => 1#1) ∧ b = fun _ => 1#1 := by
  have e : ∀ i, a i = 1#1 ∧ b i = 1#1 := fun i => IntOp.andi_eq_one.1 (congrFun h i)
  exact ⟨funext fun i => (e i).1, funext fun i => (e i).2⟩

/-- What the precondition says. -/
theorem unpack (x0 x1 x2 : FVec Ideal S8192x1024 .bf16) (x3 : FVec Ideal S8 .f32)
    (h : fn (F := Ideal) x0 x1 x2 x3 = fun _ => 1#1) :
    Finite (S := Rows) x0 ∧ Finite (S := Rows) x1 ∧ Finite (S := Heads) x3 := by
  unfold fn at h
  dsimp only at h
  obtain ⟨h01, h3⟩ := both _ _ h
  obtain ⟨h0, h1⟩ := both _ _ h01
  have r0 := fun i => Host.reduce_andi_all _ _ _ _ _ (congrFun h0 (fun a => a.elim0)) i
  have r1 := fun i => Host.reduce_andi_all _ _ _ _ _ (congrFun h1 (fun a => a.elim0)) i
  have r3 := fun i => Host.reduce_andi_all _ _ _ _ _ (congrFun h3 (fun a => a.elim0)) i
  exact ⟨fun i => real_of_abs _ (r0 i), fun i => real_of_abs _ (r1 i), fun i => real_of_abs _ (r3 i)⟩

end Cert.Pre_finite.Val

end
-- ==== Proof.AttnClaims.lean ====
/- The claims about the prompt's attention, one theorem each. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnArray
public import proofs.«01_k».proof.Proof.AttnRef
public import proofs.«01_k».proof.Proof.AttnPre
public import Idealize.ShloMosaic.Lib.Quiescent

@[expose] public section

noncomputable section

namespace Cert.AttnClaims

open Idealize.ShloMosaic Idealize.ShloMosaic.TcCoe Idealize.SL.Sem

/-- The kernel runs to its end, leaves its arguments as they were and every counter at zero. -/
theorem frame_p : Cert.quiescent_Attn := fun m ρ _ => Cert.Attn.Gen.frame m ρ

/-- So does the idealized kernel. -/
theorem frame_pi : Cert.quiescent_AttnIdeal := fun m ρ _ => Cert.AttnIdeal.Gen.frame m ρ

/-- So it does under the precondition. -/
theorem frame_pi_pre : Cert.quiescent_AttnIdeal_pre_finite := fun m ρ _ => Cert.AttnIdeal.Gen.frame m ρ

/-- The reference runs to its end, leaves its arguments as they were and every counter at zero. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- So it does under the precondition. -/
theorem frame_ri_pre : Cert.quiescent_AttnRefIdeal_pre_finite := fun m ρ _ => frame_ri m ρ trivial

/-- Kernel and reference end with the same array over the extended reals: stick-breaking attention of the queries,
    keys, values and biases. -/
theorem algebraic : Cert.algebraic_AttnIdeal_AttnRefIdeal_pre_finite := by
  intro m ρ m' ρ' hpre hagree
  have hfin := fun c => Cert.Pre_finite.Val.unpack _ _ _ _ (hpre c)
  refine ⟨fun c => Cert.Stick.attn (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3)), ?_, ?_⟩
  · exact (θ_run Cert.AttnIdeal.defs _ _).mono
      (fun _ h c => ⟨(h c).1.trans (Cert.AttnIdeal.Val.final m c (hfin c).1 (hfin c).2.1 (hfin c).2.2), (h c).2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    obtain ⟨a0, a1, a2, a3⟩ := hagree c
    rw [Cert.AttnRefIdeal.Read.val_main_v31_eq, a0, a1, a2, a3]
    exact Cert.AttnRefIdeal.Val.out_ref (hfin c).1 (hfin c).2.1 (hfin c).2.2

end Cert.AttnClaims

end
-- ==== Proof.ProjBody.lean ====
/-
  The projection kernel's body, run once for all values: from a block of the tokens' states, the gain and one of the four column
  blocks of the weights it fills its scratch (at the first column block only) and stores that column block's product in the outputs
  that belong to it.
-/
module

public import proofs.«01_k».proof.Proof.Gen.ProjIdeal.Frame
public import proofs.«01_k».proof.Proof.Gen.ProjIdeal.Skeleton
public import Idealize.ShloMosaic.Lib.LaneScatter.Tiles
public import Idealize.ShloMosaic.Lib.Tactic
public import Idealize.ShloMosaic.Lib.WholeRead
public import Idealize.ShloMosaic.Lib.Pipeline.ValueKit

@[expose] public section

set_option maxRecDepth 16384
set_option maxHeartbeats 600000

noncomputable section

namespace Cert.ProjBody

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The scratch that carries the normed rows from one column block to the next. -/
abbrev scM : Memref sig .tc .vmem S512x2048 .bf16 := Memref.whole cc0_scratch0

/-- The branch on the column block's number, decided: it is taken at block `n` exactly. -/
theorem branch_iff (j n : ℕ) (hj : j < 4) (hn : n < 4) :
    Scalar.cmpi .ne (Scalar.extui (Scalar.cmpi .eq (BitVec.ofNat 32 j) (BitVec.ofNat 32 n)) : BitVec 32) 0#32 = 1#1 ↔ j = n := by
  interval_cases j <;> interval_cases n <;> decide

/-- A store of the whole block read back: the value stored. -/
theorem read_store {sg : RefSig} {e : EltTy} {S : Shape} (v : View sg .tc .vmem S e) (f : v.ty.Contents (Elt F)) {off : Fin S.rank → ℕ}
    (h : ∀ a, off a = 0) (inb : ∀ a, off a + S.size a ≤ S.size a) (w w' : S.Idx → Elt F e) (hw : w = w') :
    v.read (Elt F) (v.writes (Elt F) f [⟨Rect.unit off S.size inb, w⟩]) = w' :=
  (LaneScatter.read_whole_store v f h inb w).trans hw

/-- The body at grid point `i`, from the buffers' contents to the buffers' contents. -/
theorem kernelRun (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S512x1024 .bf16) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S512x1024 .f32) (harg8 : arg8.IsWhole) (arg9 : Memref sig .tc .vmem S512x1024 .bf16) (harg9 : arg9.IsWhole)
    (arg10 : Memref sig .tc .vmem S512x1024 .bf16) (harg10 : arg10.IsWhole)
    (x : Vec F S512x2048 .f32) (g : Vec F S1x2048 .f32) (w : Vec F S2048x1024 .bf16)
    (yq : Vec F S512x1024 .bf16) (yk yv yu : Vec F S512x1024 .f32) (ykb yvb : Vec F S512x1024 .bf16) (s s' : Vec F S512x2048 .bf16)
    (hs : s' = if (i 1).val = 0 then k0_pay1 x g else s) (K : PUnit → sProp 𝕄) :
    iprop(owns (c : Thread nD τ) arg2 fullShare x ∗ owns (c : Thread nD τ) arg3 fullShare g ∗ owns (c : Thread nD τ) arg4 fullShare w
        ∗ owns (c : Thread nD τ) arg5 fullShare yq ∗ owns (c : Thread nD τ) arg6 fullShare yk ∗ owns (c : Thread nD τ) arg7 fullShare yv
        ∗ owns (c : Thread nD τ) arg8 fullShare yu ∗ owns (c : Thread nD τ) arg9 fullShare ykb ∗ owns (c : Thread nD τ) arg10 fullShare yvb
        ∗ owns (c : Thread nD τ) scM fullShare s
        ∗ (iprop(owns (c : Thread nD τ) arg2 fullShare x ∗ owns (c : Thread nD τ) arg3 fullShare g ∗ owns (c : Thread nD τ) arg4 fullShare w
            ∗ owns (c : Thread nD τ) arg5 fullShare (if (i 1).val = 0 then k0_pay3 s' w else yq)
            ∗ owns (c : Thread nD τ) arg6 fullShare (if (i 1).val = 1 then k0_pay2 s' w else yk)
            ∗ owns (c : Thread nD τ) arg7 fullShare (if (i 1).val = 2 then k0_pay2 s' w else yv)
            ∗ owns (c : Thread nD τ) arg8 fullShare (if (i 1).val = 3 then k0_pay2 s' w else yu)
            ∗ owns (c : Thread nD τ) arg9 fullShare (if (i 1).val = 1 then k0_pay4 s' w else ykb)
            ∗ owns (c : Thread nD τ) arg10 fullShare (if (i 1).val = 2 then k0_pay5 s' w else yvb)
            ∗ owns (c : Thread nD τ) scM fullShare s') -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 scM (Memref.isWhole_whole _)) K := by
  subst hs
  have hi : (i 1).val < 4 := (i 1).isLt
  have e1 := branch_iff (i 1).val 0 hi (by decide)
  have e2 : k0_cond2 i = 1#1 ↔ (i 1).val = 0 := branch_iff (i 1).val 0 hi (by decide)
  have e3 : k0_cond3 i = 1#1 ↔ (i 1).val = 1 := branch_iff (i 1).val 1 hi (by decide)
  have e4 : k0_cond4 i = 1#1 ↔ (i 1).val = 2 := branch_iff (i 1).val 2 hi (by decide)
  have e5 : k0_cond5 i = 1#1 ↔ (i 1).val = 3 := branch_iff (i 1).val 3 hi (by decide)
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := (Memref.isWhole_whole cc0_scratch0).eq_unread hf11
  have hf11' : View.read (Elt F) (View.whole cc0_scratch0) ((Memref.isWhole_whole cc0_scratch0).unread s) = s := hf11
  have hn : (i 1).val = 0 ∨ (i 1).val = 1 ∨ (i 1).val = 2 ∨ (i 1).val = 3 := by omega
  rcases hn with h | h | h | h
  all_goals
    have c1 := e1; have c2 := e2; have c3 := e3; have c4 := e4; have c5 := e5
    simp only [h, Nat.reduceEqDiff, OfNat.zero_ne_ofNat, zero_ne_one, one_ne_zero, OfNat.ofNat_ne_zero, OfNat.ofNat_ne_one, OfNat.one_ne_ofNat, iff_true, iff_false] at c2 c3 c4 c5
    first
      | have c1' := e1.mpr h
      | have c1' := mt e1.mp (by omega)
    clear c1
    sl_exec
    sl_step
    iapply Hk
    simp only [h, ↓reduceIte, Nat.reduceEqDiff, OfNat.zero_ne_ofNat, zero_ne_one, one_ne_zero, OfNat.ofNat_ne_zero, OfNat.ofNat_ne_one, OfNat.one_ne_ofNat]
    isplitl [H2]
    · iexists _; isplitr; swap
      · iexact H2
      ipureintro
      first
        | with_reducible assumption
        | (refine read_store _ _ (fun a => by fin_cases a <;> rfl) _ _ _ ?_; frame_out; try rw [hf11'])
    isplitl [H3]
    · iexists _; isplitr; swap
      · iexact H3
      ipureintro
      first
        | with_reducible assumption
        | (refine read_store _ _ (fun a => by fin_cases a <;> rfl) _ _ _ ?_; frame_out; try rw [hf11'])
    isplitl [H4]
    · iexists _; isplitr; swap
      · iexact H4
      ipureintro
      first
        | with_reducible assumption
        | (refine read_store _ _ (fun a => by fin_cases a <;> rfl) _ _ _ ?_; frame_out; try rw [hf11'])
    isplitl [H5]
    · iexists _; isplitr; swap
      · iexact H5
      ipureintro
      first
        | with_reducible assumption
        | (refine read_store _ _ (fun a => by fin_cases a <;> rfl) _ _ _ ?_; frame_out; try rw [hf11'])
    isplitl [H6]
    · iexists _; isplitr; swap
      · iexact H6
      ipureintro
      first
        | with_reducible assumption
        | (refine read_store _ _ (fun a => by fin_cases a <;> rfl) _ _ _ ?_; frame_out; try rw [hf11'])
    isplitl [H7]
    · iexists _; isplitr; swap
      · iexact H7
      ipureintro
      first
        | with_reducible assumption
        | (refine read_store _ _ (fun a => by fin_cases a <;> rfl) _ _ _ ?_; frame_out; try rw [hf11'])
    isplitl [H8]
    · iexists _; isplitr; swap
      · iexact H8
      ipureintro
      first
        | with_reducible assumption
        | (refine read_store _ _ (fun a => by fin_cases a <;> rfl) _ _ _ ?_; frame_out; try rw [hf11'])
    isplitl [H9]
    · iexists _; isplitr; swap
      · iexact H9
      ipureintro
      first
        | with_reducible assumption
        | (refine read_store _ _ (fun a => by fin_cases a <;> rfl) _ _ _ ?_; frame_out; try rw [hf11'])
    isplitl [H10]
    · iexists _; isplitr; swap
      · iexact H10
      ipureintro
      first
        | with_reducible assumption
        | (refine read_store _ _ (fun a => by fin_cases a <;> rfl) _ _ _ ?_; frame_out; try rw [hf11'])
    iexists _; isplitr; swap
    · iexact H11
    ipureintro
    first
      | with_reducible assumption
      | (refine read_store _ _ (fun a => by fin_cases a <;> rfl) _ _ _ ?_; frame_out; try rw [hf11'])

end Cert.ProjBody

end
-- ==== Proof.ProjFrame.lean ====
/-
  The projection's frame: what its scratch and its outputs hold at every grid point, the body's obligation there, and the launch.
  The grid runs over 16 blocks of rows and, inside each, over four blocks of columns. The scratch is filled at the first column
  block and read at all four; each output is stored at one of the four and written back after the last.
-/
module

public import proofs.«01_k».proof.Proof.ProjBody

@[expose] public section

set_option maxRecDepth 16384

noncomputable section

namespace Cert.ProjFrame

section General

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : ℕ} {τ : Topo} {sig : RefSig} {Val : EltTy → Type} [∀ e, Nonempty (Val e)] {Ix : Type} [DecidableEq Ix] {Name : Type} [DecidableEq Name]
  {U : Type} [URA U] {Lvl : Type} {Λ₀ : Idealize.SL.Sem.Labels} {cfg : Cfg sig Λ₀} {c : Dev nD}

local notation "𝕄" => MT nD τ sig Ix Val Name U Lvl

/-- What the obligation asks of window `w`'s buffer after the body at point `t`. -/
def leftAt (dat : Dat τ Val Ix Name U Lvl cfg c) (w : Fin cfg.W) (t : Fin cfg.N) : sProp 𝕄 :=
  match cfg.idle w (cfg.grid.coords t) with
  | true =>
    match (cfg.win w).flush t with
    | false => iprop(∃ d, owns (c : Thread nD τ) ((cfg.win w).stage (cfg.slots t w)) fullShare (dat.before w t d))
    | true => owns (c : Thread nD τ) ((cfg.win w).stage (cfg.slots t w)) fullShare (dat.after w t)
  | false => owns (c : Thread nD τ) ((cfg.win w).stage (cfg.slots t w)) fullShare (dat.after w t)

/-- An output stored at the `J`-th of every `P` points and written back after the `P`-th holds, after its store, what it is written
    back with: nothing between the two touches it. -/
theorem before_row (dat : Dat τ Val Ix Name U Lvl cfg c) (w : Fin cfg.W) (P J : ℕ) (hw : (cfg.win w).isOut = true)
    (hidle : ∀ t : Fin cfg.N, cfg.idle w (cfg.grid.coords t) = true ↔ t.val % P ≠ J)
    (hflush : ∀ t : Fin cfg.N, (cfg.win w).flush t = true ↔ t.val % P = P - 1) (hkept : ∀ t d, dat.kept w t d = dat.after w t)
    (hafter : ∀ t t' : Fin cfg.N, t.val / P = t'.val / P → dat.after w t = dat.after w t') (hP : 0 < P) (d) :
    ∀ (n : ℕ) (t : Fin cfg.N), t.val = n → J < t.val % P → dat.before w t d = dat.after w t := by
  intro n
  induction n with
  | zero => intro t ht hJ; rw [ht, Nat.zero_mod] at hJ; exact absurd hJ (Nat.not_lt_zero _)
  | succ n ih =>
    intro t ht hJ
    have hdiv := Nat.div_add_mod t.val P
    have hlt := Nat.mod_lt t.val hP
    have e : t.val - 1 = P * (t.val / P) + (t.val % P - 1) := by omega
    have em : (t.val - 1) % P = t.val % P - 1 := by rw [e, Nat.mul_add_mod]; exact Nat.mod_eq_of_lt (by omega)
    have ed : (t.val - 1) / P = t.val / P := by rw [e, Nat.mul_add_div hP, Nat.div_eq_of_lt (show t.val % P - 1 < P by omega), Nat.add_zero]
    set t' : Fin cfg.N := ⟨t.val - 1, Nat.lt_of_le_of_lt (Nat.sub_le _ _) t.isLt⟩ with ht'
    rw [dat.before_of_pos w t (by omega) ((cfg.win w).fetch_out hw t), if_neg (by rw [hflush]; change ¬((t.val - 1) % P = P - 1); omega), hafter t t' ed.symm]
    change dat.left w t' d = _
    unfold Dat.left
    by_cases hi : (t.val - 1) % P = J
    · have : cfg.idle w (cfg.grid.coords t') = false := by
        rw [← Bool.not_eq_true, hidle]; exact fun h => h hi
      rw [this]; exact hkept t' d
    · rw [(hidle t').mpr hi]
      exact ih t' (by change t.val - 1 = n; omega) (by change J < (t.val - 1) % P; omega)

/-- What the obligation asks of an output's buffer, from what the body leaves there: its value where it is stored, what the body
    found elsewhere. -/
theorem leave_row (dat : Dat τ Val Ix Name U Lvl cfg c) (w : Fin cfg.W) (t : Fin cfg.N) (P J : ℕ) (hw : (cfg.win w).isOut = true)
    (hidle : ∀ t : Fin cfg.N, cfg.idle w (cfg.grid.coords t) = true ↔ t.val % P ≠ J)
    (hflush : ∀ t : Fin cfg.N, (cfg.win w).flush t = true ↔ t.val % P = P - 1) (hkept : ∀ t d, dat.kept w t d = dat.after w t)
    (hafter : ∀ t t' : Fin cfg.N, t.val / P = t'.val / P → dat.after w t = dat.after w t') (hP : J < P) (d)
    (X : (cfg.win w).block.Idx → Val (cfg.win w).elt) (hX : t.val % P = J → X = dat.after w t)
    (hY : t.val % P ≠ J → X = dat.before w t d) :
    (owns (c : Thread nD τ) ((cfg.win w).stage (cfg.slots t w)) fullShare X : sProp 𝕄) ⊢ leftAt dat w t := by
  unfold leftAt
  by_cases hi : t.val % P = J
  · have : cfg.idle w (cfg.grid.coords t) = false := by
      rw [← Bool.not_eq_true, hidle]; exact fun h => h hi
    rw [this, hX hi]
  · rw [(hidle t).mpr hi]
    by_cases hf : t.val % P = P - 1
    · rw [(hflush t).mpr hf, hY hi, before_row dat w P J hw hidle hflush hkept hafter (by omega) d t.val t rfl (by omega)]
    · have : (cfg.win w).flush t = false := by rw [← Bool.not_eq_true, hflush]; exact hf
      rw [this, hY hi]
      iintro H
      iexists d
      iexact H

/-- At a point that stores the window the obligation asks for its value. -/
theorem leave_live (dat : Dat τ Val Ix Name U Lvl cfg c) (w : Fin cfg.W) (t : Fin cfg.N) (h : cfg.idle w (cfg.grid.coords t) = false) :
    (owns (c : Thread nD τ) ((cfg.win w).stage (cfg.slots t w)) fullShare (dat.after w t) : sProp 𝕄) ⊢ leftAt dat w t := by
  unfold leftAt; rw [h]

/-- The obligation from the body's triple with the windows as `leftAt` has them. -/
theorem obligation_of [Preorder Lvl] (dat : Dat τ Val Ix Name U Lvl cfg c) (defs₀ : Defs nD τ sig Val Λ₀) (𝒱₀ : Variants) (ι : Ix) (E : Set Name)
    (h : ∀ t : Fin cfg.N,
      iprop(dat.Φ t.castSucc ∗ dat.owesAt ι t.castSucc
          ∗ bigSep Finset.univ fun w : Fin cfg.W => iprop(∃ d, owns (c : Thread nD τ) ((cfg.win w).stage (cfg.slots t w)) fullShare (dat.before w t d)))
        ⊢ wp frame (wpE defs₀ 𝒱₀ c none) E (defs₀ .tc cfg.body (cfg.bodyArgs t (cfg.slots t))) fun _ =>
          iprop(dat.Φ t.succ ∗ dat.owesAt ι t.succ ∗ bigSep Finset.univ fun w : Fin cfg.W => leftAt dat w t)) :
    Pipeline.BodyObligation dat defs₀ 𝒱₀ ι E := fun t => h t

end General

open Cert.ProjIdeal Cert.ProjIdeal.Gen Cert.ProjBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of the `j`-th column block in the row block of point `n`. -/
def pt (n j : ℕ) : Fin cfg0.N := ⟨(4 * (n / 4) + j) % 64, Nat.lt_of_lt_of_eq (Nat.mod_lt _ (by decide)) N_0.symm⟩

theorem pt_self (t : Fin cfg0.N) (j : ℕ) (h : t.val % 4 = j) : pt t.val j = t := by
  have h1 : t.val < 64 := Nat.lt_of_lt_of_eq t.isLt N_0
  exact Fin.ext (by change (4 * (t.val / 4) + j) % 64 = t.val; omega)

/-- The scratch in the row block of point `n`: the rows normed and scaled. -/
def sB (c : Dev nD) (n : ℕ) : Vec F S512x2048 .bf16 := k0_pay1 (iblk m c 0 (pt n 0)) (iblk m c 1 (pt n 0))

theorem pt_congr {n n' : ℕ} (h : n / 4 = n' / 4) (j : ℕ) : pt n j = pt n' j :=
  Fin.ext (by change (4 * (n / 4) + j) % 64 = (4 * (n' / 4) + j) % 64; rw [h])

theorem sB_congr (c : Dev nD) {n n' : ℕ} (h : n / 4 = n' / 4) : sB m c n = sB m c n' := by
  unfold sB; rw [pt_congr h]

/-- Before point `n` the scratch holds the row block's rows, except before a row block's first point, where it may hold anything. -/
def Φ (c : Dev nD) (n : ℕ) : sProp 𝕄 :=
  iprop((∃ s : Vec F S512x2048 .bf16, ⌜n % 4 ≠ 0 → s = sB m c n⌝ ∗ owns (c : Thread nD τ) scM fullShare s) ∗ ∃ r, prngReg c r)

/-- The proof data: each input's block as it stands, each output's block as it is written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (sB m c t.val) (iblk m c 2 (pt t.val 0))
    | ⟨4, _⟩ => k0_pay2 (sB m c t.val) (iblk m c 2 (pt t.val 1))
    | ⟨5, _⟩ => k0_pay2 (sB m c t.val) (iblk m c 2 (pt t.val 2))
    | ⟨6, _⟩ => k0_pay2 (sB m c t.val) (iblk m c 2 (pt t.val 3))
    | ⟨7, _⟩ => k0_pay4 (sB m c t.val) (iblk m c 2 (pt t.val 1))
    | ⟨8, _⟩ => k0_pay5 (sB m c t.val) (iblk m c 2 (pt t.val 2))
  Φ t := Φ m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (sB m c t.val) (iblk m c 2 (pt t.val 0)) := by dsimp only [dats]
theorem after_4 (c : Dev nD) (t : Fin cfg0.N) : (dats m 0 c).after 4 t = k0_pay2 (sB m c t.val) (iblk m c 2 (pt t.val 1)) := by dsimp only [dats]
theorem after_5 (c : Dev nD) (t : Fin cfg0.N) : (dats m 0 c).after 5 t = k0_pay2 (sB m c t.val) (iblk m c 2 (pt t.val 2)) := by dsimp only [dats]
theorem after_6 (c : Dev nD) (t : Fin cfg0.N) : (dats m 0 c).after 6 t = k0_pay2 (sB m c t.val) (iblk m c 2 (pt t.val 3)) := by dsimp only [dats]
theorem after_7 (c : Dev nD) (t : Fin cfg0.N) : (dats m 0 c).after 7 t = k0_pay4 (sB m c t.val) (iblk m c 2 (pt t.val 1)) := by dsimp only [dats]
theorem after_8 (c : Dev nD) (t : Fin cfg0.N) : (dats m 0 c).after 8 t = k0_pay5 (sB m c t.val) (iblk m c 2 (pt t.val 2)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The second coordinate of a grid point is its number in its row block. -/
theorem coord_1 : ∀ t : Fin grid0.N, (grid0.coords t 1).val = t.val % 4 := by decide +kernel

theorem idle_of (n : ℕ) (hn : n < 4) (t : Fin cfg0.N) :
    (!(Scalar.cmpi .ne (Scalar.extui (Scalar.cmpi .eq (BitVec.ofNat 32 (grid0.coords t 1).val) (BitVec.ofNat 32 n)) : BitVec 32) 0#32 == 1#1)) = true
      ↔ t.val % 4 ≠ n := by
  have h := branch_iff (grid0.coords t 1).val n (Fin.isLt _) hn
  rw [Bool.not_eq_true', beq_eq_false_iff_ne, ne_eq, h, coord_1 t]

/-- One output's buffer after the body, at any window stored at column block `J` of each row block. -/
theorem out_of (c : Dev nD) (w : Fin cfg0.W) (J : ℕ) (hJ : J < 4) (val : Fin cfg0.N → (cfg0.win w).block.Idx → Elt F (cfg0.win w).elt)
    (hw : (cfg0.win w).isOut = true) (hidle : ∀ t : Fin cfg0.N, cfg0.idle w (cfg0.grid.coords t) = true ↔ t.val % 4 ≠ J)
    (hflush : ∀ t : Fin cfg0.N, (cfg0.win w).flush t = true ↔ t.val % 4 = 3) (hkept : ∀ t d, (dats m 0 c).kept w t d = (dats m 0 c).after w t)
    (hafter : ∀ t t' : Fin cfg0.N, t.val / 4 = t'.val / 4 → (dats m 0 c).after w t = (dats m 0 c).after w t')
    (t : Fin cfg0.N) (d X) (hval : t.val % 4 = J → val t = (dats m 0 c).after w t)
    (hX : X = if t.val % 4 = J then val t else (dats m 0 c).before w t d) :
    (owns (c : Thread nD τ) ((cfg0.win w).stage (cfg0.slots t w)) fullShare X : sProp 𝕄) ⊢ leftAt (dats m 0 c) w t :=
  leave_row (dats m 0 c) w t 4 J hw hidle hflush hkept hafter hJ d X (fun h => by rw [hX, if_pos h, hval h]) (fun h => by rw [hX, if_neg h])

theorem out_3 (c : Dev nD) (t : Fin cfg0.N) (d) :
    (owns (c : Thread nD τ) (st0_3 t) fullShare (if (grid0.coords t 1).val = 0 then k0_pay3 (sB m c t.val) (iblk m c 2 t) else (dats m 0 c).before 3 t d) : sProp 𝕄) ⊢ leftAt (dats m 0 c) 3 t :=
  out_of m c 3 0 (by decide) (fun t => k0_pay3 (sB m c t.val) (iblk m c 2 t)) rfl (idle_of 0 (by decide)) flush0_3 (fun _ _ => rfl)
    (fun t t' h => by rw [after_3, after_3, sB_congr m c h, pt_congr h]) t d _ (fun h => by rw [after_3, pt_self t 0 h]) (by rw [coord_1 t])
theorem out_4 (c : Dev nD) (t : Fin cfg0.N) (d) :
    (owns (c : Thread nD τ) (st0_4 t) fullShare (if (grid0.coords t 1).val = 1 then k0_pay2 (sB m c t.val) (iblk m c 2 t) else (dats m 0 c).before 4 t d) : sProp 𝕄) ⊢ leftAt (dats m 0 c) 4 t :=
  out_of m c 4 1 (by decide) (fun t => k0_pay2 (sB m c t.val) (iblk m c 2 t)) rfl (idle_of 1 (by decide)) flush0_4 (fun _ _ => rfl)
    (fun t t' h => by rw [after_4, after_4, sB_congr m c h, pt_congr h]) t d _ (fun h => by rw [after_4, pt_self t 1 h]) (by rw [coord_1 t])
theorem out_5 (c : Dev nD) (t : Fin cfg0.N) (d) :
    (owns (c : Thread nD τ) (st0_5 t) fullShare (if (grid0.coords t 1).val = 2 then k0_pay2 (sB m c t.val) (iblk m c 2 t) else (dats m 0 c).before 5 t d) : sProp 𝕄) ⊢ leftAt (dats m 0 c) 5 t :=
  out_of m c 5 2 (by decide) (fun t => k0_pay2 (sB m c t.val) (iblk m c 2 t)) rfl (idle_of 2 (by decide)) flush0_5 (fun _ _ => rfl)
    (fun t t' h => by rw [after_5, after_5, sB_congr m c h, pt_congr h]) t d _ (fun h => by rw [after_5, pt_self t 2 h]) (by rw [coord_1 t])
theorem out_6 (c : Dev nD) (t : Fin cfg0.N) (d) :
    (owns (c : Thread nD τ) (st0_6 t) fullShare (if (grid0.coords t 1).val = 3 then k0_pay2 (sB m c t.val) (iblk m c 2 t) else (dats m 0 c).before 6 t d) : sProp 𝕄) ⊢ leftAt (dats m 0 c) 6 t :=
  out_of m c 6 3 (by decide) (fun t => k0_pay2 (sB m c t.val) (iblk m c 2 t)) rfl (idle_of 3 (by decide)) flush0_6 (fun _ _ => rfl)
    (fun t t' h => by rw [after_6, after_6, sB_congr m c h, pt_congr h]) t d _ (fun h => by rw [after_6, pt_self t 3 h]) (by rw [coord_1 t])
theorem out_7 (c : Dev nD) (t : Fin cfg0.N) (d) :
    (owns (c : Thread nD τ) (st0_7 t) fullShare (if (grid0.coords t 1).val = 1 then k0_pay4 (sB m c t.val) (iblk m c 2 t) else (dats m 0 c).before 7 t d) : sProp 𝕄) ⊢ leftAt (dats m 0 c) 7 t :=
  out_of m c 7 1 (by decide) (fun t => k0_pay4 (sB m c t.val) (iblk m c 2 t)) rfl (idle_of 1 (by decide)) flush0_7 (fun _ _ => rfl)
    (fun t t' h => by rw [after_7, after_7, sB_congr m c h, pt_congr h]) t d _ (fun h => by rw [after_7, pt_self t 1 h]) (by rw [coord_1 t])
theorem out_8 (c : Dev nD) (t : Fin cfg0.N) (d) :
    (owns (c : Thread nD τ) (st0_8 t) fullShare (if (grid0.coords t 1).val = 2 then k0_pay5 (sB m c t.val) (iblk m c 2 t) else (dats m 0 c).before 8 t d) : sProp 𝕄) ⊢ leftAt (dats m 0 c) 8 t :=
  out_of m c 8 2 (by decide) (fun t => k0_pay5 (sB m c t.val) (iblk m c 2 t)) rfl (idle_of 2 (by decide)) flush0_8 (fun _ _ => rfl)
    (fun t t' h => by rw [after_8, after_8, sB_congr m c h, pt_congr h]) t d _ (fun h => by rw [after_8, pt_self t 2 h]) (by rw [coord_1 t])

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ leftAt (dats m 0 c) 0 t
    ∗ leftAt (dats m 0 c) 1 t
    ∗ leftAt (dats m 0 c) 2 t
    ∗ leftAt (dats m 0 c) 3 t
    ∗ leftAt (dats m 0 c) 4 t
    ∗ leftAt (dats m 0 c) 5 t
    ∗ leftAt (dats m 0 c) 6 t
    ∗ leftAt (dats m 0 c) 7 t
    ∗ leftAt (dats m 0 c) 8 t)

/-- The body at any point: the inputs' buffers hold their blocks, the scratch its rows unless the point refills it. -/
theorem sound_body (c : Dev nD) (t : Fin cfg0.N) :
    bodyPre m c t ⊢ wp frame (wpE (defs₀ (F := F)) Variants.none c none) Set.univ (bodyAt0 t) (fun _ => bodyPost m c t) := by
  have hj : (grid0.coords t 1).val = t.val % 4 := coord_1 t
  unfold bodyPre bodyPost bodyAt0
  simp only [before_0, before_1, before_2]
  rw [show (dats m 0 c).Φ t.succ = Φ m c (t.val + 1) from rfl, show (dats m 0 c).Φ t.castSucc = Φ m c t.val from rfl,
    show (dats m 0 c).owesAt () t.succ = (dats m 0 c).owesAt () t.castSucc from rfl]
  unfold Φ
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c (grid0.coords t) _ _ _ _ _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((dats m 0 c).before 7 t d7) ((dats m 0 c).before 8 t d8) s (sB m c t.val) (by
      rw [hj]
      by_cases h : t.val % 4 = 0
      · rw [if_pos h]; unfold sB; rw [pt_self t 0 h]
      · rw [if_neg h, hs h]) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hr]
  · isplitl [HS]
    · iexists _; isplitr; swap
      · iexact HS
      ipureintro
      exact fun h => sB_congr m c (by omega)
    · iexact Hr
  isplitl [Ho]; · iexact Ho
  isplitl [H0]; · iapply (leave_live (dats m 0 c) 0 t rfl); rw [after_0]; iexact H0
  isplitl [H1]; · iapply (leave_live (dats m 0 c) 1 t rfl); rw [after_1]; iexact H1
  isplitl [H2]; · iapply (leave_live (dats m 0 c) 2 t rfl); rw [after_2]; iexact H2
  isplitl [H3]; · iapply (out_3 m c t d3); iexact H3
  isplitl [H4]; · iapply (out_4 m c t d4); iexact H4
  isplitl [H5]; · iapply (out_5 m c t d5); iexact H5
  isplitl [H6]; · iapply (out_6 m c t d6); iexact H6
  isplitl [H7]; · iapply (out_7 m c t d7); iexact H7
  iapply (out_8 m c t d8); iexact H8

/-- The body's obligation at every point. -/
theorem body_obligation (c : Dev nD) : BodyObligation (dats (F := F) m 0 c) (defs₀ (F := F)) Variants.none () Set.univ :=
  obligation_of _ _ _ _ _ fun t => by
    rw [bigSep_W0, bigSep_W0, show defs₀ (F := F) .tc cfg0.body (cfg0.bodyArgs t (cfg0.slots t)) = bodyAt0 t by unfold defs₀; rw [Defs.onTc_tc]]
    exact sound_body m c t

/-- The scratch owned is its whole buffer. -/
theorem scratch_eq (c : Dev nD) (f : Vec F S512x2048 .bf16) :
    (owns (c : Thread nD τ) scM fullShare f : sProp 𝕄) = ((c : Thread nD τ).loc cc0_scratch0) ↦{fullShare} f :=
  owns_whole (c : Thread nD τ) cc0_scratch0 fullShare f

/-- Before the first point the scratch may hold anything; -/
theorem Φ_in (c : Dev nD) : Pipeline.ΦA spec0 c ⊢ (dats (F := F) m 0 c).Φ 0 := by
  rw [show (dats m 0 c).Φ 0 = Φ m c 0 from rfl]
  unfold Φ Pipeline.ΦA
  rw [scopedRest0_eq]
  iintro ⟨⟨%f, H⟩, Hr⟩
  isplitl [H]
  · iexists (show Vec F S512x2048 .bf16 from f); isplitr; swap
    · rw [scratch_eq]; iexact H
    ipureintro
    exact fun h => absurd (Nat.zero_mod 4) h
  iexact Hr

/-- and after the last it is forgotten. -/
theorem Φ_out (c : Dev nD) : (dats (F := F) m 0 c).Φ (Fin.last cfg0.N) ⊢ Pipeline.ΦA spec0 c := by
  rw [show (dats m 0 c).Φ (Fin.last cfg0.N) = Φ m c cfg0.N from rfl]
  unfold Φ Pipeline.ΦA
  rw [scopedRest0_eq]
  iintro ⟨⟨%s, -, H⟩, Hr⟩
  isplitl [H]
  · iexists s; rw [← scratch_eq]; iexact H
  iexact Hr

set_option backward.isDefEq.respectTransparency.types false in
/-- The launch: every run ends, with the arrays as the proof data say and the counters at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)

/-- The frame, at any values: the arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.ProjFrame

end
-- ==== Proof.ProjSpec.lean ====
/-
  The input projection over the extended reals, as one function of the prompt's rows, the norm's weights and the matrix.
-/
module

public import Idealize.ShloMosaic.Lib.Pointwise

@[expose] public section

noncomputable section

namespace Cert.Projection

open Idealize.ShloMosaic

/-- The prompt: a row of 2048 a token. -/
abbrev Prompt : Shape := ⟨3, ![1, 8192, 2048]⟩
/-- The norm's weights. -/
abbrev Gains : Shape := ⟨2, ![1, 2048]⟩
/-- The matrix: queries, keys, values and pool inputs side by side, 1024 columns each. -/
abbrev Matrix : Shape := ⟨3, ![1, 2048, 4096]⟩
/-- One of the four outputs. -/
abbrev Rows : Shape := ⟨2, ![8192, 1024]⟩

/-- Entry `k` of row `s`, divided by the row's root mean square and weighted. -/
def normed (x : Prompt.Idx → EReal) (g : Gains.Idx → EReal) (s : Fin 8192) (k : Fin 2048) : EReal :=
  x (ix3 0 s k) * Ideal.rsqrt (Ideal.div (∑ l : Fin 2048, x (ix3 0 s l) * x (ix3 0 s l)) (Ideal.ofBits FTy.f32 1157627904#32)
    + Ideal.ofBits FTy.f32 897988541#32) * g (ix2 0 k)

/-- Entry `n` of row `s` of the product. -/
def product (x : Prompt.Idx → EReal) (g : Gains.Idx → EReal) (w : Matrix.Idx → EReal) (s : Fin 8192) (n : Fin 4096) : EReal :=
  ∑ k : Fin 2048, normed x g s k * w (ix3 0 k n)

/-- The column of the matrix at column `n` of the `j`-th output. -/
def column (j : Fin 4) (n : Fin 1024) : Fin 4096 := ⟨1024 * j.val + n.val, by omega⟩

/-- The `j`-th output. -/
def part (x : Prompt.Idx → EReal) (g : Gains.Idx → EReal) (w : Matrix.Idx → EReal) (j : Fin 4) : Rows.Idx → EReal :=
  fun i => product x g w (i 0) (column j (i 1))

/-- The queries, scaled. -/
def queries (x : Prompt.Idx → EReal) (g : Gains.Idx → EReal) (w : Matrix.Idx → EReal) : Rows.Idx → EReal :=
  fun i => part x g w 0 i * Ideal.ofBits FTy.f32 1035273459#32

/-- The `j`-th output with its columns by head. -/
def byHead (x : Prompt.Idx → EReal) (g : Gains.Idx → EReal) (w : Matrix.Idx → EReal) (j : Fin 4) :
    (⟨5, ![1, 1, 8192, 8, 128]⟩ : Shape).Idx → EReal :=
  fun i => product x g w (i 2) (column j ⟨128 * (i 3).val + (i 4).val, by
    have h3 : (i 3).val < 8 := (i 3).isLt
    have h4 : (i 4).val < 128 := (i 4).isLt
    omega⟩)

/-- The last fifteen rows of the pool inputs. -/
def tail (x : Prompt.Idx → EReal) (g : Gains.Idx → EReal) (w : Matrix.Idx → EReal) : (⟨4, ![1, 1, 15, 1024]⟩ : Shape).Idx → EReal :=
  fun i => product x g w ⟨8177 + (i 2).val, by have h2 : (i 2).val < 15 := (i 2).isLt; omega⟩ (column 3 (i 3))

end Cert.Projection

end
-- ==== Proof.ProjValue.lean ====
/-
  The projection kernel's arrays after the run are the projection's outputs.
-/
module

public import proofs.«01_k».proof.Proof.ProjFrame
public import proofs.«01_k».proof.Proof.ProjSpec
public import Idealize.ShloMosaic.Lib.Pipeline.ValueKit

@[expose] public section

set_option maxRecDepth 16384

noncomputable section

namespace Cert.ProjIdeal.Val

open Cert.ProjIdeal Cert.ProjIdeal.Gen Cert.ProjFrame Cert.Projection Idealize.ShloMosaic Idealize.ShloMosaic.TcCoe Idealize.SL.Sem Idealize.ShloMosaic.Tactic

/-! ## The host lines before the kernel -/

/-- The prompt without its first axis. -/
theorem rows_apply (x : Vec Ideal S1x8192x2048 .f32) (s : Fin 8192) (k : Fin 2048) :
    shapeCast S8192x2048 x shapeCasts_S1x8192x2048_S8192x2048 (ix2 s k) = x (ix3 0 s k) := by pointwise []

/-- The norm's weights flattened and laid out as a row again. -/
theorem gains_apply (g : Vec Ideal S1x2048 .f32) (k : Fin 2048) :
    shapeCast S1x2048 (shapeCast S2048 g shapeCasts_S1x2048_S2048) shapeCasts_S2048_S1x2048 (ix2 0 k) = g (ix2 0 k) := by pointwise []

/-- The matrix without its first axis. -/
theorem matrix_apply (w : Vec Ideal S1x2048x4096 .f32) (k : Fin 2048) (n : Fin 4096) :
    truncf (F := Ideal) .bf16 (shapeCast S2048x4096 w shapeCasts_S1x2048x4096_S2048x4096) bitsLt_bf16_f32 (ix2 k n) = w (ix3 0 k n) := by pointwise []

variable (m : (ℓ : Loc nD τ sig) → Buf (Elt Ideal) ℓ)

/-- The rows the kernel is launched with, -/
theorem v0_eq (c : Dev nD) : V m c main_v0 = shapeCast S8192x2048 (m ((c : Thread nD τ).loc main_arg0)) shapeCasts_S1x8192x2048_S8192x2048 := by
  unfold V V0 hostOps0
  simp only [List.flatten_cons, List.flatten_nil, List.append_nil, List.cons_append, List.nil_append]
  after_results_simp <;> rfl

/-- its weights, -/
theorem v2_eq (c : Dev nD) : V m c main_v2 = shapeCast S1x2048 (shapeCast S2048 (m ((c : Thread nD τ).loc main_arg1)) shapeCasts_S1x2048_S2048) shapeCasts_S2048_S1x2048 := by
  unfold V V0 hostOps0
  simp only [List.flatten_cons, List.flatten_nil, List.append_nil, List.cons_append, List.nil_append]
  after_results_simp <;> rfl

/-- and its matrix. -/
theorem v4_eq (c : Dev nD) : V m c main_v4 = truncf (F := Ideal) .bf16 (shapeCast S2048x4096 (m ((c : Thread nD τ).loc main_arg2)) shapeCasts_S1x2048x4096_S2048x4096) bitsLt_bf16_f32 := by
  unfold V V0 hostOps0
  simp only [List.flatten_cons, List.flatten_nil, List.append_nil, List.cons_append, List.nil_append]
  after_results_simp <;> rfl

/-! ## The windows' blocks -/

/-- The block indices of the three inputs. -/
theorem index_in : ∀ t : Fin grid0.N, win0_0.index t = ![t.val / 4, 0] ∧ win0_1.index t = ![0, 0] ∧ win0_2.index t = ![0, t.val % 4] := by decide +kernel

/-- A point's rows: 512 of the prompt. -/
theorem rows_block (c : Dev nD) (t : Fin cfg0.N) (r : Fin 512) (k : Fin 2048) (s : Fin 8192) (hs : s.val = 512 * (t.val / 4) + r.val) :
    (iblk m c 0 t : Vec Ideal S512x2048 .f32) (ix2 r k) = m ((c : Thread nD τ).loc main_arg0) (ix3 0 s k) := by
  have e : win0_0.index t 0 = t.val / 4 ∧ win0_0.index t 1 = 0 := by rw [(index_in t).1]; exact ⟨rfl, rfl⟩
  refine Eq.trans (congrArg (V m c main_v0) (show ((cfg0.win 0).blk t).view.emb (ix2 r k) = ix2 s k from funext fun a => Fin.ext ?_)) ((congrFun (v0_eq m c) _).trans (rows_apply _ s k))
  match a with
  | 0 => show win0_0.index t 0 * 512 + 1 * r.val = s.val; rw [e.1]; omega
  | 1 => show win0_0.index t 1 * 2048 + 1 * k.val = k.val; rw [e.2]; omega

/-- A point's weights: all of them. -/
theorem gains_block (c : Dev nD) (t : Fin cfg0.N) (k : Fin 2048) :
    (iblk m c 1 t : Vec Ideal S1x2048 .f32) (ix2 0 k) = m ((c : Thread nD τ).loc main_arg1) (ix2 0 k) := by
  have e : win0_1.index t 0 = 0 ∧ win0_1.index t 1 = 0 := by rw [(index_in t).2.1]; exact ⟨rfl, rfl⟩
  refine Eq.trans (congrArg (V m c main_v2) (show ((cfg0.win 1).blk t).view.emb (ix2 0 k) = ix2 0 k from funext fun a => Fin.ext ?_)) ((congrFun (v2_eq m c) _).trans (gains_apply _ k))
  match a with
  | 0 => show win0_1.index t 0 * 1 + 1 * 0 = 0; rw [e.1]
  | 1 => show win0_1.index t 1 * 2048 + 1 * k.val = k.val; rw [e.2]; omega

/-- A point's columns of the matrix: 1024 of them. -/
theorem matrix_block (c : Dev nD) (t : Fin cfg0.N) (k : Fin 2048) (n : Fin 1024) (j : Fin 4) (hj : t.val % 4 = j.val) :
    (iblk m c 2 t : Vec Ideal S2048x1024 .bf16) (ix2 k n) = m ((c : Thread nD τ).loc main_arg2) (ix3 0 k (column j n)) := by
  have e : win0_2.index t 0 = 0 ∧ win0_2.index t 1 = t.val % 4 := by rw [(index_in t).2.2]; exact ⟨rfl, rfl⟩
  refine Eq.trans (congrArg (V m c main_v4) (show ((cfg0.win 2).blk t).view.emb (ix2 k n) = ix2 k (column j n) from funext fun a => Fin.ext ?_)) ((congrFun (v4_eq m c) _).trans (matrix_apply _ k (column j n)))
  match a with
  | 0 => show win0_2.index t 0 * 2048 + 1 * k.val = k.val; rw [e.1]; omega
  | 1 => show win0_2.index t 1 * 1024 + 1 * n.val = 1024 * j.val + n.val; rw [e.2, hj]; omega

/-! ## The body's values -/

/-- The rows normed and weighted. -/
theorem pay1_apply (x : Vec Ideal S512x2048 .f32) (g : Vec Ideal S1x2048 .f32) (r : Fin 512) (k : Fin 2048) :
    k0_pay1 x g (ix2 r k) = (x (ix2 r k) : EReal) * Ideal.rsqrt (Ideal.div (∑ l : Fin 2048, (x (ix2 r l) : EReal) * x (ix2 r l)) (Ideal.ofBits FTy.f32 1157627904#32)
      + Ideal.ofBits FTy.f32 897988541#32) * g (ix2 0 k) := by
  pointwise [k0_pay1]

/-- The product. -/
theorem pay2_apply (s : Vec Ideal S512x2048 .bf16) (w : Vec Ideal S2048x1024 .bf16) (r : Fin 512) (n : Fin 1024) :
    k0_pay2 s w (ix2 r n) = ∑ k : Fin 2048, (s (ix2 r k) : EReal) * w (ix2 k n) := by
  pointwise [k0_pay2]

variable (c : Dev nD)

/-- The prompt, -/
abbrev xs : Prompt.Idx → EReal := m ((c : Thread nD τ).loc main_arg0)
/-- the norm's weights -/
abbrev gs : Gains.Idx → EReal := m ((c : Thread nD τ).loc main_arg1)
/-- and the matrix, as launched. -/
abbrev ws : Projection.Matrix.Idx → EReal := m ((c : Thread nD τ).loc main_arg2)

/-- The point of column block `j` lies in the same row block. -/
theorem pt_val (t : Fin cfg0.N) (j : ℕ) (hj : j < 4) : (pt t.val j).val / 4 = t.val / 4 ∧ (pt t.val j).val % 4 = j := by
  have h : t.val < 64 := Nat.lt_of_lt_of_eq t.isLt N_0
  have e : (pt t.val j).val = (4 * (t.val / 4) + j) % 64 := rfl
  omega

/-- The scratch's rows. -/
theorem scratch_apply (t : Fin cfg0.N) (r : Fin 512) (k : Fin 2048) (s : Fin 8192) (hs : s.val = 512 * (t.val / 4) + r.val) :
    sB m c t.val (ix2 r k) = normed (xs m c) (gs m c) s k := by
  have hs' : s.val = 512 * ((pt t.val 0).val / 4) + r.val := by rw [(pt_val t 0 (by decide)).1]; exact hs
  unfold sB normed
  rw [pay1_apply, rows_block m c _ r k s hs', gains_block]
  simp only [fun l => rows_block m c (pt t.val 0) r l s hs']

/-- A block of the product. -/
theorem product_apply (t : Fin cfg0.N) (r : Fin 512) (n : Fin 1024) (s : Fin 8192) (hs : s.val = 512 * (t.val / 4) + r.val) (j : Fin 4) :
    k0_pay2 (sB m c t.val) (iblk m c 2 (pt t.val j.val)) (ix2 r n) = product (xs m c) (gs m c) (ws m c) s (column j n) := by
  rw [pay2_apply]
  exact Finset.sum_congr rfl fun k _ => by
    rw [scratch_apply m c t r k s hs, matrix_block m c _ k n j (pt_val t j.val j.isLt).2]

/-! ## The arrays after the run -/

/-- The block index of each output. -/
theorem index_out : ∀ t : Fin grid0.N, win0_3.index t = ![t.val / 4, 0] ∧ win0_4.index t = ![t.val / 4, 0] ∧ win0_5.index t = ![t.val / 4, 0]
    ∧ win0_6.index t = ![t.val / 4, 0] ∧ win0_7.index t = ![t.val / 4, 0] ∧ win0_8.index t = ![t.val / 4, 0] := by decide +kernel

/-- An index of a block is its row and column. -/
theorem exists_ix2 (y : S512x1024.Idx) : ∃ (r : Fin 512) (n : Fin 1024), y = ix2 r n :=
  ⟨y 0, y 1, by funext a; match a with | 0 => rfl | 1 => rfl⟩

/-- The product at a point's block, read where the block lies in the array. -/
theorem product_emb (t : Fin cfg0.N) (y : S512x1024.Idx) (i : S8192x1024.Idx) (h0 : (i 0).val = 512 * (t.val / 4) + (y 0).val) (h1 : (i 1).val = (y 1).val)
    (j : Fin 4) : k0_pay2 (sB m c t.val) (iblk m c 2 (pt t.val j.val)) y = part (xs m c) (gs m c) (ws m c) j i := by
  obtain ⟨r, n, rfl⟩ := exists_ix2 y
  rw [product_apply m c t r n (i 0) h0 j]
  exact congrArg (product (xs m c) (gs m c) (ws m c) (i 0)) (Fin.ext (by change 1024 * j.val + n.val = 1024 * j.val + (i 1).val; rw [h1]; rfl))

/-- The scaled product is the queries. -/
theorem queries_emb (t : Fin cfg0.N) (y : S512x1024.Idx) (i : S8192x1024.Idx) (h0 : (i 0).val = 512 * (t.val / 4) + (y 0).val) (h1 : (i 1).val = (y 1).val) :
    k0_pay3 (sB m c t.val) (iblk m c 2 (pt t.val 0)) y = queries (xs m c) (gs m c) (ws m c) i :=
  congrArg (· * Ideal.ofBits FTy.f32 1035273459#32) (product_emb m c t y i h0 h1 0)

/-- The queries' array. -/
theorem final_3 : (dats m 0 c).arrAt 3 cfg0.N = queries (xs m c) (gs m c) (ws m c) := by
  refine (dats m 0 c).arrAt_eq_of_covers 3 _ (by decide +kernel) fun t hf y => ?_
  have e : win0_3.index t 0 = t.val / 4 ∧ win0_3.index t 1 = 0 := by rw [(index_out t).1]; exact ⟨rfl, rfl⟩
  blk_simp
  rw [after_3]
  exact queries_emb m c t y ((win0_3.blk t).view.emb y) (by show win0_3.index t 0 * 512 + 1 * (y 0).val = _; rw [e.1]; omega)
    (by show win0_3.index t 1 * 1024 + 1 * (y 1).val = _; rw [e.2]; omega)

/-- The keys' array. -/
theorem final_4 : (dats m 0 c).arrAt 4 cfg0.N = part (xs m c) (gs m c) (ws m c) 1 := by
  refine (dats m 0 c).arrAt_eq_of_covers 4 _ (by decide +kernel) fun t hf y => ?_
  have e : win0_4.index t 0 = t.val / 4 ∧ win0_4.index t 1 = 0 := by rw [(index_out t).2.1]; exact ⟨rfl, rfl⟩
  blk_simp
  rw [after_4]
  exact product_emb m c t y ((win0_4.blk t).view.emb y) (by show win0_4.index t 0 * 512 + 1 * (y 0).val = _; rw [e.1]; omega)
    (by show win0_4.index t 1 * 1024 + 1 * (y 1).val = _; rw [e.2]; omega) 1

/-- The values' array. -/
theorem final_5 : (dats m 0 c).arrAt 5 cfg0.N = part (xs m c) (gs m c) (ws m c) 2 := by
  refine (dats m 0 c).arrAt_eq_of_covers 5 _ (by decide +kernel) fun t hf y => ?_
  have e : win0_5.index t 0 = t.val / 4 ∧ win0_5.index t 1 = 0 := by rw [(index_out t).2.2.1]; exact ⟨rfl, rfl⟩
  blk_simp
  rw [after_5]
  exact product_emb m c t y ((win0_5.blk t).view.emb y) (by show win0_5.index t 0 * 512 + 1 * (y 0).val = _; rw [e.1]; omega)
    (by show win0_5.index t 1 * 1024 + 1 * (y 1).val = _; rw [e.2]; omega) 2

/-- The pool inputs' array. -/
theorem final_6 : (dats m 0 c).arrAt 6 cfg0.N = part (xs m c) (gs m c) (ws m c) 3 := by
  refine (dats m 0 c).arrAt_eq_of_covers 6 _ (by decide +kernel) fun t hf y => ?_
  have e : win0_6.index t 0 = t.val / 4 ∧ win0_6.index t 1 = 0 := by rw [(index_out t).2.2.2.1]; exact ⟨rfl, rfl⟩
  blk_simp
  rw [after_6]
  exact product_emb m c t y ((win0_6.blk t).view.emb y) (by show win0_6.index t 0 * 512 + 1 * (y 0).val = _; rw [e.1]; omega)
    (by show win0_6.index t 1 * 1024 + 1 * (y 1).val = _; rw [e.2]; omega) 3

/-- The keys' array in the narrow format. -/
theorem final_7 : (dats m 0 c).arrAt 7 cfg0.N = part (xs m c) (gs m c) (ws m c) 1 := by
  refine (dats m 0 c).arrAt_eq_of_covers 7 _ (by decide +kernel) fun t hf y => ?_
  have e : win0_7.index t 0 = t.val / 4 ∧ win0_7.index t 1 = 0 := by rw [(index_out t).2.2.2.2.1]; exact ⟨rfl, rfl⟩
  blk_simp
  rw [after_7]
  exact product_emb m c t y ((win0_7.blk t).view.emb y) (by show win0_7.index t 0 * 512 + 1 * (y 0).val = _; rw [e.1]; omega)
    (by show win0_7.index t 1 * 1024 + 1 * (y 1).val = _; rw [e.2]; omega) 1

/-- The values' array in the narrow format. -/
theorem final_8 : (dats m 0 c).arrAt 8 cfg0.N = part (xs m c) (gs m c) (ws m c) 2 := by
  refine (dats m 0 c).arrAt_eq_of_covers 8 _ (by decide +kernel) fun t hf y => ?_
  have e : win0_8.index t 0 = t.val / 4 ∧ win0_8.index t 1 = 0 := by rw [(index_out t).2.2.2.2.2]; exact ⟨rfl, rfl⟩
  blk_simp
  rw [after_8]
  exact product_emb m c t y ((win0_8.blk t).view.emb y) (by show win0_8.index t 0 * 512 + 1 * (y 0).val = _; rw [e.1]; omega)
    (by show win0_8.index t 1 * 1024 + 1 * (y 1).val = _; rw [e.2]; omega) 2

/-! ## The host lines after the kernel -/

/-- An output with its columns by head. -/
theorem byHead_apply (x : Prompt.Idx → EReal) (g : Gains.Idx → EReal) (w : Projection.Matrix.Idx → EReal) (j : Fin 4) :
    shapeCast S1x1x8192x8x128 (part x g w j : Vec Ideal S8192x1024 .f32) shapeCasts_S8192x1024_S1x1x8192x8x128 = byHead x g w j := by
  funext i
  pointwise []
  exact congrArg (fun n => product x g w (i 2) (column j n)) (Fin.ext (by change (i 3).val * 128 + (i 4).val = 128 * (i 3).val + (i 4).val; omega))

/-- The last fifteen rows of an output. -/
theorem tail_apply (x : Prompt.Idx → EReal) (g : Gains.Idx → EReal) (w : Projection.Matrix.Idx → EReal) :
    broadcastInDim S1x1x15x1024 ![2, 3] bcast_S15x1024_S1x1x15x1024_2_3
      (extractStridedSlice S15x1024 ![8177, 0] (part x g w 3 : Vec Ideal S8192x1024 .f32) slices_S8192x1024_S15x1024_8177_0) = tail x g w := by
  funext i
  pointwise []
  rfl

/-- An array of the kernel's, read after it. -/
theorem array_after (w : Fin 9) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c (V0 m c) (fun w => (dats m 0 c).arrAt w cfg0.N) w

/-- The keys by head. -/
theorem keys_after : Pipeline.afterTail₀ cfgs (dats m) 0 (V0 m) [hostOps1] c main_v6 = byHead (xs m c) (gs m c) (ws m c) 1 := by
  unfold Pipeline.afterTail₀
  simp only [hostOps1, List.flatten_cons, List.flatten_nil, List.append_nil, List.cons_append, List.nil_append]
  after_results_simp
  exact (congrArg (fun a => shapeCast S1x1x8192x8x128 a shapeCasts_S8192x1024_S1x1x8192x8x128) ((array_after m c 4).trans (final_4 m c))).trans (byHead_apply _ _ _ 1)

/-- The values by head. -/
theorem values_after : Pipeline.afterTail₀ cfgs (dats m) 0 (V0 m) [hostOps1] c main_v7 = byHead (xs m c) (gs m c) (ws m c) 2 := by
  unfold Pipeline.afterTail₀
  simp only [hostOps1, List.flatten_cons, List.flatten_nil, List.append_nil, List.cons_append, List.nil_append]
  after_results_simp
  exact (congrArg (fun a => shapeCast S1x1x8192x8x128 a shapeCasts_S8192x1024_S1x1x8192x8x128) ((array_after m c 5).trans (final_5 m c))).trans (byHead_apply _ _ _ 2)

/-- The pool inputs' last rows. -/
theorem tail_after : Pipeline.afterTail₀ cfgs (dats m) 0 (V0 m) [hostOps1] c main_v9 = tail (xs m c) (gs m c) (ws m c) := by
  unfold Pipeline.afterTail₀
  simp only [hostOps1, List.flatten_cons, List.flatten_nil, List.append_nil, List.cons_append, List.nil_append]
  after_results_simp
  refine Eq.trans ?_ (tail_apply (xs m c) (gs m c) (ws m c))
  have e : Pipeline.withArrays spec0 c (V0 m c) (fun w => (dats m 0 c).arrAt w cfg0.N) (Proc.devRef .tc main_v5_3) = part (xs m c) (gs m c) (ws m c) 3 :=
    (array_after m c 6).trans (final_6 m c)
  exact congrArg (fun a : Vec Ideal S8192x1024 .f32 => broadcastInDim S1x1x15x1024 ![2, 3] bcast_S15x1024_S1x1x15x1024_2_3
      (extractStridedSlice S15x1024 ![8177, 0] a slices_S8192x1024_S15x1024_8177_0)) e

end Cert.ProjIdeal.Val

end
-- ==== Proof.ProjRef.lean ====
/-
  The reference's results are the projection's.
-/
module

public import proofs.«01_k».proof.Proof.ProjSpec
public import proofs.«01_k».proof.Proof.Gen.ProjRefIdeal.Read

@[expose] public section

set_option maxRecDepth 16384

noncomputable section

namespace Cert.ProjRefIdeal.Val

open Cert.ProjRefIdeal Cert.ProjRefIdeal.Read Cert.Projection Idealize.ShloMosaic Idealize.ShloMosaic.TcCoe Idealize.SL.Sem Idealize.ShloMosaic.Tactic

variable (x : Prompt.Idx → EReal) (g : Gains.Idx → EReal) (w : Matrix.Idx → EReal)

/-- The normed rows. -/
theorem normed_ref (s : Fin 8192) (k : Fin 2048) : val_main_v14 (F := Ideal) x g (ix3 0 s k) = normed x g s k := by
  pointwise [val_main_v14, val_main_v13, val_main_v12, val_main_v11, val_main_v10, val_main_v9, val_main_v8, val_main_v7, val_main_v6, val_main_v5,
    val_main_v4, val_main_v3, val_main_v2, val_main_v0, val_main_cst, val_main_cst_0, val_main_cst_1]
  rfl

/-- The product. -/
theorem product_ref (s : Fin 8192) (n : Fin 4096) : val_main_v15 (F := Ideal) x g w (ix3 0 s n) = product x g w s n := by
  pointwise [val_main_v15, val_main_v1]
  exact Finset.sum_congr rfl fun k _ => congrArg (· * w (ix3 0 k n)) (normed_ref x g s k)

/-- The product, the column named otherwise. -/
theorem product_at (s : Fin 8192) {n n' : Fin 4096} (h : n.val = n'.val) : val_main_v15 (F := Ideal) x g w (ix3 0 s n) = product x g w s n' :=
  (product_ref x g w s n).trans (congrArg (product x g w s) (Fin.ext h))

/-- The keys by head. -/
theorem keys_ref : val_main_v23 (F := Ideal) x g w = byHead x g w 1 := by
  funext i
  pointwise [val_main_v23, val_main_v19, val_main_v18]
  exact product_at x g w (i 2) (by change 1024 + ((i 3).val * 128 + (i 4).val) = 1024 * 1 + (128 * (i 3).val + (i 4).val); omega)

/-- The values by head. -/
theorem values_ref : val_main_v24 (F := Ideal) x g w = byHead x g w 2 := by
  funext i
  pointwise [val_main_v24, val_main_v21, val_main_v20]
  exact product_at x g w (i 2) (by change 2048 + ((i 3).val * 128 + (i 4).val) = 1024 * 2 + (128 * (i 3).val + (i 4).val); omega)

/-- The pool inputs' last rows. -/
theorem tail_ref : val_main_v26 (F := Ideal) x g w = tail x g w := by
  funext i
  pointwise [val_main_v26, val_main_v25, val_main_v22]
  exact product_at x g w ⟨8177 + (i 2).val, by have h2 : (i 2).val < 15 := (i 2).isLt; omega⟩ rfl

/-- The queries, scaled. -/
theorem queries_ref : val_main_v30 (F := Ideal) x g w = queries x g w := by
  funext i
  pointwise [val_main_v30, val_main_v29, val_main_v28, val_main_v27, val_main_v17, val_main_v16, val_main_cst_2]
  exact congrArg (· * Ideal.ofBits FTy.f32 1035273459#32) (product_at x g w (i 0) (by change (i 1).val = 1024 * 0 + (i 1).val; omega))

/-- The keys. -/
theorem keys16_ref : val_main_v32 (F := Ideal) x g w = part x g w 1 := by
  funext i
  pointwise [val_main_v32, val_main_v31, val_main_v19, val_main_v18]
  exact product_at x g w (i 0) rfl

/-- The values. -/
theorem values16_ref : val_main_v34 (F := Ideal) x g w = part x g w 2 := by
  funext i
  pointwise [val_main_v34, val_main_v33, val_main_v21, val_main_v20]
  exact product_at x g w (i 0) rfl

end Cert.ProjRefIdeal.Val

end
-- ==== Proof.ProjClaims.lean ====
/- The claims about the prompt's projection, one theorem each. -/
module

public import proofs.«01_k».proof.Defs
public import proofs.«01_k».proof.Proof.Gen.Proj.Frame
public import proofs.«01_k».proof.Proof.Gen.ProjIdeal.Frame
public import proofs.«01_k».proof.Proof.Gen.ProjIdeal.Skeleton
public import proofs.«01_k».proof.Proof.Gen.ProjRefIdeal.Run
public import proofs.«01_k».proof.Proof.Gen.ProjRefIdeal.Read
public import proofs.«01_k».proof.Proof.ProjValue
public import proofs.«01_k».proof.Proof.ProjRef
public import Idealize.ShloMosaic.Lib.Quiescent
public import Idealize.ShloMosaic.Lib.Tactic

@[expose] public section

noncomputable section

namespace Cert.ProjClaims

open Idealize.ShloMosaic Idealize.ShloMosaic.Tactic Idealize.ShloMosaic.TcCoe Idealize.SL.Sem

/-- The idealized kernel's text at machine values: it runs to its end, leaves its arguments as they were and every counter at zero. -/
def FrameBits : Prop :=
  ∀ (m : (ℓ : Loc Cert.ProjIdeal.nD Cert.ProjIdeal.τ Cert.ProjIdeal.sig) → Buf (Elt Bits) ℓ) (g : Dev Cert.ProjIdeal.nD → PrngReg), True →
    θ_run (Cert.ProjIdeal.defs (F := Bits)) (onTc (τ := Cert.ProjIdeal.τ) (Cert.ProjIdeal.main (F := Bits))) ⟨m, fun _ => 0, g⟩ (fun r =>
      (∀ c : Dev Cert.ProjIdeal.nD,
        r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
        ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
        ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

/-- The idealized kernel's text is the kernel's, so the two statements are one. -/
theorem frameBits_eq : FrameBits = Cert.quiescent_Proj := by sl_kernel_rfl

/-- The kernel runs to its end, leaves its arguments as they were and every counter at zero. -/
theorem frame_p : Cert.quiescent_Proj :=
  frameBits_eq ▸ (fun m ρ _ => Cert.ProjFrame.frame (F := Bits) m ρ : FrameBits)

/-- So does the idealized kernel. -/
theorem frame_pi : Cert.quiescent_ProjIdeal := fun m ρ _ => Cert.ProjFrame.frame m ρ

/-- The reference runs to its end, leaves its arguments as they were and every counter at zero. -/
theorem frame_ri : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

section
open Cert.ProjIdeal Cert.ProjIdeal.Gen Cert.ProjIdeal.Val Cert.ProjFrame

/-- Every run of the idealized kernel ends with the projection's outputs in its result arrays and its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = Projection.byHead (xs m c) (gs m c) (ws m c) 1
      ∧ r.2.mem ((c.tc : Thread nD τ).loc main_v7) = Projection.byHead (xs m c) (gs m c) (ws m c) 2
      ∧ r.2.mem ((c.tc : Thread nD τ).loc main_v9) = Projection.tail (xs m c) (gs m c) (ws m c)
      ∧ r.2.mem ((c.tc : Thread nD τ).loc main_v5_0) = Projection.queries (xs m c) (gs m c) (ws m c)
      ∧ r.2.mem ((c.tc : Thread nD τ).loc main_v5_4) = Projection.part (xs m c) (gs m c) (ws m c) 1
      ∧ r.2.mem ((c.tc : Thread nD τ).loc main_v5_5) = Projection.part (xs m c) (gs m c) (ws m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1.1 c).2 main_v6 (Pipeline.mem_restRefs_of main_v6 (by decide) (by decide))).trans (keys_after m c),
       ((h.1.1 c).2 main_v7 (Pipeline.mem_restRefs_of main_v7 (by decide) (by decide))).trans (values_after m c),
       ((h.1.1 c).2 main_v9 (Pipeline.mem_restRefs_of main_v9 (by decide) (by decide))).trans (tail_after m c),
       ((h.1.1 c).1 3).trans (final_3 m c), ((h.1.1 c).1 7).trans (final_7 m c), ((h.1.1 c).1 8).trans (final_8 m c), h.2.1 c⟩)
    (θ_run_and (run m ρ) (Cert.ProjFrame.frame m ρ))

end

/-- Kernel and reference end with the same arrays over the extended reals: the normed prompt times the four blocks of the matrix. -/
theorem algebraic : Cert.algebraic_ProjIdeal_ProjRefIdeal := by
  intro m ρ m' ρ' _ hagree
  refine ⟨_, _, _, _, _, _, kernel_run m ρ, ?_⟩
  refine (θ_run Cert.ProjRefIdeal.defs _ _).mono (fun _ h c => ?_) (Cert.ProjRefIdeal.Value.run (F := Ideal) m' ρ')
  obtain ⟨a0, a1, a2⟩ := hagree c
  obtain ⟨h0, h1, h2, h3, h4, h5, h⟩ := h c
  rw [Cert.ProjRefIdeal.Read.val_main_v23_eq, a0, a1, a2] at h0
  rw [Cert.ProjRefIdeal.Read.val_main_v24_eq, a0, a1, a2] at h1
  rw [Cert.ProjRefIdeal.Read.val_main_v26_eq, a0, a1, a2] at h2
  rw [Cert.ProjRefIdeal.Read.val_main_v30_eq, a0, a1, a2] at h3
  rw [Cert.ProjRefIdeal.Read.val_main_v32_eq, a0, a1, a2] at h4
  rw [Cert.ProjRefIdeal.Read.val_main_v34_eq, a0, a1, a2] at h5
  exact ⟨h0.trans (Cert.ProjRefIdeal.Val.keys_ref _ _ _), h1.trans (Cert.ProjRefIdeal.Val.values_ref _ _ _),
    h2.trans (Cert.ProjRefIdeal.Val.tail_ref _ _ _), h3.trans (Cert.ProjRefIdeal.Val.queries_ref _ _ _),
    h4.trans (Cert.ProjRefIdeal.Val.keys16_ref _ _ _), h5.trans (Cert.ProjRefIdeal.Val.values16_ref _ _ _), h⟩

end Cert.ProjClaims

end
-- ==== Proof.MixSpec.lean ====
/-
  The output projection over the extended reals: the tokens' rows plus the two head groups' outputs times the matrix.
-/
module

public import Idealize.ShloMosaic.Lib.Pointwise

@[expose] public section

noncomputable section

namespace Cert.Mix.Spec

open Idealize.ShloMosaic

/-- The prompt's rows, -/
abbrev Prompt : Shape := ⟨3, ![1, 8192, 2048]⟩
/-- the samples' rows, -/
abbrev Samples : Shape := ⟨3, ![32, 4, 2048]⟩
/-- one group of heads' outputs, -/
abbrev Heads : Shape := ⟨2, ![8320, 1024]⟩
/-- and the matrix. -/
abbrev Matrix : Shape := ⟨3, ![1, 2048, 2048]⟩
/-- The result. -/
abbrev Rows : Shape := ⟨2, ![8320, 2048]⟩

/-- Entry `n` of token `s`: the prompt's tokens come first, the samples' after them. -/
def token (x : Prompt.Idx → EReal) (y : Samples.Idx → EReal) (s : Fin 8320) (n : Fin 2048) : EReal :=
  if h : s.val < 8192 then x (ix3 0 ⟨s.val, h⟩ n)
  else y (ix3 ⟨(s.val - 8192) / 4, by omega⟩ ⟨(s.val - 8192) % 4, by omega⟩ n)

/-- A row of the matrix's half `j`. -/
def half (j : Fin 2) (k : Fin 1024) : Fin 2048 := ⟨1024 * j.val + k.val, by omega⟩

/-- Entry `n` of token `s`'s result. -/
def entry (x : Prompt.Idx → EReal) (y : Samples.Idx → EReal) (a p : Heads.Idx → EReal) (w : Matrix.Idx → EReal) (s : Fin 8320) (n : Fin 2048) : EReal :=
  token x y s n + ∑ k : Fin 1024, a (ix2 s k) * w (ix3 0 (half 0 k) n) + ∑ k : Fin 1024, p (ix2 s k) * w (ix3 0 (half 1 k) n)

/-- The result. -/
def mixed (x : Prompt.Idx → EReal) (y : Samples.Idx → EReal) (a p : Heads.Idx → EReal) (w : Matrix.Idx → EReal) : Rows.Idx → EReal :=
  fun i => entry x y a p w (i 0) (i 1)

/-- A sum over the matrix's rows is the sum over its first half and the sum over its second. -/
theorem sum_halves (f : Fin 2048 → EReal) : ∑ k : Fin 2048, f k = ∑ k : Fin 1024, f (half 0 k) + ∑ k : Fin 1024, f (half 1 k) := by
  refine (Fin.sum_univ_add (a := 1024) (b := 1024) f).trans (congrArg₂ (· + ·) ?_ ?_)
  · exact Finset.sum_congr rfl fun k _ => congrArg f (Fin.ext (by change k.val = 1024 * 0 + k.val; omega))
  · exact Finset.sum_congr rfl fun k _ => congrArg f (Fin.ext (by change 1024 + k.val = 1024 * 1 + k.val; omega))

end Cert.Mix.Spec

end
-- ==== Proof.MixValue.lean ====
/-
  The output projection's array after the run.
-/
module

public import proofs.«01_k».proof.Proof.MixSpec
public import proofs.«01_k».proof.Proof.Gen.MixIdeal.Value
public import Idealize.ShloMosaic.Lib.Pipeline.ValueKit

@[expose] public section

set_option maxRecDepth 16384

noncomputable section

namespace Cert.MixIdeal.Val

open Cert.MixIdeal Cert.MixIdeal.Gen Cert.Mix.Spec Idealize.ShloMosaic Idealize.ShloMosaic.TcCoe Idealize.SL.Sem Idealize.ShloMosaic.Tactic

/-! ## The host lines before the kernel -/

/-- The tokens' rows: the prompt's and then the samples'. -/
theorem token_apply (x : Vec Ideal S1x8192x2048 .f32) (y : Vec Ideal S32x4x2048 .f32) (s : Fin 8320) (n : Fin 2048) :
    concatenate S8320x2048 0 [⟨S8192x2048, shapeCast S8192x2048 x shapeCasts_S1x8192x2048_S8192x2048⟩, ⟨S128x2048, shapeCast S128x2048 y shapeCasts_S32x4x2048_S128x2048⟩]
      concatenates_S8192x2048_S128x2048_S8320x2048_d0 (ix2 s n) = token x y s n := by
  pointwise []
  rfl

/-- The matrix without its first axis. -/
theorem matrix_apply (w : Vec Ideal S1x2048x2048 .f32) (k n : Fin 2048) :
    truncf (F := Ideal) .bf16 (shapeCast S2048x2048 w shapeCasts_S1x2048x2048_S2048x2048) bitsLt_bf16_f32 (ix2 k n) = w (ix3 0 k n) := by pointwise []

variable (m : (ℓ : Loc nD τ sig) → Buf (Elt Ideal) ℓ)

/-- The rows the kernel is launched with, -/
theorem v2_eq (c : Dev nD) : V m c main_v2 = concatenate S8320x2048 0 [⟨S8192x2048, shapeCast S8192x2048 (m ((c : Thread nD τ).loc main_arg0)) shapeCasts_S1x8192x2048_S8192x2048⟩,
      ⟨S128x2048, shapeCast S128x2048 (m ((c : Thread nD τ).loc main_arg1)) shapeCasts_S32x4x2048_S128x2048⟩] concatenates_S8192x2048_S128x2048_S8320x2048_d0 := by
  unfold V hostOps0
  simp only [List.flatten_cons, List.flatten_nil, List.append_nil, List.cons_append, List.nil_append]
  after_results_simp <;> rfl

/-- and its matrix. -/
theorem v4_eq (c : Dev nD) : V m c main_v4 = truncf (F := Ideal) .bf16 (shapeCast S2048x2048 (m ((c : Thread nD τ).loc main_arg4)) shapeCasts_S1x2048x2048_S2048x2048) bitsLt_bf16_f32 := by
  unfold V hostOps0
  simp only [List.flatten_cons, List.flatten_nil, List.append_nil, List.cons_append, List.nil_append]
  after_results_simp <;> rfl

variable (c : Dev nD)

/-- The prompt, -/
abbrev xs : Prompt.Idx → EReal := m ((c : Thread nD τ).loc main_arg0)
/-- the samples, -/
abbrev ys : Samples.Idx → EReal := m ((c : Thread nD τ).loc main_arg1)
/-- the two groups of heads -/
abbrev qs : Heads.Idx → EReal := m ((c : Thread nD τ).loc main_arg2)
/-- (the second) -/
abbrev ps : Heads.Idx → EReal := m ((c : Thread nD τ).loc main_arg3)
/-- and the matrix, as launched. -/
abbrev ws : Mix.Spec.Matrix.Idx → EReal := m ((c : Thread nD τ).loc main_arg4)

/-! ## The windows' blocks -/

/-- The block indices. -/
theorem indices : ∀ t : Fin grid0.N, win0_0.index t = ![t.val, 0] ∧ win0_1.index t = ![t.val, 0] ∧ win0_2.index t = ![t.val, 0]
    ∧ win0_3.index t = ![0, 0] ∧ win0_4.index t = ![1, 0] ∧ win0_5.index t = ![t.val, 0] := by decide +kernel

/-- A point's rows. -/
theorem rows_block (t : Fin cfg0.N) (r : Fin 640) (n : Fin 2048) (s : Fin 8320) (hs : s.val = 640 * t.val + r.val) :
    (iblk m c 0 t : Vec Ideal S640x2048 .f32) (ix2 r n) = token (xs m c) (ys m c) s n := by
  have e : win0_0.index t 0 = t.val ∧ win0_0.index t 1 = 0 := by rw [(indices t).1]; exact ⟨rfl, rfl⟩
  refine Eq.trans (congrArg (V m c main_v2) (show ((cfg0.win 0).blk t).view.emb (ix2 r n) = ix2 s n from funext fun a => Fin.ext ?_)) ((congrFun (v2_eq m c) _).trans (token_apply _ _ s n))
  match a with
  | 0 => show win0_0.index t 0 * 640 + 1 * r.val = s.val; rw [e.1]; omega
  | 1 => show win0_0.index t 1 * 2048 + 1 * n.val = n.val; rw [e.2]; omega

/-- A point's heads of the first group, -/
theorem first_block (t : Fin cfg0.N) (r : Fin 640) (k : Fin 1024) (s : Fin 8320) (hs : s.val = 640 * t.val + r.val) :
    (iblk m c 1 t : Vec Ideal S640x1024 .bf16) (ix2 r k) = qs m c (ix2 s k) := by
  have e : win0_1.index t 0 = t.val ∧ win0_1.index t 1 = 0 := by rw [(indices t).2.1]; exact ⟨rfl, rfl⟩
  refine Eq.trans (congrArg (V m c main_arg2) (show ((cfg0.win 1).blk t).view.emb (ix2 r k) = ix2 s k from funext fun a => Fin.ext ?_)) (congrFun (V_main_arg2 m c) _)
  match a with
  | 0 => show win0_1.index t 0 * 640 + 1 * r.val = s.val; rw [e.1]; omega
  | 1 => show win0_1.index t 1 * 1024 + 1 * k.val = k.val; rw [e.2]; omega

/-- and of the second. -/
theorem second_block (t : Fin cfg0.N) (r : Fin 640) (k : Fin 1024) (s : Fin 8320) (hs : s.val = 640 * t.val + r.val) :
    (iblk m c 2 t : Vec Ideal S640x1024 .bf16) (ix2 r k) = ps m c (ix2 s k) := by
  have e : win0_2.index t 0 = t.val ∧ win0_2.index t 1 = 0 := by rw [(indices t).2.2.1]; exact ⟨rfl, rfl⟩
  refine Eq.trans (congrArg (V m c main_arg3) (show ((cfg0.win 2).blk t).view.emb (ix2 r k) = ix2 s k from funext fun a => Fin.ext ?_)) (congrFun (V_main_arg3 m c) _)
  match a with
  | 0 => show win0_2.index t 0 * 640 + 1 * r.val = s.val; rw [e.1]; omega
  | 1 => show win0_2.index t 1 * 1024 + 1 * k.val = k.val; rw [e.2]; omega

/-- The matrix's upper half -/
theorem upper_block (t : Fin cfg0.N) (k : Fin 1024) (n : Fin 2048) :
    (iblk m c 3 t : Vec Ideal S1024x2048 .bf16) (ix2 k n) = ws m c (ix3 0 (half 0 k) n) := by
  have e : win0_3.index t 0 = 0 ∧ win0_3.index t 1 = 0 := by rw [(indices t).2.2.2.1]; exact ⟨rfl, rfl⟩
  refine Eq.trans (congrArg (V m c main_v4) (show ((cfg0.win 3).blk t).view.emb (ix2 k n) = ix2 (half 0 k) n from funext fun a => Fin.ext ?_)) ((congrFun (v4_eq m c) _).trans (matrix_apply _ _ n))
  match a with
  | 0 => show win0_3.index t 0 * 1024 + 1 * k.val = 1024 * 0 + k.val; rw [e.1]; omega
  | 1 => show win0_3.index t 1 * 2048 + 1 * n.val = n.val; rw [e.2]; omega

/-- and its lower. -/
theorem lower_block (t : Fin cfg0.N) (k : Fin 1024) (n : Fin 2048) :
    (iblk m c 4 t : Vec Ideal S1024x2048 .bf16) (ix2 k n) = ws m c (ix3 0 (half 1 k) n) := by
  have e : win0_4.index t 0 = 1 ∧ win0_4.index t 1 = 0 := by rw [(indices t).2.2.2.2.1]; exact ⟨rfl, rfl⟩
  refine Eq.trans (congrArg (V m c main_v4) (show ((cfg0.win 4).blk t).view.emb (ix2 k n) = ix2 (half 1 k) n from funext fun a => Fin.ext ?_)) ((congrFun (v4_eq m c) _).trans (matrix_apply _ _ n))
  match a with
  | 0 => show win0_4.index t 0 * 1024 + 1 * k.val = 1024 * 1 + k.val; rw [e.1]; omega
  | 1 => show win0_4.index t 1 * 2048 + 1 * n.val = n.val; rw [e.2]; omega

/-! ## The body's value and the array -/

/-- The body's sum of two products. -/
theorem pay1_apply (x : Vec Ideal S640x2048 .f32) (a : Vec Ideal S640x1024 .bf16) (u : Vec Ideal S1024x2048 .bf16) (p : Vec Ideal S640x1024 .bf16) (v : Vec Ideal S1024x2048 .bf16)
    (r : Fin 640) (n : Fin 2048) : k0_pay1 x a u p v (ix2 r n)
      = (x (ix2 r n) : EReal) + ∑ k : Fin 1024, (a (ix2 r k) : EReal) * u (ix2 k n) + ∑ k : Fin 1024, (p (ix2 r k) : EReal) * v (ix2 k n) := by
  pointwise [k0_pay1]

/-- A point's block of the result. -/
theorem entry_block (t : Fin cfg0.N) (r : Fin 640) (n : Fin 2048) (s : Fin 8320) (hs : s.val = 640 * t.val + r.val) :
    k0_pay1 (iblk m c 0 t : Vec Ideal S640x2048 .f32) (iblk m c 1 t : Vec Ideal S640x1024 .bf16) (iblk m c 3 t : Vec Ideal S1024x2048 .bf16)
      (iblk m c 2 t : Vec Ideal S640x1024 .bf16) (iblk m c 4 t : Vec Ideal S1024x2048 .bf16) (ix2 r n)
      = entry (xs m c) (ys m c) (qs m c) (ps m c) (ws m c) s n := by
  rw [pay1_apply, rows_block m c t r n s hs]
  simp only [fun k => first_block m c t r k s hs, fun k => second_block m c t r k s hs, upper_block, lower_block]
  rfl

/-- The same, read where the block lies in the array. -/
theorem entry_emb (t : Fin cfg0.N) (y : S640x2048.Idx) (i : S8320x2048.Idx) (h0 : (i 0).val = 640 * t.val + (y 0).val) (h1 : (i 1).val = (y 1).val) :
    k0_pay1 (iblk m c 0 t : Vec Ideal S640x2048 .f32) (iblk m c 1 t : Vec Ideal S640x1024 .bf16) (iblk m c 3 t : Vec Ideal S1024x2048 .bf16)
      (iblk m c 2 t : Vec Ideal S640x1024 .bf16) (iblk m c 4 t : Vec Ideal S1024x2048 .bf16) y
      = mixed (xs m c) (ys m c) (qs m c) (ps m c) (ws m c) i := by
  obtain ⟨r, n, rfl⟩ : ∃ (r : Fin 640) (n : Fin 2048), y = ix2 r n := ⟨y 0, y 1, by funext b; match b with | 0 => rfl | 1 => rfl⟩
  exact (entry_block m c t r n (i 0) h0).trans (congrArg (entry (xs m c) (ys m c) (qs m c) (ps m c) (ws m c) (i 0)) (Fin.ext h1.symm))

/-- The body leaves the sum in its whole block. -/
theorem out_eq (x : Vec Ideal S640x2048 .f32) (a p : Vec Ideal S640x1024 .bf16) (u v : Vec Ideal S1024x2048 .bf16) :
    out0_5 x a p u v = k0_pay1 x a u p v := by
  unfold out0_5
  simp (disch := decide) only [View.canon_cons_unit_lit, View.ld_unit_lit]

/-- The result's array. -/
theorem final_5 : (dats m 0 c).arrAt 5 cfg0.N = mixed (xs m c) (ys m c) (qs m c) (ps m c) (ws m c) := by
  refine (dats m 0 c).arrAt_eq_of_covers 5 _ (by decide +kernel) fun t hf y => ?_
  have e : win0_5.index t 0 = t.val ∧ win0_5.index t 1 = 0 := by rw [(indices t).2.2.2.2.2]; exact ⟨rfl, rfl⟩
  blk_simp
  rw [after0_5]
  exact (congrFun (out_eq _ _ _ _ _) y).trans (entry_emb m c t y ((win0_5.blk t).view.emb y) (by show win0_5.index t 0 * 640 + 1 * (y 0).val = _; rw [e.1]; omega)
    (by show win0_5.index t 1 * 2048 + 1 * (y 1).val = _; rw [e.2]; omega))

end Cert.MixIdeal.Val

end
-- ==== Proof.MixRef.lean ====
/-
  The reference's result is the output projection's.
-/
module

public import proofs.«01_k».proof.Proof.MixSpec
public import proofs.«01_k».proof.Proof.Gen.MixRefIdeal.Read

@[expose] public section

set_option maxRecDepth 16384

noncomputable section

namespace Cert.MixRefIdeal.Val

open Cert.MixRefIdeal Cert.MixRefIdeal.Read Cert.Mix.Spec Idealize.ShloMosaic Idealize.ShloMosaic.TcCoe Idealize.SL.Sem Idealize.ShloMosaic.Tactic

variable (x : Prompt.Idx → EReal) (y : Samples.Idx → EReal) (a p : Heads.Idx → EReal) (w : Mix.Spec.Matrix.Idx → EReal)

/-- The tokens' rows. -/
theorem token_ref (s : Fin 8320) (n : Fin 2048) : val_main_v2 (F := Ideal) x y (ix2 s n) = token x y s n := by
  pointwise [val_main_v2, val_main_v1, val_main_v0]
  rfl

/-- The heads side by side: the first half is one group's, -/
theorem first_ref (s : Fin 8320) (k : Fin 1024) : val_main_v5 (F := Ideal) a p (ix2 s (half 0 k)) = a (ix2 s k) := by
  pointwise [val_main_v5, val_main_v4, val_main_v3]
  have h : (half 0 k).val = k.val := by change 1024 * 0 + k.val = k.val; omega
  rw [dif_pos (by omega)]
  exact congrArg (fun q => a (ix2 s q)) (Fin.ext h)

/-- and the second the other's. -/
theorem second_ref (s : Fin 8320) (k : Fin 1024) : val_main_v5 (F := Ideal) a p (ix2 s (half 1 k)) = p (ix2 s k) := by
  pointwise [val_main_v5, val_main_v4, val_main_v3]
  have h : (half 1 k).val = 1024 + k.val := by change 1024 * 1 + k.val = _; omega
  rw [dif_neg (by omega)]
  exact congrArg (fun q => p (ix2 s q)) (Fin.ext (by change (half 1 k).val - 1024 = k.val; omega))

/-- The matrix. -/
theorem matrix_ref (k n : Fin 2048) : val_main_v6 (F := Ideal) w (ix2 k n) = w (ix3 0 k n) := by
  pointwise [val_main_v6]

/-- The product, half by half. -/
theorem product_ref (s : Fin 8320) (n : Fin 2048) : val_main_v7 (F := Ideal) a p w (ix2 s n)
    = ∑ k : Fin 1024, a (ix2 s k) * w (ix3 0 (half 0 k) n) + ∑ k : Fin 1024, p (ix2 s k) * w (ix3 0 (half 1 k) n) := by
  have e : val_main_v7 (F := Ideal) a p w (ix2 s n) = ∑ k : Fin 2048, (val_main_v5 (F := Ideal) a p (ix2 s k) : EReal) * val_main_v6 (F := Ideal) w (ix2 k n) := by
    pointwise [val_main_v7]
  rw [e, sum_halves]
  simp only [first_ref, second_ref, matrix_ref]

/-- The result. -/
theorem mixed_ref : val_main_v8 (F := Ideal) x y a p w = mixed x y a p w := by
  funext i
  obtain ⟨s, n, rfl⟩ : ∃ (s : Fin 8320) (n : Fin 2048), i = ix2 s n := ⟨i 0, i 1, by funext b; match b with | 0 => rfl | 1 => rfl⟩
  rw [val_main_v8_apply]
  refine (congrArg₂ (fun u v : EReal => u + v) (token_ref x y s n) (product_ref a p w s n)).trans ?_
  exact (add_assoc _ _ _).symm

end Cert.MixRefIdeal.Val

end
-- ==== Proof.MixClaims.lean ====
/- The claims about the output projection, one theorem each. -/
module

public import proofs.«01_k».proof.Defs
public import proofs.«01_k».proof.Proof.Gen.Mix.Frame
public import proofs.«01_k».proof.Proof.Gen.MixIdeal.Frame
public import proofs.«01_k».proof.Proof.Gen.MixIdeal.Skeleton
public import proofs.«01_k».proof.Proof.Gen.MixIdeal.Value
public import proofs.«01_k».proof.Proof.Gen.MixRefIdeal.Run
public import proofs.«01_k».proof.Proof.Gen.MixRefIdeal.Read
public import proofs.«01_k».proof.Proof.MixValue
public import proofs.«01_k».proof.Proof.MixRef
public import Idealize.ShloMosaic.Lib.Quiescent
public import Idealize.ShloMosaic.Lib.Tactic

@[expose] public section

noncomputable section

namespace Cert.MixClaims

open Idealize.ShloMosaic Idealize.ShloMosaic.Tactic Idealize.ShloMosaic.TcCoe Idealize.SL.Sem

/-- The kernel runs to its end, leaves its arguments as they were and every counter at zero. -/
theorem frame_p : Cert.quiescent_Mix := fun m ρ _ => Cert.Mix.Gen.frame m ρ

/-- So does the idealized kernel. -/
theorem frame_pi : Cert.quiescent_MixIdeal := fun m ρ _ => Cert.MixIdeal.Gen.frame m ρ

/-- The reference runs to its end, leaves its arguments as they were and every counter at zero. -/
theorem frame_ri : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- Kernel and reference end with the same array over the extended reals: the tokens' rows plus the heads' outputs times the matrix,
the kernel's two products of half the matrix's rows against the reference's one of all of them. -/
theorem algebraic : Cert.algebraic_MixIdeal_MixRefIdeal := by
  intro m ρ m' ρ' _ hagree
  refine ⟨_, (θ_run Cert.MixIdeal.defs _ _).mono (fun _ h c => ⟨(h c).1.trans (Cert.MixIdeal.Val.final_5 m c), (h c).2⟩) (Cert.MixIdeal.Value.run_blocks (F := Ideal) m ρ), ?_⟩
  refine (θ_run Cert.MixRefIdeal.defs _ _).mono (fun _ h c => ?_) (Cert.MixRefIdeal.Value.run (F := Ideal) m' ρ')
  obtain ⟨a0, a1, a2, a3, a4⟩ := hagree c
  obtain ⟨h0, h⟩ := h c
  rw [Cert.MixRefIdeal.Read.val_main_v8_eq, a0, a1, a2, a3, a4] at h0
  exact ⟨h0.trans (Cert.MixRefIdeal.Val.mixed_ref _ _ _ _ _), h⟩

end Cert.MixClaims

end
-- ==== Proof.ExpertsBody.lean ====
/-
  The routed experts' body, run once for all values: it reads the visit's words from the tables, copies the expert's weights to its
  scratches when the expert is a new one, and stores the visit's rows when there are any.
-/
module

public import proofs.«01_k».proof.Proof.Gen.ExpertsIdeal.Launch
public import proofs.«01_k».proof.Proof.Gen.ExpertsIdeal.Skeleton
public import proofs.«01_k».proof.Proof.ProjBody
public import Idealize.ShloMosaic.Lib.LaneScatter.Tiles
public import Idealize.ShloMosaic.Lib.Tactic
public import Idealize.ShloMosaic.Lib.WholeRead
public import Idealize.ShloMosaic.Lib.VecWindow
public import Idealize.ShloMosaic.Lib.Pipeline.Frame
public import Idealize.ShloMosaic.Lib.Pipeline.ValueKit

@[expose] public section

set_option maxRecDepth 16384
set_option maxHeartbeats 600000

noncomputable section

namespace Cert.ExpertsBody

open Cert.ExpertsIdeal Cert.ExpertsIdeal.Gen
open Cert.ProjBody (read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The three scratches the weights are copied to. -/
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The tables of the visits' experts, first rows and last rows. -/
abbrev tb1 : Memref sig .tc .smem S323 .i32 := Memref.whole main_arg1
abbrev tb2 : Memref sig .tc .smem S323 .i32 := Memref.whole main_arg2
abbrev tb3 : Memref sig .tc .smem S323 .i32 := Memref.whole main_arg3

/-- Whether the point's expert is not the one before it. -/
def renew (i : grid0.Coords) (e e' : BitVec 32) : BitVec 1 :=
  Scalar.cmpi .ne (Scalar.extui (Scalar.ori (Scalar.cmpi .eq (BitVec.ofNat 32 (i 0).val) 0#32) (Scalar.cmpi .ne e e')) : BitVec 32) 0#32

/-- The word of a table at offset `o`. -/
def word (o : Fin 1 → ℕ) (ho : ∀ a, o a + S1.size a ≤ S323.size a) (f : S323.Idx → BitVec 32) : BitVec 32 :=
  f ((Rect.unit (s := S323) o S1.size ho).emb (Shape.Idx.first (numel1_S1.symm ▸ Nat.one_pos)))

/-- What the body leaves in the output's buffer. -/
def outAt (l h : BitVec 32) (x : Vec F S256x2048 .f32) (g u : Vec F S2048x512 .bf16) (d : Vec F S512x2048 .bf16) (y : Vec F S256x2048 .f32) :
    Vec F S256x2048 .f32 :=
  if k0_cond2 l h = 1#1 then
    (if k0_cond4 l = 1#1 then k0_pay5 l x g u d (if k0_cond3 l = 1#1 then k0_pay4 x g u d else y)
      else if k0_cond3 l = 1#1 then k0_pay4 x g u d else y)
  else y

theorem kernelRun (c : Dev nD) (i : grid0.Coords) (q : PosShare TreeShare)
    (arg5 : Memref sig .tc .vmem S256x2048 .f32) (harg5 : arg5.IsWhole) (arg6 : Memref sig .tc .vmem S1x2048x512 .f32) (harg6 : arg6.IsWhole)
    (arg7 : Memref sig .tc .vmem S1x2048x512 .f32) (harg7 : arg7.IsWhole) (arg8 : Memref sig .tc .vmem S1x512x2048 .f32) (harg8 : arg8.IsWhole)
    (arg9 : Memref sig .tc .vmem S256x2048 .f32) (harg9 : arg9.IsWhole)
    (te tl th : Vec F S323 .i32)
    (x y : Vec F S256x2048 .f32) (wg wu : Vec F S1x2048x512 .f32) (wd : Vec F S1x512x2048 .f32)
    (g u g' u' : Vec F S2048x512 .bf16) (d d' : Vec F S512x2048 .bf16)
    (hg : g' = if renew i (word _ (k0_off1_inb i) te) (word _ (k0_off2_inb i) te) = 1#1 then k0_pay1 wg else g)
    (hu : u' = if renew i (word _ (k0_off1_inb i) te) (word _ (k0_off2_inb i) te) = 1#1 then k0_pay2 wu else u)
    (hd : d' = if renew i (word _ (k0_off1_inb i) te) (word _ (k0_off2_inb i) te) = 1#1 then k0_pay3 wd else d) (K : PUnit → sProp 𝕄) :
    iprop(owns (c : Thread nD τ) (tb1) q te
        ∗ owns (c : Thread nD τ) (tb2) q tl
        ∗ owns (c : Thread nD τ) (tb3) q th
        ∗ owns (c : Thread nD τ) arg5 fullShare x ∗ owns (c : Thread nD τ) arg6 fullShare wg ∗ owns (c : Thread nD τ) arg7 fullShare wu
        ∗ owns (c : Thread nD τ) arg8 fullShare wd ∗ owns (c : Thread nD τ) arg9 fullShare y
        ∗ owns (c : Thread nD τ) scG fullShare g ∗ owns (c : Thread nD τ) scU fullShare u ∗ owns (c : Thread nD τ) scD fullShare d
        ∗ (iprop(owns (c : Thread nD τ) (tb1) q te
            ∗ owns (c : Thread nD τ) (tb2) q tl
            ∗ owns (c : Thread nD τ) (tb3) q th
            ∗ owns (c : Thread nD τ) arg5 fullShare x ∗ owns (c : Thread nD τ) arg6 fullShare wg ∗ owns (c : Thread nD τ) arg7 fullShare wu
            ∗ owns (c : Thread nD τ) arg8 fullShare wd
            ∗ owns (c : Thread nD τ) arg9 fullShare (outAt (word _ (k0_off1_inb i) tl) (word _ (k0_off1_inb i) th) x g' u' d' y)
            ∗ owns (c : Thread nD τ) scG fullShare g' ∗ owns (c : Thread nD τ) scU fullShare u' ∗ owns (c : Thread nD τ) scD fullShare d') -∗ K ⟨⟩))
      ⊢ wp frame (wpE (defs₀ (F := F)) Variants.none c none) Set.univ
          (cc0_moe_experts i (Memref.whole main_arg0) (Memref.isWhole_whole _) (Memref.whole main_arg1) (Memref.isWhole_whole _)
            (Memref.whole main_arg2) (Memref.isWhole_whole _) (Memref.whole main_arg3) (Memref.isWhole_whole _) arg5 harg5 arg6 harg6 arg7 harg7 arg8 harg8
            arg9 harg9 scG (Memref.isWhole_whole _) scU (Memref.isWhole_whole _) scD (Memref.isWhole_whole _)) K := by
  subst hg hu hd
  simp only [cc0_moe_experts_eq_skeleton]; unfold cc0_moe_experts_skel
  unfold owns
  iintro ⟨⟨%f1, %hf1, HE⟩, ⟨%f2, %hf2, HL⟩, ⟨%f3, %hf3, HH⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := (Memref.isWhole_whole main_arg1).eq_unread hf1
  obtain rfl := (Memref.isWhole_whole main_arg2).eq_unread hf2
  obtain rfl := (Memref.isWhole_whole main_arg3).eq_unread hf3
  obtain rfl := harg5.eq_unread hf5; obtain rfl := harg6.eq_unread hf6; obtain rfl := harg7.eq_unread hf7; obtain rfl := harg8.eq_unread hf8
  obtain rfl := harg9.eq_unread hf9
  obtain rfl := (Memref.isWhole_whole cc0_scratch0).eq_unread hf10
  obtain rfl := (Memref.isWhole_whole cc0_scratch1).eq_unread hf11
  obtain rfl := (Memref.isWhole_whole cc0_scratch2).eq_unread hf12
  sl_exec
  have wl : kernelRun.sl.r c i tl = word _ (k0_off1_inb i) tl := congrFun hf2 _
  have wh : kernelRun.sl.r_1 c i th = word _ (k0_off1_inb i) th := congrFun hf3 _
  have wr : kernelRun.sl.v14 c i te = renew i (word _ (k0_off1_inb i) te) (word _ (k0_off2_inb i) te) := by
    have a : ∀ z, View.read (Elt F) tb1.view ((Memref.isWhole_whole main_arg1).unread te) z = te z := congrFun hf1
    exact congr (congrArg (renew i) (a _)) (a _)
  have r5 := (View.readAt_full arg5.view (harg5.unread x) inb_S256x2048_S256x2048_0_0).trans hf5
  have r6 := (View.readAt_full arg6.view (harg6.unread wg) inb_S1x2048x512_S1x2048x512_0_0_0).trans hf6
  have r7 := (View.readAt_full arg7.view (harg7.unread wu) inb_S1x2048x512_S1x2048x512_0_0_0).trans hf7
  have r8 := (View.readAt_full arg8.view (harg8.unread wd) inb_S1x512x2048_S1x512x2048_0_0_0).trans hf8
  have s1 : ∀ f, f = (if hc : renew i (word _ (k0_off1_inb i) te) (word _ (k0_off2_inb i) te) = 1#1 then scG.view.writes (Elt F) ((Memref.isWhole_whole cc0_scratch0).unread g)
        [⟨Rect.unit ![0, 0] S2048x512.size inb_S2048x512_S2048x512_0_0, k0_pay1 wg⟩] else (Memref.isWhole_whole cc0_scratch0).unread g) →
      View.read (Elt F) scG.view f = if renew i (word _ (k0_off1_inb i) te) (word _ (k0_off2_inb i) te) = 1#1 then k0_pay1 wg else g := by
    rintro f rfl
    split
    · exact read_store _ _ (fun a => by fin_cases a <;> rfl) _ _ _ rfl
    · exact hf10
  have v1 : kernelRun.sl.v20 c i arg6 harg6 te wg g = if renew i (word _ (k0_off1_inb i) te) (word _ (k0_off2_inb i) te) = 1#1 then k0_pay1 wg else g := by
    unfold kernelRun.sl.v20
    rw [wr, r6]
    exact (View.readAt_full scG.view _ inb_S2048x512_S2048x512_0_0).trans (s1 _ rfl)
  have s2 : ∀ f, f = (if hc : renew i (word _ (k0_off1_inb i) te) (word _ (k0_off2_inb i) te) = 1#1 then scU.view.writes (Elt F) ((Memref.isWhole_whole cc0_scratch1).unread u)
        [⟨Rect.unit ![0, 0] S2048x512.size inb_S2048x512_S2048x512_0_0, k0_pay2 wu⟩] else (Memref.isWhole_whole cc0_scratch1).unread u) →
      View.read (Elt F) scU.view f = if renew i (word _ (k0_off1_inb i) te) (word _ (k0_off2_inb i) te) = 1#1 then k0_pay2 wu else u := by
    rintro f rfl
    split
    · exact read_store _ _ (fun a => by fin_cases a <;> rfl) _ _ _ rfl
    · exact hf11
  have v2 : kernelRun.sl.v21 c i arg7 harg7 te wu u = if renew i (word _ (k0_off1_inb i) te) (word _ (k0_off2_inb i) te) = 1#1 then k0_pay2 wu else u := by
    unfold kernelRun.sl.v21
    rw [wr, r7]
    exact (View.readAt_full scU.view _ inb_S2048x512_S2048x512_0_0).trans (s2 _ rfl)
  have s3 : ∀ f, f = (if hc : renew i (word _ (k0_off1_inb i) te) (word _ (k0_off2_inb i) te) = 1#1 then scD.view.writes (Elt F) ((Memref.isWhole_whole cc0_scratch2).unread d)
        [⟨Rect.unit ![0, 0] S512x2048.size inb_S512x2048_S512x2048_0_0, k0_pay3 wd⟩] else (Memref.isWhole_whole cc0_scratch2).unread d) →
      View.read (Elt F) scD.view f = if renew i (word _ (k0_off1_inb i) te) (word _ (k0_off2_inb i) te) = 1#1 then k0_pay3 wd else d := by
    rintro f rfl
    split
    · exact read_store _ _ (fun a => by fin_cases a <;> rfl) _ _ _ rfl
    · exact hf12
  have v3 : kernelRun.sl.v28 c i arg8 harg8 te wd d = if renew i (word _ (k0_off1_inb i) te) (word _ (k0_off2_inb i) te) = 1#1 then k0_pay3 wd else d := by
    unfold kernelRun.sl.v28
    rw [wr, r8]
    exact (View.readAt_full scD.view _ inb_S512x2048_S512x2048_0_0).trans (s3 _ rfl)
  have v4 : kernelRun.sl.v39 c i arg5 harg5 arg6 harg6 arg7 harg7 arg8 harg8 arg9 harg9 te tl x y wg wu wd g u d
      = if k0_cond3 (word _ (k0_off1_inb i) tl) = 1#1 then k0_pay4 x (kernelRun.sl.v20 c i arg6 harg6 te wg g) (kernelRun.sl.v21 c i arg7 harg7 te wu u)
          (kernelRun.sl.v28 c i arg8 harg8 te wd d) else y := by
    unfold kernelRun.sl.v39
    rw [wl, r5]
    refine (View.readAt_full arg9.view _ inb_S256x2048_S256x2048_0_0).trans ?_
    split
    · exact read_store _ _ (fun a => by fin_cases a <;> rfl) _ _ _ rfl
    · exact hf9
  sl_step
  iapply Hk
  isplitl [HE]
  · iexists _; isplitr; swap
    · iexact HE
    ipureintro; exact hf1
  isplitl [HL]
  · iexists _; isplitr; swap
    · iexact HL
    ipureintro; exact hf2
  isplitl [HH]
  · iexists _; isplitr; swap
    · iexact HH
    ipureintro; exact hf3
  isplitl [H5]
  · iexists _; isplitr; swap
    · iexact H5
    ipureintro; exact hf5
  isplitl [H6]
  · iexists _; isplitr; swap
    · iexact H6
    ipureintro; exact hf6
  isplitl [H7]
  · iexists _; isplitr; swap
    · iexact H7
    ipureintro; exact hf7
  isplitl [H8]
  · iexists _; isplitr; swap
    · iexact H8
    ipureintro; exact hf8
  isplitl [H9]
  · iexists _; isplitr; swap
    · iexact H9
    ipureintro
    rw [wl, wh, r5, v4, v1, v2, v3]
    unfold outAt
    split
    · split
      · exact read_store _ _ (fun a => by fin_cases a <;> rfl) _ _ _ rfl
      · split
        · exact read_store _ _ (fun a => by fin_cases a <;> rfl) _ _ _ rfl
        · exact hf9
    · exact hf9
  isplitl [H10]
  · iexists _; isplitr; swap
    · iexact H10
    ipureintro; rw [wr, r6]; exact s1 _ rfl
  isplitl [H11]
  · iexists _; isplitr; swap
    · iexact H11
    ipureintro; rw [wr, r7]; exact s2 _ rfl
  iexists _; isplitr; swap
  · iexact H12
  ipureintro; rw [wr, r8]; exact s3 _ rfl

end Cert.ExpertsBody

end
-- ==== Proof.ExpertsPlan.lean ====
/- What the precondition `plan` says of the four tables of visits, in plain words: the visits go over all the rows in order,
   each over some rows of one tile for one expert, and stay where they are after the last. -/
module

public import proofs.«01_k».proof.Pre_plan
public import Idealize.ShloMosaic.PureOps.Ideal
public import Idealize.ShloMosaic.Lib.ValueIdx
public import Idealize.ShloMosaic.Lib.ReduceAll
public import Idealize.ShloMosaic.Lib.Affine
public import Idealize.ShloMosaic.Lib.Pipeline.ValueKit

@[expose] public section

noncomputable section

namespace Cert.Pre_plan.Val

open Cert.Pre_plan Idealize.ShloMosaic

/-- The shapes the precondition's operations take fit. -/
instance facts : Cert.Pre_plan.Facts where
  bcast_S_S323 := by decide
  slices_S323_S322_1 := by decide
  slices_S323_S322_0 := by decide
  bcast_S_S322 := by decide
  reducesTo_S323_S_d0 := by decide
  h_S_ := by decide
  reducesTo_S322_S_d0 := by decide

/-- A table of visits, as natural numbers: for each visit the tile it is on, its expert, and its first row in the tile and the row it
    ends before. The first visit begins at the first row of the first tile; a visit that goes over rows begins where the one before it
    ended, or else there are none left to go over and the tile is the same; the last row of the last tile is reached. -/
structure Visits (t e l h : ℕ → ℕ) : Prop where
  tile : ∀ v < 323, t v < 260
  expert : ∀ v < 323, e v < 64
  span : ∀ v < 323, l v ≤ h v ∧ h v ≤ 256
  first : t 0 = 0 ∧ l 0 = 0 ∧ 0 < h 0
  last : l 322 < h 322 → 256 * t 322 + h 322 = 66560
  next : ∀ v < 322, (l (v + 1) < h (v + 1) ∧ l v < h v ∧ 256 * t (v + 1) + l (v + 1) = 256 * t v + h v)
    ∨ (¬l (v + 1) < h (v + 1) ∧ t (v + 1) = t v ∧ (l v < h v → 256 * t v + h v = 66560))

/-- A table's words as natural numbers. -/
def nats (f : IVec S323 32) (v : ℕ) : ℕ := if h : v < 323 then (f (ix1 ⟨v, h⟩)).toNat else 0

theorem nats_eq (f : IVec S323 32) (v : Fin 323) : nats f v.val = (f (ix1 v)).toNat := dif_pos v.isLt

/-- The complement of a bit is one when the bit is not. -/
theorem not_one (b : BitVec 1) : ~~~b = 1#1 ↔ ¬b = 1#1 := by revert b; decide

/-- A word that is not negative and below a bound, as a natural number. -/
theorem nat_of_int (x : BitVec 32) (h : 0 ≤ x.toInt) : x.toInt = (x.toNat : ℤ) := by
  rw [BitVec.toInt_eq_toNat_cond] at h ⊢
  split at h <;> split <;> omega

/-- The first row of tile `x`, `y` rows on. -/
theorem pos_nat (x y : BitVec 32) (hx : x.toNat < 260) (hy : y.toNat ≤ 256) : (IntOp.addi (IntOp.muli 256#32 x) y).toNat = 256 * x.toNat + y.toNat := by
  change (256#32 * x + y).toNat = _
  rw [BitVec.toNat_add, BitVec.toNat_mul]
  change (256 * x.toNat % 2 ^ 32 + y.toNat) % 2 ^ 32 = _
  omega

/-- What the precondition says. -/
theorem unpack {F : FTy → Type} [FloatOps F] (t e l h : IVec S323 32) (x : FVec F S66560x2048 .f32) (g u : FVec F S64x2048x512 .f32)
    (d : FVec F S64x512x2048 .f32) (H : fn (F := F) t e l h x g u d = fun _ => 1#1) : Visits (nats t) (nats e) (nats l) (nats h) := by
  unfold fn fn_part1 fn_part2 fn_part3 at H
  dsimp only at H
  have e0 := IntOp.andi_eq_one.1 (congrFun H (fun a => a.elim0))
  have r0 := Host.reduce_andi_all _ _ _ _ _ e0.1
  have r1 := Host.reduce_andi_all _ _ _ _ _ e0.2
  clear e0 H
  have r0 := fun v : Fin 323 => r0 (ix1 v)
  have r1 := fun v : Fin 322 => r1 (ix1 v)
  pointwise [] at r0 r1
  simp only [IntOp.andi_eq_one, IntOp.ori_eq_one, not_one, IntOp.cmpi_eq, IntOp.cmpi_ne, IntOp.cmpi_slt, IntOp.cmpi_sle, IntOp.cmpi_sge] at r0 r1
  have hb : ∀ v : Fin 323, (t (ix1 v)).toNat < 260 ∧ (e (ix1 v)).toNat < 64 ∧ (l (ix1 v)).toNat ≤ (h (ix1 v)).toNat ∧ (h (ix1 v)).toNat ≤ 256
      ∧ ((l (ix1 v)).toInt < (h (ix1 v)).toInt ↔ (l (ix1 v)).toNat < (h (ix1 v)).toNat) := by
    intro v
    obtain ⟨⟨⟨⟨⟨⟨⟨⟨a1, a2⟩, a3⟩, a4⟩, a5⟩, a6⟩, a7⟩, -⟩, -⟩ := r0 v
    have z : (0#32 : BitVec 32).toInt = 0 := rfl
    have z1 : (260#32 : BitVec 32).toInt = 260 := rfl
    have z2 : (64#32 : BitVec 32).toInt = 64 := rfl
    have z3 : (256#32 : BitVec 32).toInt = 256 := rfl
    rw [z] at a1 a3 a5; rw [z1] at a2; rw [z2] at a4; rw [z3] at a7
    have b1 := nat_of_int _ a1; have b2 := nat_of_int _ a3; have b3 := nat_of_int _ a5; have b4 := nat_of_int _ (a5.trans a6)
    refine ⟨by omega, by omega, by omega, by omega, by omega⟩
  have hw : ∀ v : Fin 323, (IntOp.addi (IntOp.muli 256#32 (t (ix1 v))) (h (ix1 v)) = 66560#32) ↔ 256 * (t (ix1 v)).toNat + (h (ix1 v)).toNat = 66560 := by
    intro v
    rw [← BitVec.toNat_inj, pos_nat _ _ (hb v).1 (hb v).2.2.2.1]; rfl
  refine ⟨fun v hv => ?_, fun v hv => ?_, fun v hv => ?_, ?_, ?_, fun v hv => ?_⟩
  · rw [nats_eq t ⟨v, hv⟩]; exact (hb _).1
  · rw [nats_eq e ⟨v, hv⟩]; exact (hb _).2.1
  · rw [nats_eq l ⟨v, hv⟩, nats_eq h ⟨v, hv⟩]; exact ⟨(hb _).2.2.1, (hb _).2.2.2.1⟩
  · rw [nats_eq l ⟨0, by decide⟩, nats_eq h ⟨0, by decide⟩, nats_eq t ⟨0, by decide⟩]
    obtain ⟨⟨-, a⟩, -⟩ := r0 ⟨0, by decide⟩
    rcases a with a | ⟨⟨a, b⟩, c⟩
    · exact absurd rfl a
    · have c' := (hb _).2.2.2.2.1 c
      rw [a, b]; rw [b] at c'
      exact ⟨rfl, rfl, c'⟩
  · rw [nats_eq l ⟨322, by decide⟩, nats_eq h ⟨322, by decide⟩, nats_eq t ⟨322, by decide⟩]
    obtain ⟨-, a⟩ := r0 ⟨322, by decide⟩
    rcases a with (a | a) | a
    · exact absurd rfl a
    · exact fun c => absurd ((hb _).2.2.2.2.2 c) a
    · exact fun _ => (hw _).1 a
  · have a := r1 ⟨v, hv⟩
    have k : (⟨1 + v, by omega⟩ : Fin 323) = ⟨v + 1, by omega⟩ := Fin.ext (Nat.add_comm _ _)
    have b := hb ⟨v, by omega⟩
    have b' := hb ⟨v + 1, by omega⟩
    rw [nats_eq l ⟨v, by omega⟩, nats_eq h ⟨v, by omega⟩, nats_eq t ⟨v, by omega⟩, nats_eq l ⟨v + 1, by omega⟩, nats_eq h ⟨v + 1, by omega⟩,
      nats_eq t ⟨v + 1, by omega⟩]
    simp only [k, hw] at a
    rw [b.2.2.2.2, b'.2.2.2.2, ← BitVec.toNat_inj, ← BitVec.toNat_inj, pos_nat _ _ b'.1 (b'.2.2.1.trans b'.2.2.2.1), pos_nat _ _ b.1 b.2.2.2.1] at a
    rcases a with ⟨⟨a1, a2⟩, a3⟩ | ⟨⟨a1, a2⟩, a3⟩
    · exact .inl ⟨a1, a2, a3⟩
    · exact .inr ⟨a1, a2, fun c => a3.resolve_left fun f => f c⟩

namespace Visits

variable {t e l h : ℕ → ℕ} (p : Visits t e l h)
include p

/-- A visit on another tile than the visit before it goes over the first rows of the tile, the one before it over the last rows of its
    own, which is the tile before. -/
theorem moved {v : ℕ} (hv : v < 322) (hm : t (v + 1) ≠ t v) : l (v + 1) < h (v + 1) ∧ l (v + 1) = 0 ∧ h v = 256 ∧ l v < h v ∧ t (v + 1) = t v + 1 := by
  have a := p.span v (by omega)
  have b := p.span (v + 1) (by omega)
  rcases p.next v hv with ⟨c1, c2, c3⟩ | ⟨-, c, -⟩
  · refine ⟨c1, ?_, ?_, c2, ?_⟩ <;> omega
  · exact absurd c hm

/-- Either a visit goes over the first rows of its tile, or the one before it is on the same tile and ended where it begins. -/
theorem same {v : ℕ} (hv : v < 322) (hm : t (v + 1) = t v) (hr : l (v + 1) < h (v + 1)) : l v < h v ∧ l (v + 1) = h v := by
  rcases p.next v hv with ⟨c1, c2, c3⟩ | ⟨c, -⟩
  · exact ⟨c2, by omega⟩
  · exact absurd hr c

end Visits

end Cert.Pre_plan.Val

end
-- ==== Proof.ExpertsFrame.lean ====
/-
  The routed experts: what the scratches and the output's buffer hold at every visit, the body's obligation there, and the launch. The
  output's block is the visit's tile: it is written back when the tile changes and after the last visit, and a tile's first visit stores
  all of it, so what a visit leaves there is a function of the visits of its tile so far.
-/
module

public import proofs.«01_k».proof.Proof.ExpertsBody
public import proofs.«01_k».proof.Proof.ExpertsPlan
public import proofs.«01_k».proof.Proof.ProjFrame
public import Idealize.ShloMosaic.Lib.Pipeline.TableIdle

@[expose] public section

set_option maxRecDepth 16384

noncomputable section

namespace Cert.ExpertsFrame

open Cert.ExpertsIdeal Cert.ExpertsIdeal.Gen Cert.ExpertsBody
open Cert.Pre_plan.Val (Visits nats nats_eq nat_of_int)
open Cert.ProjFrame (leftAt leave_live obligation_of)
open Idealize.ShloMosaic Idealize.ShloMosaic.TcCoe Idealize.ShloMosaic.Tactic Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A table's word for visit `v`. -/
def wordN (f : S323.Idx → BitVec 32) (v : ℕ) : BitVec 32 := if h : v < 323 then f (ix1 ⟨v, h⟩) else 0#32

theorem wordN_nat (f : S323.Idx → BitVec 32) (v : ℕ) : (wordN f v).toNat = nats f v := by
  unfold wordN nats
  split <;> rfl

/-- The grid point's number is its coordinate. -/
theorem coord_0 : ∀ t : Fin grid0.N, (grid0.coords t 0).val = t.val := by decide +kernel

theorem off1_val : ∀ v : Fin 323, (BitVec.ofNat 32 v.val).toNat = v.val := by decide +kernel
theorem off2_val : ∀ v : Fin 323, (Scalar.maxsi (Scalar.subi (BitVec.ofNat 32 v.val) 1#32) 0#32).toNat = v.val - 1 := by decide +kernel

/-- The body's reads of a table, by the visit's number. -/
theorem word_off1 (i : grid0.Coords) (f : S323.Idx → BitVec 32) : word _ (k0_off1_inb i) f = wordN f (i 0).val := by
  have hi : (i 0).val < 323 := (i 0).isLt
  unfold wordN
  rw [dif_pos hi]
  refine congrArg f (funext fun a => Fin.ext ?_)
  fin_cases a
  exact (Nat.add_zero _).trans (off1_val (i 0))

theorem word_off2 (i : grid0.Coords) (f : S323.Idx → BitVec 32) : word _ (k0_off2_inb i) f = wordN f ((i 0).val - 1) := by
  have hi : (i 0).val < 323 := (i 0).isLt
  unfold wordN
  rw [dif_pos (Nat.lt_of_le_of_lt (Nat.sub_le _ _) hi)]
  refine congrArg f (funext fun a => Fin.ext ?_)
  fin_cases a
  exact (Nat.add_zero _).trans (off2_val (i 0))

/-- The body's conditions: the visit has rows, from the tile's first, from a later one. -/
theorem cond2_iff (x y : BitVec 32) (hx : x.toNat ≤ 256) (hy : y.toNat ≤ 256) : k0_cond2 x y = 1#1 ↔ x.toNat < y.toNat := by
  have hb : ∀ b : BitVec 1, Scalar.cmpi .ne (Scalar.extui b : BitVec 32) 0#32 = 1#1 ↔ b = 1#1 := by decide
  have ix : x.toInt = (x.toNat : ℤ) := BitVec.toInt_eq_toNat_of_lt (by omega)
  have iy : y.toInt = (y.toNat : ℤ) := BitVec.toInt_eq_toNat_of_lt (by omega)
  refine (hb _).trans (IntOp.cmpi_sgt.trans ?_)
  rw [ix, iy]
  omega

theorem cond3_iff (x : BitVec 32) (hx : x.toNat ≤ 256) : k0_cond3 x = 1#1 ↔ x.toNat = 0 := by
  have key : ∀ a : Fin 257, k0_cond3 (BitVec.ofNat 32 a.val) = 1#1 ↔ a.val = 0 := by decide +kernel
  simpa using key ⟨x.toNat, by omega⟩

theorem cond4_iff (x : BitVec 32) (hx : x.toNat ≤ 256) : k0_cond4 x = 1#1 ↔ 0 < x.toNat := by
  have key : ∀ a : Fin 257, k0_cond4 (BitVec.ofNat 32 a.val) = 1#1 ↔ 0 < a.val := by decide +kernel
  simpa using key ⟨x.toNat, by omega⟩

theorem renew_iff (i : grid0.Coords) (e e' : BitVec 32) : renew i e e' = 1#1 ↔ (i 0).val = 0 ∨ e ≠ e' := by
  have hb : ∀ b : BitVec 1, Scalar.cmpi .ne (Scalar.extui b : BitVec 32) 0#32 = 1#1 ↔ b = 1#1 := by decide
  have h0 : ∀ v : Fin 323, Scalar.cmpi .eq (BitVec.ofNat 32 v.val) 0#32 = 1#1 ↔ v.val = 0 := by decide +kernel
  unfold renew
  rw [hb]
  change IntOp.ori _ _ = 1#1 ↔ _
  rw [IntOp.ori_eq_one]
  exact or_congr (h0 (i 0)) IntOp.cmpi_ne

/-- The tables as the launch finds them. -/
abbrev tabs : pre0.Contents (Elt F) := fun k => m (((0 : Dev nD) : Thread nD τ).loc (pre0.ref k))

abbrev tT : ℕ → ℕ := nats (show S323.Idx → BitVec 32 from tabs m 0)
abbrev tE : ℕ → ℕ := nats (show S323.Idx → BitVec 32 from tabs m 1)
abbrev tL : ℕ → ℕ := nats (show S323.Idx → BitVec 32 from tabs m 2)
abbrev tH : ℕ → ℕ := nats (show S323.Idx → BitVec 32 from tabs m 3)

/-- The tables are the visits the precondition asks for. -/
abbrev Plan : Prop := Visits (tT m) (tE m) (tL m) (tH m)

/-- The blocks' indices, by the visit's number. -/
theorem tr_at (f : S323.Idx → BitVec 32) (i : grid0.Coords) (h) : (f ((Rect.unit (s := S323) ![(Scalar.indexCast (BitVec.ofNat 32 (i 0).val) : Index).toNat] S1.size h).emb
    (Shape.Idx.first (numel1_S1.symm ▸ Nat.one_pos)))).toNat = nats f (i 0).val := by
  rw [← wordN_nat, ← word_off1]; rfl

theorem tr0 (i : grid0.Coords) : cc0_transform_0 k0_off1_inb numel1_S1 (tabs m) i = ![tT m (i 0).val, 0] := by
  exact congrArg (fun x : ℕ => (![x, 0] : Fin _ → ℕ)) (tr_at (tabs m 0) i (k0_off1_inb i))
theorem tr1 (i : grid0.Coords) : cc0_transform_1 k0_off1_inb numel1_S1 (tabs m) i = ![tE m (i 0).val, 0, 0] := by
  exact congrArg (fun x : ℕ => (![x, 0, 0] : Fin _ → ℕ)) (tr_at (tabs m 1) i (k0_off1_inb i))
theorem tr2 (i : grid0.Coords) : cc0_transform_2 k0_off1_inb numel1_S1 (tabs m) i = ![tE m (i 0).val, 0, 0] := by
  exact congrArg (fun x : ℕ => (![x, 0, 0] : Fin _ → ℕ)) (tr_at (tabs m 1) i (k0_off1_inb i))
theorem tr3 (i : grid0.Coords) : cc0_transform_3 k0_off1_inb numel1_S1 (tabs m) i = ![tE m (i 0).val, 0, 0] := by
  exact congrArg (fun x : ℕ => (![x, 0, 0] : Fin _ → ℕ)) (tr_at (tabs m 1) i (k0_off1_inb i))
theorem tr4 (i : grid0.Coords) : cc0_transform_4 k0_off1_inb numel1_S1 (tabs m) i = ![tT m (i 0).val, 0] := by
  exact congrArg (fun x : ℕ => (![x, 0] : Fin _ → ℕ)) (tr_at (tabs m 0) i (k0_off1_inb i))

variable {m} in
/-- Every block lies in its array. -/
theorem ok_tabs (hp : Plan m) : ok0 (tabs m) := by
  have k0 : ∀ (i : grid0.Coords) (a : Fin 2), ((![tT m (i 0).val, 0] : Fin 2 → ℕ) a + 1) * S256x2048.size a ≤ S66560x2048.size a := by
    intro i a
    have ht := hp.tile _ (i 0).isLt
    fin_cases a
    · change (tT m (i 0).val + 1) * 256 ≤ 66560; omega
    · change (0 + 1) * 2048 ≤ 2048; omega
  have k1 : ∀ (i : grid0.Coords) (a : Fin 3), ((![tE m (i 0).val, 0, 0] : Fin 3 → ℕ) a + 1) * S1x2048x512.size a ≤ S64x2048x512.size a := by
    intro i a
    have he := hp.expert _ (i 0).isLt
    fin_cases a
    · change (tE m (i 0).val + 1) * 1 ≤ 64; omega
    · change (0 + 1) * 2048 ≤ 2048; omega
    · change (0 + 1) * 512 ≤ 512; omega
  have k3 : ∀ (i : grid0.Coords) (a : Fin 3), ((![tE m (i 0).val, 0, 0] : Fin 3 → ℕ) a + 1) * S1x512x2048.size a ≤ S64x512x2048.size a := by
    intro i a
    have he := hp.expert _ (i 0).isLt
    fin_cases a
    · change (tE m (i 0).val + 1) * 1 ≤ 64; omega
    · change (0 + 1) * 512 ≤ 512; omega
    · change (0 + 1) * 2048 ≤ 2048; omega
  exact ⟨fun i => ⟨fun a => by rw [tr0]; exact k0 i a, .inl rfl⟩, fun i => ⟨fun a => by rw [tr1]; exact k1 i a, .inl rfl⟩,
    fun i => ⟨fun a => by rw [tr2]; exact k1 i a, .inl rfl⟩, fun i => ⟨fun a => by rw [tr3]; exact k3 i a, .inl rfl⟩,
    fun i => ⟨fun a => by rw [tr4]; exact k0 i a, .inl rfl⟩⟩

variable (hp : Plan m)

/-- The tables as admissible contents, and the pipeline there. -/
abbrev adm : (pcfg0 (F := F)).Adm := ⟨tabs m, ok_tabs hp⟩
abbrev cfgA : Cfg sig Λ₀ := cfg0 (adm m hp)
abbrev pcs : Fin 1 → Cfg sig Λ₀ := Pipeline.pin pcfgs fun _ => adm m hp

/-- The number of the visit at a grid point is below 323. -/
theorem lt_N (t : Fin (cfgA m hp).N) : t.val < 323 := Nat.lt_of_lt_of_eq t.isLt N_0

theorem crd_0 (t : Fin (cfgA m hp).N) : ((cfgA m hp).grid.coords t 0).val = t.val := coord_0 t

/-- The output is not stored at visits of no rows. -/
theorem idle_iff (t : Fin (cfgA m hp).N) : (cfgA m hp).idle 4 ((cfgA m hp).grid.coords t) = true ↔ ¬tL m t.val < tH m t.val := by
  have a2 : (tabs m).atD 2 (k0_off1 (grid0.coords t)) = wordN (tabs m 2) t.val := by
    refine Eq.trans (Eq.trans ?_ (word_off1 (grid0.coords t) (tabs m 2))) (congrArg (wordN (tabs m 2)) (coord_0 t))
    unfold Pipeline.Prefetch.Contents.atD
    split
    · exact congrArg (show S323.Idx → BitVec 32 from tabs m 2) (funext fun a => Fin.ext (Nat.add_zero _).symm)
    · next hn => exact absurd (fun a => by fin_cases a; exact k0_off1_inb (grid0.coords t) 0) hn
  have a3 : (tabs m).atD 3 (k0_off1 (grid0.coords t)) = wordN (tabs m 3) t.val := by
    refine Eq.trans (Eq.trans ?_ (word_off1 (grid0.coords t) (tabs m 3))) (congrArg (wordN (tabs m 3)) (coord_0 t))
    unfold Pipeline.Prefetch.Contents.atD
    split
    · exact congrArg (show S323.Idx → BitVec 32 from tabs m 3) (funext fun a => Fin.ext (Nat.add_zero _).symm)
    · next hn => exact absurd (fun a => by fin_cases a; exact k0_off1_inb (grid0.coords t) 0) hn
  have hs := hp.span t.val (lt_N m hp t)
  have l1 : (wordN (tabs m 2) t.val).toNat = tL m t.val := wordN_nat _ _
  have l2 : (wordN (tabs m 3) t.val).toNat = tH m t.val := wordN_nat _ _
  have c2 := cond2_iff (wordN (tabs m 2) t.val) (wordN (tabs m 3) t.val) (by omega) (by omega)
  have c3 := cond3_iff (wordN (tabs m 2) t.val) (by omega)
  have c4 := cond4_iff (wordN (tabs m 2) t.val) (by omega)
  change idle0 (tabs m) 4 (grid0.coords t) = true ↔ _
  dsimp only [idle0]
  rw [a2, a3]
  simp only [Bool.and_eq_true, Bool.not_eq_true', Bool.and_eq_false_iff, beq_eq_false_iff_ne, ne_eq, c2, c3, c4, l1, l2]
  omega

/-- The output's block at a visit is the visit's tile. -/
theorem index_4 (t : Fin (cfgA m hp).N) : ((cfgA m hp).win 4).index t = ![tT m t.val, 0] := by
  rw [← coord_0 t]
  exact tr4 m (grid0.coords t)

/-- It is written back after the last visit and where the tile changes. -/
theorem flush_iff (t : Fin (cfgA m hp).N) : ((cfgA m hp).win 4).flush t = true ↔ t.val = 322 ∨ tT m (t.val + 1) ≠ tT m t.val := by
  have hN : (cfgA m hp).grid.N = 323 := N_0
  have ht := lt_N m hp t
  unfold Pipeline.Window.flush
  rw [show ((cfgA m hp).win 4).isOut = true from rfl, Bool.true_and, Bool.or_eq_true, decide_eq_true_iff, decide_eq_true_iff]
  by_cases h2 : t.val = 322
  · exact ⟨fun _ => .inl h2, fun _ => .inl (by omega)⟩
  refine or_congr (by omega) ⟨?_, fun h => ⟨by omega, fun he => h ?_⟩⟩
  · rintro ⟨h, hne⟩ he
    refine hne ?_
    rw [index_4, index_4]
    exact congrArg (fun x : ℕ => (![x, 0] : Fin 2 → ℕ)) he
  · rw [index_4, index_4] at he
    exact congrFun he 0

/-- The buffer is fresh at the first visit and where the tile has changed. -/
theorem fresh_iff : ∀ v : ℕ, v < 323 → ((cfgA m hp).fresh 4 v = true ↔ v = 0 ∨ tT m v ≠ tT m (v - 1))
  | 0, _ => by simp only [Cfg.fresh_zero, true_or]
  | v + 1, hv => by
    have hN : v < (cfgA m hp).N := Nat.lt_of_lt_of_eq (show v < 323 by omega) N_0.symm
    have ih := fresh_iff v (by omega)
    rw [Cfg.fresh_succ _ _ v hN, Bool.or_eq_true, Bool.and_eq_true, flush_iff m hp ⟨v, hN⟩, idle_iff m hp ⟨v, hN⟩, ih]
    change ((v = 322 ∨ tT m (v + 1) ≠ tT m v) ∨ _) ↔ (v + 1 = 0 ∨ tT m (v + 1) ≠ tT m v)
    constructor
    · rintro ((h | h) | ⟨h1, h2⟩)
      · omega
      · exact .inr h
      · exfalso
        rcases h2 with h2 | h2
        · change ¬tL m v < tH m v at h1
          rw [h2] at h1
          exact h1 (by rw [hp.first.2.1]; exact hp.first.2.2)
        · cases v with
          | zero => exact h2 rfl
          | succ v => exact h1 (hp.moved (by omega) h2).1
    · rintro (h | h)
      · omega
      · exact .inl (.inr h)

/-- The arrays as the launch finds them. -/
abbrev aX (c : Dev nD) : S66560x2048.Idx → Elt F .f32 := m ((c : Thread nD τ).loc main_arg4)
abbrev aG (c : Dev nD) : S64x2048x512.Idx → Elt F .f32 := m ((c : Thread nD τ).loc main_arg5)
abbrev aU (c : Dev nD) : S64x2048x512.Idx → Elt F .f32 := m ((c : Thread nD τ).loc main_arg6)
abbrev aD (c : Dev nD) : S64x512x2048.Idx → Elt F .f32 := m ((c : Thread nD τ).loc main_arg7)

/-- A tile's rows, and an expert's weights. -/
def tileOf (A : S66560x2048.Idx → Elt F .f32) (t : ℕ) : Vec F S256x2048 .f32 := fun y =>
  A (ix2 ⟨(256 * t + (y 0).val) % 66560, Nat.mod_lt _ (by decide)⟩ (y 1))
def wOf (A : S64x2048x512.Idx → Elt F .f32) (e : ℕ) : Vec F S1x2048x512 .f32 := fun y => A (ix3 ⟨e % 64, Nat.mod_lt _ (by decide)⟩ (y 1) (y 2))
def dOf (A : S64x512x2048.Idx → Elt F .f32) (e : ℕ) : Vec F S1x512x2048 .f32 := fun y => A (ix3 ⟨e % 64, Nat.mod_lt _ (by decide)⟩ (y 1) (y 2))

/-- The scratches after visit `v`: its expert's weights. -/
def gB (c : Dev nD) (v : ℕ) : Vec F S2048x512 .bf16 := k0_pay1 (wOf (aG m c) (tE m v))
def uB (c : Dev nD) (v : ℕ) : Vec F S2048x512 .bf16 := k0_pay2 (wOf (aU m c) (tE m v))
def dB (c : Dev nD) (v : ℕ) : Vec F S512x2048 .bf16 := k0_pay3 (dOf (aD m c) (tE m v))

/-- A visit's tile through its expert, every row. -/
def full (c : Dev nD) (v : ℕ) : Vec F S256x2048 .f32 := k0_pay4 (tileOf (aX m c) (tT m v)) (gB m c v) (uB m c v) (dB m c v)

/-- The output's buffer after visit `v`, the buffer before it holding `y`. -/
def stepOut (c : Dev nD) (v : ℕ) (y : Vec F S256x2048 .f32) : Vec F S256x2048 .f32 :=
  outAt (wordN (tabs m 2) v) (wordN (tabs m 3) v) (tileOf (aX m c) (tT m v)) (gB m c v) (uB m c v) (dB m c v) y

/-- The output's buffer after each visit. -/
def out (c : Dev nD) : ℕ → Vec F S256x2048 .f32
  | 0 => stepOut m c 0 (full m c 0)
  | v + 1 => stepOut m c (v + 1) (out c v)

/-- Window `w`'s block at a visit. -/
def iblk (c : Dev nD) (w : Fin (cfgA m hp).W) (t : Fin (cfgA m hp).N) :
    (((cfgA m hp).win w).xblock ((cfgA m hp).grid.coords t)).Idx → Elt F ((cfgA m hp).win w).elt :=
  (((cfgA m hp).win w).blk t).view.read (Elt F) (m ((c : Thread nD τ).loc (Pipeline.arrRef spec0 w)))

theorem iblk_0 (c : Dev nD) (t : Fin (cfgA m hp).N) : (iblk m hp c 0 t : Vec F S256x2048 .f32) = tileOf (aX m c) (tT m t.val) := by
  refine funext fun (y : S256x2048.Idx) => ?_
  have h := tr0 m (grid0.coords t)
  have ht := hp.tile _ (lt_N m hp t)
  have hy : (y 0).val < 256 := (y 0).isLt
  refine congrArg (aX m c) (funext fun a => Fin.ext ?_)
  fin_cases a
  · have h0 : cc0_transform_0 k0_off1_inb numel1_S1 (tabs m) (grid0.coords t) 0 = tT m t.val := (congrFun h 0).trans (congrArg (tT m) (coord_0 t))
    change cc0_transform_0 k0_off1_inb numel1_S1 (tabs m) (grid0.coords t) 0 * 256 + 1 * (y 0).val = (256 * tT m t.val + (y 0).val) % 66560
    rw [h0, Nat.mod_eq_of_lt (by omega)]
    omega
  · have h0 : cc0_transform_0 k0_off1_inb numel1_S1 (tabs m) (grid0.coords t) 1 = 0 := congrFun h 1
    change cc0_transform_0 k0_off1_inb numel1_S1 (tabs m) (grid0.coords t) 1 * 2048 + 1 * (y 1).val = (y 1).val
    rw [h0]
    omega

/-- A block of one expert's weights, element by element. -/
theorem w_val (a b : ℕ) (e f : ℕ) (he : e < 64) (h : f = e) (y : (⟨3, ![1, a, b]⟩ : Shape).Idx) : f * 1 + 1 * (y 0).val = e % 64 := by
  have hy : (y 0).val < 1 := (y 0).isLt
  rw [h, Nat.mod_eq_of_lt he]
  omega

theorem iblk_1 (c : Dev nD) (t : Fin (cfgA m hp).N) : (iblk m hp c 1 t : Vec F S1x2048x512 .f32) = wOf (aG m c) (tE m t.val) := by
  refine funext fun (y : S1x2048x512.Idx) => ?_
  have h := tr1 m (grid0.coords t)
  refine congrArg (aG m c) (funext fun a => Fin.ext ?_)
  fin_cases a
  · exact w_val 2048 512 _ _ (hp.expert _ (lt_N m hp t)) ((congrFun h 0).trans (congrArg (tE m) (coord_0 t))) y
  · change cc0_transform_1 k0_off1_inb numel1_S1 (tabs m) (grid0.coords t) 1 * 2048 + 1 * (y 1).val = (y 1).val
    rw [show cc0_transform_1 k0_off1_inb numel1_S1 (tabs m) (grid0.coords t) 1 = 0 from congrFun h 1]
    omega
  · change cc0_transform_1 k0_off1_inb numel1_S1 (tabs m) (grid0.coords t) 2 * 512 + 1 * (y 2).val = (y 2).val
    rw [show cc0_transform_1 k0_off1_inb numel1_S1 (tabs m) (grid0.coords t) 2 = 0 from congrFun h 2]
    omega

theorem iblk_2 (c : Dev nD) (t : Fin (cfgA m hp).N) : (iblk m hp c 2 t : Vec F S1x2048x512 .f32) = wOf (aU m c) (tE m t.val) := by
  refine funext fun (y : S1x2048x512.Idx) => ?_
  have h := tr2 m (grid0.coords t)
  refine congrArg (aU m c) (funext fun a => Fin.ext ?_)
  fin_cases a
  · exact w_val 2048 512 _ _ (hp.expert _ (lt_N m hp t)) ((congrFun h 0).trans (congrArg (tE m) (coord_0 t))) y
  · change cc0_transform_2 k0_off1_inb numel1_S1 (tabs m) (grid0.coords t) 1 * 2048 + 1 * (y 1).val = (y 1).val
    rw [show cc0_transform_2 k0_off1_inb numel1_S1 (tabs m) (grid0.coords t) 1 = 0 from congrFun h 1]
    omega
  · change cc0_transform_2 k0_off1_inb numel1_S1 (tabs m) (grid0.coords t) 2 * 512 + 1 * (y 2).val = (y 2).val
    rw [show cc0_transform_2 k0_off1_inb numel1_S1 (tabs m) (grid0.coords t) 2 = 0 from congrFun h 2]
    omega

theorem iblk_3 (c : Dev nD) (t : Fin (cfgA m hp).N) : (iblk m hp c 3 t : Vec F S1x512x2048 .f32) = dOf (aD m c) (tE m t.val) := by
  refine funext fun (y : S1x512x2048.Idx) => ?_
  have h := tr3 m (grid0.coords t)
  refine congrArg (aD m c) (funext fun a => Fin.ext ?_)
  fin_cases a
  · exact w_val 512 2048 _ _ (hp.expert _ (lt_N m hp t)) ((congrFun h 0).trans (congrArg (tE m) (coord_0 t))) y
  · change cc0_transform_3 k0_off1_inb numel1_S1 (tabs m) (grid0.coords t) 1 * 512 + 1 * (y 1).val = (y 1).val
    rw [show cc0_transform_3 k0_off1_inb numel1_S1 (tabs m) (grid0.coords t) 1 = 0 from congrFun h 1]
    omega
  · change cc0_transform_3 k0_off1_inb numel1_S1 (tabs m) (grid0.coords t) 2 * 2048 + 1 * (y 2).val = (y 2).val
    rw [show cc0_transform_3 k0_off1_inb numel1_S1 (tabs m) (grid0.coords t) 2 = 0 from congrFun h 2]
    omega

include hp in
/-- The conditions at a visit, by its rows. -/
theorem conds (v : ℕ) (hv : v < 323) :
    (k0_cond2 (wordN (tabs m 2) v) (wordN (tabs m 3) v) = 1#1 ↔ tL m v < tH m v) ∧ (k0_cond3 (wordN (tabs m 2) v) = 1#1 ↔ tL m v = 0)
      ∧ (k0_cond4 (wordN (tabs m 2) v) = 1#1 ↔ 0 < tL m v) := by
  have hs := hp.span v hv
  have l1 : (wordN (tabs m 2) v).toNat = tL m v := wordN_nat _ _
  have l2 : (wordN (tabs m 3) v).toNat = tH m v := wordN_nat _ _
  have c2 := cond2_iff (wordN (tabs m 2) v) (wordN (tabs m 3) v) (by omega) (by omega)
  have c3 := cond3_iff (wordN (tabs m 2) v) (by omega)
  have c4 := cond4_iff (wordN (tabs m 2) v) (by omega)
  rw [l1] at c2 c3 c4
  rw [l2] at c2
  exact ⟨c2, c3, c4⟩

include hp in
/-- A visit of no rows leaves the buffer as it was; -/
theorem stepOut_idle (c : Dev nD) (v : ℕ) (hv : v < 323) (h : ¬tL m v < tH m v) (y) : stepOut m c v y = y := by
  unfold stepOut outAt
  rw [if_neg (mt (conds m hp v hv).1.mp h)]

include hp in
/-- one of its tile's first rows stores all of it; -/
theorem stepOut_first (c : Dev nD) (v : ℕ) (hv : v < 323) (h : tL m v < tH m v) (h0 : tL m v = 0) (y) : stepOut m c v y = full m c v := by
  unfold stepOut outAt
  rw [if_pos ((conds m hp v hv).1.mpr h), if_neg (mt (conds m hp v hv).2.2.mp (by omega)), if_pos ((conds m hp v hv).2.1.mpr h0)]
  rfl

include hp in
/-- and one of later rows stores those from its first on. -/
theorem stepOut_next (c : Dev nD) (v : ℕ) (hv : v < 323) (h : tL m v < tH m v) (h0 : 0 < tL m v) (y) :
    stepOut m c v y = k0_pay5 (wordN (tabs m 2) v) (tileOf (aX m c) (tT m v)) (gB m c v) (uB m c v) (dB m c v) y := by
  unfold stepOut outAt
  rw [if_pos ((conds m hp v hv).1.mpr h), if_pos ((conds m hp v hv).2.2.mpr h0), if_neg (mt (conds m hp v hv).2.1.mp (by omega))]

/-- What the buffer holds after a visit, from what it held before: the junk of a fresh buffer is all stored over. -/
theorem out_of (c : Dev nD) (t : Fin (cfgA m hp).N) (y : Vec F S256x2048 .f32)
    (hy : (cfgA m hp).fresh 4 t.val = false → y = out m c (t.val - 1)) : stepOut m c t.val y = out m c t.val := by
  have hv := lt_N m hp t
  have hf := fresh_iff m hp t.val hv
  revert hy hf hv
  generalize t.val = v
  intro hy hv hf
  cases v with
  | zero =>
    change _ = stepOut m c 0 _
    rw [stepOut_first m hp c 0 hv (by rw [hp.first.2.1]; exact hp.first.2.2) hp.first.2.1, stepOut_first m hp c 0 hv (by rw [hp.first.2.1]; exact hp.first.2.2) hp.first.2.1]
  | succ v =>
    change _ = stepOut m c (v + 1) _
    by_cases h : tT m (v + 1) = tT m v
    · rw [hy (by rw [← Bool.not_eq_true, hf]; rintro (a | a); exacts [absurd a (Nat.succ_ne_zero v), a h])]
      rfl
    · have hm := hp.moved (by omega) h
      rw [stepOut_first m hp c _ hv hm.1 hm.2.1, stepOut_first m hp c _ hv hm.1 hm.2.1]

/-- The tables, held. -/
abbrev tblPts (c : Dev nD) : sProp 𝕄 := Pipeline.ΦT pre0 (tabs m) c

/-- Before visit `n` the scratches hold the weights of the visit before it. -/
def Φ (c : Dev nD) (n : ℕ) : sProp 𝕄 :=
  iprop((∃ (g u : Vec F S2048x512 .bf16) (d : Vec F S512x2048 .bf16), ⌜n ≠ 0 → g = gB m c (n - 1) ∧ u = uB m c (n - 1) ∧ d = dB m c (n - 1)⌝
      ∗ owns (c : Thread nD τ) scG fullShare g ∗ owns (c : Thread nD τ) scU fullShare u ∗ owns (c : Thread nD τ) scD fullShare d)
    ∗ tblPts m c ∗ ∃ r, prngReg c r)

/-- The proof data. -/
def dats (_ : Fin 1) (c : Dev nD) : Dat τ (Elt F) Unit ℕ (UR sig nD τ) ℕ (cfgA m hp) c where
  A w := m ((c : Thread nD τ).loc (Pipeline.arrRef spec0 w))
  after w t := match w with
    | ⟨0, _⟩ => iblk m hp c 0 t
    | ⟨1, _⟩ => iblk m hp c 1 t
    | ⟨2, _⟩ => iblk m hp c 2 t
    | ⟨3, _⟩ => iblk m hp c 3 t
    | ⟨4, _⟩ => out m c t.val
  Φ t := Φ m c t.val
  q _ := fullShare
  owed _ := 0

theorem A_eq (c : Dev nD) (w : Fin (cfgA m hp).W) : (dats m hp 0 c).A w = m ((c : Thread nD τ).loc (Pipeline.arrRef spec0 w)) := by
  dsimp only [dats]
theorem after_0 (c : Dev nD) (t : Fin (cfgA m hp).N) : (dats m hp 0 c).after 0 t = iblk m hp c 0 t := by dsimp only [dats]; try rfl
theorem after_1 (c : Dev nD) (t : Fin (cfgA m hp).N) : (dats m hp 0 c).after 1 t = iblk m hp c 1 t := by dsimp only [dats]; try rfl
theorem after_2 (c : Dev nD) (t : Fin (cfgA m hp).N) : (dats m hp 0 c).after 2 t = iblk m hp c 2 t := by dsimp only [dats]; try rfl
theorem after_3 (c : Dev nD) (t : Fin (cfgA m hp).N) : (dats m hp 0 c).after 3 t = iblk m hp c 3 t := by dsimp only [dats]; try rfl
theorem after_4 (c : Dev nD) (t : Fin (cfgA m hp).N) : (dats m hp 0 c).after 4 t = out m c t.val := by dsimp only [dats]; try rfl

theorem before_0 (c : Dev nD) (t : Fin (cfgA m hp).N) (d) : (dats m hp 0 c).before 0 t d = iblk m hp c 0 t :=
  ((dats m hp 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin (cfgA m hp).N) (d) : (dats m hp 0 c).before 1 t d = iblk m hp c 1 t :=
  ((dats m hp 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin (cfgA m hp).N) (d) : (dats m hp 0 c).before 2 t d = iblk m hp c 2 t :=
  ((dats m hp 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin (cfgA m hp).N) (d) : (dats m hp 0 c).before 3 t d = iblk m hp c 3 t :=
  ((dats m hp 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-- The output's buffer before a visit. -/
theorem before_4 (c : Dev nD) (t : Fin (cfgA m hp).N) (d) (h : (cfgA m hp).fresh 4 t.val = false) :
    (dats m hp 0 c).before 4 t d = out m c (t.val - 1) := by
  rw [Dat.before_out_traj (dats m hp 0 c) 4 rfl (fun _ _ => rfl) (fun t h0 hi hf => ?_) t.val t rfl d, h]
  · exact after_4 m hp c _
  · rw [after_4, after_4]
    change out m c t.val = out m c (t.val - 1)
    rw [← out_of m hp c t (out m c (t.val - 1)) (fun _ => rfl)]
    exact stepOut_idle m hp c _ (lt_N m hp t) ((idle_iff m hp t).mp hi) _

theorem tbl_owns (c : Dev nD) (q : PosShare TreeShare) (P : sProp 𝕄) (f1 f2 f3 : Vec F S323 .i32) :
    iprop(P ∗ (((c : Thread nD τ).loc main_arg1) ↦{q} f1) ∗ (((c : Thread nD τ).loc main_arg2) ↦{q} f2) ∗ (((c : Thread nD τ).loc main_arg3) ↦{q} f3))
      = iprop(P ∗ owns (c : Thread nD τ) tb1 q f1 ∗ owns (c : Thread nD τ) tb2 q f2 ∗ owns (c : Thread nD τ) tb3 q f3) := by
  rw [owns_whole, owns_whole, owns_whole]

/-- The tables the launch hands the body, one by one. -/
theorem tbl_eq (c : Dev nD) : (tblPts m c : sProp 𝕄)
      = iprop((((c : Thread nD τ).loc main_arg0) ↦{fullShare.right} (show Buf (Elt F) ((c : Thread nD τ).loc main_arg0) from tabs m 0))
          ∗ owns (c : Thread nD τ) tb1 fullShare.right (tabs m 1) ∗ owns (c : Thread nD τ) tb2 fullShare.right (tabs m 2)
          ∗ owns (c : Thread nD τ) tb3 fullShare.right (tabs m 3)) := by
  refine Eq.trans ?_ (tbl_owns c _ _ _ _ _)
  exact bigSep_univ_eq_bigSepL [(0 : Fin 4), (1 : Fin 4), (2 : Fin 4), (3 : Fin 4)] (by decide) (by decide) _

/-- Whether a visit converts its expert's weights. -/
theorem renew_at (t : Fin (cfgA m hp).N) :
    renew (grid0.coords t) (word _ (k0_off1_inb (grid0.coords t)) (tabs m 1)) (word _ (k0_off2_inb (grid0.coords t)) (tabs m 1)) = 1#1
      ↔ t.val = 0 ∨ tE m t.val ≠ tE m (t.val - 1) := by
  have h1 : (wordN (tabs m 1) (grid0.coords t 0).val).toNat = tE m (grid0.coords t 0).val := wordN_nat _ _
  have h2 : (wordN (tabs m 1) ((grid0.coords t 0).val - 1)).toNat = tE m ((grid0.coords t 0).val - 1) := wordN_nat _ _
  rw [renew_iff]
  erw [word_off1, word_off2]
  rw [← coord_0 t, ← h1, ← h2]
  exact or_congr Iff.rfl (not_congr ⟨fun h => congrArg BitVec.toNat h, fun h => BitVec.eq_of_toNat_eq h⟩)

/-- A scratch after a visit, from what it held before. -/
theorem scratch_of {α β : Type} (t : Fin (cfgA m hp).N) (B : ℕ → α) (f : β → α) (W : ℕ → β) (hB : ∀ v, B v = f (W (tE m v))) (w : β) (hw : w = W (tE m t.val)) (g : α)
    (hg : t.val ≠ 0 → g = B (t.val - 1)) :
    B t.val = if renew (grid0.coords t) (word _ (k0_off1_inb (grid0.coords t)) (tabs m 1)) (word _ (k0_off2_inb (grid0.coords t)) (tabs m 1)) = 1#1 then f w else g := by
  have hr := renew_at m hp t
  by_cases h : t.val = 0 ∨ tE m t.val ≠ tE m (t.val - 1)
  · rw [if_pos (hr.mpr h), hB, hw]
  · rw [if_neg (mt hr.mp h), hg (fun h0 => h (.inl h0)), hB, hB, not_not.mp (fun h1 => h (.inr h1))]

/-- The body's step at a visit is the visit's. -/
theorem step_eq (c : Dev nD) (t : Fin (cfgA m hp).N) (y : Vec F S256x2048 .f32) :
    outAt (word _ (k0_off1_inb (grid0.coords t)) (tabs m 2)) (word _ (k0_off1_inb (grid0.coords t)) (tabs m 3)) (iblk m hp c 0 t)
      (gB m c t.val) (uB m c t.val) (dB m c t.val) y = stepOut m c t.val y := by
  rw [iblk_0]
  erw [word_off1, word_off1]
  rw [coord_0 t]
  rfl

/-- What the output's buffer holds after the body is what the obligation asks of it. -/
theorem out_4 (c : Dev nD) (t : Fin (cfgA m hp).N) (d) :
    (owns (c : Thread nD τ) (((cfgA m hp).win 4).stage ((cfgA m hp).slots t 4)) fullShare (stepOut m c t.val ((dats m hp 0 c).before 4 t d)) : sProp 𝕄)
      ⊢ leftAt (dats m hp 0 c) 4 t := by
  have ho : stepOut m c t.val ((dats m hp 0 c).before 4 t d) = (dats m hp 0 c).after 4 t :=
    (out_of m hp c t _ fun h => before_4 m hp c t d h).trans (after_4 m hp c t).symm
  unfold leftAt
  by_cases hi : (cfgA m hp).idle 4 ((cfgA m hp).grid.coords t) = true
  · rw [hi]
    by_cases hf : ((cfgA m hp).win 4).flush t = true
    · rw [hf, ho]
    · rw [Bool.not_eq_true] at hf
      rw [hf]
      have he := stepOut_idle m hp c _ (lt_N m hp t) ((idle_iff m hp t).mp hi) ((dats m hp 0 c).before 4 t d)
      revert he
      generalize stepOut m c t.val ((dats m hp 0 c).before 4 t d) = z
      rintro rfl
      iintro H
      iexists d
      iexact H
  · rw [Bool.not_eq_true] at hi
    rw [hi, ho]

theorem out_4_of (c : Dev nD) (t : Fin (cfgA m hp).N) (d) (X : Vec F S256x2048 .f32) (hX : X = stepOut m c t.val ((dats m hp 0 c).before 4 t d)) :
    (owns (c : Thread nD τ) (((cfgA m hp).win 4).stage ((cfgA m hp).slots t 4)) fullShare X : sProp 𝕄) ⊢ leftAt (dats m hp 0 c) 4 t := by
  subst hX
  exact out_4 m hp c t d

/-- What the body is called with at a visit, -/
def bodyPre (c : Dev nD) (t : Fin (cfgA m hp).N) : sProp 𝕄 :=
  iprop((dats m hp 0 c).Φ t.castSucc ∗ (dats m hp 0 c).owesAt () t.castSucc
    ∗ (∃ d, owns (c : Thread nD τ) (((cfgA m hp).win 0).stage ((cfgA m hp).slots t 0)) fullShare ((dats m hp 0 c).before 0 t d))
    ∗ (∃ d, owns (c : Thread nD τ) (((cfgA m hp).win 1).stage ((cfgA m hp).slots t 1)) fullShare ((dats m hp 0 c).before 1 t d))
    ∗ (∃ d, owns (c : Thread nD τ) (((cfgA m hp).win 2).stage ((cfgA m hp).slots t 2)) fullShare ((dats m hp 0 c).before 2 t d))
    ∗ (∃ d, owns (c : Thread nD τ) (((cfgA m hp).win 3).stage ((cfgA m hp).slots t 3)) fullShare ((dats m hp 0 c).before 3 t d))
    ∗ (∃ d, owns (c : Thread nD τ) (((cfgA m hp).win 4).stage ((cfgA m hp).slots t 4)) fullShare ((dats m hp 0 c).before 4 t d)))

/-- and what it returns. -/
def bodyPost (c : Dev nD) (t : Fin (cfgA m hp).N) : sProp 𝕄 :=
  iprop((dats m hp 0 c).Φ t.succ ∗ (dats m hp 0 c).owesAt () t.succ
    ∗ leftAt (dats m hp 0 c) 0 t
    ∗ leftAt (dats m hp 0 c) 1 t
    ∗ leftAt (dats m hp 0 c) 2 t
    ∗ leftAt (dats m hp 0 c) 3 t
    ∗ leftAt (dats m hp 0 c) 4 t)

/-- The body's call at a visit. -/
theorem call_eq (t : Fin (cfgA m hp).N) : defs₀ (F := F) .tc (cfgA m hp).body ((cfgA m hp).bodyArgs t ((cfgA m hp).slots t))
    = cc0_moe_experts (grid0.coords t) (Memref.whole main_arg0) (Memref.isWhole_whole _) (Memref.whole main_arg1) (Memref.isWhole_whole _)
            (Memref.whole main_arg2) (Memref.isWhole_whole _) (Memref.whole main_arg3) (Memref.isWhole_whole _)
            (spec0_0.stage ((cfgA m hp).slots t 0)) (hstage0_0 (((cfgA m hp).slots t 0).cast nbuf0_0))
            (spec0_1.stage ((cfgA m hp).slots t 1)) (hstage0_1 (((cfgA m hp).slots t 1).cast nbuf0_1))
            (spec0_2.stage ((cfgA m hp).slots t 2)) (hstage0_2 (((cfgA m hp).slots t 2).cast nbuf0_2))
            (spec0_3.stage ((cfgA m hp).slots t 3)) (hstage0_3 (((cfgA m hp).slots t 3).cast nbuf0_3))
            (spec0_4.stage ((cfgA m hp).slots t 4)) (hstage0_4 (((cfgA m hp).slots t 4).cast nbuf0_4))
            scG (Memref.isWhole_whole _) scU (Memref.isWhole_whole _) scD (Memref.isWhole_whole _) := by
  unfold defs₀
  rw [Defs.onTc_tc]

/-- The body at any visit. -/
theorem sound_body (c : Dev nD) (t : Fin (cfgA m hp).N) :
    bodyPre m hp c t ⊢ wp frame (wpE (defs₀ (F := F)) Variants.none c none) Set.univ
      (defs₀ (F := F) .tc (cfgA m hp).body ((cfgA m hp).bodyArgs t ((cfgA m hp).slots t))) (fun _ => bodyPost m hp c t) := by
  rw [call_eq]
  unfold bodyPre bodyPost
  simp only [before_0, before_1, before_2, before_3]
  rw [show (dats m hp 0 c).Φ t.succ = Φ m c (t.val + 1) from rfl, show (dats m hp 0 c).Φ t.castSucc = Φ m c t.val from rfl,
    show (dats m hp 0 c).owesAt () t.succ = (dats m hp 0 c).owesAt () t.castSucc from rfl]
  unfold Φ
  rw [tbl_eq]
  iintro ⟨⟨⟨%g, %u, %d, %hs, HG, HU, HD⟩, ⟨T0, T1, T2, T3⟩, Hr⟩, Ho, ⟨%d0, H0⟩, ⟨%d1, H1⟩, ⟨%d2, H2⟩, ⟨%d3, H3⟩, ⟨%d4, H4⟩⟩
  iapply (kernelRun c (grid0.coords t) _ _ _ _ _ _ _ _ _ _ _ (tabs m 1) (tabs m 2) (tabs m 3) (iblk m hp c 0 t) ((dats m hp 0 c).before 4 t d4)
    (iblk m hp c 1 t) (iblk m hp c 2 t) (iblk m hp c 3 t) g u (gB m c t.val) (uB m c t.val) d (dB m c t.val)
    (scratch_of m hp t (gB m c) k0_pay1 (wOf (aG m c)) (fun _ => rfl) _ (iblk_1 m hp c t) g fun h => (hs h).1)
    (scratch_of m hp t (uB m c) k0_pay2 (wOf (aU m c)) (fun _ => rfl) _ (iblk_2 m hp c t) u fun h => (hs h).2.1)
    (scratch_of m hp t (dB m c) k0_pay3 (dOf (aD m c)) (fun _ => rfl) _ (iblk_3 m hp c t) d fun h => (hs h).2.2) _)
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [HG]; · iexact HG
  isplitl [HU]; · iexact HU
  isplitl [HD]; · iexact HD
  iintro ⟨T1, T2, T3, H0, H1, H2, H3, H4, HG, HU, HD⟩
  isplitl [HG HU HD T0 T1 T2 T3 Hr]
  · isplitl [HG HU HD]
    · iexists (gB m c t.val); iexists (uB m c t.val); iexists (dB m c t.val)
      isplitr
      · ipureintro
        exact fun _ => ⟨rfl, rfl, rfl⟩
      isplitl [HG]; · iexact HG
      isplitl [HU]; · iexact HU
      iexact HD
    isplitl [T0 T1 T2 T3]
    · isplitl [T0]; · iexact T0
      isplitl [T1]; · iexact T1
      isplitl [T2]; · iexact T2
      iexact T3
    iexact Hr
  isplitl [Ho]; · iexact Ho
  isplitl [H0]; · iapply (leave_live (dats m hp 0 c) 0 t rfl); rw [after_0]; iexact H0
  isplitl [H1]; · iapply (leave_live (dats m hp 0 c) 1 t rfl); rw [after_1]; iexact H1
  isplitl [H2]; · iapply (leave_live (dats m hp 0 c) 2 t rfl); rw [after_2]; iexact H2
  isplitl [H3]; · iapply (leave_live (dats m hp 0 c) 3 t rfl); rw [after_3]; iexact H3
  iapply (out_4_of m hp c t d4 _ (step_eq m hp c t _))
  iexact H4

/-- The body's obligation at every visit. -/
theorem body_obligation (c : Dev nD) : BodyObligation (dats (F := F) m hp 0 c) (defs₀ (F := F)) Variants.none () Set.univ :=
  obligation_of _ _ _ _ _ fun t => by
    rw [bigSep_W0, bigSep_W0]
    exact sound_body m hp c t

/-- The scratches owned are their whole buffers. -/
theorem scratch_g (c : Dev nD) (f : Vec F S2048x512 .bf16) :
    (owns (c : Thread nD τ) scG fullShare f : sProp 𝕄) = ((c : Thread nD τ).loc cc0_scratch0) ↦{fullShare} f := owns_whole (c : Thread nD τ) cc0_scratch0 fullShare f
theorem scratch_u (c : Dev nD) (f : Vec F S2048x512 .bf16) :
    (owns (c : Thread nD τ) scU fullShare f : sProp 𝕄) = ((c : Thread nD τ).loc cc0_scratch1) ↦{fullShare} f := owns_whole (c : Thread nD τ) cc0_scratch1 fullShare f
theorem scratch_d (c : Dev nD) (f : Vec F S512x2048 .bf16) :
    (owns (c : Thread nD τ) scD fullShare f : sProp 𝕄) = ((c : Thread nD τ).loc cc0_scratch2) ↦{fullShare} f := owns_whole (c : Thread nD τ) cc0_scratch2 fullShare f

/-- Before the first visit the scratches may hold anything; -/
theorem Φ_in (c : Dev nD) : iprop(Pipeline.ΦA spec0 c ∗ Pipeline.ΦT pre0 (tabs m) c) ⊢ (dats (F := F) m hp 0 c).Φ 0 := by
  rw [show (dats m hp 0 c).Φ 0 = Φ m c 0 from rfl]
  unfold Φ Pipeline.ΦA
  rw [scopedRest0_eq]
  iintro ⟨⟨⟨⟨%g, HG⟩, ⟨%u, HU⟩, ⟨%d, HD⟩⟩, Hr⟩, HT⟩
  isplitl [HG HU HD]
  · iexists (show Vec F S2048x512 .bf16 from g); iexists (show Vec F S2048x512 .bf16 from u); iexists (show Vec F S512x2048 .bf16 from d)
    isplitr
    · ipureintro
      exact fun h => absurd rfl h
    rw [scratch_g, scratch_u, scratch_d]
    isplitl [HG]; · iexact HG
    isplitl [HU]; · iexact HU
    iexact HD
  isplitl [HT]; · iexact HT
  iexact Hr

/-- and after the last they are forgotten. -/
theorem Φ_out (c : Dev nD) : (dats (F := F) m hp 0 c).Φ (Fin.last (cfgA m hp).N) ⊢ Pipeline.ΦA spec0 c := by
  rw [show (dats m hp 0 c).Φ (Fin.last (cfgA m hp).N) = Φ m c (cfgA m hp).N from rfl]
  unfold Φ Pipeline.ΦA
  rw [scopedRest0_eq]
  iintro ⟨⟨%g, %u, %d, -, HG, HU, HD⟩, -, Hr⟩
  isplitl [HG HU HD]
  · isplitl [HG]
    · iexists g; rw [← scratch_g]; iexact HG
    isplitl [HU]
    · iexists u; rw [← scratch_u]; iexact HU
    iexists d; rw [← scratch_d]; iexact HD
  iexact Hr

/-- The call's arrays and tables are the memory's at the start. -/
abbrev V : (c : Dev nD) → (b : Ref sig .tc) → Buf (Elt F) ((c.tc : Thread nD τ).loc b) := fun c b => m ((c : Thread nD τ).loc b)

theorem tabs_at (c : Dev nD) (k : Fin 4) : V m c (pre0.ref k) = tabs m k := by
  obtain rfl : c = 0 := Subsingleton.elim _ _
  rfl

set_option backward.isDefEq.respectTransparency.types false in
/-- The launch: every run ends, with the arrays as the proof data say and the counters at zero. -/
theorem run : θ_run defs (onTc (τ := τ) (main (F := F))) (s₀ m ρ)
    (fun r => Pipeline.FramePost (pcs m hp) (dats m hp) 0 (V m) r ∧ r.2.sem = fun _ => 0) :=
  Pipeline.θ_run_frameP_track (Q' := _) pcfgs (fun _ => adm m hp) (dats m hp) (0 : Fin 1) launch0 defs₀ Variants.none m ρ main
    (hbody := fun c => (body_obligation m hp c).loose) (hshare := fun c => (dats m hp 0 c).share_full fun _ => rfl)
    (howed := fun _ _ => rfl) (V := V m)
    (hmain := Pipeline.hmainP_region _ _ _ _ m main fun c => rfl) (hA := A_eq m hp) (hpf := tabs_at m) (hin := Φ_in m hp) (hout := Φ_out m hp)

include hp in
/-- The frame, at any values: the arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => by
    refine ⟨fun c => ?_, h.2⟩
    have hw := (h.1 c).1
    have hr : ∀ b ∈ Pipeline.restRefs sig spec0, r.2.mem ((c : Thread nD τ).loc b) = V m c b := (h.1 c).2
    exact ⟨hr _ (Pipeline.mem_restRefs_of main_arg0 (by decide) (by decide)), hr _ (Pipeline.mem_restRefs_of main_arg1 (by decide) (by decide)),
      hr _ (Pipeline.mem_restRefs_of main_arg2 (by decide) (by decide)), hr _ (Pipeline.mem_restRefs_of main_arg3 (by decide) (by decide)),
      (hw 0).trans ((dats m hp 0 c).arrAt_in 0 rfl _), (hw 1).trans ((dats m hp 0 c).arrAt_in 1 rfl _),
      (hw 2).trans ((dats m hp 0 c).arrAt_in 2 rfl _), (hw 3).trans ((dats m hp 0 c).arrAt_in 3 rfl _)⟩) (run m ρ hp)

end Cert.ExpertsFrame

end
-- ==== Proof.ExpertsSpec.lean ====
/-
  The routed experts' result, row by row, and the visit that goes over a row.
-/
module

public import proofs.«01_k».proof.Proof.ExpertsPlan
public import Idealize.ShloMosaic.Lib.Pipeline.ValueKit

@[expose] public section

set_option maxRecDepth 16384

noncomputable section

namespace Cert.Experts.Spec

open Idealize.ShloMosaic Idealize.ShloMosaic.Tactic
open Cert.Pre_plan.Val (Visits)

/-- The rows, sorted by expert, -/
abbrev Rows : Shape := ⟨2, ![66560, 2048]⟩
/-- every expert's matrix into its hidden units -/
abbrev Into : Shape := ⟨3, ![64, 2048, 512]⟩
/-- and out of them. -/
abbrev Back : Shape := ⟨3, ![64, 512, 2048]⟩

/-- A row times a column of an expert's matrix. -/
def score (x : Rows.Idx → EReal) (w : Into.Idx → EReal) (e : Fin 64) (r : Fin 66560) (f : Fin 512) : EReal :=
  ∑ k : Fin 2048, x (ix2 r k) * w (ix3 e k f)

/-- Hidden unit `f` of row `r` in expert `e`. -/
def hidden (x : Rows.Idx → EReal) (g u : Into.Idx → EReal) (e : Fin 64) (r : Fin 66560) (f : Fin 512) : EReal :=
  score x g e r f * Ideal.logistic (score x g e r f) * score x u e r f

/-- What expert `e` makes of row `r`. -/
def made (x : Rows.Idx → EReal) (g u : Into.Idx → EReal) (d : Back.Idx → EReal) (e : Fin 64) (r : Fin 66560) (n : Fin 2048) : EReal :=
  ∑ f : Fin 512, hidden x g u e r f * d (ix3 e f n)

/-- Visit `v` goes over row `r`. -/
def Over (t l h : ℕ → ℕ) (v r : ℕ) : Prop := 256 * t v + l v ≤ r ∧ r < 256 * t v + h v

variable {t e l h : ℕ → ℕ}

/-- The visits before one of some rows are of some rows too, all before its first. -/
theorem rows_before (p : Visits t e l h) : ∀ w, w < 323 → l w < h w → ∀ v < w, l v < h v ∧ 256 * t v + h v ≤ 256 * t w + l w
  | 0, _, _, v, hv => absurd hv (Nat.not_lt_zero v)
  | w + 1, hw, hr, v, hv => by
    rcases p.next w (by omega) with ⟨-, a, b⟩ | ⟨a, -⟩
    · rcases Nat.lt_succ_iff_lt_or_eq.mp hv with c | rfl
      · have := rows_before p w (by omega) a v c
        omega
      · omega
    · exact absurd hr a

/-- No row is gone over twice. -/
theorem only_one (p : Visits t e l h) {v w r : ℕ} (hv : v < 323) (hw : w < 323) (a : Over t l h v r) (b : Over t l h w r) : v = w := by
  unfold Over at a b
  rcases Nat.lt_trichotomy v w with c | c | c
  · have := rows_before p w hw (by omega) v c
    omega
  · exact c
  · have := rows_before p v hv (by omega) w c
    omega

/-- A visit of no rows is on the last tile. -/
theorem idle_last (p : Visits t e l h) : ∀ v, v < 323 → ¬l v < h v → t v = 259
  | 0, _, hr => absurd (by have := p.first; omega) hr
  | v + 1, hv, hr => by
    have hs := p.span v (by omega)
    have ht := p.tile v (by omega)
    rcases p.next v (by omega) with ⟨a, -⟩ | ⟨-, a, b⟩
    · exact absurd a hr
    · by_cases c : l v < h v
      · have := b c
        omega
      · rw [a]; exact idle_last p v (by omega) c

/-- The last visit is on the last tile. -/
theorem last_tile (p : Visits t e l h) : t 322 = 259 := by
  have hs := p.span 322 (by omega)
  have ht := p.tile 322 (by omega)
  by_cases c : l 322 < h 322
  · have := p.last c
    omega
  · exact idle_last p 322 (by omega) c

/-- Every tile has a last visit. -/
theorem leaves_tile (p : Visits t e l h) (T : ℕ) (hT : T < 260) : ∃ v, v < 323 ∧ t v = T ∧ (v = 322 ∨ t (v + 1) ≠ t v) := by
  by_contra hn
  have hall : ∀ v, v < 323 → t v ≤ T := by
    intro v
    induction v with
    | zero => intro _; rw [p.first.1]; exact Nat.zero_le T
    | succ v ih =>
      intro hv
      have a := ih (by omega)
      by_cases c : t (v + 1) = t v
      · omega
      · have b := (p.moved (by omega) c).2.2.2.2
        by_contra hc
        exact hn ⟨v, by omega, by omega, .inr c⟩
  have a := hall 322 (by omega)
  have b := last_tile p
  exact hn ⟨322, by omega, by omega, .inl rfl⟩

end Cert.Experts.Spec

end
-- ==== Proof.ExpertsRef.lean ====
/-
  The reference's result for the routed experts, row by row.
-/
module

public import proofs.«01_k».proof.Proof.ExpertsSpec
public import proofs.«01_k».proof.Proof.Gen.ExpertsRefIdeal.Read

@[expose] public section

set_option maxRecDepth 16384

noncomputable section

namespace Cert.ExpertsRefIdeal.Val

open Cert.ExpertsRefIdeal Cert.ExpertsRefIdeal.Read Cert.Experts.Spec Idealize.ShloMosaic Idealize.ShloMosaic.TcCoe Idealize.SL.Sem Idealize.ShloMosaic.Tactic
open Cert.Pre_plan.Val (Visits nats nats_eq nat_of_int pos_nat)

variable (x : Rows.Idx → EReal) (g u : Into.Idx → EReal) (d : Back.Idx → EReal)

/-- The two products into the hidden units. -/
theorem score_ref (e : Fin 64) (r : Fin 66560) (f : Fin 512) : val_main_v3 (F := Ideal) x g (ix3 e r f) = score x g e r f := by
  have h : val_main_v3 (F := Ideal) x g (ix3 e r f) = ∑ k : Fin 2048, (g (ix3 e k f) : EReal) * x (ix2 r k) := by
    pointwise [val_main_v3, val_main_v2]
  exact h.trans (Finset.sum_congr rfl fun k _ => mul_comm _ _)
theorem score_ref' (e : Fin 64) (r : Fin 66560) (f : Fin 512) : val_main_v6 (F := Ideal) x u (ix3 e r f) = score x u e r f := by
  have h : val_main_v6 (F := Ideal) x u (ix3 e r f) = ∑ k : Fin 2048, (u (ix3 e k f) : EReal) * x (ix2 r k) := by
    pointwise [val_main_v6, val_main_v5]
  exact h.trans (Finset.sum_congr rfl fun k _ => mul_comm _ _)

/-- A hidden unit. -/
theorem hidden_ref (e : Fin 64) (r : Fin 66560) (f : Fin 512) : val_main_v7 (F := Ideal) x g u (ix3 e r f) = hidden x g u e r f := by
  have h : val_main_v7 (F := Ideal) x g u (ix3 e r f)
      = (val_main_v3 (F := Ideal) x g (ix3 e r f) : EReal) * Ideal.logistic (val_main_v3 (F := Ideal) x g (ix3 e r f)) * val_main_v6 (F := Ideal) x u (ix3 e r f) := by
    rw [val_main_v7_apply, val_main_v4_apply, val_main_call0_v5_apply, val_main_call0_v4_apply, val_main_call0_cst_0_apply, val_main_call0_v3_apply,
      val_main_call0_v2_apply, val_main_call0_cst_apply, val_main_call0_v1_apply, val_main_call0_v0_apply]
    generalize val_main_v3 (F := Ideal) x g (ix3 e r f) = z
    generalize val_main_v6 (F := Ideal) x u (ix3 e r f) = y
    pointwise []
    rfl
  rw [h, score_ref, score_ref']
  rfl

/-- What an expert makes of a row. -/
theorem made_ref (e : Fin 64) (r : Fin 66560) (n : Fin 2048) : val_main_v8 (F := Ideal) x g u d (ix3 e r n) = made x g u d e r n := by
  have h : val_main_v8 (F := Ideal) x g u d (ix3 e r n) = ∑ f : Fin 512, (val_main_v7 (F := Ideal) x g u (ix3 e r f) : EReal) * d (ix3 e f n) := by
    pointwise [val_main_v8]
  rw [h]
  simp only [hidden_ref]
  rfl

/-! ## Which expert a row has -/

instance : Std.Commutative (IntOp.ori (w := 1)) := ⟨by decide⟩
instance : Std.Associative (IntOp.ori (w := 1)) := ⟨by decide⟩

variable (t ex l h : IVec S323 32)

/-- A bit of one visit, expert and row. -/
theorem bit_ref (p : Visits (nats t) (nats ex) (nats l) (nats h)) (v : Fin 323) (e : Fin 64) (r : Fin 66560) :
    val_main_v33 (F := Ideal) t ex l h (ix3 v e r) = 1#1 ↔ Over (nats t) (nats l) (nats h) v.val r.val ∧ nats ex v.val = e.val := by
  have hs := p.span v v.isLt
  have ht := p.tile v v.isLt
  have he := p.expert v v.isLt
  rw [nats_eq l v, nats_eq h v] at hs
  rw [nats_eq t v] at ht
  rw [nats_eq ex v] at he
  have e0 : val_main_v33 (F := Ideal) t ex l h (ix3 v e r)
      = IntOp.andi (IntOp.andi (IntOp.cmpi .sge (BitVec.ofNat 32 r.val) (IntOp.addi (IntOp.muli 256#32 (t (ix1 v))) (l (ix1 v))))
          (IntOp.cmpi .slt (BitVec.ofNat 32 r.val) (IntOp.addi (IntOp.muli 256#32 (t (ix1 v))) (h (ix1 v)))))
          (IntOp.cmpi .eq (ex (ix1 v)) (BitVec.ofNat 32 e.val)) := by
    pointwise [val_main_v33, val_main_v32, val_main_v31, val_main_v30, val_main_v29, val_main_v28, val_main_v27, val_main_v26, val_main_v25, val_main_v24,
      val_main_v23, val_main_v22, val_main_v21, val_main_v20, val_main_v19, val_main_v18, val_main_v17, val_main_v16, val_main_v15, val_main_v14,
      val_main_v13, val_main_v12, val_main_v11, val_main_v10, val_main_v9, val_main_c, val_main_v1, val_main_v0]
  have q1 := pos_nat (t (ix1 v)) (l (ix1 v)) ht (hs.1.trans hs.2)
  have q2 := pos_nat (t (ix1 v)) (h (ix1 v)) ht hs.2
  have hr : (BitVec.ofNat 32 r.val).toNat = r.val := by rw [BitVec.toNat_ofNat]; omega
  have hi : ∀ b : BitVec 32, b.toNat < 2 ^ 31 → b.toInt = (b.toNat : ℤ) := fun b hb => BitVec.toInt_eq_toNat_of_lt (by omega)
  have hee : (BitVec.ofNat 32 e.val).toNat = e.val := by rw [BitVec.toNat_ofNat]; omega
  rw [e0, IntOp.andi_eq_one, IntOp.andi_eq_one, IntOp.cmpi_sge, IntOp.cmpi_slt, IntOp.cmpi_eq, hi _ (by omega), hi _ (by omega), hi _ (by omega), q1, q2, hr,
    ← BitVec.toNat_inj, hee]
  unfold Over
  rw [nats_eq t v, nats_eq l v, nats_eq h v, nats_eq ex v]
  omega

/-- A row is an expert's when a visit of that expert goes over it. -/
theorem mine_ref (p : Visits (nats t) (nats ex) (nats l) (nats h)) (e : Fin 64) (r : Fin 66560) :
    val_main_v34 (F := Ideal) t ex l h (ix2 e r) = 1#1 ↔ ∃ v : Fin 323, Over (nats t) (nats l) (nats h) v.val r.val ∧ nats ex v.val = e.val := by
  have hd : S323x64x66560.Reduces [0] S64x66560 := by decide
  unfold val_main_v34
  rw [Host.reduce_eq_fold_single IntOp.ori _ _ Gen.reducesTo_S323x64x66560_S64x66560_d0 hd]
  have hl : ∀ v : Fin 323, hd.lift (ix2 e r) v = ix3 v e r := fun v => funext fun a => by match a with | 0 => rfl | 1 => rfl | 2 => rfl
  refine (Finset.fold_op_rel_iff_or (c := 1#1) (r := fun (_ b : BitVec 1) => b = 1#1) (fun {_ _ _} => IntOp.ori_eq_one)).trans ?_
  have hb := bit_ref t ex l h p
  revert hb
  generalize val_main_v33 (F := Ideal) t ex l h = z
  intro hb
  refine ⟨fun k => ?_, fun ⟨v, hv⟩ => .inr ⟨v, Finset.mem_univ _, ?_⟩⟩
  · rcases k with k | ⟨v, -, k⟩
    · exact absurd k (by decide)
    · exact ⟨v, (hb v e r).mp ((congrArg z (hl v)).symm.trans k)⟩
  · exact (congrArg z (hl v)).trans ((hb v e r).mpr hv)

/-- The result at a row a visit goes over: what the visit's expert makes of it. -/
theorem result_ref (p : Visits (nats t) (nats ex) (nats l) (nats h)) (r : Fin 66560) (n : Fin 2048) (v : Fin 323) (hv : Over (nats t) (nats l) (nats h) v.val r.val)
    (e : Fin 64) (he : nats ex v.val = e.val) : val_main_v37 (F := Ideal) t ex l h x g u d (ix2 r n) = made x g u d e r n := by
  have hterm : ∀ k : Fin 64, val_main_v36 (F := Ideal) t ex l h x g u d (idx_main_v37 (ix2 r n) k) = if k = e then made x g u d e r n else 0 := by
    intro k
    have hk : val_main_v36 (F := Ideal) t ex l h x g u d (ix3 k r n)
        = (if val_main_v34 (F := Ideal) t ex l h (ix2 k r) = 1#1 then val_main_v8 (F := Ideal) x g u d (ix3 k r n) else (0 : EReal)) := by
      rw [val_main_v36_apply, val_main_call1_v1_apply, val_main_v35_apply, val_main_call1_v2_apply, val_main_call1_v0_apply, val_main_cst_apply,
        show idx_main_v35 (idx_main_call1_v1 (ix3 k r n)) = ix2 k r from funext fun a => by match a with | 0 => rfl | 1 => rfl]
      generalize val_main_v34 (F := Ideal) t ex l h (ix2 k r) = b
      generalize val_main_v8 (F := Ideal) x g u d (ix3 k r n) = y
      pointwise []
      rfl
    refine Eq.trans (congrArg _ (funext fun a => by match a with | 0 => rfl | 1 => rfl | 2 => rfl)) (hk.trans ?_)
    have hm := mine_ref t ex l h p k r
    by_cases c : k = e
    · subst c
      rw [if_pos (hm.mpr ⟨v, hv, he⟩), if_pos rfl, made_ref]
    · rw [if_neg c, if_neg (mt hm.mp ?_)]
      rintro ⟨w, hw, hk⟩
      have : w = v := Fin.ext (only_one p w.isLt v.isLt hw hv)
      subst this
      exact c (Fin.ext (hk.symm.trans he))
  rw [val_main_v37_apply]
  simp only [hterm]
  rw [Finset.sum_ite_eq' Finset.univ e, if_pos (Finset.mem_univ e)]
  refine Eq.trans (congrArg (· + _) ?_) (zero_add _)
  rw [val_main_cst_1_apply]
  pointwise []

end Cert.ExpertsRefIdeal.Val

end
-- ==== Proof.ExpertsValue.lean ====
/-
  The routed experts' array after the run: a tile's rows are written back as the visits of the tile leave them, each row as its visit's
  expert makes it.
-/
module

public import proofs.«01_k».proof.Proof.ExpertsFrame
public import proofs.«01_k».proof.Proof.ExpertsSpec
public import Idealize.ShloMosaic.Lib.Pipeline.ValueKit

@[expose] public section

set_option maxRecDepth 16384

noncomputable section

namespace Cert.ExpertsIdeal.Val

open Cert.ExpertsIdeal Cert.ExpertsIdeal.Gen Cert.ExpertsBody Cert.ExpertsFrame Cert.Experts.Spec
open Idealize.ShloMosaic Idealize.ShloMosaic.TcCoe Idealize.SL.Sem Idealize.ShloMosaic.Tactic
open Cert.Pre_plan.Val (Visits nats nats_eq)
open Idealize.ShloMosaic.Pipeline (Dat Cfg Window)

/-! ## The body's values -/

/-- The scratches hold the weights. -/
theorem pay1_apply (w : Vec Ideal S1x2048x512 .f32) (k : Fin 2048) (f : Fin 512) : k0_pay1 (F := Ideal) w (ix2 k f) = w (ix3 0 k f) := by
  pointwise [k0_pay1]
theorem pay2_apply (w : Vec Ideal S1x2048x512 .f32) (k : Fin 2048) (f : Fin 512) : k0_pay2 (F := Ideal) w (ix2 k f) = w (ix3 0 k f) := by
  pointwise [k0_pay2]
theorem pay3_apply (w : Vec Ideal S1x512x2048 .f32) (f : Fin 512) (n : Fin 2048) : k0_pay3 (F := Ideal) w (ix2 f n) = w (ix3 0 f n) := by
  pointwise [k0_pay3]

/-- A tile's rows through one expert. -/
theorem pay4_apply (x : Vec Ideal S256x2048 .f32) (g u : Vec Ideal S2048x512 .bf16) (d : Vec Ideal S512x2048 .bf16) (o : Fin 256) (n : Fin 2048) :
    k0_pay4 (F := Ideal) x g u d (ix2 o n)
      = ∑ f : Fin 512, ((∑ k : Fin 2048, (x (ix2 o k) : EReal) * g (ix2 k f)) * Ideal.logistic (∑ k : Fin 2048, (x (ix2 o k) : EReal) * g (ix2 k f))
          * (∑ k : Fin 2048, (x (ix2 o k) : EReal) * u (ix2 k f))) * d (ix2 f n) := by
  pointwise [k0_pay4]

/-- A store of the rows from `l` on keeps those before. -/
theorem pay5_apply (l : BitVec 32) (x : Vec Ideal S256x2048 .f32) (g u : Vec Ideal S2048x512 .bf16) (d : Vec Ideal S512x2048 .bf16) (y : Vec Ideal S256x2048 .f32)
    (hl : l.toNat ≤ 256) (o : Fin 256) (n : Fin 2048) :
    k0_pay5 (F := Ideal) l x g u d y (ix2 o n) = if l.toNat ≤ o.val then k0_pay4 (F := Ideal) x g u d (ix2 o n) else y (ix2 o n) := by
  have h : k0_pay5 (F := Ideal) l x g u d y (ix2 o n)
      = Scalar.select (IntOp.cmpi .sge (BitVec.ofNat 32 o.val) l) (k0_pay4 (F := Ideal) x g u d (ix2 o n)) (y (ix2 o n)) := by
    unfold k0_pay5
    generalize k0_pay4 (F := Ideal) x g u d = z
    pointwise []
  have hi : ∀ b : BitVec 32, b.toNat < 2 ^ 31 → b.toInt = (b.toNat : ℤ) := fun b hb => BitVec.toInt_eq_toNat_of_lt (by omega)
  have ho : (BitVec.ofNat 32 o.val).toNat = o.val := by rw [BitVec.toNat_ofNat]; omega
  have hc : IntOp.cmpi .sge (BitVec.ofNat 32 o.val) l = 1#1 ↔ l.toNat ≤ o.val := by
    rw [IntOp.cmpi_sge, hi _ (by omega), hi _ (by omega), ho]
    omega
  rw [h]
  unfold Scalar.select
  by_cases c : l.toNat ≤ o.val
  · rw [if_pos c]; exact if_pos (hc.mpr c)
  · rw [if_neg c]; exact if_neg (mt hc.mp c)

/-- The number of blocks of a length read off its values. -/
theorem blocks_of {a b p q r : ℕ} (ha : a = p) (hb : b = q) (h : (p + q - 1) / q = r) : (a + b - 1) / b = r := by
  rw [ha, hb, h]

variable (m : (ℓ : Loc nD τ sig) → Buf (Elt Ideal) ℓ) (hp : Plan m) (c : Dev nD)

/-- What a visit's expert makes of row `r`. -/
abbrev rowOf (e : ℕ) (r : ℕ) (n : Fin 2048) : EReal :=
  made (aX m c) (aG m c) (aU m c) (aD m c) ⟨e % 64, Nat.mod_lt _ (by decide)⟩ ⟨r % 66560, Nat.mod_lt _ (by decide)⟩ n

/-- A visit's tile through its expert. -/
theorem full_apply (v : ℕ) (o : Fin 256) (n : Fin 2048) : full m c v (ix2 o n) = rowOf m c (tE m v) (256 * tT m v + o.val) n := by
  unfold full
  rw [pay4_apply]
  unfold gB uB dB
  simp only [pay1_apply, pay2_apply, pay3_apply]
  rfl

include hp in
/-- After a visit every row of its tile gone over so far holds what its visit's expert makes of it. -/
theorem rows_after : ∀ v, v < 323 → ∀ o : Fin 256, (tL m v < tH m v → o.val < tH m v) → ∃ w, w < 323 ∧ Over (tT m) (tL m) (tH m) w (256 * tT m v + o.val)
    ∧ ∀ n : Fin 2048, out m c v (ix2 o n) = rowOf m c (tE m w) (256 * tT m v + o.val) n
  | 0, hv, o, ho => by
    have h0 := hp.first
    have hr : tL m 0 < tH m 0 := by rw [h0.2.1]; exact h0.2.2
    refine ⟨0, hv, ⟨by rw [h0.2.1]; omega, by have := ho hr; omega⟩, fun n => ?_⟩
    change stepOut m c 0 _ _ = _
    rw [stepOut_first m hp c 0 hv hr h0.2.1, full_apply]
  | v + 1, hv, o, ho => by
    change ∃ w, w < 323 ∧ _ ∧ ∀ n : Fin 2048, stepOut m c (v + 1) (out m c v) (ix2 o n) = _
    have hs := hp.span v (by omega)
    have hs' := hp.span (v + 1) (by omega)
    have ih := rows_after v (by omega) o
    by_cases ht : tT m (v + 1) = tT m v
    · by_cases hr : tL m (v + 1) < tH m (v + 1)
      · have hm := hp.same (by omega) ht hr
        have hl : (wordN (tabs m 2) (v + 1)).toNat = tL m (v + 1) := wordN_nat _ _
        rw [stepOut_next m hp c (v + 1) hv hr (by omega)]
        by_cases hc : tL m (v + 1) ≤ o.val
        · refine ⟨v + 1, hv, ⟨by omega, by have := ho hr; omega⟩, fun n => ?_⟩
          rw [pay5_apply _ _ _ _ _ _ (by omega), if_pos (by omega)]
          exact full_apply m c (v + 1) o n
        · obtain ⟨w, hw, a, b⟩ := ih fun _ => by omega
          refine ⟨w, hw, by rw [ht]; exact a, fun n => ?_⟩
          rw [pay5_apply _ _ _ _ _ _ (by omega), if_neg (by omega), b n, ht]
      · rw [stepOut_idle m hp c (v + 1) hv hr, ht]
        refine ih fun k => ?_
        rcases hp.next v (by omega) with ⟨a, -⟩ | ⟨-, -, a⟩
        · exact absurd a hr
        · have := a k
          have := hp.tile v (by omega)
          have := o.isLt
          omega
    · have hm := hp.moved (by omega) ht
      refine ⟨v + 1, hv, ⟨by rw [hm.2.1]; omega, by have := ho hm.1; omega⟩, fun n => ?_⟩
      rw [stepOut_first m hp c (v + 1) hv hm.1 hm.2.1, full_apply]

include hp in
/-- A tile's last visit leaves all its rows so. -/
theorem rows_left (v : ℕ) (hv : v < 323) (hf : v = 322 ∨ tT m (v + 1) ≠ tT m v) (o : Fin 256) : ∃ w, w < 323 ∧ Over (tT m) (tL m) (tH m) w (256 * tT m v + o.val)
    ∧ ∀ n : Fin 2048, out m c v (ix2 o n) = rowOf m c (tE m w) (256 * tT m v + o.val) n := by
  refine rows_after m hp c v hv o fun hr => ?_
  have ho := o.isLt
  rcases Nat.lt_or_ge v 322 with h | h
  · have := (hp.moved h (hf.resolve_left (by omega))).2.2.1
    omega
  · obtain rfl : v = 322 := by omega
    have := hp.last hr
    have := hp.tile 322 (by omega)
    have := hp.span 322 (by omega)
    omega

include hp in
/-- The output has 260 blocks of rows and one of columns. -/
theorem nblk_4 : ((cfgA m hp).win 4).nblk (0 : Fin 2) = 260 ∧ ((cfgA m hp).win 4).nblk (1 : Fin 2) = 1 :=
  ⟨blocks_of (p := 66560) (q := 256) rfl rfl rfl, blocks_of (p := 2048) (q := 2048) rfl rfl rfl⟩

/-- Every tile is written back. -/
theorem covers_4 : ((cfgA m hp).win 4).Covers := by
  refine ⟨fun (a : Fin 2) => ?_, fun (β : (a : Fin 2) → Fin (((cfgA m hp).win 4).nblk a)) => ?_⟩
  · fin_cases a
    · exact (by decide : 0 < 256)
    · exact (by decide : 0 < 2048)
  · have h0 : (β 0).val < 260 := lt_of_lt_of_eq (β 0).isLt (nblk_4 m hp).1
    have h1 : (β 1).val < 1 := lt_of_lt_of_eq (β 1).isLt (nblk_4 m hp).2
    obtain ⟨v, hv, ht, hf⟩ := leaves_tile hp (β 0).val h0
    refine ⟨⟨v, by rw [show (cfgA m hp).grid.N = 323 from N_0]; exact hv⟩, (flush_iff m hp _).mpr hf, fun (a : Fin 2) => ⟨?_, .inl ?_⟩⟩
    · refine (congrFun (index_4 m hp _) a).trans ?_
      fin_cases a
      · exact ht
      · exact (Nat.lt_one_iff.mp h1).symm
    · rfl

/-- Where the block of a visit's tile lies in the array. -/
theorem emb_4 (t : Fin (cfgA m hp).N) (y : S256x2048.Idx) (hr : 256 * tT m t.val + (y 0).val < 66560) :
    ((((cfgA m hp).win 4).blk t).view.emb y : S66560x2048.Idx) = ix2 ⟨256 * tT m t.val + (y 0).val, hr⟩ (y 1) := by
  have h := tr4 m (grid0.coords t)
  refine funext fun (a : Fin 2) => Fin.ext ?_
  fin_cases a
  · have h0 : cc0_transform_4 k0_off1_inb numel1_S1 (tabs m) (grid0.coords t) 0 = tT m t.val := (congrFun h 0).trans (congrArg (tT m) (coord_0 t))
    change cc0_transform_4 k0_off1_inb numel1_S1 (tabs m) (grid0.coords t) 0 * 256 + 1 * (y 0).val = 256 * tT m t.val + (y 0).val
    rw [h0]
    omega
  · have h0 : cc0_transform_4 k0_off1_inb numel1_S1 (tabs m) (grid0.coords t) 1 = 0 := congrFun h 1
    change cc0_transform_4 k0_off1_inb numel1_S1 (tabs m) (grid0.coords t) 1 * 2048 + 1 * (y 1).val = (y 1).val
    rw [h0]
    omega

include hp in
/-- What a tile's last visit leaves is the array's rows of the tile. -/
theorem left_4 (G : S66560x2048.Idx → EReal)
    (hG : ∀ (r : Fin 66560) (n : Fin 2048) (w : ℕ), w < 323 → Over (tT m) (tL m) (tH m) w r.val → G (ix2 r n) = rowOf m c (tE m w) r.val n)
    (v : ℕ) (hv : v < 323) (hf : v = 322 ∨ tT m (v + 1) ≠ tT m v) (y : S256x2048.Idx) (hr : 256 * tT m v + (y 0).val < 66560) :
    out m c v y = G (ix2 ⟨256 * tT m v + (y 0).val, hr⟩ (y 1)) := by
  obtain ⟨o, n, rfl⟩ : ∃ (o : Fin 256) (n : Fin 2048), y = ix2 o n := ⟨y 0, y 1, by funext b; match b with | 0 => rfl | 1 => rfl⟩
  obtain ⟨w, hw, a, b⟩ := rows_left m hp c v hv hf o
  exact (b n).trans (hG ⟨256 * tT m v + o.val, hr⟩ n w hw a).symm

/-- The array, from its values at the rows each visit goes over. -/
theorem final_4 (G : S66560x2048.Idx → EReal)
    (hG : ∀ (r : Fin 66560) (n : Fin 2048) (w : ℕ), w < 323 → Over (tT m) (tL m) (tH m) w r.val → G (ix2 r n) = rowOf m c (tE m w) r.val n) :
    (dats m hp 0 c).arrAt 4 (cfgA m hp).N = G := by
  refine (dats m hp 0 c).arrAt_eq_of_covers 4 _ (covers_4 m hp) fun t hf (y : S256x2048.Idx) => ?_
  have ht := hp.tile _ (lt_N m hp t)
  have hy0 : (y 0).val < 256 := (y 0).isLt
  have hr : 256 * tT m t.val + (y 0).val < 66560 := by omega
  have k := left_4 m hp c G hG t.val (lt_N m hp t) ((flush_iff m hp t).mp hf) y hr
  refine Eq.trans ?_ (k.trans (congrArg G (emb_4 m hp t y hr).symm))
  exact congrFun (after_4 m hp c t) y

end Cert.ExpertsIdeal.Val

end
-- ==== Proof.ExpertsClaims.lean ====
/- The claims about the routed experts, one theorem each. -/
module

public import proofs.«01_k».proof.Defs
public import proofs.«01_k».proof.Proof.Gen.Experts
public import proofs.«01_k».proof.Proof.Gen.ExpertsIdeal.Skeleton
public import proofs.«01_k».proof.Proof.Gen.ExpertsRefIdeal.Run
public import proofs.«01_k».proof.Proof.Gen.ExpertsRefIdeal.Read
public import proofs.«01_k».proof.Proof.ExpertsFrame
public import proofs.«01_k».proof.Proof.ExpertsPlan
public import proofs.«01_k».proof.Proof.ExpertsRef
public import proofs.«01_k».proof.Proof.ExpertsValue
public import Idealize.ShloMosaic.Lib.Quiescent
public import Idealize.ShloMosaic.Lib.Tactic

@[expose] public section

noncomputable section

namespace Cert.ExpertsClaims

open Idealize.ShloMosaic Idealize.ShloMosaic.Tactic Idealize.ShloMosaic.TcCoe Idealize.SL.Sem

/-- The idealized kernel's text at machine values: launched on a plan of visits it runs to its end, leaves its arguments as they
    were and every counter at zero. -/
def FrameBits : Prop :=
  ∀ (m : (ℓ : Loc Cert.ExpertsIdeal.nD Cert.ExpertsIdeal.τ Cert.ExpertsIdeal.sig) → Buf (Elt Bits) ℓ) (g : Dev Cert.ExpertsIdeal.nD → PrngReg),
    (∀ c : Dev Cert.ExpertsIdeal.nD, Cert.Pre_plan.fn (F := Bits)
        (m ((c.tc : Thread Cert.ExpertsIdeal.nD Cert.ExpertsIdeal.τ).loc Cert.ExpertsIdeal.main_arg0))
        (m ((c.tc : Thread Cert.ExpertsIdeal.nD Cert.ExpertsIdeal.τ).loc Cert.ExpertsIdeal.main_arg1))
        (m ((c.tc : Thread Cert.ExpertsIdeal.nD Cert.ExpertsIdeal.τ).loc Cert.ExpertsIdeal.main_arg2))
        (m ((c.tc : Thread Cert.ExpertsIdeal.nD Cert.ExpertsIdeal.τ).loc Cert.ExpertsIdeal.main_arg3))
        (m ((c.tc : Thread Cert.ExpertsIdeal.nD Cert.ExpertsIdeal.τ).loc Cert.ExpertsIdeal.main_arg4))
        (m ((c.tc : Thread Cert.ExpertsIdeal.nD Cert.ExpertsIdeal.τ).loc Cert.ExpertsIdeal.main_arg5))
        (m ((c.tc : Thread Cert.ExpertsIdeal.nD Cert.ExpertsIdeal.τ).loc Cert.ExpertsIdeal.main_arg6))
        (m ((c.tc : Thread Cert.ExpertsIdeal.nD Cert.ExpertsIdeal.τ).loc Cert.ExpertsIdeal.main_arg7)) = fun _ => 1#1) →
    θ_run (Cert.ExpertsIdeal.defs (F := Bits)) (onTc (τ := Cert.ExpertsIdeal.τ) (Cert.ExpertsIdeal.main (F := Bits))) ⟨m, fun _ => 0, g⟩ (fun r =>
      (∀ c : Dev Cert.ExpertsIdeal.nD,
        r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
        ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
        ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

/-- The idealized kernel's text is the kernel's, so the two statements are one. -/
theorem frameBits_eq : FrameBits = Cert.quiescent_Experts := by sl_kernel_rfl

/-- The kernel runs to its end, leaves its arguments as they were and every counter at zero. -/
theorem frame_p : Cert.quiescent_Experts :=
  frameBits_eq ▸ (fun m ρ h => Cert.ExpertsFrame.frame (F := Bits) m ρ (Cert.Pre_plan.Val.unpack _ _ _ _ _ _ _ _ (h 0)) : FrameBits)

/-- So does the idealized kernel. -/
theorem frame_pi : Cert.quiescent_ExpertsIdeal := fun m ρ h =>
  Cert.ExpertsFrame.frame m ρ (Cert.Pre_plan.Val.unpack _ _ _ _ _ _ _ _ (h 0))

/-- The reference runs to its end, leaves its arguments as they were and every counter at zero. -/
theorem frame_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- So it does under the precondition. -/
theorem frame_ri_pre : Cert.quiescent_ExpertsRefIdeal_pre_plan := fun m ρ _ => frame_ri m ρ trivial

section
open Cert.ExpertsIdeal Cert.ExpertsIdeal.Gen Cert.ExpertsIdeal.Val Cert.ExpertsFrame Cert.Experts.Spec

variable (m : (ℓ : Loc nD τ sig) → Buf (Elt Ideal) ℓ)

/-- The reference's result of the kernel's arguments. -/
def result (c : Dev nD) : S66560x2048.Idx → EReal :=
  Cert.ExpertsRefIdeal.Read.val_main_v37 (F := Ideal)
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))

/-- At the row of a visit the reference's result is what the visit's expert makes of the row. -/
theorem result_row (hp : Plan m) (c : Dev nD) (r : Fin 66560) (n : Fin 2048) (w : ℕ) (hw : w < 323)
    (ho : Over (tT m) (tL m) (tH m) w r.val) : result m c (ix2 r n) = rowOf m c (tE m w) r.val n := by
  obtain rfl : c = 0 := Subsingleton.elim _ _
  have he := hp.expert w hw
  refine (Cert.ExpertsRefIdeal.Val.result_ref _ _ _ _ _ _ _ _ hp r n ⟨w, hw⟩ ho ⟨tE m w, he⟩ rfl).trans ?_
  have h1 : (⟨tE m w % 64, Nat.mod_lt _ (by decide)⟩ : Fin 64) = ⟨tE m w, he⟩ := Fin.ext (Nat.mod_eq_of_lt he)
  have h2 : (⟨r.val % 66560, Nat.mod_lt _ (by decide)⟩ : Fin 66560) = r := Fin.ext (Nat.mod_eq_of_lt r.isLt)
  rw [rowOf, h1, h2]

/-- Every run of the idealized kernel on a plan of visits ends with the reference's result in its result array and its arguments
    as they were. -/
theorem kernel_run (ρ : Dev nD → PrngReg) (hp : Plan m) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨((h.1.1 c).1 4).trans (final_4 m hp c _ (result_row m hp c)), h.2.1 c⟩)
    (θ_run_and (run m ρ hp) (Cert.ExpertsFrame.frame m ρ hp))

end

/-- Kernel and reference end with the same array over the extended reals: every row as its expert makes it. -/
theorem algebraic : Cert.algebraic_ExpertsIdeal_ExpertsRefIdeal := by
  intro m ρ m' ρ' hpre hagree
  have hp := Cert.Pre_plan.Val.unpack _ _ _ _ _ _ _ _ (hpre 0)
  refine ⟨_, kernel_run m ρ hp, ?_⟩
  refine (θ_run Cert.ExpertsRefIdeal.defs _ _).mono (fun _ h c => ?_) (Cert.ExpertsRefIdeal.Value.run (F := Ideal) m' ρ')
  obtain ⟨a0, a1, a2, a3, a4, a5, a6, a7⟩ := hagree c
  obtain ⟨h0, h⟩ := h c
  rw [Cert.ExpertsRefIdeal.Read.val_main_v37_eq, a0, a1, a2, a3, a4, a5, a6, a7] at h0
  exact ⟨h0, h⟩

end Cert.ExpertsClaims

end
-- ==== Proof.PoolSpec.lean ====
/-
  What the prompt's pools are: for each group of columns the mean of the last few rows less the row itself, times the group's
  matrix and the columns' scale.
-/
module

public import proofs.«01_k».proof.Proof.StickMath
public import proofs.«01_k».proof.Proof.StickSpec
public import Idealize.ShloMosaic.Lib.WordCmp

@[expose] public section

noncomputable section

namespace Cert.Pool.Spec

open Idealize.ShloMosaic Cert.Stick

/-- The matrices, one a group, -/
abbrev Mats : Shape := ⟨4, ![1, 4, 256, 256]⟩
/-- and the columns' scale. -/
abbrev Gains : Shape := ⟨2, ![1, 1024]⟩

/-- The sum of the entries before a place. -/
def before (f : ℕ → ℝ) (n : ℕ) : ℝ := ∑ s ∈ Finset.range n, f s

/-- A column of real numbers. -/
def column (x : Rows.Idx → EReal) (c : ℕ) : ℕ → ℝ := fun s => (at2 x s c).toReal

/-- The last `w` rows' sum of a column at a row. -/
def recent (x : Rows.Idx → EReal) (w t c : ℕ) : ℝ := before (column x c) (t + 1) - before (column x c) (t + 1 - w)

/-- Their mean, of fewer rows at the start, less the row itself. -/
def centred (x : Rows.Idx → EReal) (w t c : ℕ) : EReal :=
  (recent x w t c : EReal) * ((1 / ((min (t + 1) w : ℕ) : ℝ) : ℝ) : EReal) - at2 x t c

/-- The pooled row at a column of group `g`. -/
def pooled (x : Rows.Idx → EReal) (w : Mats.Idx → EReal) (s : Gains.Idx → EReal) (g : Fin 4) (t : ℕ) (n : Fin 256) : EReal :=
  (∑ j : Fin 256, centred x (2 ^ (g.val + 1)) t (256 * g.val + j.val) * w (ix4 0 g j n))
    * s (ix2 0 ⟨256 * g.val + n.val, by omega⟩)

/-- The group of a column -/
def groupOf (c : Fin 1024) : Fin 4 := ⟨c.val / 256, by omega⟩
/-- and its place in it. -/
def placeOf (c : Fin 1024) : Fin 256 := ⟨c.val % 256, by omega⟩

/-- The pools' array. -/
def pools (x : Rows.Idx → EReal) (w : Mats.Idx → EReal) (s : Gains.Idx → EReal) : Rows.Idx → EReal := fun i =>
  pooled x w s (groupOf (i 1)) (i 0).val (placeOf (i 1))

/-- The entry before a place is the difference of two sums. -/
theorem before_succ (f : ℕ → ℝ) (n : ℕ) : before f (n + 1) = before f n + f n := Finset.sum_range_succ f n

/-- The sum of a window of differences. -/
theorem sum_steps (G : ℕ → ℝ) (lo hi : ℕ) (h : lo ≤ hi) : ∑ k ∈ Finset.Ico lo hi, (G (k + 1) - G k) = G hi - G lo := by
  induction hi, h using Nat.le_induction with
  | base => simp
  | succ n hn ih => rw [Finset.sum_Ico_succ_top hn, ih]; ring

/-- A block's window of the rows from 128 before it on, nothing before the first row, is the last `w` rows' sum. -/
theorem sum_band (f : ℕ → ℝ) (i r w : ℕ) (hr : r < 256) (hw : w ≤ 16) :
    (∑ k : Fin 384, if r + 129 - w ≤ k.val ∧ k.val < r + 129 then (if 256 * i + k.val < 128 then 0 else f (256 * i + k.val - 128)) else 0)
      = before f (256 * i + r + 1) - before f (256 * i + r + 1 - w) := by
  have h := sum_window 384 0 (r + 129 - w) (r + 129) (by omega) (fun k => if 256 * i + k < 128 then 0 else f (256 * i + k - 128))
  simp only [Nat.zero_add] at h
  rw [h]
  have e : ∀ k, (if 256 * i + k < 128 then 0 else f (256 * i + k - 128)) = before f (256 * i + (k + 1) - 128) - before f (256 * i + k - 128) := fun k => by
    split
    · rw [show 256 * i + (k + 1) - 128 = 0 by omega, show 256 * i + k - 128 = 0 by omega, sub_self]
    · rw [show 256 * i + (k + 1) - 128 = (256 * i + k - 128) + 1 by omega, before_succ]; ring
  rw [Finset.sum_congr rfl fun k _ => e k, sum_steps (fun k => before f (256 * i + k - 128)) _ _ (by omega)]
  rw [show 256 * i + (r + 129) - 128 = 256 * i + r + 1 by omega, show 256 * i + (r + 129 - w) - 128 = 256 * i + r + 1 - w by omega]

/-- How many rows a mean is of. -/
theorem count_eq (t w : ℕ) (ht : t < 8192) (hw : w ≤ 16) :
    (FloatOps.sitofp (F := Ideal) .f32 (IntOp.minsi (IntOp.addi (BitVec.ofNat 32 t) 1#32) (BitVec.ofNat 32 w)) : EReal) = (((min (t + 1) w : ℕ) : ℝ) : EReal) := by
  have e : IntOp.addi (BitVec.ofNat 32 t) 1#32 = BitVec.ofNat 32 (t + 1) := (BitVec.ofNat_add t 1).symm
  have k : IntOp.minsi (BitVec.ofNat 32 (t + 1)) (BitVec.ofNat 32 w) = BitVec.ofNat 32 (min (t + 1) w) := by
    unfold IntOp.minsi
    rw [show (BitVec.ofNat 32 (t + 1)).slt (BitVec.ofNat 32 w) = decide (t + 1 < w) from ?_]
    · by_cases h : t + 1 < w
      · rw [decide_eq_true h, min_eq_left h.le]; rfl
      · rw [decide_eq_false h, min_eq_right (by omega)]; rfl
    · unfold BitVec.slt
      rw [WordCmp.toInt_ofNat_of_lt (by omega), WordCmp.toInt_ofNat_of_lt (by omega)]
      rw [decide_eq_decide]
      omega
  rw [e, k]
  show (((BitVec.ofNat 32 (min (t + 1) w)).toInt : ℝ) : EReal) = _
  rw [WordCmp.toInt_ofNat_of_lt (by omega)]
  norm_cast

/-- The band's bit, as a number. -/
theorem band_eq (r k w : ℕ) (hr : r < 256) (hk : k < 384) (hw : w ≤ 16) :
    (FloatOps.sitofp (F := Ideal) .f32 (BitVec.setWidth 32 (IntOp.andi (IntOp.cmpi .sle (IntOp.subi (BitVec.ofNat 32 k) 128#32) (BitVec.ofNat 32 r))
      (IntOp.cmpi .sgt (IntOp.subi (BitVec.ofNat 32 k) 128#32) (IntOp.subi (BitVec.ofNat 32 r) (BitVec.ofNat 32 w))))) : EReal)
      = if r + 129 - w ≤ k ∧ k < r + 129 then 1 else 0 := by
  have hs : ∀ a b : ℕ, a < 1024 → b < 1024 → (IntOp.subi (BitVec.ofNat 32 a) (BitVec.ofNat 32 b)).toInt = (a : ℤ) - b := fun a b ha hb => by
    show (BitVec.ofNat 32 a - BitVec.ofNat 32 b).toInt = _
    rw [BitVec.toInt_sub, WordCmp.toInt_ofNat_of_lt (by omega), WordCmp.toInt_ofNat_of_lt (by omega)]
    exact Int.bmod_eq_of_le (by omega) (by omega)
  rw [WordCmp.cmpi_sle_eq, WordCmp.cmpi_sgt_eq, WordCmp.andi_ofBool, hs k 128 (by omega) (by omega), hs r w (by omega) (by omega),
    WordCmp.toInt_ofNat_of_lt (by omega : r < 2 ^ 31)]
  by_cases h : r + 129 - w ≤ k ∧ k < r + 129
  · rw [if_pos h, decide_eq_true (by omega), decide_eq_true (by omega)]
    show (((BitVec.setWidth 32 1#1).toInt : ℝ) : EReal) = 1
    rw [show (BitVec.setWidth 32 1#1).toInt = 1 by decide]; norm_cast
  · have : (decide ((k : ℤ) - (128 : ℕ) ≤ r) && decide ((r : ℤ) - w < (k : ℤ) - (128 : ℕ))) = false := by
      rw [Bool.and_eq_false_iff, decide_eq_false_iff_not, decide_eq_false_iff_not]; omega
    rw [if_neg h, this]
    show (((BitVec.setWidth 32 0#1).toInt : ℝ) : EReal) = 0
    rw [show (BitVec.setWidth 32 0#1).toInt = 0 by decide]; norm_cast

/-- A band's product with real numbers and with what their roundings left, which is nothing. -/
theorem split_sum (p : Fin 384 → Prop) [DecidablePred p] (b e : Fin 384 → EReal) (v : Fin 384 → ℝ) (hb : ∀ k, b k = if p k then 1 else 0) (he : ∀ k, e k = (v k : EReal)) :
    (∑ k, b k * e k) + (∑ k, b k * (e k - e k)) + ∑ k, b k * (e k - e k - (e k - e k)) = ((∑ k, if p k then v k else 0 : ℝ) : EReal) := by
  have h0 : ∀ k, e k - e k = 0 := fun k => by rw [he, ← EReal.coe_sub, sub_self, EReal.coe_zero]
  simp only [h0, sub_zero, mul_zero, Finset.sum_const_zero, add_zero]
  rw [coe_sum]
  refine Finset.sum_congr rfl fun k _ => ?_
  rw [hb, he]
  split
  · rw [one_mul]
  · rw [zero_mul, EReal.coe_zero]

end Cert.Pool.Spec

end
-- ==== Proof.PoolValue.lean ====
/-
  The value the prompt's pool kernel leaves: each group of columns' recent mean less the row, through the group's matrix.
-/
module

public import proofs.«01_k».proof.Proof.Gen.PoolIdeal.Value
public import Idealize.ShloMosaic.Lib.Pipeline.ValueKit
public import proofs.«01_k».proof.Proof.PoolSpec

@[expose] public section

set_option maxRecDepth 16384

noncomputable section

namespace Cert.PoolIdeal.Val

open Cert.PoolIdeal Cert.PoolIdeal.Gen Cert.Stick Cert.Pool.Spec Idealize.ShloMosaic Idealize.ShloMosaic.TcCoe Idealize.SL.Sem Idealize.ShloMosaic.Tactic

/-! ## The body's values, read at an index -/

/-- The band of a window of width `w`: 1 where row `k` of the block with 128 rows before it is one of the last `w` at row `r`. -/
abbrev band (a b : IVec S256x384 32) (w : BitVec 32) (r : Fin 256) (k : Fin 384) : EReal :=
  FloatOps.sitofp (F := Ideal) .f32 (BitVec.setWidth 32 (IntOp.andi (IntOp.cmpi .sle (b (ix2 r k)) (a (ix2 r k))) (IntOp.cmpi .sgt (b (ix2 r k)) (IntOp.subi (a (ix2 r k)) w))))

/-- The band's product with a column and with what its two roundings left, over the rows' count. -/
abbrev meanOf (e : FVec Ideal S384x1024 .f32) (a b : IVec S256x384 32) (p : IVec S256x1 32) (w : BitVec 32) (r : Fin 256) (c : Fin 1024) : EReal :=
  ((∑ k : Fin 384, band a b w r k * (e (ix2 k c) : EReal)) + (∑ k : Fin 384, band a b w r k * ((e (ix2 k c) : EReal) - e (ix2 k c)))
      + ∑ k : Fin 384, band a b w r k * ((e (ix2 k c) : EReal) - e (ix2 k c) - ((e (ix2 k c) : EReal) - e (ix2 k c))))
    * Ideal.div 1 (FloatOps.sitofp (F := Ideal) .f32 (IntOp.minsi (IntOp.addi (p (ix2 r 0)) 1#32) w))

/-- The second group's mean less the row, -/
theorem pay7_apply (x : Vec Ideal S256x1024 .f32) (e : FVec Ideal S384x1024 .f32) (a b : IVec S256x384 32) (p : IVec S256x1 32) (r n : Fin 256) :
    (k0_pay7 (F := Ideal) x e a b p (ix2 r n) : EReal) = meanOf e a b p 4#32 r ⟨256 * 1 + n.val, by omega⟩ - x (ix2 r ⟨256 * 1 + n.val, by omega⟩) := by
  pointwise [k0_pay7]

/-- the third's, -/
theorem pay9_apply (x : Vec Ideal S256x1024 .f32) (e : FVec Ideal S384x1024 .f32) (a b : IVec S256x384 32) (p : IVec S256x1 32) (r n : Fin 256) :
    (k0_pay9 (F := Ideal) x e a b p (ix2 r n) : EReal) = meanOf e a b p 8#32 r ⟨256 * 2 + n.val, by omega⟩ - x (ix2 r ⟨256 * 2 + n.val, by omega⟩) := by
  pointwise [k0_pay9]

/-- the fourth's, -/
theorem pay11_apply (x : Vec Ideal S256x1024 .f32) (e : FVec Ideal S384x1024 .f32) (a b : IVec S256x384 32) (p : IVec S256x1 32) (r n : Fin 256) :
    (k0_pay11 (F := Ideal) x e a b p (ix2 r n) : EReal) = meanOf e a b p 16#32 r ⟨256 * 3 + n.val, by omega⟩ - x (ix2 r ⟨256 * 3 + n.val, by omega⟩) := by
  pointwise [k0_pay11]

/-- A row's number, -/
theorem rows_bits (r : Fin 256) (k : Fin 384) : iota .tc S256x384 32 [0] iota_S256x384_d0_w32 (ix2 r k) = BitVec.ofNat 32 r.val := by pointwise []
/-- that of a row of the block with 128 rows before it, counted from the block's first, -/
theorem cols_bits (r : Fin 256) (k : Fin 384) : k0_pay3 (ix2 r k) = IntOp.subi (BitVec.ofNat 32 k.val) 128#32 := by pointwise [k0_pay3]
/-- and a row's number in the array. -/
theorem place_bits (i : grid0.Coords) (r : Fin 256) : k0_pay4 i (ix2 r 0) = BitVec.ofNat 32 (256 * (i 0).val + r.val) := by
  have h : k0_pay4 i (ix2 r 0) = IntOp.addi (Scalar.muli (BitVec.ofNat 32 (i 0).val) 256#32) (BitVec.ofNat 32 r.val) := by pointwise [k0_pay4]
  rw [h, Nat.mul_comm, BitVec.ofNat_add, BitVec.ofNat_mul]
  rfl

/-- and the first's mean. -/
theorem pay5_apply (i : grid0.Coords) (x : Vec Ideal S256x1024 .f32) (y : Vec Ideal S128x1024 .f32) (r n : Fin 256) :
    (k0_pay5 (F := Ideal) i x y (ix2 r n) : EReal) = meanOf (k0_pay2 i x y) (iota .tc S256x384 32 [0] iota_S256x384_d0_w32) k0_pay3 (k0_pay4 i) 2#32 r ⟨256 * 0 + n.val, by omega⟩ := by
  unfold k0_pay5
  generalize k0_pay2 i x y = e
  rw [meanOf, place_bits]
  simp only [band, rows_bits, cols_bits, ← place_bits i r]
  pointwise [k0_pay3, k0_pay4]

/-- A group's product with its matrix, times the columns' scale. -/
theorem pay8_apply (d : FVec Ideal S256x256 .f32) (w : Vec Ideal S1x256x256 .bf16) (s : Vec Ideal S1x256 .f32) (r n : Fin 256) :
    (k0_pay8 (F := Ideal) d w s (ix2 r n) : EReal) = (∑ k : Fin 256, (d (ix2 r k) : EReal) * w (ix3 0 k n)) * s (ix2 0 n) := by
  pointwise [k0_pay8]

/-- The third's, -/
theorem pay10_apply (d : FVec Ideal S256x256 .f32) (w : Vec Ideal S1x256x256 .bf16) (s : Vec Ideal S1x256 .f32) (r n : Fin 256) :
    (k0_pay10 (F := Ideal) d w s (ix2 r n) : EReal) = (∑ k : Fin 256, (d (ix2 r k) : EReal) * w (ix3 0 k n)) * s (ix2 0 n) := by
  pointwise [k0_pay10]

/-- the fourth's, -/
theorem pay1_apply (d : FVec Ideal S256x256 .f32) (w : Vec Ideal S1x256x256 .bf16) (s : Vec Ideal S1x256 .f32) (r n : Fin 256) :
    (k0_pay1 (F := Ideal) d w s (ix2 r n) : EReal) = (∑ k : Fin 256, (d (ix2 r k) : EReal) * w (ix3 0 k n)) * s (ix2 0 n) := by
  pointwise [k0_pay1]

/-- and the first's, which takes the row off itself. -/
theorem pay6_apply (x : Vec Ideal S256x1024 .f32) (d : FVec Ideal S256x256 .f32) (w : Vec Ideal S1x256x256 .bf16) (s : Vec Ideal S1x256 .f32) (r n : Fin 256) :
    (k0_pay6 (F := Ideal) x d w s (ix2 r n) : EReal) = (∑ k : Fin 256, ((d (ix2 r k) : EReal) - x (ix2 r ⟨256 * 0 + k.val, by omega⟩)) * w (ix3 0 k n)) * s (ix2 0 n) := by
  pointwise [k0_pay6]

/-- The rows from 128 before the block on: none before the first block. -/
theorem pay2_apply (i : grid0.Coords) (x : Vec Ideal S256x1024 .f32) (y : Vec Ideal S128x1024 .f32) (k : Fin 384) (n : Fin 1024) :
    (k0_pay2 (F := Ideal) i x y (ix2 k n) : EReal) = if h : k.val < 128 then Scalar.select (Scalar.cmpi .sgt (BitVec.ofNat 32 (i 0).val) 0#32) (y (ix2 ⟨k.val, h⟩ n) : EReal) 0
      else x (ix2 ⟨k.val - 128, by omega⟩ n) := by
  pointwise [k0_pay2]

/-! ## The windows' blocks -/

/-- A matrix without the first axis, -/
theorem mats_apply (w : Vec Ideal S1x4x256x256 .f32) (g : Fin 4) (k n : Fin 256) :
    truncf (F := Ideal) .bf16 (shapeCast S4x256x256 w shapeCasts_S1x4x256x256_S4x256x256) bitsLt_bf16_f32 (ix3 g k n) = w (ix4 0 g k n) := by pointwise []

/-- and the scale, its axis off and on again. -/
theorem gains_apply (s : Vec Ideal S1x1024 .f32) (n : Fin 1024) :
    broadcastInDim S1x1024 ![1] bcast_S1024_S1x1024_1 (shapeCast S1024 s shapeCasts_S1x1024_S1024) (ix2 0 n) = s (ix2 0 n) := by pointwise []

/-- The block indices. -/
theorem indices : ∀ t : Fin grid0.N, (grid0.coords t 0).val = t.val ∧ win0_0.index t = ![t.val, 0] ∧ win0_1.index t = ![t.val * 2 - 1, 0] ∧ win0_2.index t = ![0, 0, 0]
    ∧ win0_3.index t = ![0, 0] ∧ win0_4.index t = ![t.val, 0] := by decide +kernel

variable (m : (ℓ : Loc nD τ sig) → Buf (Elt Ideal) ℓ)

/-- The matrices the kernel is launched with -/
theorem v1_eq (c : Dev nD) : V m c main_v1 = truncf (F := Ideal) .bf16 (shapeCast S4x256x256 (m ((c : Thread nD τ).loc main_arg1)) shapeCasts_S1x4x256x256_S4x256x256) bitsLt_bf16_f32 := by
  unfold V hostOps0
  simp only [List.flatten_cons, List.flatten_nil, List.append_nil, List.cons_append, List.nil_append]
  after_results_simp <;> rfl

/-- and its scale. -/
theorem v3_eq (c : Dev nD) : V m c main_v3 = broadcastInDim S1x1024 ![1] bcast_S1024_S1x1024_1 (shapeCast S1024 (m ((c : Thread nD τ).loc main_arg2)) shapeCasts_S1x1024_S1024) := by
  unfold V hostOps0
  simp only [List.flatten_cons, List.flatten_nil, List.append_nil, List.cons_append, List.nil_append]
  after_results_simp <;> rfl

variable (c : Dev nD)

/-- The rows, -/
abbrev xs : Rows.Idx → EReal := m ((c : Thread nD τ).loc main_arg0)
/-- the matrices -/
abbrev ws : Mats.Idx → EReal := m ((c : Thread nD τ).loc main_arg1)
/-- and the scale, as launched. -/
abbrev ss : Gains.Idx → EReal := m ((c : Thread nD τ).loc main_arg2)

/-- A point's rows, -/
theorem rows_block (t : Fin cfg0.N) (r : Fin 256) (n : Fin 1024) :
    (iblk m c 0 t : Vec Ideal S256x1024 .f32) (ix2 r n) = at2 (xs m c) (256 * t.val + r.val) n.val := by
  have e : win0_0.index t 0 = t.val ∧ win0_0.index t 1 = 0 := by rw [(indices t).2.1]; exact ⟨rfl, rfl⟩
  refine (congrFun (V_main_arg0 m c) (((cfg0.win 0).blk t).view.emb (ix2 r n))).trans (at2_eq _ _ ?_ ?_)
  · show win0_0.index t 0 * 256 + 1 * r.val = _; rw [e.1]; omega
  · show win0_0.index t 1 * 1024 + 1 * n.val = _; rw [e.2]; omega

/-- the 128 rows before them, -/
theorem past_block (t : Fin cfg0.N) (r : Fin 128) (n : Fin 1024) :
    (iblk m c 1 t : Vec Ideal S128x1024 .f32) (ix2 r n) = at2 (xs m c) (128 * (t.val * 2 - 1) + r.val) n.val := by
  have e : win0_1.index t 0 = t.val * 2 - 1 ∧ win0_1.index t 1 = 0 := by rw [(indices t).2.2.1]; exact ⟨rfl, rfl⟩
  refine (congrFun (V_main_arg0 m c) (((cfg0.win 1).blk t).view.emb (ix2 r n))).trans (at2_eq _ _ ?_ ?_)
  · show win0_1.index t 0 * 128 + 1 * r.val = _; rw [e.1]; omega
  · show win0_1.index t 1 * 1024 + 1 * n.val = _; rw [e.2]; omega

/-- the matrices -/
theorem mats_block (t : Fin cfg0.N) (g : Fin 4) (k n : Fin 256) :
    (iblk m c 2 t : Vec Ideal S4x256x256 .bf16) (ix3 g k n) = ws m c (ix4 0 g k n) := by
  have e : win0_2.index t 0 = 0 ∧ win0_2.index t 1 = 0 ∧ win0_2.index t 2 = 0 := by rw [(indices t).2.2.2.1]; exact ⟨rfl, rfl, rfl⟩
  refine Eq.trans (congrArg (V m c main_v1) (show ((cfg0.win 2).blk t).view.emb (ix3 g k n) = ix3 g k n from funext fun a => Fin.ext ?_)) ((congrFun (v1_eq m c) _).trans (mats_apply _ g k n))
  match a with
  | 0 => show win0_2.index t 0 * 4 + 1 * g.val = g.val; rw [e.1]; omega
  | 1 => show win0_2.index t 1 * 256 + 1 * k.val = k.val; rw [e.2.1]; omega
  | 2 => show win0_2.index t 2 * 256 + 1 * n.val = n.val; rw [e.2.2]; omega

/-- and the scale. -/
theorem gains_block (t : Fin cfg0.N) (n : Fin 1024) : (iblk m c 3 t : Vec Ideal S1x1024 .f32) (ix2 0 n) = ss m c (ix2 0 n) := by
  have e : win0_3.index t 0 = 0 ∧ win0_3.index t 1 = 0 := by rw [(indices t).2.2.2.2.1]; exact ⟨rfl, rfl⟩
  refine Eq.trans (congrArg (V m c main_v3) (show ((cfg0.win 3).blk t).view.emb (ix2 0 n) = ix2 0 n from funext fun a => Fin.ext ?_)) ((congrFun (v3_eq m c) _).trans (gains_apply _ n))
  match a with
  | 0 => show win0_3.index t 0 * 1 + 1 * 0 = 0; rw [e.1]
  | 1 => show win0_3.index t 1 * 1024 + 1 * n.val = n.val; rw [e.2]; omega

/-! ## The means -/

/-- The rows from 128 before a point's block on, as numbers of the array: nothing before its first. -/
theorem past_rows (t : Fin cfg0.N) (k : Fin 384) (n : Fin 1024) :
    (k0_pay2 (F := Ideal) (grid0.coords t) (iblk m c 0 t : Vec Ideal S256x1024 .f32) (iblk m c 1 t : Vec Ideal S128x1024 .f32) (ix2 k n) : EReal)
      = if 256 * t.val + k.val < 128 then 0 else at2 (xs m c) (256 * t.val + k.val - 128) n.val := by
  have ht : t.val < 32 := t.isLt
  rw [pay2_apply, (indices t).1]
  by_cases hk : k.val < 128
  · rw [dif_pos hk, past_block]
    have hc : Scalar.cmpi .sgt (BitVec.ofNat 32 t.val) 0#32 = BitVec.ofBool (decide (0 < t.val)) := by
      refine (WordCmp.cmpi_sgt_eq _ _).trans ?_
      rw [show (BitVec.ofNat 32 t.val).toInt = (t.val : ℤ) from WordCmp.toInt_ofNat_of_lt (by omega)]
      congr 1
      rw [decide_eq_decide]
      show (0 : ℤ) < t.val ↔ _
      omega
    rw [hc]
    by_cases h0 : 0 < t.val
    · rw [decide_eq_true h0, if_neg (by omega), show 256 * t.val + k.val - 128 = 128 * (t.val * 2 - 1) + k.val by omega]
      rfl
    · rw [decide_eq_false h0, if_pos (by omega)]
      rfl
  · rw [dif_neg hk, rows_block, if_neg (by omega)]
    congr 1
    show 256 * t.val + (k.val - 128) = _
    omega

variable (hx : Finite (xs m c))

include hx in
/-- A mean over the last `w` rows. -/
theorem mean_eq (t : Fin cfg0.N) (w : ℕ) (hw : w ≤ 16) (hw1 : 1 ≤ w) (r : Fin 256) (n : Fin 1024) :
    meanOf (k0_pay2 (grid0.coords t) (iblk m c 0 t : Vec Ideal S256x1024 .f32) (iblk m c 1 t : Vec Ideal S128x1024 .f32)) (iota .tc S256x384 32 [0] iota_S256x384_d0_w32) k0_pay3
      (k0_pay4 (grid0.coords t)) (BitVec.ofNat 32 w) r n
      = (recent (xs m c) w (256 * t.val + r.val) n.val : EReal) * ((1 / ((min (256 * t.val + r.val + 1) w : ℕ) : ℝ) : ℝ) : EReal) := by
  have ht : t.val < 32 := t.isLt
  have hr : r.val < 256 := r.isLt
  have h0 : min (256 * t.val + r.val + 1) w ≠ 0 := by omega
  rw [meanOf, place_bits, (indices t).1, count_eq _ w (by omega) hw, Ideal.div_coe (Nat.cast_ne_zero.mpr h0), one_mul]
  congr 1
  rw [split_sum (fun k => r.val + 129 - w ≤ k.val ∧ k.val < r.val + 129) _ (fun k => k0_pay2 (grid0.coords t) (iblk m c 0 t : Vec Ideal S256x1024 .f32) (iblk m c 1 t : Vec Ideal S128x1024 .f32) (ix2 k n))
    (fun k => if 256 * t.val + k.val < 128 then 0 else column (xs m c) n.val (256 * t.val + k.val - 128))
    (fun k => by
      have h := band_eq r.val k.val w hr k.isLt hw
      rw [← cols_bits r k, ← rows_bits r k] at h
      exact h)
    (fun k => by
      rw [past_rows]
      split
      · exact EReal.coe_zero.symm
      · exact (hx.at2 _ _).symm), sum_band _ _ _ _ hr hw]
  rfl

/-! ## The body's value and the array -/

omit m c hx in
/-- A matrix loaded from the four, -/
theorem load_mats (x : Vec Ideal S4x256x256 .bf16) (g : Fin 4) (h : ∀ a, (![g.val, 0, 0] : Fin 3 → ℕ) a + S1x256x256.size a ≤ S4x256x256.size a) (k n : Fin 256) :
    (View.ld (Val := Elt Ideal) (e' := .bf16) x (Rect.unit (s := S4x256x256) ![g.val, 0, 0] S1x256x256.size h) : Vec Ideal S1x256x256 .bf16) (ix3 0 k n) = x (ix3 g k n) :=
  congrArg x (funext fun z => Fin.ext (match z with
    | 0 => (by show g.val + 1 * 0 = g.val; omega)
    | 1 => (by show 0 + 1 * k.val = k.val; omega)
    | 2 => (by show 0 + 1 * n.val = n.val; omega)))

omit m c hx in
/-- and a group's scale. -/
theorem load_gains (x : Vec Ideal S1x1024 .f32) (o : ℕ) (h : ∀ a, (![0, o] : Fin 2 → ℕ) a + S1x256.size a ≤ S1x1024.size a) (n : Fin 256) (q : Fin 1024) (hq : q.val = o + n.val) :
    (View.ld (Val := Elt Ideal) (e' := .f32) x (Rect.unit (s := S1x1024) ![0, o] S1x256.size h) : Vec Ideal S1x256 .f32) (ix2 0 n) = x (ix2 0 q) :=
  congrArg x (funext fun z => Fin.ext (match z with
    | 0 => rfl
    | 1 => (by show o + 1 * n.val = q.val; omega)))

include hx in
/-- A group's entry, of its centred rows and its loads. -/
theorem group_eq (t : Fin cfg0.N) (g : Fin 4) (r n : Fin 256) (d : Fin 256 → EReal) (w : Fin 256 → EReal) (s : EReal)
    (hd : ∀ j : Fin 256, d j = meanOf (k0_pay2 (grid0.coords t) (iblk m c 0 t : Vec Ideal S256x1024 .f32) (iblk m c 1 t : Vec Ideal S128x1024 .f32)) (iota .tc S256x384 32 [0] iota_S256x384_d0_w32) k0_pay3
      (k0_pay4 (grid0.coords t)) (BitVec.ofNat 32 (2 ^ (g.val + 1))) r ⟨256 * g.val + j.val, by omega⟩ - (iblk m c 0 t : Vec Ideal S256x1024 .f32) (ix2 r ⟨256 * g.val + j.val, by omega⟩))
    (hw : ∀ j : Fin 256, w j = (iblk m c 2 t : Vec Ideal S4x256x256 .bf16) (ix3 g j n)) (hs : s = (iblk m c 3 t : Vec Ideal S1x1024 .f32) (ix2 0 ⟨256 * g.val + n.val, by omega⟩)) :
    (∑ j : Fin 256, d j * w j) * s = pooled (xs m c) (ws m c) (ss m c) g (256 * t.val + r.val) n := by
  have hg : 2 ^ (g.val + 1) ≤ 16 := by have : g.val + 1 ≤ 4 := by omega
                                       exact (Nat.pow_le_pow_right (by omega) this).trans (by decide)
  rw [pooled, hs, gains_block]
  congr 1
  refine Finset.sum_congr rfl fun j _ => ?_
  rw [hd, hw, mats_block, mean_eq m c hx t _ hg Nat.one_le_two_pow, rows_block]
  rfl

include hx in
/-- What the body leaves at an index of its block. -/
theorem out_apply (t : Fin cfg0.N) (r : Fin 256) (q : Fin 1024) :
    (out0_4 (grid0.coords t) (iblk m c 0 t) (iblk m c 1 t) (iblk m c 2 t) (iblk m c 3 t) (ix2 r q) : EReal)
      = pooled (xs m c) (ws m c) (ss m c) (groupOf q) (256 * t.val + r.val) (placeOf q) := by
  have key : ∀ (g : Fin 4) (x : S256x256.Idx), r.val = 0 + (x 0).val → q.val = 256 * g.val + (x 1).val →
      pooled (xs m c) (ws m c) (ss m c) g (256 * t.val + (x 0).val) (x 1) = pooled (xs m c) (ws m c) (ss m c) (groupOf q) (256 * t.val + r.val) (placeOf q) := fun g x h0 h1 => by
    have hx1 : (x 1).val < 256 := (x 1).isLt
    rw [show groupOf q = g from Fin.ext (by show q.val / 256 = g.val; omega), show placeOf q = x 1 from Fin.ext (by show q.val % 256 = (x 1).val; omega), h0, Nat.zero_add]
  unfold_out out0_4
  simp (disch := decide) only [View.ld_unit_lit]
  refine View.canon_eq_of_allAt _ _ _ (cover0_4 _ _ _ _ _) (View.allAt_cons_unit _ _ _ _ _ ?_ (View.allAt_cons_unit _ _ _ _ _ ?_ (View.allAt_cons_unit _ _ _ _ _ ?_ (View.allAt_cons_unit _ _ _ _ _ ?_ (View.allAt_nil _ _)))))
  · intro x hxx
    refine Eq.trans ?_ (key 3 x (hxx 0) (hxx 1))
    obtain ⟨a, b, rfl⟩ : ∃ a b : Fin 256, x = ix2 a b := ⟨x 0, x 1, by funext z; match z with | 0 => rfl | 1 => rfl⟩
    exact (pay1_apply _ _ _ a b).trans (group_eq m c hx t 3 a b _ _ _ (fun j => pay11_apply _ _ _ _ _ a j) (fun j => load_mats _ 3 _ j b) (load_gains _ 768 _ b ⟨256 * 3 + b.val, by omega⟩ rfl))
  · intro x hxx
    refine Eq.trans ?_ (key 2 x (hxx 0) (hxx 1))
    obtain ⟨a, b, rfl⟩ : ∃ a b : Fin 256, x = ix2 a b := ⟨x 0, x 1, by funext z; match z with | 0 => rfl | 1 => rfl⟩
    exact (pay10_apply _ _ _ a b).trans (group_eq m c hx t 2 a b _ _ _ (fun j => pay9_apply _ _ _ _ _ a j) (fun j => load_mats _ 2 _ j b) (load_gains _ 512 _ b ⟨256 * 2 + b.val, by omega⟩ rfl))
  · intro x hxx
    refine Eq.trans ?_ (key 1 x (hxx 0) (hxx 1))
    obtain ⟨a, b, rfl⟩ : ∃ a b : Fin 256, x = ix2 a b := ⟨x 0, x 1, by funext z; match z with | 0 => rfl | 1 => rfl⟩
    exact (pay8_apply _ _ _ a b).trans (group_eq m c hx t 1 a b _ _ _ (fun j => pay7_apply _ _ _ _ _ a j) (fun j => load_mats _ 1 _ j b) (load_gains _ 256 _ b ⟨256 * 1 + b.val, by omega⟩ rfl))
  · intro x hxx
    refine Eq.trans ?_ (key 0 x (hxx 0) (hxx 1))
    obtain ⟨a, b, rfl⟩ : ∃ a b : Fin 256, x = ix2 a b := ⟨x 0, x 1, by funext z; match z with | 0 => rfl | 1 => rfl⟩
    exact (pay6_apply _ _ _ _ a b).trans (group_eq m c hx t 0 a b _ _ _ (fun j => congrArg (· - (iblk m c 0 t : Vec Ideal S256x1024 .f32) (ix2 a ⟨256 * 0 + j.val, by omega⟩)) (pay5_apply _ _ _ a j)) (fun j => load_mats _ 0 _ j b) (load_gains _ 0 _ b ⟨256 * 0 + b.val, by omega⟩ rfl))

include hx in
/-- The result's array. -/
theorem final_4 : (dats m 0 c).arrAt 4 cfg0.N = pools (xs m c) (ws m c) (ss m c) := by
  refine (dats m 0 c).arrAt_eq_of_covers 4 _ (by decide +kernel) fun t hf y => ?_
  have e : win0_4.index t 0 = t.val ∧ win0_4.index t 1 = 0 := by rw [(indices t).2.2.2.2.2]; exact ⟨rfl, rfl⟩
  blk_simp
  rw [after0_4]
  have e0 : (((win0_4.blk t).view.emb y) 0 : ℕ) = 256 * t.val + (y 0).val := by show win0_4.index t 0 * 256 + 1 * (y 0).val = _; rw [e.1]; omega
  have e1 : ((win0_4.blk t).view.emb y) 1 = (y 1 : Fin 1024) := Fin.ext (by show win0_4.index t 1 * 1024 + 1 * (y 1).val = _; rw [e.2]; omega)
  refine Eq.trans ?_ (show pooled (xs m c) (ws m c) (ss m c) (groupOf (y 1)) (256 * t.val + (y 0).val) (placeOf (y 1)) = _ by unfold pools; rw [e0, e1])
  obtain ⟨r, q, rfl⟩ : ∃ (r : Fin 256) (q : Fin 1024), y = ix2 r q := ⟨y 0, y 1, by funext b; match b with | 0 => rfl | 1 => rfl⟩
  exact out_apply m c hx t r q

end Cert.PoolIdeal.Val

end
-- ==== Proof.PoolRef.lean ====
/-
  What the pools' reference leaves in its result: the same pools.
-/
module

public import proofs.«01_k».proof.Proof.Gen.PoolRefIdeal.Run
public import proofs.«01_k».proof.Proof.Gen.PoolRefIdeal.Read
public import proofs.«01_k».proof.Proof.PoolSpec
public import Idealize.ShloMosaic.Lib.WordCmp

@[expose] public section

set_option maxRecDepth 16384

noncomputable section

namespace Cert.PoolRefIdeal.Val

open Cert.PoolRefIdeal Cert.PoolRefIdeal.Gen Cert.PoolRefIdeal.Read Idealize.ShloMosaic Idealize.ShloMosaic.TcCoe
open Cert.Stick Cert.Pool.Spec

/-- Adding up along a list is adding the list's sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The window of one sum: a column of 8192 places. -/
abbrev Win : Shape := ⟨2, ![8192, 1]⟩

/-- The window's places. -/
theorem win_numel : Win.numel = 8192 := by
  unfold Shape.numel
  rw [Fin.prod_univ_two]
  rfl

/-- A place's coordinates in the window. -/
theorem win_coords (n : Fin Win.numel) : ((Win.rowMajor.symm n) 0).val = n.val ∧ ((Win.rowMajor.symm n) 1).val = 0 := by
  have h1 : ((Win.rowMajor.symm n) 1).val < 1 := ((Win.rowMajor.symm n) 1).isLt
  have h := Shape.rowMajor_val_two (Win.rowMajor.symm n)
  rw [Equiv.apply_symm_apply] at h
  have h' : n.val = ((Win.rowMajor.symm n) 0).val * 1 + ((Win.rowMajor.symm n) 1).val := h
  omega

/-- The running sum down a column. -/
theorem prefix_sum (x : FVec Ideal S8192x1024 .f32) (v : FVec Ideal S_ .f32) (hv : ∀ i, v i = (0 : EReal)) (hw) (hu) (t : Fin 8192) (c : Fin 1024) :
    Host.reduceWindowAdd (t := S8192x1024) (u := S_) ![8192, 1] ![1, 1] ![8191, 0] ![0, 0] x v hw hu (ix2 t c)
      = ∑ n : Fin 8192, if ht : 8191 ≤ t.val + n.val then (x (ix2 ⟨t.val + n.val - 8191, by omega⟩ c) : EReal) else 0 := by
  unfold Host.reduceWindowAdd
  rw [hv, Ideal.hostReduceWindowAdd_def]
  unfold Ideal.hostReduceWindowAdd Host.reduceWindow
  refine (foldl_sum (ι := Fin Win.numel) _ _ _).trans ?_
  rw [zero_add, ← Fin.sum_univ_def, ← Equiv.sum_comp (finCongr win_numel)]
  refine Finset.sum_congr rfl fun n _ => ?_
  obtain ⟨c0, c1⟩ := win_coords n
  have hn : n.val < 8192 := lt_of_lt_of_eq n.isLt win_numel
  by_cases hlt : 8191 ≤ t.val + n.val
  · rw [dif_pos (show 8191 ≤ t.val + ((finCongr win_numel) n).val from hlt), dif_pos ?_]
    · refine congrArg x (funext fun a => ?_)
      match a with
      | 0 => apply Fin.ext; show t.val * 1 + ((Win.rowMajor.symm n) 0).val - 8191 = t.val + n.val - 8191; omega
      | 1 => apply Fin.ext; show c.val * 1 + ((Win.rowMajor.symm n) 1).val - 0 = c.val; omega
    · intro a
      match a with
      | 0 => show 8191 ≤ t.val * 1 + ((Win.rowMajor.symm n) 0).val ∧ t.val * 1 + ((Win.rowMajor.symm n) 0).val - 8191 < 8192; omega
      | 1 => show 0 ≤ c.val * 1 + ((Win.rowMajor.symm n) 1).val ∧ c.val * 1 + ((Win.rowMajor.symm n) 1).val - 0 < 1024; omega
  · rw [dif_neg (show ¬ 8191 ≤ t.val + ((finCongr win_numel) n).val from hlt), dif_neg]
    intro hall
    have h2 : 8191 ≤ t.val * 1 + ((Win.rowMajor.symm n) 0).val ∧ t.val * 1 + ((Win.rowMajor.symm n) 0).val - 8191 < 8192 := hall 0
    omega

/-- The running sum of real numbers. -/
theorem cumsum_ref {x0 : (⟨S8192x1024, .f32⟩ : BufTy).Contents (Elt Ideal)} (hx : Finite (S := Rows) x0) (t : Fin 8192) (c : Fin 1024) :
    val_main_v0 (F := Ideal) x0 (ix2 t c) = ((before (column x0 c.val) (t.val + 1) : ℝ) : EReal) := by
  unfold val_main_v0
  rw [prefix_sum _ _ (fun i => by pointwise [val_main_call0_v0, val_main_call0_cst])]
  have e : ∀ n : Fin 8192, (if ht : 8191 ≤ t.val + n.val then (x0 (ix2 ⟨t.val + n.val - 8191, by omega⟩ c) : EReal) else 0)
      = (((if 8191 - t.val ≤ n.val ∧ n.val < 8192 then column x0 c.val (t.val + n.val - 8191) else 0) : ℝ) : EReal) := fun n => by
    by_cases h1 : 8191 ≤ t.val + n.val
    · rw [dif_pos h1, if_pos (by omega)]
      exact (at2_eq x0 _ rfl rfl).trans (hx.at2 _ _).symm
    · rw [dif_neg h1, if_neg (by omega), EReal.coe_zero]
  rw [Finset.sum_congr rfl fun n _ => e n, ← coe_sum]
  congr 1
  have h := sum_window 8192 0 (8191 - t.val) 8192 le_rfl (fun n => column x0 c.val (t.val + n - 8191))
  simp only [Nat.zero_add] at h
  rw [h]
  unfold before
  rw [Finset.sum_Ico_eq_sum_range, show 8192 - (8191 - t.val) = t.val + 1 by omega]
  refine Finset.sum_congr rfl fun k _ => ?_
  rw [show t.val + (8191 - t.val + k) - 8191 = k by omega]

/-- A mean as the reference takes it, less the row. -/
theorem centred_ref {x0 : (⟨S8192x1024, .f32⟩ : BufTy).Contents (Elt Ideal)} (hx : Finite (S := Rows) x0) (w : ℕ) (hw : w ≤ 16) (hw1 : 1 ≤ w) (t : Fin 8192) (c : Fin 1024) :
    Ideal.div ((val_main_v0 (F := Ideal) x0 (ix2 t c) : EReal) - (if h : w ≤ t.val ∧ t.val - w < 8192 then (val_main_v0 (F := Ideal) x0 (ix2 ⟨t.val - w, h.2⟩ c) : EReal) else FloatOps.sitofp (F := Ideal) .f32 0#32))
        (FloatOps.sitofp (F := Ideal) .f32 (IntOp.minsi (IntOp.addi (BitVec.ofNat 32 t.val) 1#32) (BitVec.ofNat 32 w))) - x0 (ix2 t c)
      = centred x0 w t.val c.val := by
  have h0 : min (t.val + 1) w ≠ 0 := by omega
  have ep : (if h : w ≤ t.val ∧ t.val - w < 8192 then (val_main_v0 (F := Ideal) x0 (ix2 ⟨t.val - w, h.2⟩ c) : EReal) else FloatOps.sitofp (F := Ideal) .f32 0#32)
      = ((before (column x0 c.val) (t.val + 1 - w) : ℝ) : EReal) := by
    by_cases h : w ≤ t.val
    · rw [dif_pos ⟨h, by omega⟩, cumsum_ref hx]
      show ((before (column x0 c.val) (t.val - w + 1) : ℝ) : EReal) = _
      rw [show t.val - w + 1 = t.val + 1 - w by omega]
    · rw [dif_neg (fun h' => h h'.1), show t.val + 1 - w = 0 by omega]
      show (((0#32 : BitVec 32).toInt : ℝ) : EReal) = ((∑ s ∈ Finset.range 0, column x0 c.val s : ℝ) : EReal)
      rw [show (0#32 : BitVec 32).toInt = 0 by decide, Finset.range_zero, Finset.sum_empty]
      norm_cast
  rw [ep, cumsum_ref hx, count_eq _ w t.isLt hw, Ideal.div_coe (Nat.cast_ne_zero.mpr h0), ← EReal.coe_sub, at2_eq x0 (ix2 t c) rfl rfl]
  rfl

/-- The first group's centred rows. -/
theorem group0_ref {x0 : (⟨S8192x1024, .f32⟩ : BufTy).Contents (Elt Ideal)} (hx : Finite (S := Rows) x0) (t : Fin 8192) (n : Fin 256) :
    (val_main_v15 (F := Ideal) x0 (ix2 t n) : EReal) = centred x0 2 t.val (256 * 0 + n.val) := by
  refine Eq.trans ?_ (centred_ref hx 2 (by decide) (by decide) t ⟨256 * 0 + n.val, by omega⟩)
  pointwise [val_main_v15, val_main_v14, val_main_v13, val_main_v12, val_main_v11, val_main_v10, val_main_v9, val_main_v8, val_main_v7, val_main_v6, val_main_v5, val_main_v4, val_main_v3, val_main_v2, val_main_v1, val_main_call1_v0, val_main_c, val_main_c_0, val_main_c_1]

/-- The second group's centred rows. -/
theorem group1_ref {x0 : (⟨S8192x1024, .f32⟩ : BufTy).Contents (Elt Ideal)} (hx : Finite (S := Rows) x0) (t : Fin 8192) (n : Fin 256) :
    (val_main_v29 (F := Ideal) x0 (ix2 t n) : EReal) = centred x0 4 t.val (256 * 1 + n.val) := by
  refine Eq.trans ?_ (centred_ref hx 4 (by decide) (by decide) t ⟨256 * 1 + n.val, by omega⟩)
  pointwise [val_main_v29, val_main_v28, val_main_v27, val_main_v26, val_main_v25, val_main_v24, val_main_v23, val_main_v22, val_main_v21, val_main_v20, val_main_v19, val_main_v18, val_main_v17, val_main_v16, val_main_v1, val_main_call2_v0, val_main_c_2, val_main_c_3, val_main_c_4]

/-- The third group's centred rows. -/
theorem group2_ref {x0 : (⟨S8192x1024, .f32⟩ : BufTy).Contents (Elt Ideal)} (hx : Finite (S := Rows) x0) (t : Fin 8192) (n : Fin 256) :
    (val_main_v43 (F := Ideal) x0 (ix2 t n) : EReal) = centred x0 8 t.val (256 * 2 + n.val) := by
  refine Eq.trans ?_ (centred_ref hx 8 (by decide) (by decide) t ⟨256 * 2 + n.val, by omega⟩)
  pointwise [val_main_v43, val_main_v42, val_main_v41, val_main_v40, val_main_v39, val_main_v38, val_main_v37, val_main_v36, val_main_v35, val_main_v34, val_main_v33, val_main_v32, val_main_v31, val_main_v30, val_main_v1, val_main_call3_v0, val_main_c_5, val_main_c_6, val_main_c_7]

/-- The fourth group's centred rows. -/
theorem group3_ref {x0 : (⟨S8192x1024, .f32⟩ : BufTy).Contents (Elt Ideal)} (hx : Finite (S := Rows) x0) (t : Fin 8192) (n : Fin 256) :
    (val_main_v57 (F := Ideal) x0 (ix2 t n) : EReal) = centred x0 16 t.val (256 * 3 + n.val) := by
  refine Eq.trans ?_ (centred_ref hx 16 (by decide) (by decide) t ⟨256 * 3 + n.val, by omega⟩)
  pointwise [val_main_v57, val_main_v56, val_main_v55, val_main_v54, val_main_v53, val_main_v52, val_main_v51, val_main_v50, val_main_v49, val_main_v48, val_main_v47, val_main_v46, val_main_v45, val_main_v44, val_main_v1, val_main_call4_v0, val_main_c_8, val_main_c_9, val_main_c_10]

/-- The groups side by side. -/
theorem groups_ref {x0 : (⟨S8192x1024, .f32⟩ : BufTy).Contents (Elt Ideal)} (hx : Finite (S := Rows) x0) (t : Fin 8192) (g : Fin 4) (n : Fin 256) :
    (val_main_v62 (F := Ideal) x0 (ix3 t g n) : EReal) = centred x0 (2 ^ (g.val + 1)) t.val (256 * g.val + n.val) := by
  match g with
  | 0 => refine Eq.trans ?_ (group0_ref hx t n); pointwise [val_main_v62, val_main_v61, val_main_v60, val_main_v59, val_main_v58]
  | 1 => refine Eq.trans ?_ (group1_ref hx t n); pointwise [val_main_v62, val_main_v61, val_main_v60, val_main_v59, val_main_v58]
  | 2 => refine Eq.trans ?_ (group2_ref hx t n); pointwise [val_main_v62, val_main_v61, val_main_v60, val_main_v59, val_main_v58]
  | 3 => refine Eq.trans ?_ (group3_ref hx t n); pointwise [val_main_v62, val_main_v61, val_main_v60, val_main_v59, val_main_v58]

/-- The result at an index: its group's rows through its matrix, times its scale. -/
theorem result_apply (x0 : (⟨S8192x1024, .f32⟩ : BufTy).Contents (Elt Ideal)) (x1 : (⟨S1x4x256x256, .f32⟩ : BufTy).Contents (Elt Ideal)) (x2 : (⟨S1x1024, .f32⟩ : BufTy).Contents (Elt Ideal)) (t : Fin 8192) (q : Fin 1024) :
    (val_main_v71 (F := Ideal) x0 x1 x2 (ix2 t q) : EReal)
      = (∑ j : Fin 256, (x1 (ix4 0 (groupOf q) j (placeOf q)) : EReal) * val_main_v62 (F := Ideal) x0 (ix3 t (groupOf q) j)) * x2 (ix2 0 q) := by
  pointwise [val_main_v71, val_main_v70, val_main_v69, val_main_v68, val_main_v67, val_main_v66, val_main_v65, val_main_v64, val_main_v63]
  rfl

/-- The reference leaves the pools. -/
theorem out_ref {x0 : (⟨S8192x1024, .f32⟩ : BufTy).Contents (Elt Ideal)} (hx : Finite (S := Rows) x0) (x1 : (⟨S1x4x256x256, .f32⟩ : BufTy).Contents (Elt Ideal)) (x2 : (⟨S1x1024, .f32⟩ : BufTy).Contents (Elt Ideal)) :
    val_main_v71 (F := Ideal) x0 x1 x2 = pools x0 x1 x2 := by
  funext i
  obtain ⟨t, q, rfl⟩ : ∃ (t : Fin 8192) (q : Fin 1024), i = ix2 t q := ⟨i 0, i 1, by funext b; match b with | 0 => rfl | 1 => rfl⟩
  refine (result_apply x0 x1 x2 t q).trans (congrArg₂ (· * ·) (Finset.sum_congr rfl fun j _ => ?_) ?_)
  · rw [groups_ref hx, mul_comm]
    rfl
  · exact congrArg x2 (congrArg (ix2 0) (Fin.ext (by show q.val = 256 * (q.val / 256) + q.val % 256; omega)))

end Cert.PoolRefIdeal.Val

end
-- ==== Proof.PoolPre.lean ====
/- What the precondition `finite_inputs` says of the arrays it reads, in plain words: every number of the rows is a
   real one. -/
module

public import proofs.«01_k».proof.Pre_finite_inputs
public import proofs.«01_k».proof.Proof.AttnPre

@[expose] public section

noncomputable section

namespace Cert.Pre_finite_inputs.Val

open Cert.Pre_finite_inputs Cert.Stick Idealize.ShloMosaic

/-- The shapes the precondition's operations take fit. -/
instance facts : Cert.Pre_finite_inputs.Facts where
  bcast_S_S8192x1024 := by decide
  reducesTo_S8192x1024_S_d0_1 := by decide
  h_S_ := by decide

/-- What the precondition says. -/
theorem unpack (x0 : FVec Ideal S8192x1024 .f32) (x1 : FVec Ideal S1x4x256x256 .f32) (x2 : FVec Ideal S1x1024 .f32)
    (h : fn (F := Ideal) x0 x1 x2 = fun _ => 1#1) : Finite (S := Rows) x0 := by
  unfold fn at h
  dsimp only at h
  have r0 := fun i => Host.reduce_andi_all _ _ _ _ _ (congrFun h (fun a => a.elim0)) i
  exact fun i => Cert.Pre_finite.Val.real_of_abs _ (r0 i)

end Cert.Pre_finite_inputs.Val

end
-- ==== Proof.PoolClaims.lean ====
/- The claims about the prompt's pools, one theorem each. -/
module

public import proofs.«01_k».proof.Defs
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.PoolValue
public import proofs.«01_k».proof.Proof.PoolRef
public import proofs.«01_k».proof.Proof.PoolPre
public import Idealize.ShloMosaic.Lib.Quiescent

@[expose] public section

noncomputable section

namespace Cert.PoolClaims

open Idealize.ShloMosaic Idealize.ShloMosaic.TcCoe Idealize.SL.Sem

/-- The kernel runs to its end, leaves its arguments as they were and every counter at zero. -/
theorem frame_p : Cert.quiescent_Pool := fun m ρ _ => Cert.Pool.Gen.frame m ρ

/-- So does the idealized kernel. -/
theorem frame_pi : Cert.quiescent_PoolIdeal := fun m ρ _ => Cert.PoolIdeal.Gen.frame m ρ

/-- So it does under the precondition. -/
theorem frame_pi_pre : Cert.quiescent_PoolIdeal_pre_finite_inputs := fun m ρ _ => Cert.PoolIdeal.Gen.frame m ρ

/-- The reference runs to its end, leaves its arguments as they were and every counter at zero. -/
theorem frame_ri : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- So it does under the precondition. -/
theorem frame_ri_pre : Cert.quiescent_PoolRefIdeal_pre_finite_inputs := fun m ρ _ => frame_ri m ρ trivial

/-- Kernel and reference end with the same array over the extended reals: the pools of the rows. -/
theorem algebraic : Cert.algebraic_PoolIdeal_PoolRefIdeal_pre_finite_inputs := by
  intro m ρ m' ρ' hpre hagree
  have hfin := fun c => Cert.Pre_finite_inputs.Val.unpack _ _ _ (hpre c)
  refine ⟨fun c => Cert.Pool.Spec.pools (m ((c.tc : Thread Cert.PoolIdeal.nD Cert.PoolIdeal.τ).loc Cert.PoolIdeal.main_arg0))
      (m ((c.tc : Thread Cert.PoolIdeal.nD Cert.PoolIdeal.τ).loc Cert.PoolIdeal.main_arg1))
      (m ((c.tc : Thread Cert.PoolIdeal.nD Cert.PoolIdeal.τ).loc Cert.PoolIdeal.main_arg2)), ?_, ?_⟩
  · exact (θ_run Cert.PoolIdeal.defs _ _).mono
      (fun _ h c => ⟨(h c).1.trans (Cert.PoolIdeal.Val.final_4 m c (hfin c)), (h c).2⟩)
      (Cert.PoolIdeal.Value.run_blocks (F := Ideal) m ρ)
  · refine (θ_run Cert.PoolRefIdeal.defs _ _).mono (fun _ h c => ⟨(h c).1.trans ?_, (h c).2⟩)
      (Cert.PoolRefIdeal.Value.run (F := Ideal) m' ρ')
    obtain ⟨a0, a1, a2⟩ := hagree c
    rw [Cert.PoolRefIdeal.Read.val_main_v71_eq, a0, a1, a2]
    exact Cert.PoolRefIdeal.Val.out_ref (hfin c) _ _

end Cert.PoolClaims

end
-- ==== Proof.PoolSSpec.lean ====
/-
  What the samples' pools are: for each group of columns the mean of the last few rows of a sample's buffer less the row
  itself, times the group's matrix and the columns' scale.
-/
module

public import proofs.«01_k».proof.Proof.PoolSpec

@[expose] public section

noncomputable section

namespace Cert.PoolS.Spec

open Idealize.ShloMosaic Cert.Stick Cert.Pool.Spec

/-- The samples' buffers, 15 old rows and 4 new ones each, -/
abbrev Bufs : Shape := ⟨3, ![32, 19, 1024]⟩
/-- and the new rows, one under another. -/
abbrev Outs : Shape := ⟨2, ![128, 1024]⟩

/-- An entry at any numbers: nothing outside. -/
def at3 (x : Bufs.Idx → EReal) (b s c : ℕ) : EReal := if h : b < 32 ∧ s < 19 ∧ c < 1024 then x (ix3 ⟨b, h.1⟩ ⟨s, h.2.1⟩ ⟨c, h.2.2⟩) else 0

/-- An entry is the array's at its own numbers. -/
theorem at3_eq (x : Bufs.Idx → EReal) (b : Fin 32) (s : Fin 19) (c : Fin 1024) : x (ix3 b s c) = at3 x b.val s.val c.val := by
  unfold at3
  rw [dif_pos ⟨b.isLt, s.isLt, c.isLt⟩]

/-- An array of real numbers is real at any numbers. -/
theorem real3 {x : Bufs.Idx → EReal} (hx : Finite x) (b s c : ℕ) : (((at3 x b s c).toReal : ℝ) : EReal) = at3 x b s c := by
  unfold at3
  split
  · exact EReal.coe_toReal (hx _).1 (hx _).2
  · rfl

/-- A sample's column of real numbers. -/
def sheet (x : Bufs.Idx → EReal) (b c : ℕ) : ℕ → ℝ := fun s => (at3 x b s c).toReal

/-- The last `w` rows' sum of a sample's column at a row. -/
def recent (x : Bufs.Idx → EReal) (w b l c : ℕ) : ℝ := before (sheet x b c) (l + 1) - before (sheet x b c) (l + 1 - w)

/-- Their mean less the row itself. -/
def centred (x : Bufs.Idx → EReal) (w b l c : ℕ) : EReal := (recent x w b l c : EReal) * ((1 / (w : ℝ) : ℝ) : EReal) - at3 x b l c

/-- The pooled row at a column of group `g`. -/
def pooled (x : Bufs.Idx → EReal) (w : Mats.Idx → EReal) (s : Gains.Idx → EReal) (g : Fin 4) (b l : ℕ) (n : Fin 256) : EReal :=
  (∑ j : Fin 256, centred x (2 ^ (g.val + 1)) b l (256 * g.val + j.val) * w (ix4 0 g j n))
    * s (ix2 0 ⟨256 * g.val + n.val, by omega⟩)

/-- The pools' array: row `r` is sample `r / 4`'s new row `r % 4`. -/
def pools (x : Bufs.Idx → EReal) (w : Mats.Idx → EReal) (s : Gains.Idx → EReal) : Outs.Idx → EReal := fun i =>
  pooled x w s (groupOf (i 1)) ((i 0).val / 4) (15 + (i 0).val % 4) (placeOf (i 1))

/-- The row of the buffers under one another, one row of nothing before each, that holds a new row. -/
abbrev own (r : ℕ) : ℕ := 20 * (r / 4) + 16 + r % 4

/-- A window of those rows that ends at a new row is the last `w` rows' sum. -/
theorem sum_band (f : ℕ → ℕ → ℝ) (r w o : ℕ) (ho : o = own r) (hr : r < 128) (hw : w ≤ 16) :
    (∑ k : Fin 640, if o + 1 - w ≤ k.val ∧ k.val < o + 1 then (if k.val % 20 = 0 then 0 else f (k.val / 20) (k.val % 20 - 1)) else 0)
      = before (f (r / 4)) (15 + r % 4 + 1) - before (f (r / 4)) (15 + r % 4 + 1 - w) := by
  unfold own at ho
  have h := sum_window 640 0 (o + 1 - w) (o + 1) (by omega) (fun k => if k % 20 = 0 then 0 else f (k / 20) (k % 20 - 1))
  simp only [Nat.zero_add] at h
  rw [h]
  have e : ∀ k ∈ Finset.Ico (o + 1 - w) (o + 1), (if k % 20 = 0 then 0 else f (k / 20) (k % 20 - 1))
      = before (f (r / 4)) (k + 1 - 1 - 20 * (r / 4)) - before (f (r / 4)) (k - 1 - 20 * (r / 4)) := fun k hk => by
    obtain ⟨h1, h2⟩ := Finset.mem_Ico.mp hk
    rw [if_neg (by omega), show k / 20 = r / 4 by omega, show k + 1 - 1 - 20 * (r / 4) = (k - 1 - 20 * (r / 4)) + 1 by omega, before_succ,
      show k % 20 - 1 = k - 1 - 20 * (r / 4) by omega]
    ring
  rw [Finset.sum_congr rfl e, sum_steps (fun k => before (f (r / 4)) (k - 1 - 20 * (r / 4))) _ _ (by omega)]
  rw [show o + 1 - 1 - 20 * (r / 4) = 15 + r % 4 + 1 by omega, show o + 1 - w - 1 - 20 * (r / 4) = 15 + r % 4 + 1 - w by omega]

/-- A window of width 2, 4, 8 or 16 is full at every new row. -/
theorem count_eq : ∀ (g t : Fin 4), (FloatOps.sitofp (F := Ideal) .f32 (IntOp.minsi (IntOp.addi (BitVec.ofNat 32 (8192 + t.val)) 1#32) (BitVec.ofNat 32 (2 ^ (g.val + 1)))) : EReal)
    = (((2 ^ (g.val + 1) : ℕ) : ℝ) : EReal) := by
  have h : ∀ (g t : Fin 4), (IntOp.minsi (IntOp.addi (BitVec.ofNat 32 (8192 + t.val)) 1#32) (BitVec.ofNat 32 (2 ^ (g.val + 1)))).toInt = ((2 ^ (g.val + 1) : ℕ) : ℤ) := by decide
  intro g t
  show (((IntOp.minsi (IntOp.addi (BitVec.ofNat 32 (8192 + t.val)) 1#32) (BitVec.ofNat 32 (2 ^ (g.val + 1)))).toInt : ℝ) : EReal) = _
  rw [h]
  norm_cast

/-- The band's bit, as a number. -/
theorem band_eq (o k w : ℕ) (ho : o < 640) (hk : k < 640) (hw : w ≤ 16) (hwo : w ≤ o) :
    (FloatOps.sitofp (F := Ideal) .f32 (BitVec.setWidth 32 (IntOp.andi (IntOp.cmpi .sle (BitVec.ofNat 32 k) (BitVec.ofNat 32 o))
      (IntOp.cmpi .sgt (BitVec.ofNat 32 k) (IntOp.subi (BitVec.ofNat 32 o) (BitVec.ofNat 32 w))))) : EReal)
      = if o + 1 - w ≤ k ∧ k < o + 1 then 1 else 0 := by
  have hs : (IntOp.subi (BitVec.ofNat 32 o) (BitVec.ofNat 32 w)).toInt = (o : ℤ) - w := by
    show (BitVec.ofNat 32 o - BitVec.ofNat 32 w).toInt = _
    rw [BitVec.toInt_sub, WordCmp.toInt_ofNat_of_lt (by omega), WordCmp.toInt_ofNat_of_lt (by omega)]
    exact Int.bmod_eq_of_le (by omega) (by omega)
  rw [WordCmp.cmpi_sle_eq, WordCmp.cmpi_sgt_eq, WordCmp.andi_ofBool, hs, WordCmp.toInt_ofNat_of_lt (by omega : k < 2 ^ 31), WordCmp.toInt_ofNat_of_lt (by omega : o < 2 ^ 31)]
  by_cases h : o + 1 - w ≤ k ∧ k < o + 1
  · rw [if_pos h, decide_eq_true (by omega), decide_eq_true (by omega)]
    show (((BitVec.setWidth 32 1#1).toInt : ℝ) : EReal) = 1
    rw [show (BitVec.setWidth 32 1#1).toInt = 1 by decide]; norm_cast
  · have : (decide ((k : ℤ) ≤ o) && decide ((o : ℤ) - w < (k : ℤ))) = false := by
      rw [Bool.and_eq_false_iff, decide_eq_false_iff_not, decide_eq_false_iff_not]; omega
    rw [if_neg h, this]
    show (((BitVec.setWidth 32 0#1).toInt : ℝ) : EReal) = 0
    rw [show (BitVec.setWidth 32 0#1).toInt = 0 by decide]; norm_cast

/-- The bit of the row itself, as a number. -/
theorem pick_eq (o k : ℕ) (ho : o < 640) (hk : k < 640) :
    (FloatOps.sitofp (F := Ideal) .f32 (BitVec.setWidth 32 (IntOp.cmpi .eq (BitVec.ofNat 32 k) (BitVec.ofNat 32 o))) : EReal) = if k = o then 1 else 0 := by
  rw [show IntOp.cmpi .eq (BitVec.ofNat 32 k) (BitVec.ofNat 32 o) = BitVec.ofBool (decide (k = o)) from ?_]
  · by_cases h : k = o
    · rw [if_pos h, decide_eq_true h]
      show (((BitVec.setWidth 32 1#1).toInt : ℝ) : EReal) = 1
      rw [show (BitVec.setWidth 32 1#1).toInt = 1 by decide]; norm_cast
    · rw [if_neg h, decide_eq_false h]
      show (((BitVec.setWidth 32 0#1).toInt : ℝ) : EReal) = 0
      rw [show (BitVec.setWidth 32 0#1).toInt = 0 by decide]; norm_cast
  · show BitVec.ofBool (BitVec.ofNat 32 k == BitVec.ofNat 32 o) = _
    congr 1
    rw [Bool.beq_eq_decide_eq, decide_eq_decide]
    constructor
    · intro h
      have h' := congrArg BitVec.toNat h
      rw [BitVec.toNat_ofNat, BitVec.toNat_ofNat] at h'
      omega
    · rintro rfl; rfl

/-- Bits' product with real numbers and with what their roundings left, which is nothing. -/
theorem split_sum (p : Fin 640 → Prop) [DecidablePred p] (b e : Fin 640 → EReal) (v : Fin 640 → ℝ) (hb : ∀ k, b k = if p k then 1 else 0) (he : ∀ k, e k = (v k : EReal)) :
    (∑ k, b k * e k) + (∑ k, b k * (e k - e k)) + ∑ k, b k * (e k - e k - (e k - e k)) = ((∑ k, if p k then v k else 0 : ℝ) : EReal) := by
  have h0 : ∀ k, e k - e k = 0 := fun k => by rw [he, ← EReal.coe_sub, sub_self, EReal.coe_zero]
  simp only [h0, sub_zero, mul_zero, Finset.sum_const_zero, add_zero]
  rw [coe_sum]
  refine Finset.sum_congr rfl fun k _ => ?_
  rw [hb, he]
  split
  · rw [one_mul]
  · rw [zero_mul, EReal.coe_zero]

end Cert.PoolS.Spec

end
-- ==== Proof.PoolSValue.lean ====
/-
  The value the samples' pool kernel leaves: each group of columns' recent mean less the row, through the group's matrix.
-/
module

public import proofs.«01_k».proof.Proof.Gen.PoolSIdeal.Value
public import Idealize.ShloMosaic.Lib.Pipeline.ValueKit
public import proofs.«01_k».proof.Proof.PoolSSpec

@[expose] public section

set_option maxRecDepth 16384

noncomputable section

namespace Cert.PoolSIdeal.Val

open Cert.PoolSIdeal Cert.PoolSIdeal.Gen Cert.Stick Cert.PoolS.Spec Idealize.ShloMosaic Idealize.ShloMosaic.TcCoe Idealize.SL.Sem Idealize.ShloMosaic.Tactic
open Cert.Pool.Spec (Mats Gains groupOf placeOf)

/-! ## The body's values, read at an index -/

/-- The buffers' row that is a new row's own, at every column of the mask. -/
abbrev ownRow : IVec S128x640 32 := k0_pay8 k0_pay3 (Scalar.select (Scalar.cmpi .eq 4#32 0#32) 1#32 4#32) k0_pay4 k0_pay5 k0_pay6 k0_pay7
/-- A column's number in the mask. -/
abbrev colNo : IVec S128x640 32 := iota .tc S128x640 32 [1] iota_S128x640_d1_w32

/-- Which row that is, -/
theorem own_bits (r : Fin 128) (k : Fin 640) : ownRow (ix2 r k) = BitVec.ofNat 32 (own r.val) := by
  pointwise [k0_pay8, k0_pay3, k0_pay4, k0_pay5, k0_pay6, k0_pay7]
  clear k
  revert r
  decide +kernel

/-- which column, -/
theorem cols_bits (r : Fin 128) (k : Fin 640) : colNo (ix2 r k) = BitVec.ofNat 32 k.val := by pointwise []

/-- and which place in the sequence a new row has. -/
theorem place_bits (r : Fin 128) : k0_pay10 (ix2 r 0) = BitVec.ofNat 32 (8192 + r.val % 4) := by
  pointwise [k0_pay10]
  revert r
  decide +kernel

/-- Bits' product with a column and with what its two roundings left. -/
abbrev splitOf (e : FVec Ideal S640x1024 .f32) (m : Fin 640 → EReal) (c : Fin 1024) : EReal :=
  (∑ k : Fin 640, m k * (e (ix2 k c) : EReal)) + (∑ k : Fin 640, m k * ((e (ix2 k c) : EReal) - e (ix2 k c)))
      + ∑ k : Fin 640, m k * ((e (ix2 k c) : EReal) - e (ix2 k c) - ((e (ix2 k c) : EReal) - e (ix2 k c)))

/-- One over how many rows a mean is of. -/
abbrev shareOf (p : IVec S128x1 32) (w : BitVec 32) (r : Fin 128) : EReal :=
  Ideal.div 1 (FloatOps.sitofp (F := Ideal) .f32 (IntOp.minsi (IntOp.addi (p (ix2 r 0)) 1#32) w))

/-- A word's bits as a number. -/
abbrev asNum (b : BitVec 32) : EReal := FloatOps.sitofp (F := Ideal) .f32 b

/-- The new rows. -/
theorem pay9_apply (x : FVec Ideal S640x1024 .f32) (b a : IVec S128x640 32) (z : BitVec 32) (c : IVec S128x640 32) (d e f : IVec S128x640 1) (r : Fin 128) (n : Fin 1024) :
    (k0_pay9 (F := Ideal) x b a z c d e f (ix2 r n) : EReal)
      = splitOf x (fun k => asNum (BitVec.setWidth 32 (IntOp.cmpi .eq (b (ix2 r k)) (k0_pay8 a z c d e f (ix2 r k))))) n := by
  unfold k0_pay9
  generalize k0_pay8 a z c d e f = o
  pointwise []

/-- The bits of the first group's window, -/
theorem pay11_apply (b a : IVec S128x640 32) (z : BitVec 32) (c : IVec S128x640 32) (d e f : IVec S128x640 1) (r : Fin 128) (k : Fin 640) :
    k0_pay11 b a z c d e f (ix2 r k) = IntOp.cmpi .sle (b (ix2 r k)) (k0_pay8 a z c d e f (ix2 r k)) := by
  unfold k0_pay11
  generalize k0_pay8 a z c d e f = o
  pointwise []
/-- both of them, -/
theorem pay12_apply (b a : IVec S128x640 32) (z : BitVec 32) (c : IVec S128x640 32) (d e f : IVec S128x640 1) (r : Fin 128) (k : Fin 640) :
    k0_pay12 b a z c d e f (ix2 r k) = IntOp.cmpi .sgt (b (ix2 r k)) (IntOp.subi (k0_pay8 a z c d e f (ix2 r k)) 2#32) := by
  unfold k0_pay12
  generalize k0_pay8 a z c d e f = o
  pointwise []

/-- A window's bits, -/
abbrev bandOf (b a : IVec S128x640 32) (w : BitVec 32) (r : Fin 128) (k : Fin 640) : BitVec 32 :=
  BitVec.setWidth 32 (IntOp.andi (IntOp.cmpi .sle (b (ix2 r k)) (a (ix2 r k))) (IntOp.cmpi .sgt (b (ix2 r k)) (IntOp.subi (a (ix2 r k)) w)))

/-- the second group's, -/
theorem pay14_apply (b a : IVec S128x640 32) (r : Fin 128) (k : Fin 640) : k0_pay14 b a (ix2 r k) = bandOf b a 4#32 r k := by pointwise [k0_pay14]
/-- the third's, -/
theorem pay16_apply (b a : IVec S128x640 32) (r : Fin 128) (k : Fin 640) : (k0_pay16 (F := Ideal) b a (ix2 r k) : EReal) = asNum (bandOf b a 8#32 r k) := by pointwise [k0_pay16]
/-- and the fourth's. -/
theorem pay18_apply (b a : IVec S128x640 32) (r : Fin 128) (k : Fin 640) : (k0_pay18 (F := Ideal) b a (ix2 r k) : EReal) = asNum (bandOf b a 16#32 r k) := by pointwise [k0_pay18]

/-- A group's mean less the row, through its matrix, times the columns' scale: the first, -/
theorem pay13_apply (x : FVec Ideal S640x1024 .f32) (y : FVec Ideal S128x1024 .f32) (p : IVec S128x1 32) (a b : IVec S128x640 1) (w : Vec Ideal S1x256x256 .bf16) (s : Vec Ideal S1x256 .f32) (r : Fin 128) (n : Fin 256) :
    (k0_pay13 (F := Ideal) x y p a b w s (ix2 r n) : EReal)
      = (∑ j : Fin 256, (splitOf x (fun k => asNum (BitVec.setWidth 32 (IntOp.andi (a (ix2 r k)) (b (ix2 r k))))) ⟨256 * 0 + j.val, by omega⟩ * shareOf p 2#32 r
          - y (ix2 r ⟨256 * 0 + j.val, by omega⟩)) * w (ix3 0 j n)) * s (ix2 0 n) := by
  pointwise [k0_pay13]

/-- the second, -/
theorem pay15_apply (x : FVec Ideal S640x1024 .f32) (y : FVec Ideal S128x1024 .f32) (p : IVec S128x1 32) (a : IVec S128x640 32) (w : Vec Ideal S1x256x256 .bf16) (s : Vec Ideal S1x256 .f32) (r : Fin 128) (n : Fin 256) :
    (k0_pay15 (F := Ideal) x y p a w s (ix2 r n) : EReal)
      = (∑ j : Fin 256, (splitOf x (fun k => asNum (a (ix2 r k))) ⟨256 * 1 + j.val, by omega⟩ * shareOf p 4#32 r
          - y (ix2 r ⟨256 * 1 + j.val, by omega⟩)) * w (ix3 0 j n)) * s (ix2 0 n) := by
  pointwise [k0_pay15]

/-- the third -/
theorem pay17_apply (x : FVec Ideal S640x1024 .f32) (y : FVec Ideal S128x1024 .f32) (p : IVec S128x1 32) (a : FVec Ideal S128x640 .bf16) (w : Vec Ideal S1x256x256 .bf16) (s : Vec Ideal S1x256 .f32) (r : Fin 128) (n : Fin 256) :
    (k0_pay17 (F := Ideal) x y p a w s (ix2 r n) : EReal)
      = (∑ j : Fin 256, (splitOf x (fun k => (a (ix2 r k) : EReal)) ⟨256 * 2 + j.val, by omega⟩ * shareOf p 8#32 r
          - y (ix2 r ⟨256 * 2 + j.val, by omega⟩)) * w (ix3 0 j n)) * s (ix2 0 n) := by
  pointwise [k0_pay17]

/-- and the fourth. -/
theorem pay1_apply (x : FVec Ideal S640x1024 .f32) (y : FVec Ideal S128x1024 .f32) (p : IVec S128x1 32) (a : FVec Ideal S128x640 .bf16) (w : Vec Ideal S1x256x256 .bf16) (s : Vec Ideal S1x256 .f32) (r : Fin 128) (n : Fin 256) :
    (k0_pay1 (F := Ideal) y p a (k0_pay19 x) (k0_pay20 x) w s (ix2 r n) : EReal)
      = (∑ j : Fin 256, (splitOf x (fun k => (a (ix2 r k) : EReal)) ⟨256 * 3 + j.val, by omega⟩ * shareOf p 16#32 r
          - y (ix2 r ⟨256 * 3 + j.val, by omega⟩)) * w (ix3 0 j n)) * s (ix2 0 n) := by
  pointwise [k0_pay1, k0_pay19, k0_pay20]

/-- The buffers as the body reads them. -/
theorem pay2_eq (x : Vec Ideal S640x1024 .f32) (k : Fin 640) (n : Fin 1024) : (k0_pay2 (F := Ideal) x (ix2 k n) : EReal) = x (ix2 k n) := by
  pointwise [k0_pay2]

/-! ## The windows' blocks -/

/-- A matrix without the first axis, -/
theorem mats_apply (w : Vec Ideal S1x4x256x256 .f32) (g : Fin 4) (k n : Fin 256) :
    truncf (F := Ideal) .bf16 (shapeCast S4x256x256 w shapeCasts_S1x4x256x256_S4x256x256) bitsLt_bf16_f32 (ix3 g k n) = w (ix4 0 g k n) := by pointwise []

/-- the scale, its axis off and on again, -/
theorem gains_apply (s : Vec Ideal S1x1024 .f32) (n : Fin 1024) :
    broadcastInDim S1x1024 ![1] bcast_S1024_S1x1024_1 (shapeCast S1024 s shapeCasts_S1x1024_S1024) (ix2 0 n) = s (ix2 0 n) := by pointwise []

/-- and the buffers under one another, a row of `z` before each. -/
theorem bufs_apply (x : Vec Ideal S32x19x1024 .f32) (z : FVec Ideal S_ .f32) (hz : ∀ i, z i = (0 : EReal)) (k : Fin 640) (n : Fin 1024) :
    (shapeCast S640x1024 (pad S32x20x1024 ![0, 1, 0] ![0, 0, 0] ![0, 0, 0] x z pads_S32x19x1024_S32x20x1024_000_100_000 h_S_) shapeCasts_S32x20x1024_S640x1024 (ix2 k n) : EReal)
      = if k.val % 20 = 0 then 0 else at3 x (k.val / 20) (k.val % 20 - 1) n.val := by
  have e : (shapeCast S640x1024 (pad S32x20x1024 ![0, 1, 0] ![0, 0, 0] ![0, 0, 0] x z pads_S32x19x1024_S32x20x1024_000_100_000 h_S_) shapeCasts_S32x20x1024_S640x1024 (ix2 k n) : EReal)
      = if h : k.val / 20 < 32 ∧ 1 ≤ k.val % 20 ∧ k.val % 20 - 1 < 19 then x (ix3 ⟨k.val / 20, h.1⟩ ⟨k.val % 20 - 1, h.2.2⟩ n) else z (Shape.Idx.first h_S_) := by
    pointwise []
  rw [e]
  by_cases h : k.val % 20 = 0
  · rw [if_pos h, dif_neg (by omega), hz]
  · rw [if_neg h, dif_pos (by omega)]
    exact at3_eq x _ _ n

/-- The block indices. -/
theorem indices : ∀ t : Fin grid0.N, win0_0.index t = ![0, 0] ∧ win0_1.index t = ![0, 0, 0] ∧ win0_2.index t = ![0, 0] ∧ win0_3.index t = ![0, 0] := by decide +kernel

variable (m : (ℓ : Loc nD τ sig) → Buf (Elt Ideal) ℓ)

/-- The buffers the kernel is launched with, -/
theorem v5_eq (c : Dev nD) : V m c main_v5 = shapeCast S640x1024 (pad S32x20x1024 ![0, 1, 0] ![0, 0, 0] ![0, 0, 0] (m ((c : Thread nD τ).loc main_arg0) : Vec Ideal S32x19x1024 .f32)
    (sitofp (F := Ideal) .f32 (constantI S_ 32 0#32)) pads_S32x19x1024_S32x20x1024_000_100_000 h_S_) shapeCasts_S32x20x1024_S640x1024 := by
  unfold V hostOps0
  simp only [List.flatten_cons, List.flatten_nil, List.append_nil, List.cons_append, List.nil_append]
  after_results_simp <;> rfl

/-- the matrices -/
theorem v1_eq (c : Dev nD) : V m c main_v1 = truncf (F := Ideal) .bf16 (shapeCast S4x256x256 (m ((c : Thread nD τ).loc main_arg1)) shapeCasts_S1x4x256x256_S4x256x256) bitsLt_bf16_f32 := by
  unfold V hostOps0
  simp only [List.flatten_cons, List.flatten_nil, List.append_nil, List.cons_append, List.nil_append]
  after_results_simp <;> rfl

/-- and its scale. -/
theorem v3_eq (c : Dev nD) : V m c main_v3 = broadcastInDim S1x1024 ![1] bcast_S1024_S1x1024_1 (shapeCast S1024 (m ((c : Thread nD τ).loc main_arg2)) shapeCasts_S1x1024_S1024) := by
  unfold V hostOps0
  simp only [List.flatten_cons, List.flatten_nil, List.append_nil, List.cons_append, List.nil_append]
  after_results_simp <;> rfl

variable (c : Dev nD)

/-- The buffers, -/
abbrev xs : Bufs.Idx → EReal := m ((c : Thread nD τ).loc main_arg0)
/-- the matrices -/
abbrev ws : Mats.Idx → EReal := m ((c : Thread nD τ).loc main_arg1)
/-- and the scale, as launched. -/
abbrev ss : Gains.Idx → EReal := m ((c : Thread nD τ).loc main_arg2)

/-- The buffers' block, -/
theorem bufs_block (t : Fin cfg0.N) (k : Fin 640) (n : Fin 1024) :
    (iblk m c 0 t : Vec Ideal S640x1024 .f32) (ix2 k n) = if k.val % 20 = 0 then 0 else at3 (xs m c) (k.val / 20) (k.val % 20 - 1) n.val := by
  have e : win0_0.index t 0 = 0 ∧ win0_0.index t 1 = 0 := by rw [(indices t).1]; exact ⟨rfl, rfl⟩
  refine Eq.trans (congrArg (V m c main_v5) (show ((cfg0.win 0).blk t).view.emb (ix2 k n) = ix2 k n from funext fun a => Fin.ext ?_))
    ((congrFun (v5_eq m c) _).trans (bufs_apply _ _ (fun i => ?_) k n))
  · match a with
    | 0 => show win0_0.index t 0 * 640 + 1 * k.val = k.val; rw [e.1]; omega
    | 1 => show win0_0.index t 1 * 1024 + 1 * n.val = n.val; rw [e.2]; omega
  · show (((0#32 : BitVec 32).toInt : ℝ) : EReal) = 0
    rw [show (0#32 : BitVec 32).toInt = 0 by decide]
    norm_cast

/-- the matrices -/
theorem mats_block (t : Fin cfg0.N) (g : Fin 4) (k n : Fin 256) :
    (iblk m c 1 t : Vec Ideal S4x256x256 .bf16) (ix3 g k n) = ws m c (ix4 0 g k n) := by
  have e : win0_1.index t 0 = 0 ∧ win0_1.index t 1 = 0 ∧ win0_1.index t 2 = 0 := by rw [(indices t).2.1]; exact ⟨rfl, rfl, rfl⟩
  refine Eq.trans (congrArg (V m c main_v1) (show ((cfg0.win 1).blk t).view.emb (ix3 g k n) = ix3 g k n from funext fun a => Fin.ext ?_)) ((congrFun (v1_eq m c) _).trans (mats_apply _ g k n))
  match a with
  | 0 => show win0_1.index t 0 * 4 + 1 * g.val = g.val; rw [e.1]; omega
  | 1 => show win0_1.index t 1 * 256 + 1 * k.val = k.val; rw [e.2.1]; omega
  | 2 => show win0_1.index t 2 * 256 + 1 * n.val = n.val; rw [e.2.2]; omega

/-- and the scale. -/
theorem gains_block (t : Fin cfg0.N) (n : Fin 1024) : (iblk m c 2 t : Vec Ideal S1x1024 .f32) (ix2 0 n) = ss m c (ix2 0 n) := by
  have e : win0_2.index t 0 = 0 ∧ win0_2.index t 1 = 0 := by rw [(indices t).2.2.1]; exact ⟨rfl, rfl⟩
  refine Eq.trans (congrArg (V m c main_v3) (show ((cfg0.win 2).blk t).view.emb (ix2 0 n) = ix2 0 n from funext fun a => Fin.ext ?_)) ((congrFun (v3_eq m c) _).trans (gains_apply _ n))
  match a with
  | 0 => show win0_2.index t 0 * 1 + 1 * 0 = 0; rw [e.1]
  | 1 => show win0_2.index t 1 * 1024 + 1 * n.val = n.val; rw [e.2]; omega

/-! ## The means -/

/-- The buffers the body reads. -/
abbrev ext (t : Fin cfg0.N) : FVec Ideal S640x1024 .f32 := k0_pay2 (F := Ideal) (iblk m c 0 t : Vec Ideal S640x1024 .f32)

variable (hx : Finite (xs m c))

include hx in
/-- They are real. -/
theorem ext_real (t : Fin cfg0.N) (k : Fin 640) (n : Fin 1024) :
    (ext m c t (ix2 k n) : EReal) = ((if k.val % 20 = 0 then 0 else sheet (xs m c) (k.val / 20) n.val (k.val % 20 - 1) : ℝ) : EReal) := by
  rw [ext, pay2_eq, bufs_block]
  split
  · exact EReal.coe_zero.symm
  · exact (real3 hx _ _ _).symm

include hx in
/-- A window's sum. -/
theorem sum_eq (t : Fin cfg0.N) (g : Fin 4) (r : Fin 128) (n : Fin 1024) (b : Fin 640 → EReal) (hb : ∀ k, b k = asNum (bandOf colNo ownRow (BitVec.ofNat 32 (2 ^ (g.val + 1))) r k)) :
    splitOf (ext m c t) b n = (recent (xs m c) (2 ^ (g.val + 1)) (r.val / 4) (15 + r.val % 4) n.val : EReal) := by
  have hg : 2 ^ (g.val + 1) ≤ 16 := by have : g.val + 1 ≤ 4 := by omega
                                       exact (Nat.pow_le_pow_right (by omega) this).trans (by decide)
  have hr : r.val < 128 := r.isLt
  have ho : own r.val < 640 ∧ 16 ≤ own r.val := by unfold own; omega
  rw [splitOf, split_sum (fun k => own r.val + 1 - 2 ^ (g.val + 1) ≤ k.val ∧ k.val < own r.val + 1) b (fun k => ext m c t (ix2 k n))
    (fun k => if k.val % 20 = 0 then 0 else sheet (xs m c) (k.val / 20) n.val (k.val % 20 - 1))
    (fun k => by
      rw [hb, asNum, bandOf, own_bits, cols_bits]
      exact band_eq (own r.val) k.val (2 ^ (g.val + 1)) ho.1 k.isLt hg (hg.trans ho.2))
    (fun k => ext_real m c hx t k n), sum_band (fun b s => sheet (xs m c) b n.val s) r.val (2 ^ (g.val + 1)) (own r.val) rfl hr hg]
  rfl

include hx in
/-- A new row. -/
theorem row_eq (t : Fin cfg0.N) (r : Fin 128) (n : Fin 1024) :
    (k0_pay9 (F := Ideal) (ext m c t) colNo k0_pay3 (Scalar.select (Scalar.cmpi .eq 4#32 0#32) 1#32 4#32) k0_pay4 k0_pay5 k0_pay6 k0_pay7 (ix2 r n) : EReal)
      = at3 (xs m c) (r.val / 4) (15 + r.val % 4) n.val := by
  have hr : r.val < 128 := r.isLt
  have ho : own r.val < 640 ∧ own r.val % 20 ≠ 0 ∧ own r.val / 20 = r.val / 4 ∧ own r.val % 20 - 1 = 15 + r.val % 4 := by unfold own; omega
  rw [pay9_apply, splitOf, split_sum (fun k => k = ⟨own r.val, ho.1⟩) _ (fun k => ext m c t (ix2 k n))
    (fun k => if k.val % 20 = 0 then 0 else sheet (xs m c) (k.val / 20) n.val (k.val % 20 - 1))
    (fun k => by
      have h := pick_eq (own r.val) k.val ho.1 k.isLt
      rw [← cols_bits r k, ← own_bits r k] at h
      refine h.trans ?_
      simp only [Fin.ext_iff])
    (fun k => ext_real m c hx t k n), Finset.sum_ite_eq' Finset.univ, if_pos (Finset.mem_univ _), if_neg ho.2.1]
  show ((sheet (xs m c) (own r.val / 20) n.val (own r.val % 20 - 1) : ℝ) : EReal) = _
  rw [ho.2.2.1, ho.2.2.2]
  exact real3 hx _ _ _

/-- One over the rows' count. -/
theorem share_eq (g : Fin 4) (r : Fin 128) : shareOf k0_pay10 (BitVec.ofNat 32 (2 ^ (g.val + 1))) r = ((1 / ((2 ^ (g.val + 1) : ℕ) : ℝ) : ℝ) : EReal) := by
  rw [shareOf, place_bits]
  have h := count_eq g ⟨r.val % 4, by omega⟩
  rw [h, Ideal.div_coe (Nat.cast_ne_zero.mpr (by positivity)), one_mul]

/-! ## The body's value and the array -/

omit m c hx in
/-- A matrix loaded from the four, -/
theorem load_mats (x : Vec Ideal S4x256x256 .bf16) (g : Fin 4) (h : ∀ a, (![g.val, 0, 0] : Fin 3 → ℕ) a + S1x256x256.size a ≤ S4x256x256.size a) (k n : Fin 256) :
    (View.ld (Val := Elt Ideal) (e' := .bf16) x (Rect.unit (s := S4x256x256) ![g.val, 0, 0] S1x256x256.size h) : Vec Ideal S1x256x256 .bf16) (ix3 0 k n) = x (ix3 g k n) :=
  congrArg x (funext fun z => Fin.ext (match z with
    | 0 => (by show g.val + 1 * 0 = g.val; omega)
    | 1 => (by show 0 + 1 * k.val = k.val; omega)
    | 2 => (by show 0 + 1 * n.val = n.val; omega)))

omit m c hx in
/-- and a group's scale. -/
theorem load_gains (x : Vec Ideal S1x1024 .f32) (o : ℕ) (h : ∀ a, (![0, o] : Fin 2 → ℕ) a + S1x256.size a ≤ S1x1024.size a) (n : Fin 256) (q : Fin 1024) (hq : q.val = o + n.val) :
    (View.ld (Val := Elt Ideal) (e' := .f32) x (Rect.unit (s := S1x1024) ![0, o] S1x256.size h) : Vec Ideal S1x256 .f32) (ix2 0 n) = x (ix2 0 q) :=
  congrArg x (funext fun z => Fin.ext (match z with
    | 0 => rfl
    | 1 => (by show o + 1 * n.val = q.val; omega)))

include hx in
/-- A group's entry, of its window's bits and its loads. -/
theorem group_eq (t : Fin cfg0.N) (g : Fin 4) (r : Fin 128) (n : Fin 256) (b : Fin 640 → EReal) (w : Fin 256 → EReal) (s : EReal)
    (hb : ∀ k, b k = asNum (bandOf colNo ownRow (BitVec.ofNat 32 (2 ^ (g.val + 1))) r k))
    (hw : ∀ j : Fin 256, w j = (iblk m c 1 t : Vec Ideal S4x256x256 .bf16) (ix3 g j n)) (hs : s = (iblk m c 2 t : Vec Ideal S1x1024 .f32) (ix2 0 ⟨256 * g.val + n.val, by omega⟩)) :
    (∑ j : Fin 256, (splitOf (ext m c t) b ⟨256 * g.val + j.val, by omega⟩ * shareOf k0_pay10 (BitVec.ofNat 32 (2 ^ (g.val + 1))) r
      - (k0_pay9 (F := Ideal) (ext m c t) colNo k0_pay3 (Scalar.select (Scalar.cmpi .eq 4#32 0#32) 1#32 4#32) k0_pay4 k0_pay5 k0_pay6 k0_pay7 (ix2 r ⟨256 * g.val + j.val, by omega⟩) : EReal)) * w j) * s
      = pooled (xs m c) (ws m c) (ss m c) g (r.val / 4) (15 + r.val % 4) n := by
  rw [pooled, hs, gains_block]
  congr 1
  refine Finset.sum_congr rfl fun j _ => ?_
  rw [hw, mats_block, sum_eq m c hx t g r _ b hb, share_eq, row_eq m c hx]
  rfl

include hx in
/-- What the body leaves at an index of its block. -/
theorem out_apply (t : Fin cfg0.N) (r : Fin 128) (q : Fin 1024) :
    (out0_3 (iblk m c 0 t) (iblk m c 1 t) (iblk m c 2 t) (ix2 r q) : EReal)
      = pooled (xs m c) (ws m c) (ss m c) (groupOf q) (r.val / 4) (15 + r.val % 4) (placeOf q) := by
  have key : ∀ (g : Fin 4) (x : S128x256.Idx), r.val = 0 + (x 0).val → q.val = 256 * g.val + (x 1).val →
      pooled (xs m c) (ws m c) (ss m c) g ((x 0).val / 4) (15 + (x 0).val % 4) (x 1) = pooled (xs m c) (ws m c) (ss m c) (groupOf q) (r.val / 4) (15 + r.val % 4) (placeOf q) := fun g x h0 h1 => by
    have hx1 : (x 1).val < 256 := (x 1).isLt
    rw [show groupOf q = g from Fin.ext (by show q.val / 256 = g.val; omega), show placeOf q = x 1 from Fin.ext (by show q.val % 256 = (x 1).val; omega), h0, Nat.zero_add]
  unfold_out out0_3
  simp (disch := decide) only [View.ld_unit_lit]
  refine View.canon_eq_of_allAt _ _ _ (cover0_3 _ _ _ _ _) (View.allAt_cons_unit _ _ _ _ _ ?_ (View.allAt_cons_unit _ _ _ _ _ ?_ (View.allAt_cons_unit _ _ _ _ _ ?_ (View.allAt_cons_unit _ _ _ _ _ ?_ (View.allAt_nil _ _)))))
  · intro x hxx
    refine Eq.trans ?_ (key 3 x (hxx 0) (hxx 1))
    obtain ⟨a, b, rfl⟩ : ∃ (a : Fin 128) (b : Fin 256), x = ix2 a b := ⟨x 0, x 1, by funext z; match z with | 0 => rfl | 1 => rfl⟩
    exact (pay1_apply _ _ _ _ _ _ a b).trans (group_eq m c hx t 3 a b _ _ _ (fun k => pay18_apply _ _ a k) (fun j => load_mats _ 3 _ j b) (load_gains _ 768 _ b ⟨256 * 3 + b.val, by omega⟩ rfl))
  · intro x hxx
    refine Eq.trans ?_ (key 2 x (hxx 0) (hxx 1))
    obtain ⟨a, b, rfl⟩ : ∃ (a : Fin 128) (b : Fin 256), x = ix2 a b := ⟨x 0, x 1, by funext z; match z with | 0 => rfl | 1 => rfl⟩
    exact (pay17_apply _ _ _ _ _ _ a b).trans (group_eq m c hx t 2 a b _ _ _ (fun k => pay16_apply _ _ a k) (fun j => load_mats _ 2 _ j b) (load_gains _ 512 _ b ⟨256 * 2 + b.val, by omega⟩ rfl))
  · intro x hxx
    refine Eq.trans ?_ (key 1 x (hxx 0) (hxx 1))
    obtain ⟨a, b, rfl⟩ : ∃ (a : Fin 128) (b : Fin 256), x = ix2 a b := ⟨x 0, x 1, by funext z; match z with | 0 => rfl | 1 => rfl⟩
    exact (pay15_apply _ _ _ _ _ _ a b).trans (group_eq m c hx t 1 a b _ _ _ (fun k => congrArg asNum (pay14_apply _ _ a k)) (fun j => load_mats _ 1 _ j b) (load_gains _ 256 _ b ⟨256 * 1 + b.val, by omega⟩ rfl))
  · intro x hxx
    refine Eq.trans ?_ (key 0 x (hxx 0) (hxx 1))
    obtain ⟨a, b, rfl⟩ : ∃ (a : Fin 128) (b : Fin 256), x = ix2 a b := ⟨x 0, x 1, by funext z; match z with | 0 => rfl | 1 => rfl⟩
    exact (pay13_apply _ _ _ _ _ _ _ a b).trans (group_eq m c hx t 0 a b _ _ _ (fun k => by rw [pay11_apply, pay12_apply]; rfl) (fun j => load_mats _ 0 _ j b) (load_gains _ 0 _ b ⟨256 * 0 + b.val, by omega⟩ rfl))

include hx in
/-- The result's array. -/
theorem final_3 : (dats m 0 c).arrAt 3 cfg0.N = pools (xs m c) (ws m c) (ss m c) := by
  refine (dats m 0 c).arrAt_eq_of_covers 3 _ (by decide +kernel) fun t hf y => ?_
  have e : win0_3.index t 0 = 0 ∧ win0_3.index t 1 = 0 := by rw [(indices t).2.2.2]; exact ⟨rfl, rfl⟩
  blk_simp
  rw [after0_3]
  have e0 : (((win0_3.blk t).view.emb y) 0 : ℕ) = (y 0).val := by show win0_3.index t 0 * 128 + 1 * (y 0).val = _; rw [e.1]; omega
  have e1 : ((win0_3.blk t).view.emb y) 1 = (y 1 : Fin 1024) := Fin.ext (by show win0_3.index t 1 * 1024 + 1 * (y 1).val = _; rw [e.2]; omega)
  refine Eq.trans ?_ (show pooled (xs m c) (ws m c) (ss m c) (groupOf (y 1)) ((y 0).val / 4) (15 + (y 0).val % 4) (placeOf (y 1)) = _ by unfold pools; rw [e0, e1])
  obtain ⟨r, q, rfl⟩ : ∃ (r : Fin 128) (q : Fin 1024), y = ix2 r q := ⟨y 0, y 1, by funext b; match b with | 0 => rfl | 1 => rfl⟩
  exact out_apply m c hx t r q

end Cert.PoolSIdeal.Val

end
-- ==== Proof.PoolSRef.lean ====
/-
  What the samples' pools' reference leaves in its result: the same pools.
-/
module

public import proofs.«01_k».proof.Proof.Gen.PoolSRefIdeal.Run
public import proofs.«01_k».proof.Proof.Gen.PoolSRefIdeal.Read
public import proofs.«01_k».proof.Proof.PoolSSpec
public import Idealize.ShloMosaic.Lib.WordCmp

@[expose] public section

set_option maxRecDepth 16384

noncomputable section

namespace Cert.PoolSRefIdeal.Val

open Cert.PoolSRefIdeal Cert.PoolSRefIdeal.Gen Cert.PoolSRefIdeal.Read Idealize.ShloMosaic Idealize.ShloMosaic.TcCoe
open Cert.Stick Cert.PoolS.Spec
open Cert.Pool.Spec (Mats Gains groupOf placeOf before)

/-- Adding up along a list is adding the list's sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The window of one sum: a sample's column of 19 places. -/
abbrev Win : Shape := ⟨3, ![1, 19, 1]⟩

/-- The window's places. -/
theorem win_numel : Win.numel = 19 := by
  unfold Shape.numel
  rw [Fin.prod_univ_three]
  rfl

/-- A place's coordinates in the window. -/
theorem win_coords (n : Fin Win.numel) : ((Win.rowMajor.symm n) 0).val = 0 ∧ ((Win.rowMajor.symm n) 1).val = n.val ∧ ((Win.rowMajor.symm n) 2).val = 0 := by
  have h0 : ((Win.rowMajor.symm n) 0).val < 1 := ((Win.rowMajor.symm n) 0).isLt
  have h2 : ((Win.rowMajor.symm n) 2).val < 1 := ((Win.rowMajor.symm n) 2).isLt
  have h := Shape.rowMajor_val_three (Win.rowMajor.symm n)
  rw [Equiv.apply_symm_apply] at h
  have h' : n.val = (((Win.rowMajor.symm n) 0).val * 19 + ((Win.rowMajor.symm n) 1).val) * 1 + ((Win.rowMajor.symm n) 2).val := h
  omega

/-- The running sum down a sample's column. -/
theorem prefix_sum (x : FVec Ideal S32x19x1024 .f32) (v : FVec Ideal S_ .f32) (hv : ∀ i, v i = (0 : EReal)) (hw) (hu) (b : Fin 32) (l : Fin 19) (c : Fin 1024) :
    Host.reduceWindowAdd (t := S32x19x1024) (u := S_) ![1, 19, 1] ![1, 1, 1] ![0, 18, 0] ![0, 0, 0] x v hw hu (ix3 b l c)
      = ∑ n : Fin 19, if ht : 18 ≤ l.val + n.val then (x (ix3 b ⟨l.val + n.val - 18, by omega⟩ c) : EReal) else 0 := by
  unfold Host.reduceWindowAdd
  rw [hv, Ideal.hostReduceWindowAdd_def]
  unfold Ideal.hostReduceWindowAdd Host.reduceWindow
  refine (foldl_sum (ι := Fin Win.numel) _ _ _).trans ?_
  rw [zero_add, ← Fin.sum_univ_def, ← Equiv.sum_comp (finCongr win_numel)]
  refine Finset.sum_congr rfl fun n _ => ?_
  obtain ⟨c0, c1, c2⟩ := win_coords n
  have hn : n.val < 19 := lt_of_lt_of_eq n.isLt win_numel
  by_cases hlt : 18 ≤ l.val + n.val
  · rw [dif_pos (show 18 ≤ l.val + ((finCongr win_numel) n).val from hlt), dif_pos ?_]
    · refine congrArg x (funext fun a => ?_)
      match a with
      | 0 => apply Fin.ext; show b.val * 1 + ((Win.rowMajor.symm n) 0).val - 0 = b.val; omega
      | 1 => apply Fin.ext; show l.val * 1 + ((Win.rowMajor.symm n) 1).val - 18 = l.val + n.val - 18; omega
      | 2 => apply Fin.ext; show c.val * 1 + ((Win.rowMajor.symm n) 2).val - 0 = c.val; omega
    · intro a
      match a with
      | 0 => show 0 ≤ b.val * 1 + ((Win.rowMajor.symm n) 0).val ∧ b.val * 1 + ((Win.rowMajor.symm n) 0).val - 0 < 32; omega
      | 1 => show 18 ≤ l.val * 1 + ((Win.rowMajor.symm n) 1).val ∧ l.val * 1 + ((Win.rowMajor.symm n) 1).val - 18 < 19; omega
      | 2 => show 0 ≤ c.val * 1 + ((Win.rowMajor.symm n) 2).val ∧ c.val * 1 + ((Win.rowMajor.symm n) 2).val - 0 < 1024; omega
  · rw [dif_neg (show ¬ 18 ≤ l.val + ((finCongr win_numel) n).val from hlt), dif_neg]
    intro hall
    have h2 : 18 ≤ l.val * 1 + ((Win.rowMajor.symm n) 1).val ∧ l.val * 1 + ((Win.rowMajor.symm n) 1).val - 18 < 19 := hall 1
    omega

/-- The running sum of real numbers. -/
theorem cumsum_ref {x0 : (⟨S32x19x1024, .f32⟩ : BufTy).Contents (Elt Ideal)} (hx : Finite (S := Bufs) x0) (b : Fin 32) (l : Fin 19) (c : Fin 1024) :
    val_main_v0 (F := Ideal) x0 (ix3 b l c) = ((before (sheet x0 b.val c.val) (l.val + 1) : ℝ) : EReal) := by
  unfold val_main_v0
  rw [prefix_sum _ _ (fun i => by pointwise [val_main_call0_v0, val_main_call0_cst])]
  have e : ∀ n : Fin 19, (if ht : 18 ≤ l.val + n.val then (x0 (ix3 b ⟨l.val + n.val - 18, by omega⟩ c) : EReal) else 0)
      = (((if 18 - l.val ≤ n.val ∧ n.val < 19 then sheet x0 b.val c.val (l.val + n.val - 18) else 0) : ℝ) : EReal) := fun n => by
    by_cases h1 : 18 ≤ l.val + n.val
    · rw [dif_pos h1, if_pos (by omega)]
      exact (at3_eq x0 b _ c).trans (real3 hx _ _ _).symm
    · rw [dif_neg h1, if_neg (by omega), EReal.coe_zero]
  rw [Finset.sum_congr rfl fun n _ => e n, ← coe_sum]
  congr 1
  have h := sum_window 19 0 (18 - l.val) 19 le_rfl (fun n => sheet x0 b.val c.val (l.val + n - 18))
  simp only [Nat.zero_add] at h
  rw [h]
  unfold before
  rw [Finset.sum_Ico_eq_sum_range, show 19 - (18 - l.val) = l.val + 1 by omega]
  refine Finset.sum_congr rfl fun k _ => ?_
  rw [show l.val + (18 - l.val + k) - 18 = k by omega]

/-- A mean as the reference takes it, less the row, at a new row. -/
theorem centred_ref {x0 : (⟨S32x19x1024, .f32⟩ : BufTy).Contents (Elt Ideal)} (hx : Finite (S := Bufs) x0) (w : ℕ) (g t : Fin 4) (hg : w = 2 ^ (g.val + 1)) (b : Fin 32) (l : Fin 19) (hl : l.val = 15 + t.val) (c : Fin 1024) :
    Ideal.div ((val_main_v0 (F := Ideal) x0 (ix3 b l c) : EReal) - (if h : w ≤ l.val ∧ l.val - w < 19 then (val_main_v0 (F := Ideal) x0 (ix3 b ⟨l.val - w, h.2⟩ c) : EReal) else FloatOps.sitofp (F := Ideal) .f32 0#32))
        (FloatOps.sitofp (F := Ideal) .f32 (IntOp.minsi (IntOp.addi (IntOp.addi 8177#32 (BitVec.ofNat 32 l.val)) 1#32) (BitVec.ofNat 32 (w)))) - x0 (ix3 b l c)
      = centred x0 (w) b.val l.val c.val := by
  have hw1 : 1 ≤ w := hg ▸ Nat.one_le_two_pow
  have ep : (if h : w ≤ l.val ∧ l.val - w < 19 then (val_main_v0 (F := Ideal) x0 (ix3 b ⟨l.val - w, h.2⟩ c) : EReal) else FloatOps.sitofp (F := Ideal) .f32 0#32)
      = ((before (sheet x0 b.val c.val) (l.val + 1 - w) : ℝ) : EReal) := by
    by_cases h : w ≤ l.val
    · rw [dif_pos ⟨h, by omega⟩, cumsum_ref hx]
      show ((before (sheet x0 b.val c.val) (l.val - w + 1) : ℝ) : EReal) = _
      rw [show l.val - w + 1 = l.val + 1 - w by omega]
    · rw [dif_neg (fun h' => h h'.1), show l.val + 1 - w = 0 by omega]
      show (((0#32 : BitVec 32).toInt : ℝ) : EReal) = ((∑ s ∈ Finset.range 0, sheet x0 b.val c.val s : ℝ) : EReal)
      rw [show (0#32 : BitVec 32).toInt = 0 by decide, Finset.range_zero, Finset.sum_empty]
      norm_cast
  have en : IntOp.addi 8177#32 (BitVec.ofNat 32 l.val) = BitVec.ofNat 32 (8192 + t.val) := by
    rw [hl, show 8192 + t.val = 8177 + (15 + t.val) by omega]
    exact (BitVec.ofNat_add 8177 (15 + t.val)).symm
  have ec : (FloatOps.sitofp (F := Ideal) .f32 (IntOp.minsi (IntOp.addi (BitVec.ofNat 32 (8192 + t.val)) 1#32) (BitVec.ofNat 32 w)) : EReal) = ((w : ℝ) : EReal) := by
    rw [hg]; exact count_eq g t
  rw [ep, cumsum_ref hx, en, ec, Ideal.div_coe (Nat.cast_ne_zero.mpr (by omega)), ← EReal.coe_sub, at3_eq x0 b l c]
  rfl

/-- The first group's centred rows. -/
theorem group0_ref {x0 : (⟨S32x19x1024, .f32⟩ : BufTy).Contents (Elt Ideal)} (hx : Finite (S := Bufs) x0) (t : Fin 4) (b : Fin 32) (l : Fin 19) (hl : l.val = 15 + t.val) (n : Fin 256) :
    (val_main_v17 (F := Ideal) x0 (ix3 b l n) : EReal) = centred x0 2 b.val l.val (256 * 0 + n.val) := by
  refine Eq.trans ?_ (centred_ref hx 2 0 t rfl b l hl ⟨256 * 0 + n.val, by omega⟩)
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_c, val_main_call1_v0, val_main_c_0, val_main_c_1, val_main_c_2]

/-- The second group's centred rows. -/
theorem group1_ref {x0 : (⟨S32x19x1024, .f32⟩ : BufTy).Contents (Elt Ideal)} (hx : Finite (S := Bufs) x0) (t : Fin 4) (b : Fin 32) (l : Fin 19) (hl : l.val = 15 + t.val) (n : Fin 256) :
    (val_main_v31 (F := Ideal) x0 (ix3 b l n) : EReal) = centred x0 4 b.val l.val (256 * 1 + n.val) := by
  refine Eq.trans ?_ (centred_ref hx 4 1 t rfl b l hl ⟨256 * 1 + n.val, by omega⟩)
  pointwise [val_main_v31, val_main_v30, val_main_v29, val_main_v28, val_main_v27, val_main_v26, val_main_v25, val_main_v24, val_main_v23, val_main_v22, val_main_v21, val_main_v20, val_main_v19, val_main_v18, val_main_v3, val_main_v2, val_main_v1, val_main_c, val_main_call2_v0, val_main_c_3, val_main_c_4, val_main_c_5]

/-- The third group's centred rows. -/
theorem group2_ref {x0 : (⟨S32x19x1024, .f32⟩ : BufTy).Contents (Elt Ideal)} (hx : Finite (S := Bufs) x0) (t : Fin 4) (b : Fin 32) (l : Fin 19) (hl : l.val = 15 + t.val) (n : Fin 256) :
    (val_main_v45 (F := Ideal) x0 (ix3 b l n) : EReal) = centred x0 8 b.val l.val (256 * 2 + n.val) := by
  refine Eq.trans ?_ (centred_ref hx 8 2 t rfl b l hl ⟨256 * 2 + n.val, by omega⟩)
  pointwise [val_main_v45, val_main_v44, val_main_v43, val_main_v42, val_main_v41, val_main_v40, val_main_v39, val_main_v38, val_main_v37, val_main_v36, val_main_v35, val_main_v34, val_main_v33, val_main_v32, val_main_v3, val_main_v2, val_main_v1, val_main_c, val_main_call3_v0, val_main_c_6, val_main_c_7, val_main_c_8]

/-- The fourth group's centred rows. -/
theorem group3_ref {x0 : (⟨S32x19x1024, .f32⟩ : BufTy).Contents (Elt Ideal)} (hx : Finite (S := Bufs) x0) (t : Fin 4) (b : Fin 32) (l : Fin 19) (hl : l.val = 15 + t.val) (n : Fin 256) :
    (val_main_v59 (F := Ideal) x0 (ix3 b l n) : EReal) = centred x0 16 b.val l.val (256 * 3 + n.val) := by
  refine Eq.trans ?_ (centred_ref hx 16 3 t rfl b l hl ⟨256 * 3 + n.val, by omega⟩)
  pointwise [val_main_v59, val_main_v58, val_main_v57, val_main_v56, val_main_v55, val_main_v54, val_main_v53, val_main_v52, val_main_v51, val_main_v50, val_main_v49, val_main_v48, val_main_v47, val_main_v46, val_main_v3, val_main_v2, val_main_v1, val_main_c, val_main_call4_v0, val_main_c_9, val_main_c_10, val_main_c_11]

/-- The groups side by side. -/
theorem groups_ref {x0 : (⟨S32x19x1024, .f32⟩ : BufTy).Contents (Elt Ideal)} (hx : Finite (S := Bufs) x0) (t : Fin 4) (b : Fin 32) (l : Fin 19) (hl : l.val = 15 + t.val) (g : Fin 4) (n : Fin 256) :
    (val_main_v64 (F := Ideal) x0 (ix4 b l g n) : EReal) = centred x0 (2 ^ (g.val + 1)) b.val l.val (256 * g.val + n.val) := by
  match g with
  | 0 => refine Eq.trans ?_ (group0_ref hx t b l hl n); pointwise [val_main_v64, val_main_v63, val_main_v62, val_main_v61, val_main_v60]
  | 1 => refine Eq.trans ?_ (group1_ref hx t b l hl n); pointwise [val_main_v64, val_main_v63, val_main_v62, val_main_v61, val_main_v60]
  | 2 => refine Eq.trans ?_ (group2_ref hx t b l hl n); pointwise [val_main_v64, val_main_v63, val_main_v62, val_main_v61, val_main_v60]
  | 3 => refine Eq.trans ?_ (group3_ref hx t b l hl n); pointwise [val_main_v64, val_main_v63, val_main_v62, val_main_v61, val_main_v60]

/-- The result at an index: its group's rows through its matrix, times its scale. -/
theorem result_apply (x0 : (⟨S32x19x1024, .f32⟩ : BufTy).Contents (Elt Ideal)) (x1 : (⟨S1x4x256x256, .f32⟩ : BufTy).Contents (Elt Ideal)) (x2 : (⟨S1x1024, .f32⟩ : BufTy).Contents (Elt Ideal)) (r : Fin 128) (q : Fin 1024) :
    (val_main_v75 (F := Ideal) x0 x1 x2 (ix2 r q) : EReal)
      = (∑ j : Fin 256, (x1 (ix4 0 (groupOf q) j (placeOf q)) : EReal) * val_main_v64 (F := Ideal) x0 (ix4 ⟨r.val / 4, by omega⟩ ⟨15 + r.val % 4, by omega⟩ (groupOf q) j)) * x2 (ix2 0 q) := by
  pointwise [val_main_v75, val_main_v74, val_main_v73, val_main_v72, val_main_v71, val_main_v70, val_main_v69, val_main_v68, val_main_v67, val_main_v66, val_main_v65]
  rfl

/-- The reference leaves the pools. -/
theorem out_ref {x0 : (⟨S32x19x1024, .f32⟩ : BufTy).Contents (Elt Ideal)} (hx : Finite (S := Bufs) x0) (x1 : (⟨S1x4x256x256, .f32⟩ : BufTy).Contents (Elt Ideal)) (x2 : (⟨S1x1024, .f32⟩ : BufTy).Contents (Elt Ideal)) :
    val_main_v75 (F := Ideal) x0 x1 x2 = pools x0 x1 x2 := by
  funext i
  obtain ⟨r, q, rfl⟩ : ∃ (r : Fin 128) (q : Fin 1024), i = ix2 r q := ⟨i 0, i 1, by funext b; match b with | 0 => rfl | 1 => rfl⟩
  refine (result_apply x0 x1 x2 r q).trans (congrArg₂ (· * ·) (Finset.sum_congr rfl fun j _ => ?_) ?_)
  · rw [groups_ref hx ⟨r.val % 4, by omega⟩ ⟨r.val / 4, by omega⟩ ⟨15 + r.val % 4, by omega⟩ rfl, mul_comm]
    rfl
  · exact congrArg x2 (congrArg (ix2 0) (Fin.ext (by show q.val = 256 * (q.val / 256) + q.val % 256; omega)))

end Cert.PoolSRefIdeal.Val

end
-- ==== Proof.PoolSPre.lean ====
/- What the precondition `finite_buffer` says of the arrays it reads, in plain words: every number of the buffers is a
   real one. -/
module

public import proofs.«01_k».proof.Pre_finite_buffer
public import proofs.«01_k».proof.Proof.AttnPre
public import proofs.«01_k».proof.Proof.PoolSSpec

@[expose] public section

noncomputable section

namespace Cert.Pre_finite_buffer.Val

open Cert.Pre_finite_buffer Cert.Stick Idealize.ShloMosaic

/-- The shapes the precondition's operations take fit. -/
instance facts : Cert.Pre_finite_buffer.Facts where
  bcast_S_S32x19x1024 := by decide
  reducesTo_S32x19x1024_S_d0_1_2 := by decide
  h_S_ := by decide

/-- What the precondition says. -/
theorem unpack (x0 : FVec Ideal S32x19x1024 .f32) (x1 : FVec Ideal S1x4x256x256 .f32) (x2 : FVec Ideal S1x1024 .f32)
    (h : fn (F := Ideal) x0 x1 x2 = fun _ => 1#1) : Finite (S := Cert.PoolS.Spec.Bufs) x0 := by
  unfold fn at h
  dsimp only at h
  have r0 := fun i => Host.reduce_andi_all _ _ _ _ _ (congrFun h (fun a => a.elim0)) i
  exact fun i => Cert.Pre_finite.Val.real_of_abs _ (r0 i)

end Cert.Pre_finite_buffer.Val

end
-- ==== Proof.PoolSClaims.lean ====
/- The claims about the samples' pools, one theorem each. -/
module

public import proofs.«01_k».proof.Defs
public import proofs.«01_k».proof.Proof.Gen.PoolS.Frame
public import proofs.«01_k».proof.Proof.Gen.PoolSIdeal.Frame
public import proofs.«01_k».proof.Proof.Gen.PoolSIdeal.Value
public import proofs.«01_k».proof.Proof.Gen.PoolSRefIdeal.Run
public import proofs.«01_k».proof.Proof.Gen.PoolSRefIdeal.Read
public import proofs.«01_k».proof.Proof.PoolSValue
public import proofs.«01_k».proof.Proof.PoolSRef
public import proofs.«01_k».proof.Proof.PoolSPre
public import Idealize.ShloMosaic.Lib.Quiescent

@[expose] public section

noncomputable section

namespace Cert.PoolSClaims

open Idealize.ShloMosaic Idealize.ShloMosaic.TcCoe Idealize.SL.Sem

/-- The kernel runs to its end, leaves its arguments as they were and every counter at zero. -/
theorem frame_p : Cert.quiescent_PoolS := fun m ρ _ => Cert.PoolS.Gen.frame m ρ

/-- So does the idealized kernel. -/
theorem frame_pi : Cert.quiescent_PoolSIdeal := fun m ρ _ => Cert.PoolSIdeal.Gen.frame m ρ

/-- So it does under the precondition. -/
theorem frame_pi_pre : Cert.quiescent_PoolSIdeal_pre_finite_buffer := fun m ρ _ => Cert.PoolSIdeal.Gen.frame m ρ

/-- The reference runs to its end, leaves its arguments as they were and every counter at zero. -/
theorem frame_ri : Cert.quiescent_PoolSRefIdeal := fun m ρ _ =>
  (θ_run Cert.PoolSRefIdeal.defs _ _).mono (fun r h => ⟨fun c => (h c).2, sem_eq_zero_of_no_sems (by decide) r.2⟩)
    (Cert.PoolSRefIdeal.Value.run (F := Ideal) m ρ)

/-- So it does under the precondition. -/
theorem frame_ri_pre : Cert.quiescent_PoolSRefIdeal_pre_finite_buffer := fun m ρ _ => frame_ri m ρ trivial

/-- Kernel and reference end with the same array over the extended reals: the pools of the buffers. -/
theorem algebraic : Cert.algebraic_PoolSIdeal_PoolSRefIdeal_pre_finite_buffer := by
  intro m ρ m' ρ' hpre hagree
  have hfin := fun c => Cert.Pre_finite_buffer.Val.unpack _ _ _ (hpre c)
  refine ⟨fun c => Cert.PoolS.Spec.pools (m ((c.tc : Thread Cert.PoolSIdeal.nD Cert.PoolSIdeal.τ).loc Cert.PoolSIdeal.main_arg0))
      (m ((c.tc : Thread Cert.PoolSIdeal.nD Cert.PoolSIdeal.τ).loc Cert.PoolSIdeal.main_arg1))
      (m ((c.tc : Thread Cert.PoolSIdeal.nD Cert.PoolSIdeal.τ).loc Cert.PoolSIdeal.main_arg2)), ?_, ?_⟩
  · exact (θ_run Cert.PoolSIdeal.defs _ _).mono
      (fun _ h c => ⟨(h c).1.trans (Cert.PoolSIdeal.Val.final_3 m c (hfin c)), (h c).2⟩)
      (Cert.PoolSIdeal.Value.run_blocks (F := Ideal) m ρ)
  · refine (θ_run Cert.PoolSRefIdeal.defs _ _).mono (fun _ h c => ⟨(h c).1.trans ?_, (h c).2⟩)
      (Cert.PoolSRefIdeal.Value.run (F := Ideal) m' ρ')
    obtain ⟨a0, a1, a2⟩ := hagree c
    rw [Cert.PoolSRefIdeal.Read.val_main_v75_eq, a0, a1, a2]
    exact Cert.PoolSRefIdeal.Val.out_ref (hfin c) _ _

end Cert.PoolSClaims

end
-- ==== Proof.ProjSBody.lean ====
/-
  The projection kernel's body on the samples' block, run once for all values: from the samples' states, the gain and one of the four column
  blocks of the weights it fills its scratch (at the first column block only) and stores that column block's product in the outputs
  that belong to it.
-/
module

public import proofs.«01_k».proof.Proof.Gen.ProjSIdeal.Frame
public import proofs.«01_k».proof.Proof.Gen.ProjSIdeal.Skeleton
public import proofs.«01_k».proof.Proof.ProjBody
public import Idealize.ShloMosaic.Lib.LaneScatter.Tiles
public import Idealize.ShloMosaic.Lib.Tactic
public import Idealize.ShloMosaic.Lib.WholeRead
public import Idealize.ShloMosaic.Lib.Pipeline.ValueKit

@[expose] public section

set_option maxRecDepth 16384
set_option maxHeartbeats 600000

noncomputable section

namespace Cert.ProjSBody

open Cert.ProjSIdeal Cert.ProjSIdeal.Gen
open Cert.ProjBody (branch_iff read_store)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The scratch that carries the normed rows from one column block to the next. -/
abbrev scM : Memref sig .tc .vmem S128x2048 .bf16 := Memref.whole cc0_scratch0

/-- The body at grid point `i`, from the buffers' contents to the buffers' contents. -/
theorem kernelRun (c : Dev nD) (i : grid0.Coords)
    (arg2 : Memref sig .tc .vmem S128x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S128x1024 .bf16) (harg5 : arg5.IsWhole)
    (arg6 : Memref sig .tc .vmem S128x1024 .f32) (harg6 : arg6.IsWhole) (arg7 : Memref sig .tc .vmem S128x1024 .f32) (harg7 : arg7.IsWhole)
    (arg8 : Memref sig .tc .vmem S128x1024 .f32) (harg8 : arg8.IsWhole) (arg9 : Memref sig .tc .vmem S128x1024 .bf16) (harg9 : arg9.IsWhole)
    (arg10 : Memref sig .tc .vmem S128x1024 .bf16) (harg10 : arg10.IsWhole)
    (x : Vec F S128x2048 .f32) (g : Vec F S1x2048 .f32) (w : Vec F S2048x1024 .bf16)
    (yq : Vec F S128x1024 .bf16) (yk yv yu : Vec F S128x1024 .f32) (ykb yvb : Vec F S128x1024 .bf16) (s s' : Vec F S128x2048 .bf16)
    (hs : s' = if (i 1).val = 0 then k0_pay1 x g else s) (K : PUnit → sProp 𝕄) :
    iprop(owns (c : Thread nD τ) arg2 fullShare x ∗ owns (c : Thread nD τ) arg3 fullShare g ∗ owns (c : Thread nD τ) arg4 fullShare w
        ∗ owns (c : Thread nD τ) arg5 fullShare yq ∗ owns (c : Thread nD τ) arg6 fullShare yk ∗ owns (c : Thread nD τ) arg7 fullShare yv
        ∗ owns (c : Thread nD τ) arg8 fullShare yu ∗ owns (c : Thread nD τ) arg9 fullShare ykb ∗ owns (c : Thread nD τ) arg10 fullShare yvb
        ∗ owns (c : Thread nD τ) scM fullShare s
        ∗ (iprop(owns (c : Thread nD τ) arg2 fullShare x ∗ owns (c : Thread nD τ) arg3 fullShare g ∗ owns (c : Thread nD τ) arg4 fullShare w
            ∗ owns (c : Thread nD τ) arg5 fullShare (if (i 1).val = 0 then k0_pay3 s' w else yq)
            ∗ owns (c : Thread nD τ) arg6 fullShare (if (i 1).val = 1 then k0_pay2 s' w else yk)
            ∗ owns (c : Thread nD τ) arg7 fullShare (if (i 1).val = 2 then k0_pay2 s' w else yv)
            ∗ owns (c : Thread nD τ) arg8 fullShare (if (i 1).val = 3 then k0_pay2 s' w else yu)
            ∗ owns (c : Thread nD τ) arg9 fullShare (if (i 1).val = 1 then k0_pay4 s' w else ykb)
            ∗ owns (c : Thread nD τ) arg10 fullShare (if (i 1).val = 2 then k0_pay5 s' w else yvb)
            ∗ owns (c : Thread nD τ) scM fullShare s') -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9 arg10 harg10 scM (Memref.isWhole_whole _)) K := by
  subst hs
  have hi : (i 1).val < 4 := (i 1).isLt
  have e1 := branch_iff (i 1).val 0 hi (by decide)
  have e2 : k0_cond2 i = 1#1 ↔ (i 1).val = 0 := branch_iff (i 1).val 0 hi (by decide)
  have e3 : k0_cond3 i = 1#1 ↔ (i 1).val = 1 := branch_iff (i 1).val 1 hi (by decide)
  have e4 : k0_cond4 i = 1#1 ↔ (i 1).val = 2 := branch_iff (i 1).val 2 hi (by decide)
  have e5 : k0_cond5 i = 1#1 ↔ (i 1).val = 3 := branch_iff (i 1).val 3 hi (by decide)
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := (Memref.isWhole_whole cc0_scratch0).eq_unread hf11
  have hf11' : View.read (Elt F) (View.whole cc0_scratch0) ((Memref.isWhole_whole cc0_scratch0).unread s) = s := hf11
  have hn : (i 1).val = 0 ∨ (i 1).val = 1 ∨ (i 1).val = 2 ∨ (i 1).val = 3 := by omega
  rcases hn with h | h | h | h
  all_goals
    have c1 := e1; have c2 := e2; have c3 := e3; have c4 := e4; have c5 := e5
    simp only [h, Nat.reduceEqDiff, OfNat.zero_ne_ofNat, zero_ne_one, one_ne_zero, OfNat.ofNat_ne_zero, OfNat.ofNat_ne_one, OfNat.one_ne_ofNat, iff_true, iff_false] at c2 c3 c4 c5
    first
      | have c1' := e1.mpr h
      | have c1' := mt e1.mp (by omega)
    clear c1
    sl_exec
    sl_step
    iapply Hk
    simp only [h, ↓reduceIte, Nat.reduceEqDiff, OfNat.zero_ne_ofNat, zero_ne_one, one_ne_zero, OfNat.ofNat_ne_zero, OfNat.ofNat_ne_one, OfNat.one_ne_ofNat]
    isplitl [H2]
    · iexists _; isplitr; swap
      · iexact H2
      ipureintro
      first
        | with_reducible assumption
        | (refine read_store _ _ (fun a => by fin_cases a <;> rfl) _ _ _ ?_; frame_out; try rw [hf11'])
    isplitl [H3]
    · iexists _; isplitr; swap
      · iexact H3
      ipureintro
      first
        | with_reducible assumption
        | (refine read_store _ _ (fun a => by fin_cases a <;> rfl) _ _ _ ?_; frame_out; try rw [hf11'])
    isplitl [H4]
    · iexists _; isplitr; swap
      · iexact H4
      ipureintro
      first
        | with_reducible assumption
        | (refine read_store _ _ (fun a => by fin_cases a <;> rfl) _ _ _ ?_; frame_out; try rw [hf11'])
    isplitl [H5]
    · iexists _; isplitr; swap
      · iexact H5
      ipureintro
      first
        | with_reducible assumption
        | (refine read_store _ _ (fun a => by fin_cases a <;> rfl) _ _ _ ?_; frame_out; try rw [hf11'])
    isplitl [H6]
    · iexists _; isplitr; swap
      · iexact H6
      ipureintro
      first
        | with_reducible assumption
        | (refine read_store _ _ (fun a => by fin_cases a <;> rfl) _ _ _ ?_; frame_out; try rw [hf11'])
    isplitl [H7]
    · iexists _; isplitr; swap
      · iexact H7
      ipureintro
      first
        | with_reducible assumption
        | (refine read_store _ _ (fun a => by fin_cases a <;> rfl) _ _ _ ?_; frame_out; try rw [hf11'])
    isplitl [H8]
    · iexists _; isplitr; swap
      · iexact H8
      ipureintro
      first
        | with_reducible assumption
        | (refine read_store _ _ (fun a => by fin_cases a <;> rfl) _ _ _ ?_; frame_out; try rw [hf11'])
    isplitl [H9]
    · iexists _; isplitr; swap
      · iexact H9
      ipureintro
      first
        | with_reducible assumption
        | (refine read_store _ _ (fun a => by fin_cases a <;> rfl) _ _ _ ?_; frame_out; try rw [hf11'])
    isplitl [H10]
    · iexists _; isplitr; swap
      · iexact H10
      ipureintro
      first
        | with_reducible assumption
        | (refine read_store _ _ (fun a => by fin_cases a <;> rfl) _ _ _ ?_; frame_out; try rw [hf11'])
    iexists _; isplitr; swap
    · iexact H11
    ipureintro
    first
      | with_reducible assumption
      | (refine read_store _ _ (fun a => by fin_cases a <;> rfl) _ _ _ ?_; frame_out; try rw [hf11'])

end Cert.ProjSBody

end
-- ==== Proof.ProjSFrame.lean ====
/-
  The samples' projection: what its scratch and its outputs hold at every grid point, the body's obligation there, and the launch.
  There is one block of rows, so the grid runs over the four blocks of columns alone: the scratch is filled at the first, and every
  output is stored at one of the four and written back after the last.
-/
module

public import proofs.«01_k».proof.Proof.ProjSBody
public import proofs.«01_k».proof.Proof.ProjFrame

@[expose] public section

set_option maxRecDepth 16384

noncomputable section

namespace Cert.ProjSFrame

open Cert.ProjSIdeal Cert.ProjSIdeal.Gen Cert.ProjSBody
open Cert.ProjBody (branch_iff)
open Cert.ProjFrame (leftAt leave_row leave_live obligation_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of the `j`-th column block in the row block of point `n`. -/
def pt (n j : ℕ) : Fin cfg0.N := ⟨(4 * (n / 4) + j) % 4, Nat.lt_of_lt_of_eq (Nat.mod_lt _ (by decide)) N_0.symm⟩

theorem pt_self (t : Fin cfg0.N) (j : ℕ) (h : t.val % 4 = j) : pt t.val j = t := by
  have h1 : t.val < 4 := Nat.lt_of_lt_of_eq t.isLt N_0
  exact Fin.ext (by change (4 * (t.val / 4) + j) % 4 = t.val; omega)

/-- The scratch in the row block of point `n`: the rows normed and scaled. -/
def sB (c : Dev nD) (n : ℕ) : Vec F S128x2048 .bf16 := k0_pay1 (iblk m c 0 (pt n 0)) (iblk m c 1 (pt n 0))

theorem pt_congr {n n' : ℕ} (h : n / 4 = n' / 4) (j : ℕ) : pt n j = pt n' j :=
  Fin.ext (by change (4 * (n / 4) + j) % 4 = (4 * (n' / 4) + j) % 4; rw [h])

theorem sB_congr (c : Dev nD) {n n' : ℕ} (h : n / 4 = n' / 4) : sB m c n = sB m c n' := by
  unfold sB; rw [pt_congr h]

/-- Before point `n` the scratch holds the row block's rows, except before a row block's first point, where it may hold anything. -/
def Φ (c : Dev nD) (n : ℕ) : sProp 𝕄 :=
  iprop((∃ s : Vec F S128x2048 .bf16, ⌜n % 4 ≠ 0 → s = sB m c n⌝ ∗ owns (c : Thread nD τ) scM fullShare s) ∗ ∃ r, prngReg c r)

/-- The proof data: each input's block as it stands, each output's block as it is written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (sB m c t.val) (iblk m c 2 (pt t.val 0))
    | ⟨4, _⟩ => k0_pay2 (sB m c t.val) (iblk m c 2 (pt t.val 1))
    | ⟨5, _⟩ => k0_pay2 (sB m c t.val) (iblk m c 2 (pt t.val 2))
    | ⟨6, _⟩ => k0_pay2 (sB m c t.val) (iblk m c 2 (pt t.val 3))
    | ⟨7, _⟩ => k0_pay4 (sB m c t.val) (iblk m c 2 (pt t.val 1))
    | ⟨8, _⟩ => k0_pay5 (sB m c t.val) (iblk m c 2 (pt t.val 2))
  Φ t := Φ m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (sB m c t.val) (iblk m c 2 (pt t.val 0)) := by dsimp only [dats]
theorem after_4 (c : Dev nD) (t : Fin cfg0.N) : (dats m 0 c).after 4 t = k0_pay2 (sB m c t.val) (iblk m c 2 (pt t.val 1)) := by dsimp only [dats]
theorem after_5 (c : Dev nD) (t : Fin cfg0.N) : (dats m 0 c).after 5 t = k0_pay2 (sB m c t.val) (iblk m c 2 (pt t.val 2)) := by dsimp only [dats]
theorem after_6 (c : Dev nD) (t : Fin cfg0.N) : (dats m 0 c).after 6 t = k0_pay2 (sB m c t.val) (iblk m c 2 (pt t.val 3)) := by dsimp only [dats]
theorem after_7 (c : Dev nD) (t : Fin cfg0.N) : (dats m 0 c).after 7 t = k0_pay4 (sB m c t.val) (iblk m c 2 (pt t.val 1)) := by dsimp only [dats]
theorem after_8 (c : Dev nD) (t : Fin cfg0.N) : (dats m 0 c).after 8 t = k0_pay5 (sB m c t.val) (iblk m c 2 (pt t.val 2)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The second coordinate of a grid point is its number in its row block. -/
theorem coord_1 : ∀ t : Fin grid0.N, (grid0.coords t 1).val = t.val % 4 := by decide +kernel

theorem idle_of (n : ℕ) (hn : n < 4) (t : Fin cfg0.N) :
    (!(Scalar.cmpi .ne (Scalar.extui (Scalar.cmpi .eq (BitVec.ofNat 32 (grid0.coords t 1).val) (BitVec.ofNat 32 n)) : BitVec 32) 0#32 == 1#1)) = true
      ↔ t.val % 4 ≠ n := by
  have h := branch_iff (grid0.coords t 1).val n (Fin.isLt _) hn
  rw [Bool.not_eq_true', beq_eq_false_iff_ne, ne_eq, h, coord_1 t]

/-- One output's buffer after the body, at any window stored at column block `J` of each row block. -/
theorem out_of (c : Dev nD) (w : Fin cfg0.W) (J : ℕ) (hJ : J < 4) (val : Fin cfg0.N → (cfg0.win w).block.Idx → Elt F (cfg0.win w).elt)
    (hw : (cfg0.win w).isOut = true) (hidle : ∀ t : Fin cfg0.N, cfg0.idle w (cfg0.grid.coords t) = true ↔ t.val % 4 ≠ J)
    (hflush : ∀ t : Fin cfg0.N, (cfg0.win w).flush t = true ↔ t.val % 4 = 3) (hkept : ∀ t d, (dats m 0 c).kept w t d = (dats m 0 c).after w t)
    (hafter : ∀ t t' : Fin cfg0.N, t.val / 4 = t'.val / 4 → (dats m 0 c).after w t = (dats m 0 c).after w t')
    (t : Fin cfg0.N) (d X) (hval : t.val % 4 = J → val t = (dats m 0 c).after w t)
    (hX : X = if t.val % 4 = J then val t else (dats m 0 c).before w t d) :
    (owns (c : Thread nD τ) ((cfg0.win w).stage (cfg0.slots t w)) fullShare X : sProp 𝕄) ⊢ leftAt (dats m 0 c) w t :=
  leave_row (dats m 0 c) w t 4 J hw hidle hflush hkept hafter hJ d X (fun h => by rw [hX, if_pos h, hval h]) (fun h => by rw [hX, if_neg h])

theorem out_3 (c : Dev nD) (t : Fin cfg0.N) (d) :
    (owns (c : Thread nD τ) (st0_3 t) fullShare (if (grid0.coords t 1).val = 0 then k0_pay3 (sB m c t.val) (iblk m c 2 t) else (dats m 0 c).before 3 t d) : sProp 𝕄) ⊢ leftAt (dats m 0 c) 3 t :=
  out_of m c 3 0 (by decide) (fun t => k0_pay3 (sB m c t.val) (iblk m c 2 t)) rfl (idle_of 0 (by decide)) flush0_3 (fun _ _ => rfl)
    (fun t t' h => by rw [after_3, after_3, sB_congr m c h, pt_congr h]) t d _ (fun h => by rw [after_3, pt_self t 0 h]) (by rw [coord_1 t])
theorem out_4 (c : Dev nD) (t : Fin cfg0.N) (d) :
    (owns (c : Thread nD τ) (st0_4 t) fullShare (if (grid0.coords t 1).val = 1 then k0_pay2 (sB m c t.val) (iblk m c 2 t) else (dats m 0 c).before 4 t d) : sProp 𝕄) ⊢ leftAt (dats m 0 c) 4 t :=
  out_of m c 4 1 (by decide) (fun t => k0_pay2 (sB m c t.val) (iblk m c 2 t)) rfl (idle_of 1 (by decide)) flush0_4 (fun _ _ => rfl)
    (fun t t' h => by rw [after_4, after_4, sB_congr m c h, pt_congr h]) t d _ (fun h => by rw [after_4, pt_self t 1 h]) (by rw [coord_1 t])
theorem out_5 (c : Dev nD) (t : Fin cfg0.N) (d) :
    (owns (c : Thread nD τ) (st0_5 t) fullShare (if (grid0.coords t 1).val = 2 then k0_pay2 (sB m c t.val) (iblk m c 2 t) else (dats m 0 c).before 5 t d) : sProp 𝕄) ⊢ leftAt (dats m 0 c) 5 t :=
  out_of m c 5 2 (by decide) (fun t => k0_pay2 (sB m c t.val) (iblk m c 2 t)) rfl (idle_of 2 (by decide)) flush0_5 (fun _ _ => rfl)
    (fun t t' h => by rw [after_5, after_5, sB_congr m c h, pt_congr h]) t d _ (fun h => by rw [after_5, pt_self t 2 h]) (by rw [coord_1 t])
theorem out_6 (c : Dev nD) (t : Fin cfg0.N) (d) :
    (owns (c : Thread nD τ) (st0_6 t) fullShare (if (grid0.coords t 1).val = 3 then k0_pay2 (sB m c t.val) (iblk m c 2 t) else (dats m 0 c).before 6 t d) : sProp 𝕄) ⊢ leftAt (dats m 0 c) 6 t :=
  out_of m c 6 3 (by decide) (fun t => k0_pay2 (sB m c t.val) (iblk m c 2 t)) rfl (idle_of 3 (by decide)) flush0_6 (fun _ _ => rfl)
    (fun t t' h => by rw [after_6, after_6, sB_congr m c h, pt_congr h]) t d _ (fun h => by rw [after_6, pt_self t 3 h]) (by rw [coord_1 t])
theorem out_7 (c : Dev nD) (t : Fin cfg0.N) (d) :
    (owns (c : Thread nD τ) (st0_7 t) fullShare (if (grid0.coords t 1).val = 1 then k0_pay4 (sB m c t.val) (iblk m c 2 t) else (dats m 0 c).before 7 t d) : sProp 𝕄) ⊢ leftAt (dats m 0 c) 7 t :=
  out_of m c 7 1 (by decide) (fun t => k0_pay4 (sB m c t.val) (iblk m c 2 t)) rfl (idle_of 1 (by decide)) flush0_7 (fun _ _ => rfl)
    (fun t t' h => by rw [after_7, after_7, sB_congr m c h, pt_congr h]) t d _ (fun h => by rw [after_7, pt_self t 1 h]) (by rw [coord_1 t])
theorem out_8 (c : Dev nD) (t : Fin cfg0.N) (d) :
    (owns (c : Thread nD τ) (st0_8 t) fullShare (if (grid0.coords t 1).val = 2 then k0_pay5 (sB m c t.val) (iblk m c 2 t) else (dats m 0 c).before 8 t d) : sProp 𝕄) ⊢ leftAt (dats m 0 c) 8 t :=
  out_of m c 8 2 (by decide) (fun t => k0_pay5 (sB m c t.val) (iblk m c 2 t)) rfl (idle_of 2 (by decide)) flush0_8 (fun _ _ => rfl)
    (fun t t' h => by rw [after_8, after_8, sB_congr m c h, pt_congr h]) t d _ (fun h => by rw [after_8, pt_self t 2 h]) (by rw [coord_1 t])

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ leftAt (dats m 0 c) 0 t
    ∗ leftAt (dats m 0 c) 1 t
    ∗ leftAt (dats m 0 c) 2 t
    ∗ leftAt (dats m 0 c) 3 t
    ∗ leftAt (dats m 0 c) 4 t
    ∗ leftAt (dats m 0 c) 5 t
    ∗ leftAt (dats m 0 c) 6 t
    ∗ leftAt (dats m 0 c) 7 t
    ∗ leftAt (dats m 0 c) 8 t)

/-- The body at any point: the inputs' buffers hold their blocks, the scratch its rows unless the point refills it. -/
theorem sound_body (c : Dev nD) (t : Fin cfg0.N) :
    bodyPre m c t ⊢ wp frame (wpE (defs₀ (F := F)) Variants.none c none) Set.univ (bodyAt0 t) (fun _ => bodyPost m c t) := by
  have hj : (grid0.coords t 1).val = t.val % 4 := coord_1 t
  unfold bodyPre bodyPost bodyAt0
  simp only [before_0, before_1, before_2]
  rw [show (dats m 0 c).Φ t.succ = Φ m c (t.val + 1) from rfl, show (dats m 0 c).Φ t.castSucc = Φ m c t.val from rfl,
    show (dats m 0 c).owesAt () t.succ = (dats m 0 c).owesAt () t.castSucc from rfl]
  unfold Φ
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c (grid0.coords t) _ _ _ _ _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((dats m 0 c).before 7 t d7) ((dats m 0 c).before 8 t d8) s (sB m c t.val) (by
      rw [hj]
      by_cases h : t.val % 4 = 0
      · rw [if_pos h]; unfold sB; rw [pt_self t 0 h]
      · rw [if_neg h, hs h]) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hr]
  · isplitl [HS]
    · iexists _; isplitr; swap
      · iexact HS
      ipureintro
      exact fun h => sB_congr m c (by omega)
    · iexact Hr
  isplitl [Ho]; · iexact Ho
  isplitl [H0]; · iapply (leave_live (dats m 0 c) 0 t rfl); rw [after_0]; iexact H0
  isplitl [H1]; · iapply (leave_live (dats m 0 c) 1 t rfl); rw [after_1]; iexact H1
  isplitl [H2]; · iapply (leave_live (dats m 0 c) 2 t rfl); rw [after_2]; iexact H2
  isplitl [H3]; · iapply (out_3 m c t d3); iexact H3
  isplitl [H4]; · iapply (out_4 m c t d4); iexact H4
  isplitl [H5]; · iapply (out_5 m c t d5); iexact H5
  isplitl [H6]; · iapply (out_6 m c t d6); iexact H6
  isplitl [H7]; · iapply (out_7 m c t d7); iexact H7
  iapply (out_8 m c t d8); iexact H8

/-- The body's obligation at every point. -/
theorem body_obligation (c : Dev nD) : BodyObligation (dats (F := F) m 0 c) (defs₀ (F := F)) Variants.none () Set.univ :=
  obligation_of _ _ _ _ _ fun t => by
    rw [bigSep_W0, bigSep_W0, show defs₀ (F := F) .tc cfg0.body (cfg0.bodyArgs t (cfg0.slots t)) = bodyAt0 t by unfold defs₀; rw [Defs.onTc_tc]]
    exact sound_body m c t

/-- The scratch owned is its whole buffer. -/
theorem scratch_eq (c : Dev nD) (f : Vec F S128x2048 .bf16) :
    (owns (c : Thread nD τ) scM fullShare f : sProp 𝕄) = ((c : Thread nD τ).loc cc0_scratch0) ↦{fullShare} f :=
  owns_whole (c : Thread nD τ) cc0_scratch0 fullShare f

/-- Before the first point the scratch may hold anything; -/
theorem Φ_in (c : Dev nD) : Pipeline.ΦA spec0 c ⊢ (dats (F := F) m 0 c).Φ 0 := by
  rw [show (dats m 0 c).Φ 0 = Φ m c 0 from rfl]
  unfold Φ Pipeline.ΦA
  rw [scopedRest0_eq]
  iintro ⟨⟨%f, H⟩, Hr⟩
  isplitl [H]
  · iexists (show Vec F S128x2048 .bf16 from f); isplitr; swap
    · rw [scratch_eq]; iexact H
    ipureintro
    exact fun h => absurd (Nat.zero_mod 4) h
  iexact Hr

/-- and after the last it is forgotten. -/
theorem Φ_out (c : Dev nD) : (dats (F := F) m 0 c).Φ (Fin.last cfg0.N) ⊢ Pipeline.ΦA spec0 c := by
  rw [show (dats m 0 c).Φ (Fin.last cfg0.N) = Φ m c cfg0.N from rfl]
  unfold Φ Pipeline.ΦA
  rw [scopedRest0_eq]
  iintro ⟨⟨%s, -, H⟩, Hr⟩
  isplitl [H]
  · iexists s; rw [← scratch_eq]; iexact H
  iexact Hr

set_option backward.isDefEq.respectTransparency.types false in
/-- The launch: every run ends, with the arrays as the proof data say and the counters at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)

/-- The frame, at any values: the arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.ProjSFrame

end
-- ==== Proof.ProjSSpec.lean ====
/-
  The samples' projection over the extended reals, as one function of the samples' rows, the norm's weights and the matrix.
-/
module

public import proofs.«01_k».proof.Proof.ProjSpec

@[expose] public section

noncomputable section

namespace Cert.SampleProjection

open Idealize.ShloMosaic
open Cert.Projection (Gains Matrix column)

/-- The samples: 32 of them, four rows of 2048 each. -/
abbrev Samples : Shape := ⟨3, ![32, 4, 2048]⟩
/-- One of the four outputs, the rows of all samples below each other. -/
abbrev Rows : Shape := ⟨2, ![128, 1024]⟩

/-- The sample a row belongs to. -/
def sampleOf (s : Fin 128) : Fin 32 := ⟨s.val / 4, by omega⟩
/-- The row's number in its sample. -/
def stepOf (s : Fin 128) : Fin 4 := ⟨s.val % 4, by omega⟩
/-- The row of a sample's step. -/
def rowOf (b : Fin 32) (t : Fin 4) : Fin 128 := ⟨b.val * 4 + t.val, by omega⟩

theorem sampleOf_rowOf (b : Fin 32) (t : Fin 4) : sampleOf (rowOf b t) = b := Fin.ext (by change (b.val * 4 + t.val) / 4 = b.val; omega)
theorem stepOf_rowOf (b : Fin 32) (t : Fin 4) : stepOf (rowOf b t) = t := Fin.ext (by change (b.val * 4 + t.val) % 4 = t.val; omega)

/-- Entry `k` of row `s`, divided by the row's root mean square and weighted. -/
def normed (x : Samples.Idx → EReal) (g : Gains.Idx → EReal) (s : Fin 128) (k : Fin 2048) : EReal :=
  x (ix3 (sampleOf s) (stepOf s) k) * Ideal.rsqrt (Ideal.div (∑ l : Fin 2048, x (ix3 (sampleOf s) (stepOf s) l) * x (ix3 (sampleOf s) (stepOf s) l))
    (Ideal.ofBits FTy.f32 1157627904#32) + Ideal.ofBits FTy.f32 897988541#32) * g (ix2 0 k)

/-- Entry `n` of row `s` of the product. -/
def product (x : Samples.Idx → EReal) (g : Gains.Idx → EReal) (w : Matrix.Idx → EReal) (s : Fin 128) (n : Fin 4096) : EReal :=
  ∑ k : Fin 2048, normed x g s k * w (ix3 0 k n)

/-- The `j`-th output. -/
def part (x : Samples.Idx → EReal) (g : Gains.Idx → EReal) (w : Matrix.Idx → EReal) (j : Fin 4) : Rows.Idx → EReal :=
  fun i => product x g w (i 0) (column j (i 1))

/-- The `j`-th output by sample, step and head. -/
def byHead (x : Samples.Idx → EReal) (g : Gains.Idx → EReal) (w : Matrix.Idx → EReal) (j : Fin 4) :
    (⟨5, ![1, 32, 4, 8, 128]⟩ : Shape).Idx → EReal :=
  fun i => product x g w (rowOf (i 1) (i 2)) (column j ⟨128 * (i 3).val + (i 4).val, by
    have h3 : (i 3).val < 8 := (i 3).isLt
    have h4 : (i 4).val < 128 := (i 4).isLt
    omega⟩)

/-- The pool inputs by sample and step. -/
def bySample (x : Samples.Idx → EReal) (g : Gains.Idx → EReal) (w : Matrix.Idx → EReal) : (⟨3, ![32, 4, 1024]⟩ : Shape).Idx → EReal :=
  fun i => product x g w (rowOf (i 0) (i 1)) (column 3 (i 2))

end Cert.SampleProjection

end
-- ==== Proof.ProjSValue.lean ====
/-
  The samples' projection: the kernel's arrays after the run are the projection's outputs, and so are the results the host makes of them.
-/
module

public import proofs.«01_k».proof.Proof.ProjSFrame
public import proofs.«01_k».proof.Proof.ProjSSpec
public import Idealize.ShloMosaic.Lib.Pipeline.ValueKit

@[expose] public section

set_option maxRecDepth 16384

noncomputable section

namespace Cert.ProjSIdeal.Val

open Cert.ProjSIdeal Cert.ProjSIdeal.Gen Cert.ProjSFrame Cert.SampleProjection Idealize.ShloMosaic Idealize.ShloMosaic.TcCoe Idealize.SL.Sem Idealize.ShloMosaic.Tactic
open Cert.Projection (Gains Matrix column)

/-! ## The host lines before the kernel -/

/-- The samples' rows below each other. -/
theorem rows_apply (x : Vec Ideal S32x4x2048 .f32) (s : Fin 128) (k : Fin 2048) :
    shapeCast S128x2048 x shapeCasts_S32x4x2048_S128x2048 (ix2 s k) = x (ix3 (sampleOf s) (stepOf s) k) := by
  pointwise []
  rfl

/-- The norm's weights flattened and laid out as a row again. -/
theorem gains_apply (g : Vec Ideal S1x2048 .f32) (k : Fin 2048) :
    shapeCast S1x2048 (shapeCast S2048 g shapeCasts_S1x2048_S2048) shapeCasts_S2048_S1x2048 (ix2 0 k) = g (ix2 0 k) := by pointwise []

/-- The matrix without its first axis. -/
theorem matrix_apply (w : Vec Ideal S1x2048x4096 .f32) (k : Fin 2048) (n : Fin 4096) :
    truncf (F := Ideal) .bf16 (shapeCast S2048x4096 w shapeCasts_S1x2048x4096_S2048x4096) bitsLt_bf16_f32 (ix2 k n) = w (ix3 0 k n) := by pointwise []

variable (m : (ℓ : Loc nD τ sig) → Buf (Elt Ideal) ℓ)

/-- The rows the kernel is launched with, -/
theorem v0_eq (c : Dev nD) : V m c main_v0 = shapeCast S128x2048 (m ((c : Thread nD τ).loc main_arg0)) shapeCasts_S32x4x2048_S128x2048 := by
  unfold V V0 hostOps0
  simp only [List.flatten_cons, List.flatten_nil, List.append_nil, List.cons_append, List.nil_append]
  after_results_simp <;> rfl

/-- its weights, -/
theorem v2_eq (c : Dev nD) : V m c main_v2 = shapeCast S1x2048 (shapeCast S2048 (m ((c : Thread nD τ).loc main_arg2)) shapeCasts_S1x2048_S2048) shapeCasts_S2048_S1x2048 := by
  unfold V V0 hostOps0
  simp only [List.flatten_cons, List.flatten_nil, List.append_nil, List.cons_append, List.nil_append]
  after_results_simp <;> rfl

/-- and its matrix. -/
theorem v4_eq (c : Dev nD) : V m c main_v4 = truncf (F := Ideal) .bf16 (shapeCast S2048x4096 (m ((c : Thread nD τ).loc main_arg3)) shapeCasts_S1x2048x4096_S2048x4096) bitsLt_bf16_f32 := by
  unfold V V0 hostOps0
  simp only [List.flatten_cons, List.flatten_nil, List.append_nil, List.cons_append, List.nil_append]
  after_results_simp <;> rfl

/-! ## The windows' blocks -/

/-- The block indices of the three inputs. -/
theorem index_in : ∀ t : Fin grid0.N, win0_0.index t = ![t.val / 4, 0] ∧ win0_1.index t = ![0, 0] ∧ win0_2.index t = ![0, t.val % 4] := by decide +kernel

/-- A point's rows: all of them. -/
theorem rows_block (c : Dev nD) (t : Fin cfg0.N) (r : Fin 128) (k : Fin 2048) (s : Fin 128) (hs : s.val = 128 * (t.val / 4) + r.val) :
    (iblk m c 0 t : Vec Ideal S128x2048 .f32) (ix2 r k) = m ((c : Thread nD τ).loc main_arg0) (ix3 (sampleOf s) (stepOf s) k) := by
  have e : win0_0.index t 0 = t.val / 4 ∧ win0_0.index t 1 = 0 := by rw [(index_in t).1]; exact ⟨rfl, rfl⟩
  refine Eq.trans (congrArg (V m c main_v0) (show ((cfg0.win 0).blk t).view.emb (ix2 r k) = ix2 s k from funext fun a => Fin.ext ?_)) ((congrFun (v0_eq m c) _).trans (rows_apply _ s k))
  match a with
  | 0 => show win0_0.index t 0 * 128 + 1 * r.val = s.val; rw [e.1]; omega
  | 1 => show win0_0.index t 1 * 2048 + 1 * k.val = k.val; rw [e.2]; omega

/-- A point's weights: all of them. -/
theorem gains_block (c : Dev nD) (t : Fin cfg0.N) (k : Fin 2048) :
    (iblk m c 1 t : Vec Ideal S1x2048 .f32) (ix2 0 k) = m ((c : Thread nD τ).loc main_arg2) (ix2 0 k) := by
  have e : win0_1.index t 0 = 0 ∧ win0_1.index t 1 = 0 := by rw [(index_in t).2.1]; exact ⟨rfl, rfl⟩
  refine Eq.trans (congrArg (V m c main_v2) (show ((cfg0.win 1).blk t).view.emb (ix2 0 k) = ix2 0 k from funext fun a => Fin.ext ?_)) ((congrFun (v2_eq m c) _).trans (gains_apply _ k))
  match a with
  | 0 => show win0_1.index t 0 * 1 + 1 * 0 = 0; rw [e.1]
  | 1 => show win0_1.index t 1 * 2048 + 1 * k.val = k.val; rw [e.2]; omega

/-- A point's columns of the matrix: 1024 of them. -/
theorem matrix_block (c : Dev nD) (t : Fin cfg0.N) (k : Fin 2048) (n : Fin 1024) (j : Fin 4) (hj : t.val % 4 = j.val) :
    (iblk m c 2 t : Vec Ideal S2048x1024 .bf16) (ix2 k n) = m ((c : Thread nD τ).loc main_arg3) (ix3 0 k (column j n)) := by
  have e : win0_2.index t 0 = 0 ∧ win0_2.index t 1 = t.val % 4 := by rw [(index_in t).2.2]; exact ⟨rfl, rfl⟩
  refine Eq.trans (congrArg (V m c main_v4) (show ((cfg0.win 2).blk t).view.emb (ix2 k n) = ix2 k (column j n) from funext fun a => Fin.ext ?_)) ((congrFun (v4_eq m c) _).trans (matrix_apply _ k (column j n)))
  match a with
  | 0 => show win0_2.index t 0 * 2048 + 1 * k.val = k.val; rw [e.1]; omega
  | 1 => show win0_2.index t 1 * 1024 + 1 * n.val = 1024 * j.val + n.val; rw [e.2, hj]; omega

/-! ## The body's values -/

/-- The rows normed and weighted. -/
theorem pay1_apply (x : Vec Ideal S128x2048 .f32) (g : Vec Ideal S1x2048 .f32) (r : Fin 128) (k : Fin 2048) :
    k0_pay1 x g (ix2 r k) = (x (ix2 r k) : EReal) * Ideal.rsqrt (Ideal.div (∑ l : Fin 2048, (x (ix2 r l) : EReal) * x (ix2 r l)) (Ideal.ofBits FTy.f32 1157627904#32)
      + Ideal.ofBits FTy.f32 897988541#32) * g (ix2 0 k) := by
  pointwise [k0_pay1]

/-- The product. -/
theorem pay2_apply (s : Vec Ideal S128x2048 .bf16) (w : Vec Ideal S2048x1024 .bf16) (r : Fin 128) (n : Fin 1024) :
    k0_pay2 s w (ix2 r n) = ∑ k : Fin 2048, (s (ix2 r k) : EReal) * w (ix2 k n) := by
  pointwise [k0_pay2]

variable (c : Dev nD)

/-- The samples, -/
abbrev xs : Samples.Idx → EReal := m ((c : Thread nD τ).loc main_arg0)
/-- the norm's weights -/
abbrev gs : Gains.Idx → EReal := m ((c : Thread nD τ).loc main_arg2)
/-- and the matrix, as launched. -/
abbrev ws : Matrix.Idx → EReal := m ((c : Thread nD τ).loc main_arg3)

/-- The point of column block `j` lies in the same row block. -/
theorem pt_val (t : Fin cfg0.N) (j : ℕ) (hj : j < 4) : (pt t.val j).val / 4 = t.val / 4 ∧ (pt t.val j).val % 4 = j := by
  have h : t.val < 4 := Nat.lt_of_lt_of_eq t.isLt N_0
  have e : (pt t.val j).val = (4 * (t.val / 4) + j) % 4 := rfl
  omega

/-- The scratch's rows. -/
theorem scratch_apply (t : Fin cfg0.N) (r : Fin 128) (k : Fin 2048) (s : Fin 128) (hs : s.val = 128 * (t.val / 4) + r.val) :
    sB m c t.val (ix2 r k) = normed (xs m c) (gs m c) s k := by
  have hs' : s.val = 128 * ((pt t.val 0).val / 4) + r.val := by rw [(pt_val t 0 (by decide)).1]; exact hs
  unfold sB normed
  rw [pay1_apply, rows_block m c _ r k s hs', gains_block]
  simp only [fun l => rows_block m c (pt t.val 0) r l s hs']

/-- A block of the product. -/
theorem product_apply (t : Fin cfg0.N) (r : Fin 128) (n : Fin 1024) (s : Fin 128) (hs : s.val = 128 * (t.val / 4) + r.val) (j : Fin 4) :
    k0_pay2 (sB m c t.val) (iblk m c 2 (pt t.val j.val)) (ix2 r n) = product (xs m c) (gs m c) (ws m c) s (column j n) := by
  rw [pay2_apply]
  exact Finset.sum_congr rfl fun k _ => by
    rw [scratch_apply m c t r k s hs, matrix_block m c _ k n j (pt_val t j.val j.isLt).2]

/-! ## The arrays after the run -/

/-- The block index of each output. -/
theorem index_out : ∀ t : Fin grid0.N, win0_3.index t = ![t.val / 4, 0] ∧ win0_4.index t = ![t.val / 4, 0] ∧ win0_5.index t = ![t.val / 4, 0]
    ∧ win0_6.index t = ![t.val / 4, 0] ∧ win0_7.index t = ![t.val / 4, 0] ∧ win0_8.index t = ![t.val / 4, 0] := by decide +kernel

/-- An index of a block is its row and column. -/
theorem exists_ix2 (y : S128x1024.Idx) : ∃ (r : Fin 128) (n : Fin 1024), y = ix2 r n :=
  ⟨y 0, y 1, by funext a; match a with | 0 => rfl | 1 => rfl⟩

/-- The product at a point's block, read where the block lies in the array. -/
theorem product_emb (t : Fin cfg0.N) (y : S128x1024.Idx) (i : S128x1024.Idx) (h0 : (i 0).val = 128 * (t.val / 4) + (y 0).val) (h1 : (i 1).val = (y 1).val)
    (j : Fin 4) : k0_pay2 (sB m c t.val) (iblk m c 2 (pt t.val j.val)) y = part (xs m c) (gs m c) (ws m c) j i := by
  obtain ⟨r, n, rfl⟩ := exists_ix2 y
  rw [product_apply m c t r n (i 0) h0 j]
  exact congrArg (product (xs m c) (gs m c) (ws m c) (i 0)) (Fin.ext (by change 1024 * j.val + n.val = 1024 * j.val + (i 1).val; rw [h1]; rfl))

/-- The keys' array. -/
theorem final_4 : (dats m 0 c).arrAt 4 cfg0.N = part (xs m c) (gs m c) (ws m c) 1 := by
  refine (dats m 0 c).arrAt_eq_of_covers 4 _ (by decide +kernel) fun t hf y => ?_
  have e : win0_4.index t 0 = t.val / 4 ∧ win0_4.index t 1 = 0 := by rw [(index_out t).2.1]; exact ⟨rfl, rfl⟩
  blk_simp
  rw [after_4]
  exact product_emb m c t y ((win0_4.blk t).view.emb y) (by show win0_4.index t 0 * 128 + 1 * (y 0).val = _; rw [e.1]; omega)
    (by show win0_4.index t 1 * 1024 + 1 * (y 1).val = _; rw [e.2]; omega) 1

/-- The values' array. -/
theorem final_5 : (dats m 0 c).arrAt 5 cfg0.N = part (xs m c) (gs m c) (ws m c) 2 := by
  refine (dats m 0 c).arrAt_eq_of_covers 5 _ (by decide +kernel) fun t hf y => ?_
  have e : win0_5.index t 0 = t.val / 4 ∧ win0_5.index t 1 = 0 := by rw [(index_out t).2.2.1]; exact ⟨rfl, rfl⟩
  blk_simp
  rw [after_5]
  exact product_emb m c t y ((win0_5.blk t).view.emb y) (by show win0_5.index t 0 * 128 + 1 * (y 0).val = _; rw [e.1]; omega)
    (by show win0_5.index t 1 * 1024 + 1 * (y 1).val = _; rw [e.2]; omega) 2

/-- The pool inputs' array. -/
theorem final_6 : (dats m 0 c).arrAt 6 cfg0.N = part (xs m c) (gs m c) (ws m c) 3 := by
  refine (dats m 0 c).arrAt_eq_of_covers 6 _ (by decide +kernel) fun t hf y => ?_
  have e : win0_6.index t 0 = t.val / 4 ∧ win0_6.index t 1 = 0 := by rw [(index_out t).2.2.2.1]; exact ⟨rfl, rfl⟩
  blk_simp
  rw [after_6]
  exact product_emb m c t y ((win0_6.blk t).view.emb y) (by show win0_6.index t 0 * 128 + 1 * (y 0).val = _; rw [e.1]; omega)
    (by show win0_6.index t 1 * 1024 + 1 * (y 1).val = _; rw [e.2]; omega) 3

/-! ## The host lines after the kernel -/

/-- An output by sample, step and head. -/
theorem byHead_apply (x : Samples.Idx → EReal) (g : Gains.Idx → EReal) (w : Matrix.Idx → EReal) (j : Fin 4) :
    shapeCast S1x32x4x8x128 (part x g w j : Vec Ideal S128x1024 .f32) shapeCasts_S128x1024_S1x32x4x8x128 = byHead x g w j := by
  funext i
  pointwise []
  exact congrArg (fun n => product x g w (rowOf (i 1) (i 2)) (column j n)) (Fin.ext (by change (i 3).val * 128 + (i 4).val = 128 * (i 3).val + (i 4).val; omega))

/-- An output by sample and step. -/
theorem bySample_apply (x : Samples.Idx → EReal) (g : Gains.Idx → EReal) (w : Matrix.Idx → EReal) :
    shapeCast S32x4x1024 (part x g w 3 : Vec Ideal S128x1024 .f32) shapeCasts_S128x1024_S32x4x1024 = bySample x g w := by
  funext i
  pointwise []
  rfl

/-- The pool's next state: the inputs `u` put after the state `p`, of which the last fifteen rows remain. -/
abbrev pushed (p : Vec Ideal S1x32x15x1024 .f32) (u : Vec Ideal S32x4x1024 .f32) : Vec Ideal S1x32x15x1024 .f32 :=
  broadcastInDim S1x32x15x1024 ![1, 2, 3] bcast_S32x15x1024_S1x32x15x1024_1_2_3 (extractStridedSlice S32x15x1024 ![0, 4, 0]
    (concatenate S32x19x1024 1 [⟨S32x15x1024, shapeCast S32x15x1024 p shapeCasts_S1x32x15x1024_S32x15x1024⟩, ⟨S32x4x1024, u⟩]
      concatenates_S32x15x1024_S32x4x1024_S32x19x1024_d1) slices_S32x19x1024_S32x15x1024_0_4_0)

/-- An array of the kernel's, read after it. -/
theorem array_after (w : Fin 9) : Pipeline.withArrays spec0 c (V0 m c) (fun w => (dats m 0 c).arrAt w cfg0.N) (Proc.devRef .tc (Pipeline.arrRef spec0 w))
    = (dats m 0 c).arrAt w cfg0.N :=
  Pipeline.withArrays_arr spec0 launch0.win.arr_inj c (V0 m c) (fun w => (dats m 0 c).arrAt w cfg0.N) w

/-- The pool's state, which the kernel does not touch, read after it. -/
theorem state_after : Pipeline.withArrays spec0 c (V0 m c) (fun w => (dats m 0 c).arrAt w cfg0.N) (Proc.devRef .tc main_arg1)
    = m ((c : Thread nD τ).loc main_arg1) :=
  (Pipeline.withArrays_of_ne _ c (V0 m c) _ main_arg1 (by exact (by decide : ∀ w, Pipeline.arrRef spec0 w ≠ main_arg1))).trans (V_main_arg1 m c)

/-- The keys by sample, step and head. -/
theorem keys_after : Pipeline.afterTail₀ cfgs (dats m) 0 (V0 m) [hostOps1] c main_v9 = byHead (xs m c) (gs m c) (ws m c) 1 := by
  unfold Pipeline.afterTail₀
  simp only [hostOps1, List.flatten_cons, List.flatten_nil, List.append_nil, List.cons_append, List.nil_append]
  after_results_simp
  exact (congrArg (fun a => shapeCast S1x32x4x8x128 a shapeCasts_S128x1024_S1x32x4x8x128) ((array_after m c 4).trans (final_4 m c))).trans (byHead_apply _ _ _ 1)

/-- The values by sample, step and head. -/
theorem values_after : Pipeline.afterTail₀ cfgs (dats m) 0 (V0 m) [hostOps1] c main_v10 = byHead (xs m c) (gs m c) (ws m c) 2 := by
  unfold Pipeline.afterTail₀
  simp only [hostOps1, List.flatten_cons, List.flatten_nil, List.append_nil, List.cons_append, List.nil_append]
  after_results_simp
  exact (congrArg (fun a => shapeCast S1x32x4x8x128 a shapeCasts_S128x1024_S1x32x4x8x128) ((array_after m c 5).trans (final_5 m c))).trans (byHead_apply _ _ _ 2)

/-- The pool's next state. -/
theorem pool_after : Pipeline.afterTail₀ cfgs (dats m) 0 (V0 m) [hostOps1] c main_v12
    = pushed (m ((c : Thread nD τ).loc main_arg1)) (bySample (xs m c) (gs m c) (ws m c)) := by
  unfold Pipeline.afterTail₀
  simp only [hostOps1, List.flatten_cons, List.flatten_nil, List.append_nil, List.cons_append, List.nil_append]
  after_results_simp
  have e : Pipeline.withArrays spec0 c (V0 m c) (fun w => (dats m 0 c).arrAt w cfg0.N) (Proc.devRef .tc main_v5_3) = part (xs m c) (gs m c) (ws m c) 3 :=
    (array_after m c 6).trans (final_6 m c)
  exact congrArg₂ pushed (state_after m c)
    ((congrArg (fun a : Vec Ideal S128x1024 .f32 => shapeCast S32x4x1024 a shapeCasts_S128x1024_S32x4x1024) e).trans (bySample_apply _ _ _))

end Cert.ProjSIdeal.Val

end
-- ==== Proof.ProjSRef.lean ====
/-
  The reference's results for the samples are the samples' projection.
-/
module

public import proofs.«01_k».proof.Proof.ProjSSpec
public import proofs.«01_k».proof.Proof.Gen.ProjSRefIdeal.Read

@[expose] public section

set_option maxRecDepth 16384

noncomputable section

namespace Cert.ProjSRefIdeal.Val

open Cert.ProjSRefIdeal Cert.ProjSRefIdeal.Read Idealize.ShloMosaic Idealize.ShloMosaic.TcCoe Idealize.SL.Sem Idealize.ShloMosaic.Tactic
open Cert.Projection (Gains Matrix column)
open Cert.SampleProjection

variable (x : Samples.Idx → EReal) (g : Gains.Idx → EReal) (w : Matrix.Idx → EReal)

/-- The normed rows. -/
theorem normed_ref (b : Fin 32) (t : Fin 4) (k : Fin 2048) : val_main_v14 (F := Ideal) x g (ix3 b t k) = normed x g (rowOf b t) k := by
  unfold normed
  rw [sampleOf_rowOf, stepOf_rowOf]
  pointwise [val_main_v14, val_main_v13, val_main_v12, val_main_v11, val_main_v10, val_main_v9, val_main_v8, val_main_v7, val_main_v6, val_main_v5,
    val_main_v4, val_main_v3, val_main_v2, val_main_v0, val_main_cst, val_main_cst_0, val_main_cst_1]

/-- The product, the column named as the caller has it. -/
theorem product_ref (b : Fin 32) (t : Fin 4) {n n' : Fin 4096} (h : n.val = n'.val) :
    val_main_v15 (F := Ideal) x g w (ix3 b t n) = product x g w (rowOf b t) n' := by
  obtain rfl : n = n' := Fin.ext h
  pointwise [val_main_v15, val_main_v1]
  exact Finset.sum_congr rfl fun k _ => congrArg (· * w (ix3 0 k n)) (normed_ref x g b t k)

/-- The keys by sample, step and head. -/
theorem keys_ref : val_main_v25 (F := Ideal) x g w = byHead x g w 1 := by
  funext i
  pointwise [val_main_v25, val_main_v19, val_main_v18]
  exact product_ref x g w (i 1) (i 2) (by change 1024 + ((i 3).val * 128 + (i 4).val) = 1024 * 1 + (128 * (i 3).val + (i 4).val); omega)

/-- The values by sample, step and head. -/
theorem values_ref : val_main_v26 (F := Ideal) x g w = byHead x g w 2 := by
  funext i
  pointwise [val_main_v26, val_main_v21, val_main_v20]
  exact product_ref x g w (i 1) (i 2) (by change 2048 + ((i 3).val * 128 + (i 4).val) = 1024 * 2 + (128 * (i 3).val + (i 4).val); omega)

/-- The pool inputs by sample and step. -/
theorem inputs_ref : val_main_v22 (F := Ideal) x g w = bySample x g w := by
  funext i
  pointwise [val_main_v22]
  exact product_ref x g w (i 0) (i 1) rfl

end Cert.ProjSRefIdeal.Val

end
-- ==== Proof.ProjSClaims.lean ====
/- The claims about the samples' projection, one theorem each. -/
module

public import proofs.«01_k».proof.Defs
public import proofs.«01_k».proof.Proof.Gen.ProjS.Frame
public import proofs.«01_k».proof.Proof.Gen.ProjSIdeal.Frame
public import proofs.«01_k».proof.Proof.Gen.ProjSIdeal.Skeleton
public import proofs.«01_k».proof.Proof.Gen.ProjSRefIdeal.Run
public import proofs.«01_k».proof.Proof.Gen.ProjSRefIdeal.Read
public import proofs.«01_k».proof.Proof.ProjSValue
public import proofs.«01_k».proof.Proof.ProjSRef
public import Idealize.ShloMosaic.Lib.Quiescent
public import Idealize.ShloMosaic.Lib.Tactic

@[expose] public section

noncomputable section

namespace Cert.ProjSClaims

open Idealize.ShloMosaic Idealize.ShloMosaic.Tactic Idealize.ShloMosaic.TcCoe Idealize.SL.Sem

/-- The idealized kernel's text at machine values: it runs to its end, leaves its arguments as they were and every counter at zero. -/
def FrameBits : Prop :=
  ∀ (m : (ℓ : Loc Cert.ProjSIdeal.nD Cert.ProjSIdeal.τ Cert.ProjSIdeal.sig) → Buf (Elt Bits) ℓ) (g : Dev Cert.ProjSIdeal.nD → PrngReg), True →
    θ_run (Cert.ProjSIdeal.defs (F := Bits)) (onTc (τ := Cert.ProjSIdeal.τ) (Cert.ProjSIdeal.main (F := Bits))) ⟨m, fun _ => 0, g⟩ (fun r =>
      (∀ c : Dev Cert.ProjSIdeal.nD,
        r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
        ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
        ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
        ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

/-- The idealized kernel's text is the kernel's, so the two statements are one. -/
theorem frameBits_eq : FrameBits = Cert.quiescent_ProjS := by sl_kernel_rfl

/-- The kernel runs to its end, leaves its arguments as they were and every counter at zero. -/
theorem frame_p : Cert.quiescent_ProjS :=
  frameBits_eq ▸ (fun m ρ _ => Cert.ProjSFrame.frame (F := Bits) m ρ : FrameBits)

/-- So does the idealized kernel. -/
theorem frame_pi : Cert.quiescent_ProjSIdeal := fun m ρ _ => Cert.ProjSFrame.frame m ρ

/-- The reference runs to its end, leaves its arguments as they were and every counter at zero. -/
theorem frame_ri : Cert.quiescent_ProjSRefIdeal := fun m ρ _ =>
  (θ_run Cert.ProjSRefIdeal.defs _ _).mono (fun r h => ⟨fun c => (h c).2.2.2, sem_eq_zero_of_no_sems (by decide) r.2⟩)
    (Cert.ProjSRefIdeal.Value.run (F := Ideal) m ρ)

section
open Cert.ProjSIdeal Cert.ProjSIdeal.Gen Cert.ProjSIdeal.Val Cert.ProjSFrame

/-- Every run of the idealized kernel ends with the projection's outputs in its result arrays and its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = SampleProjection.byHead (xs m c) (gs m c) (ws m c) 1
      ∧ r.2.mem ((c.tc : Thread nD τ).loc main_v10) = SampleProjection.byHead (xs m c) (gs m c) (ws m c) 2
      ∧ r.2.mem ((c.tc : Thread nD τ).loc main_v12) = pushed (m ((c.tc : Thread nD τ).loc main_arg1)) (SampleProjection.bySample (xs m c) (gs m c) (ws m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1.1 c).2 main_v9 (Pipeline.mem_restRefs_of main_v9 (by decide) (by decide))).trans (keys_after m c),
       ((h.1.1 c).2 main_v10 (Pipeline.mem_restRefs_of main_v10 (by decide) (by decide))).trans (values_after m c),
       ((h.1.1 c).2 main_v12 (Pipeline.mem_restRefs_of main_v12 (by decide) (by decide))).trans (pool_after m c), h.2.1 c⟩)
    (θ_run_and (run m ρ) (Cert.ProjSFrame.frame m ρ))

/-- The reference's next state of the pool is the same, its inputs put after the state. -/
theorem pool_ref (x : SampleProjection.Samples.Idx → EReal) (p : Vec Ideal S1x32x15x1024 .f32) (g : Projection.Gains.Idx → EReal) (w : Projection.Matrix.Idx → EReal) :
    Cert.ProjSRefIdeal.Read.val_main_v28 (F := Ideal) x p g w = pushed p (SampleProjection.bySample x g w) :=
  (show Cert.ProjSRefIdeal.Read.val_main_v28 (F := Ideal) x p g w = pushed p (Cert.ProjSRefIdeal.Read.val_main_v22 (F := Ideal) x g w) from rfl).trans
    (congrArg (pushed p) (Cert.ProjSRefIdeal.Val.inputs_ref x g w))

end

/-- Kernel and reference end with the same arrays over the extended reals: the normed samples times the matrix's blocks, the pool
    inputs put after the pool's state. -/
theorem algebraic : Cert.algebraic_ProjSIdeal_ProjSRefIdeal := by
  intro m ρ m' ρ' _ hagree
  refine ⟨_, _, _, kernel_run m ρ, ?_⟩
  refine (θ_run Cert.ProjSRefIdeal.defs _ _).mono (fun _ h c => ?_) (Cert.ProjSRefIdeal.Value.run (F := Ideal) m' ρ')
  obtain ⟨a0, a1, a2, a3⟩ := hagree c
  obtain ⟨h0, h1, h2, h⟩ := h c
  rw [Cert.ProjSRefIdeal.Read.val_main_v25_eq, a0, a2, a3] at h0
  rw [Cert.ProjSRefIdeal.Read.val_main_v26_eq, a0, a2, a3] at h1
  rw [Cert.ProjSRefIdeal.Read.val_main_v28_eq, a0, a1, a2, a3] at h2
  exact ⟨h0.trans (Cert.ProjSRefIdeal.Val.keys_ref _ _ _), h1.trans (Cert.ProjSRefIdeal.Val.values_ref _ _ _),
    h2.trans (pool_ref _ _ _ _), h⟩

end Cert.ProjSClaims

end
-- ==== Proof.EmbedSpec.lean ====
/-
  The per-layer embedding and the final norm over the extended reals, one token at a time.
-/
module

public import Idealize.ShloMosaic.Lib.Pointwise

@[expose] public section

noncomputable section

namespace Cert.Embedding

open Idealize.ShloMosaic

/-- The tokens' rows, and the routed layer's output: the prompt's tokens first, the samples' after them. -/
abbrev Tokens : Shape := ⟨2, ![8320, 2048]⟩
/-- A norm's weights. -/
abbrev Gains : Shape := ⟨2, ![1, 2048]⟩
/-- The gate's matrix. -/
abbrev Gate : Shape := ⟨3, ![1, 2048, 2048]⟩
/-- The embedding's matrix. -/
abbrev Proj : Shape := ⟨3, ![1, 256, 2048]⟩
/-- The final norm's weights. -/
abbrev Last : Shape := ⟨1, ![2048]⟩

/-- Entry `k` of a row, divided by the row's root mean square and weighted. -/
def normed (t g : Fin 2048 → EReal) (k : Fin 2048) : EReal :=
  t k * Ideal.rsqrt (Ideal.div (∑ l : Fin 2048, t l * t l) (Ideal.ofBits FTy.f32 1157627904#32) + Ideal.ofBits FTy.f32 897988541#32) * g k

/-- Entry `n` of the gate's argument. -/
def gated (t g : Fin 2048 → EReal) (w : Gate.Idx → EReal) (n : Fin 2048) : EReal := ∑ k : Fin 2048, normed t g k * w (ix3 0 k n)

/-- Entry `n` of a row with its gated embedding added. -/
def added (t : Fin 2048 → EReal) (p : Fin 256 → EReal) (g : Fin 2048 → EReal) (w : Gate.Idx → EReal) (v : Proj.Idx → EReal) (n : Fin 2048) : EReal :=
  t n + (∑ j : Fin 256, p j * v (ix3 0 j n)) * Ideal.logistic (gated t g w n)

/-- A row of the result. -/
def embedded (t : Fin 2048 → EReal) (p : Fin 256 → EReal) (g : Gains.Idx → EReal) (w : Gate.Idx → EReal) (v : Proj.Idx → EReal) (f : Last.Idx → EReal) :
    Fin 2048 → EReal :=
  normed (added t p (fun k => g (ix2 0 k)) w v) (fun k => f (ix1 k))

/-- A token's row and the routed layer's output for it, added. -/
def token (x y : Tokens.Idx → EReal) (s : Fin 8320) (k : Fin 2048) : EReal := x (ix2 s k) + y (ix2 s k)

/-- The prompt's rows of the result. -/
def prompt (x y : Tokens.Idx → EReal) (p : (⟨4, ![1, 1, 8192, 256]⟩ : Shape).Idx → EReal) (g : Gains.Idx → EReal) (w : Gate.Idx → EReal)
    (v : Proj.Idx → EReal) (f : Last.Idx → EReal) : (⟨2, ![8192, 2048]⟩ : Shape).Idx → EReal :=
  fun i => embedded (token x y ⟨(i 0).val, by have h : (i 0).val < 8192 := (i 0).isLt; omega⟩) (fun j => p (ix4 0 0 (i 0) j)) g w v f (i 1)

/-- The samples' rows of the result, four to a sample. -/
def samples (x y : Tokens.Idx → EReal) (p : (⟨4, ![1, 32, 4, 256]⟩ : Shape).Idx → EReal) (g : Gains.Idx → EReal) (w : Gate.Idx → EReal)
    (v : Proj.Idx → EReal) (f : Last.Idx → EReal) : (⟨2, ![128, 2048]⟩ : Shape).Idx → EReal :=
  fun i => embedded (token x y ⟨8192 + (i 0).val, by have h : (i 0).val < 128 := (i 0).isLt; omega⟩)
    (fun j => p (ix4 0 ⟨(i 0).val / 4, by have h : (i 0).val < 128 := (i 0).isLt; omega⟩ ⟨(i 0).val % 4, by omega⟩ j)) g w v f (i 1)

end Cert.Embedding

end
-- ==== Proof.EmbedSValue.lean ====
/-
  The array of the embedding of the samples after the run.
-/
module

public import proofs.«01_k».proof.Proof.EmbedSpec
public import proofs.«01_k».proof.Proof.Gen.EmbedSIdeal.Value
public import Idealize.ShloMosaic.Lib.Pipeline.ValueKit

@[expose] public section

set_option maxRecDepth 16384

noncomputable section

namespace Cert.EmbedSIdeal.Val

open Cert.EmbedSIdeal Cert.EmbedSIdeal.Gen Cert.Embedding Idealize.ShloMosaic Idealize.ShloMosaic.TcCoe Idealize.SL.Sem Idealize.ShloMosaic.Tactic

/-! ## The host lines before the kernel -/

/-- The samples' embeddings, a row a token. -/
theorem embeds_apply (p : Vec Ideal S1x32x4x256 .f32) (s : Fin 128) (j : Fin 256) :
    shapeCast S128x256 (shapeCast S32x4x256 p shapeCasts_S1x32x4x256_S32x4x256) shapeCasts_S32x4x256_S128x256 (ix2 s j)
      = p (ix4 0 ⟨s.val / 4, by omega⟩ ⟨s.val % 4, by omega⟩ j) := by pointwise []

/-- The norm's weights flattened and laid out as a row again. -/
theorem gains_apply (g : Vec Ideal S1x2048 .f32) (k : Fin 2048) :
    shapeCast S1x2048 (shapeCast S2048 g shapeCasts_S1x2048_S2048) shapeCasts_S2048_S1x2048 (ix2 0 k) = g (ix2 0 k) := by pointwise []

/-- The gate's matrix without its first axis. -/
theorem gate_apply (w : Vec Ideal S1x2048x2048 .f32) (k n : Fin 2048) :
    truncf (F := Ideal) .bf16 (shapeCast S2048x2048 w shapeCasts_S1x2048x2048_S2048x2048) bitsLt_bf16_f32 (ix2 k n) = w (ix3 0 k n) := by pointwise []

/-- The embedding's matrix without its first axis. -/
theorem proj_apply (v : Vec Ideal S1x256x2048 .f32) (j : Fin 256) (n : Fin 2048) :
    truncf (F := Ideal) .bf16 (shapeCast S256x2048 v shapeCasts_S1x256x2048_S256x2048) bitsLt_bf16_f32 (ix2 j n) = v (ix3 0 j n) := by pointwise []

/-- The final norm's weights as a row. -/
theorem last_apply (f : Vec Ideal S2048 .f32) (k : Fin 2048) : shapeCast S1x2048 f shapeCasts_S2048_S1x2048 (ix2 0 k) = f (ix1 k) := by pointwise []

variable (m : (ℓ : Loc nD τ sig) → Buf (Elt Ideal) ℓ) (c : Dev nD)

/-- The rows of embeddings the kernel is launched with, -/
theorem v1_eq : V m c main_v1 = shapeCast S128x256 (shapeCast S32x4x256 (m ((c : Thread nD τ).loc main_arg2)) shapeCasts_S1x32x4x256_S32x4x256) shapeCasts_S32x4x256_S128x256 := by
  unfold V hostOps0
  after_results_simp <;> rfl

/-- its norm's weights, -/
theorem v3_eq : V m c main_v3 = shapeCast S1x2048 (shapeCast S2048 (m ((c : Thread nD τ).loc main_arg3)) shapeCasts_S1x2048_S2048) shapeCasts_S2048_S1x2048 := by
  unfold V hostOps0
  after_results_simp <;> rfl

/-- the gate's matrix, -/
theorem v5_eq : V m c main_v5 = truncf (F := Ideal) .bf16 (shapeCast S2048x2048 (m ((c : Thread nD τ).loc main_arg4)) shapeCasts_S1x2048x2048_S2048x2048) bitsLt_bf16_f32 := by
  unfold V hostOps0
  after_results_simp <;> rfl

/-- the embedding's matrix -/
theorem v7_eq : V m c main_v7 = truncf (F := Ideal) .bf16 (shapeCast S256x2048 (m ((c : Thread nD τ).loc main_arg5)) shapeCasts_S1x256x2048_S256x2048) bitsLt_bf16_f32 := by
  unfold V hostOps0
  after_results_simp <;> rfl

/-- and the final norm's weights. -/
theorem v8_eq : V m c main_v8 = shapeCast S1x2048 (m ((c : Thread nD τ).loc main_arg6)) shapeCasts_S2048_S1x2048 := by
  unfold V hostOps0
  after_results_simp <;> rfl

/-- The tokens' rows, -/
abbrev xs : Tokens.Idx → EReal := m ((c : Thread nD τ).loc main_arg0)
/-- the routed layer's output, -/
abbrev ys : Tokens.Idx → EReal := m ((c : Thread nD τ).loc main_arg1)
/-- the embeddings, -/
abbrev ps : (⟨4, ![1, 32, 4, 256]⟩ : Shape).Idx → EReal := m ((c : Thread nD τ).loc main_arg2)
/-- the norm's weights, -/
abbrev gs : Gains.Idx → EReal := m ((c : Thread nD τ).loc main_arg3)
/-- the gate's matrix, -/
abbrev ws : Gate.Idx → EReal := m ((c : Thread nD τ).loc main_arg4)
/-- the embedding's matrix -/
abbrev vs : Embedding.Proj.Idx → EReal := m ((c : Thread nD τ).loc main_arg5)
/-- and the final norm's weights, as launched. -/
abbrev fs : Last.Idx → EReal := m ((c : Thread nD τ).loc main_arg6)

/-! ## The windows' blocks -/

/-- The block indices. -/
theorem indices : ∀ t : Fin grid0.N, win0_0.index t = ![64, 0] ∧ win0_1.index t = ![64, 0] ∧ win0_2.index t = ![0, 0]
    ∧ win0_3.index t = ![0, 0] ∧ win0_4.index t = ![0, 0] ∧ win0_5.index t = ![0, 0] ∧ win0_6.index t = ![0, 0] ∧ win0_7.index t = ![0, 0] := by decide +kernel

/-- The token of a row of the samples. -/
def place (s : Fin 128) : Fin 8320 := ⟨8192 + s.val, by omega⟩

/-- The tokens' rows, -/
theorem rows_block (t : Fin cfg0.N) (r : Fin 128) (n : Fin 2048) : (iblk m c 0 t : Vec Ideal S128x2048 .f32) (ix2 r n) = xs m c (ix2 (place r) n) := by
  have e : win0_0.index t 0 = 64 ∧ win0_0.index t 1 = 0 := by rw [(indices t).1]; exact ⟨rfl, rfl⟩
  refine Eq.trans (congrArg (V m c main_arg0) (show ((cfg0.win 0).blk t).view.emb (ix2 r n) = ix2 (place r) n from funext fun a => Fin.ext ?_)) (congrFun (V_main_arg0 m c) _)
  match a with
  | 0 => show win0_0.index t 0 * 128 + 1 * r.val = 8192 + r.val; rw [e.1]; omega
  | 1 => show win0_0.index t 1 * 2048 + 1 * n.val = n.val; rw [e.2]; omega

/-- the routed layer's, -/
theorem routed_block (t : Fin cfg0.N) (r : Fin 128) (n : Fin 2048) : (iblk m c 1 t : Vec Ideal S128x2048 .f32) (ix2 r n) = ys m c (ix2 (place r) n) := by
  have e : win0_1.index t 0 = 64 ∧ win0_1.index t 1 = 0 := by rw [(indices t).2.1]; exact ⟨rfl, rfl⟩
  refine Eq.trans (congrArg (V m c main_arg1) (show ((cfg0.win 1).blk t).view.emb (ix2 r n) = ix2 (place r) n from funext fun a => Fin.ext ?_)) (congrFun (V_main_arg1 m c) _)
  match a with
  | 0 => show win0_1.index t 0 * 128 + 1 * r.val = 8192 + r.val; rw [e.1]; omega
  | 1 => show win0_1.index t 1 * 2048 + 1 * n.val = n.val; rw [e.2]; omega

/-- the embeddings, -/
theorem embeds_block (t : Fin cfg0.N) (r : Fin 128) (j : Fin 256) :
    (iblk m c 2 t : Vec Ideal S128x256 .f32) (ix2 r j) = ps m c (ix4 0 ⟨r.val / 4, by omega⟩ ⟨r.val % 4, by omega⟩ j) := by
  have e : win0_2.index t 0 = 0 ∧ win0_2.index t 1 = 0 := by rw [(indices t).2.2.1]; exact ⟨rfl, rfl⟩
  refine Eq.trans (congrArg (V m c main_v1) (show ((cfg0.win 2).blk t).view.emb (ix2 r j) = ix2 r j from funext fun a => Fin.ext ?_)) ((congrFun (v1_eq m c) _).trans (embeds_apply _ r j))
  match a with
  | 0 => show win0_2.index t 0 * 128 + 1 * r.val = r.val; rw [e.1]; omega
  | 1 => show win0_2.index t 1 * 256 + 1 * j.val = j.val; rw [e.2]; omega

/-- the norm's weights, -/
theorem gains_block (t : Fin cfg0.N) (k : Fin 2048) : (iblk m c 3 t : Vec Ideal S1x2048 .f32) (ix2 0 k) = gs m c (ix2 0 k) := by
  have e : win0_3.index t 0 = 0 ∧ win0_3.index t 1 = 0 := by rw [(indices t).2.2.2.1]; exact ⟨rfl, rfl⟩
  refine Eq.trans (congrArg (V m c main_v3) (show ((cfg0.win 3).blk t).view.emb (ix2 0 k) = ix2 0 k from funext fun a => Fin.ext ?_)) ((congrFun (v3_eq m c) _).trans (gains_apply _ k))
  match a with
  | 0 => show win0_3.index t 0 * 1 + 1 * 0 = 0; rw [e.1]
  | 1 => show win0_3.index t 1 * 2048 + 1 * k.val = k.val; rw [e.2]; omega

/-- the gate's matrix, -/
theorem gate_block (t : Fin cfg0.N) (k n : Fin 2048) : (iblk m c 4 t : Vec Ideal S2048x2048 .bf16) (ix2 k n) = ws m c (ix3 0 k n) := by
  have e : win0_4.index t 0 = 0 ∧ win0_4.index t 1 = 0 := by rw [(indices t).2.2.2.2.1]; exact ⟨rfl, rfl⟩
  refine Eq.trans (congrArg (V m c main_v5) (show ((cfg0.win 4).blk t).view.emb (ix2 k n) = ix2 k n from funext fun a => Fin.ext ?_)) ((congrFun (v5_eq m c) _).trans (gate_apply _ k n))
  match a with
  | 0 => show win0_4.index t 0 * 2048 + 1 * k.val = k.val; rw [e.1]; omega
  | 1 => show win0_4.index t 1 * 2048 + 1 * n.val = n.val; rw [e.2]; omega

/-- the embedding's matrix -/
theorem proj_block (t : Fin cfg0.N) (j : Fin 256) (n : Fin 2048) : (iblk m c 5 t : Vec Ideal S256x2048 .bf16) (ix2 j n) = vs m c (ix3 0 j n) := by
  have e : win0_5.index t 0 = 0 ∧ win0_5.index t 1 = 0 := by rw [(indices t).2.2.2.2.2.1]; exact ⟨rfl, rfl⟩
  refine Eq.trans (congrArg (V m c main_v7) (show ((cfg0.win 5).blk t).view.emb (ix2 j n) = ix2 j n from funext fun a => Fin.ext ?_)) ((congrFun (v7_eq m c) _).trans (proj_apply _ j n))
  match a with
  | 0 => show win0_5.index t 0 * 256 + 1 * j.val = j.val; rw [e.1]; omega
  | 1 => show win0_5.index t 1 * 2048 + 1 * n.val = n.val; rw [e.2]; omega

/-- and the final norm's weights. -/
theorem last_block (t : Fin cfg0.N) (k : Fin 2048) : (iblk m c 6 t : Vec Ideal S1x2048 .f32) (ix2 0 k) = fs m c (ix1 k) := by
  have e : win0_6.index t 0 = 0 ∧ win0_6.index t 1 = 0 := by rw [(indices t).2.2.2.2.2.2.1]; exact ⟨rfl, rfl⟩
  refine Eq.trans (congrArg (V m c main_v8) (show ((cfg0.win 6).blk t).view.emb (ix2 0 k) = ix2 0 k from funext fun a => Fin.ext ?_)) ((congrFun (v8_eq m c) _).trans (last_apply _ k))
  match a with
  | 0 => show win0_6.index t 0 * 1 + 1 * 0 = 0; rw [e.1]
  | 1 => show win0_6.index t 1 * 2048 + 1 * k.val = k.val; rw [e.2]; omega

/-! ## The body's value and the array -/

section
variable {x y : Vec Ideal S128x2048 .f32} {p : Vec Ideal S128x256 .f32} {g : Vec Ideal S1x2048 .f32} {w : Vec Ideal S2048x2048 .bf16}
  {v : Vec Ideal S256x2048 .bf16} {f : Vec Ideal S1x2048 .f32} {r : Fin 128} {t : Fin 2048 → EReal} {q : Fin 256 → EReal}
  {g' : Gains.Idx → EReal} {w' : Gate.Idx → EReal} {v' : Embedding.Proj.Idx → EReal} {f' : Last.Idx → EReal}

/-- The body's row with its gated embedding, for operands that hold the specification's entries. -/
theorem pay2_apply (ht : ∀ k, (x (ix2 r k) : EReal) + y (ix2 r k) = t k) (hq : ∀ j, p (ix2 r j) = q j) (hg : ∀ k, g (ix2 0 k) = g' (ix2 0 k))
    (hw : ∀ k n, w (ix2 k n) = w' (ix3 0 k n)) (hv : ∀ j n, v (ix2 j n) = v' (ix3 0 j n)) (n : Fin 2048) :
    k0_pay2 x y g w p v (ix2 r n) = added t q (fun k => g' (ix2 0 k)) w' v' n := by
  pointwise [k0_pay2]
  simp only [ht, hq, hg, hw, hv]
  rfl

/-- The mean of its squares. -/
theorem pay4_apply : k0_pay4 x y g w p v (ix2 r 0) = Ideal.div (∑ l : Fin 2048, (k0_pay2 x y g w p v (ix2 r l) : EReal) * k0_pay2 x y g w p v (ix2 r l)) (Ideal.ofBits FTy.f32 1157627904#32) := by
  unfold k0_pay4
  generalize k0_pay2 x y g w p v = a
  pointwise []

/-- The final norm of rows `a` whose mean squares are `b`. -/
theorem pay1_apply (a : Vec Ideal S128x2048 .f32) (b : Vec Ideal S128x1 .f32) (n : Fin 2048) :
    k0_pay1 a (k0_pay3 f) b (Scalar.ofBits .f32 0x358637BD#32) (ix2 r n)
      = (a (ix2 r n) : EReal) * Ideal.rsqrt ((b (ix2 r 0) : EReal) + Ideal.ofBits FTy.f32 897988541#32) * f (ix2 0 n) := by
  pointwise [k0_pay1, k0_pay3]

/-- The body's row. -/
theorem row_apply (ht : ∀ k, (x (ix2 r k) : EReal) + y (ix2 r k) = t k) (hq : ∀ j, p (ix2 r j) = q j) (hg : ∀ k, g (ix2 0 k) = g' (ix2 0 k))
    (hw : ∀ k n, w (ix2 k n) = w' (ix3 0 k n)) (hv : ∀ j n, v (ix2 j n) = v' (ix3 0 j n)) (hf : ∀ k, f (ix2 0 k) = f' (ix1 k)) (n : Fin 2048) :
    k0_pay1 (k0_pay2 x y g w p v) (k0_pay3 f) (k0_pay4 x y g w p v) (Scalar.ofBits .f32 0x358637BD#32) (ix2 r n) = embedded t q g' w' v' f' n := by
  rw [pay1_apply, pay4_apply]
  simp only [pay2_apply ht hq hg hw hv, hf]
  rfl

end

/-- The body leaves the rows in its whole block. -/
theorem out_eq (x y : Vec Ideal S128x2048 .f32) (p : Vec Ideal S128x256 .f32) (g : Vec Ideal S1x2048 .f32) (w : Vec Ideal S2048x2048 .bf16)
    (v : Vec Ideal S256x2048 .bf16) (f : Vec Ideal S1x2048 .f32) :
    out0_7 x y p g w v f = k0_pay1 (k0_pay2 x y g w p v) (k0_pay3 f) (k0_pay4 x y g w p v) (Scalar.ofBits .f32 0x358637BD#32) := by
  unfold out0_7
  simp (disch := decide) only [View.canon_cons_unit_lit, View.ld_unit_lit]

/-- The block of the result. -/
theorem row_emb (t : Fin cfg0.N) (y : S128x2048.Idx) (i : S128x2048.Idx) (h0 : (i 0).val = (y 0).val) (h1 : (i 1).val = (y 1).val) :
    out0_7 (iblk m c 0 t) (iblk m c 1 t) (iblk m c 2 t) (iblk m c 3 t) (iblk m c 4 t) (iblk m c 5 t) (iblk m c 6 t) y
      = samples (xs m c) (ys m c) (ps m c) (gs m c) (ws m c) (vs m c) (fs m c) i := by
  have hi : i = y := funext fun b => Fin.ext (by match b with | 0 => exact h0 | 1 => exact h1)
  subst hi
  obtain ⟨r, n, rfl⟩ : ∃ (r : Fin 128) (n : Fin 2048), i = ix2 r n := ⟨i 0, i 1, by funext b; match b with | 0 => rfl | 1 => rfl⟩
  refine (congrFun (out_eq _ _ _ _ _ _ _) _).trans (row_apply (t := token (xs m c) (ys m c) (place r))
    (fun k => congrArg₂ (fun a b : EReal => a + b) (rows_block m c t r k) (routed_block m c t r k)) (embeds_block m c t r) (gains_block m c t) (gate_block m c t) (proj_block m c t)
    (last_block m c t) n)

/-- The result's array. -/
theorem final_7 : (dats m 0 c).arrAt 7 cfg0.N = samples (xs m c) (ys m c) (ps m c) (gs m c) (ws m c) (vs m c) (fs m c) := by
  refine (dats m 0 c).arrAt_eq_of_covers 7 _ (by decide +kernel) fun t hf y => ?_
  have e : win0_7.index t 0 = 0 ∧ win0_7.index t 1 = 0 := by rw [(indices t).2.2.2.2.2.2.2]; exact ⟨rfl, rfl⟩
  blk_simp
  rw [after0_7]
  exact row_emb m c t y ((win0_7.blk t).view.emb y) (by show win0_7.index t 0 * 128 + 1 * (y 0).val = _; rw [e.1]; omega)
    (by show win0_7.index t 1 * 2048 + 1 * (y 1).val = _; rw [e.2]; omega)

end Cert.EmbedSIdeal.Val

end
-- ==== Proof.EmbedSRef.lean ====
/-
  The samples' reference's result is the embedding's.
-/
module

public import proofs.«01_k».proof.Proof.EmbedSpec
public import proofs.«01_k».proof.Proof.Gen.EmbedSRefIdeal.Read

@[expose] public section

set_option maxRecDepth 16384

noncomputable section

namespace Cert.EmbedSRefIdeal.Val

open Cert.EmbedSRefIdeal Cert.EmbedSRefIdeal.Read Cert.Embedding Idealize.ShloMosaic Idealize.ShloMosaic.TcCoe Idealize.SL.Sem Idealize.ShloMosaic.Tactic

variable (x y : Tokens.Idx → EReal) (p : (⟨4, ![1, 32, 4, 256]⟩ : Shape).Idx → EReal) (g : Gains.Idx → EReal) (w : Gate.Idx → EReal)
  (v : Embedding.Proj.Idx → EReal) (f : Last.Idx → EReal)

/-- The token of a row of the samples. -/
def place (s : Fin 128) : Fin 8320 := ⟨8192 + s.val, by omega⟩

/-- The tokens' rows. -/
theorem token_ref (s : Fin 128) (k : Fin 2048) : val_main_v1 (F := Ideal) x y (ix2 s k) = token x y (place s) k := by
  pointwise [val_main_v1, val_main_v0]
  rfl

/-- The gate's argument. -/
theorem gated_ref (s : Fin 128) (n : Fin 2048) : val_main_v21 (F := Ideal) x y g w (ix2 s n) = gated (token x y (place s)) (fun k => g (ix2 0 k)) w n := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [token_ref]
  rfl

/-- The row with its gated embedding. -/
theorem added_ref (s : Fin 128) (n : Fin 2048) : val_main_v29 (F := Ideal) x y p g w v (ix2 s n)
    = added (token x y (place s)) (fun j => p (ix4 0 ⟨s.val / 4, by omega⟩ ⟨s.val % 4, by omega⟩ j)) (fun k => g (ix2 0 k)) w v n := by
  pointwise [val_main_v29, val_main_v28, val_main_v27, val_main_v26, val_main_v25, val_main_v24, val_main_v23, val_main_v22, val_main_cst_2, val_main_cst_3,
    val_main_v5, val_main_v4, val_main_v3, val_main_v2]
  rw [token_ref, gated_ref]
  rfl

/-- The result. -/
theorem samples_ref : val_main_v42 (F := Ideal) x y p g w v f = samples x y p g w v f := by
  funext i
  obtain ⟨s, n, rfl⟩ : ∃ (s : Fin 128) (n : Fin 2048), i = ix2 s n := ⟨i 0, i 1, by funext b; match b with | 0 => rfl | 1 => rfl⟩
  pointwise [val_main_v42, val_main_v41, val_main_v40, val_main_v39, val_main_v38, val_main_v37, val_main_v36, val_main_v35, val_main_v34, val_main_v33,
    val_main_v32, val_main_v31, val_main_v30, val_main_cst_4, val_main_cst_5, val_main_cst_6]
  simp only [added_ref]
  rfl

end Cert.EmbedSRefIdeal.Val

end
-- ==== Proof.EmbedSClaims.lean ====
/- The claims about the samples' embedding, one theorem each. -/
module

public import proofs.«01_k».proof.Defs
public import proofs.«01_k».proof.Proof.Gen.EmbedS.Frame
public import proofs.«01_k».proof.Proof.Gen.EmbedSIdeal.Frame
public import proofs.«01_k».proof.Proof.Gen.EmbedSIdeal.Skeleton
public import proofs.«01_k».proof.Proof.Gen.EmbedSIdeal.Value
public import proofs.«01_k».proof.Proof.Gen.EmbedSRefIdeal.Run
public import proofs.«01_k».proof.Proof.Gen.EmbedSRefIdeal.Read
public import proofs.«01_k».proof.Proof.EmbedSValue
public import proofs.«01_k».proof.Proof.EmbedSRef
public import Idealize.ShloMosaic.Lib.Quiescent
public import Idealize.ShloMosaic.Lib.Tactic

@[expose] public section

noncomputable section

namespace Cert.EmbedSClaims

open Idealize.ShloMosaic Idealize.ShloMosaic.Tactic Idealize.ShloMosaic.TcCoe Idealize.SL.Sem

/-- The kernel runs to its end, leaves its arguments as they were and every counter at zero. -/
theorem frame_p : Cert.quiescent_EmbedS := fun m ρ _ => Cert.EmbedS.Gen.frame m ρ

/-- So does the idealized kernel. -/
theorem frame_pi : Cert.quiescent_EmbedSIdeal := fun m ρ _ => Cert.EmbedSIdeal.Gen.frame m ρ

/-- The reference runs to its end, leaves its arguments as they were and every counter at zero. -/
theorem frame_ri : Cert.quiescent_EmbedSRefIdeal := fun m ρ _ =>
  (θ_run Cert.EmbedSRefIdeal.defs _ _).mono (fun r h => ⟨fun c => (h c).2, sem_eq_zero_of_no_sems (by decide) r.2⟩)
    (Cert.EmbedSRefIdeal.Value.run (F := Ideal) m ρ)

/-- Kernel and reference end with the same array over the extended reals: the samples' tokens with their gated embeddings, normed. -/
theorem algebraic : Cert.algebraic_EmbedSIdeal_EmbedSRefIdeal := by
  intro m ρ m' ρ' _ hagree
  refine ⟨_, (θ_run Cert.EmbedSIdeal.defs _ _).mono (fun _ h c => ⟨(h c).1.trans (Cert.EmbedSIdeal.Val.final_7 m c), (h c).2⟩) (Cert.EmbedSIdeal.Value.run_blocks (F := Ideal) m ρ), ?_⟩
  refine (θ_run Cert.EmbedSRefIdeal.defs _ _).mono (fun _ h c => ?_) (Cert.EmbedSRefIdeal.Value.run (F := Ideal) m' ρ')
  obtain ⟨a0, a1, a2, a3, a4, a5, a6⟩ := hagree c
  obtain ⟨h0, h⟩ := h c
  rw [Cert.EmbedSRefIdeal.Read.val_main_v42_eq, a0, a1, a2, a3, a4, a5, a6] at h0
  exact ⟨h0.trans (Cert.EmbedSRefIdeal.Val.samples_ref _ _ _ _ _ _ _), h⟩

end Cert.EmbedSClaims

end
-- ==== Proof.EmbedValue.lean ====
/-
  The array of the embedding of the prompt after the run.
-/
module

public import proofs.«01_k».proof.Proof.EmbedSpec
public import proofs.«01_k».proof.Proof.Gen.EmbedIdeal.Value
public import Idealize.ShloMosaic.Lib.Pipeline.ValueKit

@[expose] public section

set_option maxRecDepth 16384

noncomputable section

namespace Cert.EmbedIdeal.Val

open Cert.EmbedIdeal Cert.EmbedIdeal.Gen Cert.Embedding Idealize.ShloMosaic Idealize.ShloMosaic.TcCoe Idealize.SL.Sem Idealize.ShloMosaic.Tactic

/-! ## The host lines before the kernel -/

/-- The prompt's embeddings, a row a token. -/
theorem embeds_apply (p : Vec Ideal S1x1x8192x256 .f32) (s : Fin 8192) (j : Fin 256) :
    shapeCast S8192x256 (shapeCast S1x8192x256 p shapeCasts_S1x1x8192x256_S1x8192x256) shapeCasts_S1x8192x256_S8192x256 (ix2 s j)
      = p (ix4 0 0 s j) := by pointwise []

/-- The norm's weights flattened and laid out as a row again. -/
theorem gains_apply (g : Vec Ideal S1x2048 .f32) (k : Fin 2048) :
    shapeCast S1x2048 (shapeCast S2048 g shapeCasts_S1x2048_S2048) shapeCasts_S2048_S1x2048 (ix2 0 k) = g (ix2 0 k) := by pointwise []

/-- The gate's matrix without its first axis. -/
theorem gate_apply (w : Vec Ideal S1x2048x2048 .f32) (k n : Fin 2048) :
    truncf (F := Ideal) .bf16 (shapeCast S2048x2048 w shapeCasts_S1x2048x2048_S2048x2048) bitsLt_bf16_f32 (ix2 k n) = w (ix3 0 k n) := by pointwise []

/-- The embedding's matrix without its first axis. -/
theorem proj_apply (v : Vec Ideal S1x256x2048 .f32) (j : Fin 256) (n : Fin 2048) :
    truncf (F := Ideal) .bf16 (shapeCast S256x2048 v shapeCasts_S1x256x2048_S256x2048) bitsLt_bf16_f32 (ix2 j n) = v (ix3 0 j n) := by pointwise []

/-- The final norm's weights as a row. -/
theorem last_apply (f : Vec Ideal S2048 .f32) (k : Fin 2048) : shapeCast S1x2048 f shapeCasts_S2048_S1x2048 (ix2 0 k) = f (ix1 k) := by pointwise []

variable (m : (ℓ : Loc nD τ sig) → Buf (Elt Ideal) ℓ) (c : Dev nD)

/-- The rows of embeddings the kernel is launched with, -/
theorem v1_eq : V m c main_v1 = shapeCast S8192x256 (shapeCast S1x8192x256 (m ((c : Thread nD τ).loc main_arg2)) shapeCasts_S1x1x8192x256_S1x8192x256) shapeCasts_S1x8192x256_S8192x256 := by
  unfold V hostOps0
  after_results_simp <;> rfl

/-- its norm's weights, -/
theorem v3_eq : V m c main_v3 = shapeCast S1x2048 (shapeCast S2048 (m ((c : Thread nD τ).loc main_arg3)) shapeCasts_S1x2048_S2048) shapeCasts_S2048_S1x2048 := by
  unfold V hostOps0
  after_results_simp <;> rfl

/-- the gate's matrix, -/
theorem v5_eq : V m c main_v5 = truncf (F := Ideal) .bf16 (shapeCast S2048x2048 (m ((c : Thread nD τ).loc main_arg4)) shapeCasts_S1x2048x2048_S2048x2048) bitsLt_bf16_f32 := by
  unfold V hostOps0
  after_results_simp <;> rfl

/-- the embedding's matrix -/
theorem v7_eq : V m c main_v7 = truncf (F := Ideal) .bf16 (shapeCast S256x2048 (m ((c : Thread nD τ).loc main_arg5)) shapeCasts_S1x256x2048_S256x2048) bitsLt_bf16_f32 := by
  unfold V hostOps0
  after_results_simp <;> rfl

/-- and the final norm's weights. -/
theorem v8_eq : V m c main_v8 = shapeCast S1x2048 (m ((c : Thread nD τ).loc main_arg6)) shapeCasts_S2048_S1x2048 := by
  unfold V hostOps0
  after_results_simp <;> rfl

/-- The tokens' rows, -/
abbrev xs : Tokens.Idx → EReal := m ((c : Thread nD τ).loc main_arg0)
/-- the routed layer's output, -/
abbrev ys : Tokens.Idx → EReal := m ((c : Thread nD τ).loc main_arg1)
/-- the embeddings, -/
abbrev ps : (⟨4, ![1, 1, 8192, 256]⟩ : Shape).Idx → EReal := m ((c : Thread nD τ).loc main_arg2)
/-- the norm's weights, -/
abbrev gs : Gains.Idx → EReal := m ((c : Thread nD τ).loc main_arg3)
/-- the gate's matrix, -/
abbrev ws : Gate.Idx → EReal := m ((c : Thread nD τ).loc main_arg4)
/-- the embedding's matrix -/
abbrev vs : Embedding.Proj.Idx → EReal := m ((c : Thread nD τ).loc main_arg5)
/-- and the final norm's weights, as launched. -/
abbrev fs : Last.Idx → EReal := m ((c : Thread nD τ).loc main_arg6)

/-! ## The windows' blocks -/

/-- The block indices. -/
theorem indices : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0] := by decide +kernel

/-- The token of a row of the prompt. -/
def place (s : Fin 8192) : Fin 8320 := ⟨s.val, by omega⟩

/-- The tokens' rows, -/
theorem rows_block (t : Fin cfg0.N) (r : Fin 256) (n : Fin 2048) (s : Fin 8192) (hs : s.val = 256 * t.val + r.val) :
    (X0_0 m c t : Vec Ideal S256x2048 .f32) (ix2 r n) = xs m c (ix2 (place s) n) := by
  have e : win0_0.index t 0 = t.val ∧ win0_0.index t 1 = 0 := by rw [(indices t).1]; exact ⟨rfl, rfl⟩
  unfold X0_0 Pipeline.Window.fill
  rw [dif_pos (moved0_0 t _)]
  refine Eq.trans (congrArg (V m c main_arg0) (show ((cfg0.win 0).blk t).view.emb _ = ix2 (place s) n from funext fun a => Fin.ext ?_)) (congrFun (V_main_arg0 m c) _)
  match a with
  | 0 => show win0_0.index t 0 * 256 + 1 * r.val = s.val; rw [e.1]; omega
  | 1 => show win0_0.index t 1 * 2048 + 1 * n.val = n.val; rw [e.2]; omega

/-- the routed layer's, -/
theorem routed_block (t : Fin cfg0.N) (r : Fin 256) (n : Fin 2048) (s : Fin 8192) (hs : s.val = 256 * t.val + r.val) :
    (X0_1 m c t : Vec Ideal S256x2048 .f32) (ix2 r n) = ys m c (ix2 (place s) n) := by
  have e : win0_1.index t 0 = t.val ∧ win0_1.index t 1 = 0 := by rw [(indices t).2.1]; exact ⟨rfl, rfl⟩
  unfold X0_1 Pipeline.Window.fill
  rw [dif_pos (moved0_1 t _)]
  refine Eq.trans (congrArg (V m c main_arg1) (show ((cfg0.win 1).blk t).view.emb _ = ix2 (place s) n from funext fun a => Fin.ext ?_)) (congrFun (V_main_arg1 m c) _)
  match a with
  | 0 => show win0_1.index t 0 * 256 + 1 * r.val = s.val; rw [e.1]; omega
  | 1 => show win0_1.index t 1 * 2048 + 1 * n.val = n.val; rw [e.2]; omega

/-- the embeddings, -/
theorem embeds_block (t : Fin cfg0.N) (r : Fin 256) (j : Fin 256) (s : Fin 8192) (hs : s.val = 256 * t.val + r.val) :
    (iblk m c 2 t : Vec Ideal S256x256 .f32) (ix2 r j) = ps m c (ix4 0 0 s j) := by
  have e : win0_2.index t 0 = t.val ∧ win0_2.index t 1 = 0 := by rw [(indices t).2.2.1]; exact ⟨rfl, rfl⟩
  refine Eq.trans (congrArg (V m c main_v1) (show ((cfg0.win 2).blk t).view.emb (ix2 r j) = ix2 s j from funext fun a => Fin.ext ?_)) ((congrFun (v1_eq m c) _).trans (embeds_apply _ s j))
  match a with
  | 0 => show win0_2.index t 0 * 256 + 1 * r.val = s.val; rw [e.1]; omega
  | 1 => show win0_2.index t 1 * 256 + 1 * j.val = j.val; rw [e.2]; omega

/-- the norm's weights, -/
theorem gains_block (t : Fin cfg0.N) (k : Fin 2048) : (iblk m c 3 t : Vec Ideal S1x2048 .f32) (ix2 0 k) = gs m c (ix2 0 k) := by
  have e : win0_3.index t 0 = 0 ∧ win0_3.index t 1 = 0 := by rw [(indices t).2.2.2.1]; exact ⟨rfl, rfl⟩
  refine Eq.trans (congrArg (V m c main_v3) (show ((cfg0.win 3).blk t).view.emb (ix2 0 k) = ix2 0 k from funext fun a => Fin.ext ?_)) ((congrFun (v3_eq m c) _).trans (gains_apply _ k))
  match a with
  | 0 => show win0_3.index t 0 * 1 + 1 * 0 = 0; rw [e.1]
  | 1 => show win0_3.index t 1 * 2048 + 1 * k.val = k.val; rw [e.2]; omega

/-- the gate's matrix, -/
theorem gate_block (t : Fin cfg0.N) (k n : Fin 2048) : (iblk m c 4 t : Vec Ideal S2048x2048 .bf16) (ix2 k n) = ws m c (ix3 0 k n) := by
  have e : win0_4.index t 0 = 0 ∧ win0_4.index t 1 = 0 := by rw [(indices t).2.2.2.2.1]; exact ⟨rfl, rfl⟩
  refine Eq.trans (congrArg (V m c main_v5) (show ((cfg0.win 4).blk t).view.emb (ix2 k n) = ix2 k n from funext fun a => Fin.ext ?_)) ((congrFun (v5_eq m c) _).trans (gate_apply _ k n))
  match a with
  | 0 => show win0_4.index t 0 * 2048 + 1 * k.val = k.val; rw [e.1]; omega
  | 1 => show win0_4.index t 1 * 2048 + 1 * n.val = n.val; rw [e.2]; omega

/-- the embedding's matrix -/
theorem proj_block (t : Fin cfg0.N) (j : Fin 256) (n : Fin 2048) : (iblk m c 5 t : Vec Ideal S256x2048 .bf16) (ix2 j n) = vs m c (ix3 0 j n) := by
  have e : win0_5.index t 0 = 0 ∧ win0_5.index t 1 = 0 := by rw [(indices t).2.2.2.2.2.1]; exact ⟨rfl, rfl⟩
  refine Eq.trans (congrArg (V m c main_v7) (show ((cfg0.win 5).blk t).view.emb (ix2 j n) = ix2 j n from funext fun a => Fin.ext ?_)) ((congrFun (v7_eq m c) _).trans (proj_apply _ j n))
  match a with
  | 0 => show win0_5.index t 0 * 256 + 1 * j.val = j.val; rw [e.1]; omega
  | 1 => show win0_5.index t 1 * 2048 + 1 * n.val = n.val; rw [e.2]; omega

/-- and the final norm's weights. -/
theorem last_block (t : Fin cfg0.N) (k : Fin 2048) : (iblk m c 6 t : Vec Ideal S1x2048 .f32) (ix2 0 k) = fs m c (ix1 k) := by
  have e : win0_6.index t 0 = 0 ∧ win0_6.index t 1 = 0 := by rw [(indices t).2.2.2.2.2.2.1]; exact ⟨rfl, rfl⟩
  refine Eq.trans (congrArg (V m c main_v8) (show ((cfg0.win 6).blk t).view.emb (ix2 0 k) = ix2 0 k from funext fun a => Fin.ext ?_)) ((congrFun (v8_eq m c) _).trans (last_apply _ k))
  match a with
  | 0 => show win0_6.index t 0 * 1 + 1 * 0 = 0; rw [e.1]
  | 1 => show win0_6.index t 1 * 2048 + 1 * k.val = k.val; rw [e.2]; omega

/-! ## The body's value and the array -/

section
variable {x y : Vec Ideal S256x2048 .f32} {p : Vec Ideal S256x256 .f32} {g : Vec Ideal S1x2048 .f32} {w : Vec Ideal S2048x2048 .bf16}
  {v : Vec Ideal S256x2048 .bf16} {f : Vec Ideal S1x2048 .f32} {r : Fin 256} {t : Fin 2048 → EReal} {q : Fin 256 → EReal}
  {g' : Gains.Idx → EReal} {w' : Gate.Idx → EReal} {v' : Embedding.Proj.Idx → EReal} {f' : Last.Idx → EReal}

/-- The body's row with its gated embedding, for operands that hold the specification's entries. -/
theorem pay2_apply (ht : ∀ k, (x (ix2 r k) : EReal) + y (ix2 r k) = t k) (hq : ∀ j, p (ix2 r j) = q j) (hg : ∀ k, g (ix2 0 k) = g' (ix2 0 k))
    (hw : ∀ k n, w (ix2 k n) = w' (ix3 0 k n)) (hv : ∀ j n, v (ix2 j n) = v' (ix3 0 j n)) (n : Fin 2048) :
    k0_pay2 x y g w p v (ix2 r n) = added t q (fun k => g' (ix2 0 k)) w' v' n := by
  pointwise [k0_pay2]
  simp only [ht, hq, hg, hw, hv]
  rfl

/-- The mean of its squares. -/
theorem pay4_apply : k0_pay4 x y g w p v (ix2 r 0) = Ideal.div (∑ l : Fin 2048, (k0_pay2 x y g w p v (ix2 r l) : EReal) * k0_pay2 x y g w p v (ix2 r l)) (Ideal.ofBits FTy.f32 1157627904#32) := by
  unfold k0_pay4
  generalize k0_pay2 x y g w p v = a
  pointwise []

/-- The final norm of rows `a` whose mean squares are `b`. -/
theorem pay1_apply (a : Vec Ideal S256x2048 .f32) (b : Vec Ideal S256x1 .f32) (n : Fin 2048) :
    k0_pay1 a (k0_pay3 f) b (Scalar.ofBits .f32 0x358637BD#32) (ix2 r n)
      = (a (ix2 r n) : EReal) * Ideal.rsqrt ((b (ix2 r 0) : EReal) + Ideal.ofBits FTy.f32 897988541#32) * f (ix2 0 n) := by
  pointwise [k0_pay1, k0_pay3]

/-- The body's row. -/
theorem row_apply (ht : ∀ k, (x (ix2 r k) : EReal) + y (ix2 r k) = t k) (hq : ∀ j, p (ix2 r j) = q j) (hg : ∀ k, g (ix2 0 k) = g' (ix2 0 k))
    (hw : ∀ k n, w (ix2 k n) = w' (ix3 0 k n)) (hv : ∀ j n, v (ix2 j n) = v' (ix3 0 j n)) (hf : ∀ k, f (ix2 0 k) = f' (ix1 k)) (n : Fin 2048) :
    k0_pay1 (k0_pay2 x y g w p v) (k0_pay3 f) (k0_pay4 x y g w p v) (Scalar.ofBits .f32 0x358637BD#32) (ix2 r n) = embedded t q g' w' v' f' n := by
  rw [pay1_apply, pay4_apply]
  simp only [pay2_apply ht hq hg hw hv, hf]
  rfl

end

/-- The body leaves the rows in its whole block. -/
theorem run_rows (c : Dev nD) (t : Fin cfg0.N) (x y : Vec Ideal S256x2048 .f32) (p : Vec Ideal S256x256 .f32) (g : Vec Ideal S1x2048 .f32) (w : Vec Ideal S2048x2048 .bf16)
    (v : Vec Ideal S256x2048 .bf16) (f : Vec Ideal S1x2048 .f32) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) x y p g w v f = k0_pay1 (k0_pay2 x y g w p v) (k0_pay3 f) (k0_pay4 x y g w p v) (Scalar.ofBits .f32 0x358637BD#32) := by
  unfold out0_A_7
  rw [View.read_writes_eq_canon _ _ _ (fun z => cover0_A_7 _ _ _ _ _ _ _ _ _ _ _ _ _ _ _ _ _ _ _ _ _ _ _ _ _ z)]
  refine (View.canon_cons_unit_lit inb_S256x2048_S256x2048_0_0 _ [] (by decide)).trans ?_
  sl_unfold_run_names
  simp (disch := decide) only [View.readAt_eq_ld, View.ld_unit_lit]
  rw [(hs0_0 t).read_unread, (hs0_1 t).read_unread, (hs0_2 t).read_unread, (hs0_3 t).read_unread, (hs0_4 t).read_unread, (hs0_5 t).read_unread, (hs0_6 t).read_unread]

/-- A point's block of the result. -/
theorem row_emb (t : Fin cfg0.N) (y : S256x2048.Idx) (i : S8192x2048.Idx) (h0 : (i 0).val = 256 * t.val + (y 0).val) (h1 : (i 1).val = (y 1).val) :
    outsAt0 m c t y = prompt (xs m c) (ys m c) (ps m c) (gs m c) (ws m c) (vs m c) (fs m c) i := by
  obtain ⟨r, n, rfl⟩ : ∃ (r : Fin 256) (n : Fin 2048), y = ix2 r n := ⟨y 0, y 1, by funext b; match b with | 0 => rfl | 1 => rfl⟩
  obtain ⟨s, l, rfl⟩ : ∃ (s : Fin 8192) (l : Fin 2048), i = ix2 s l := ⟨i 0, i 1, by funext b; match b with | 0 => rfl | 1 => rfl⟩
  have hl : l = n := Fin.ext h1
  subst hl
  unfold outsAt0
  exact (congrFun (run_rows c t _ _ _ _ _ _ _) _).trans (row_apply (t := token (xs m c) (ys m c) (place s))
    (fun k => congrArg₂ (fun a b : EReal => a + b) (rows_block m c t r k s h0) (routed_block m c t r k s h0)) (fun j => embeds_block m c t r j s h0) (gains_block m c t)
    (gate_block m c t) (proj_block m c t) (last_block m c t) l)

/-- The result's array. -/
theorem final_7 : (dats m 0 c).arrAt 7 cfg0.N = prompt (xs m c) (ys m c) (ps m c) (gs m c) (ws m c) (vs m c) (fs m c) := by
  refine (dats m 0 c).arrAt_eq_of_covers 7 _ (by decide +kernel) fun t hf y => ?_
  have e : win0_7.index t 0 = t.val ∧ win0_7.index t 1 = 0 := by rw [(indices t).2.2.2.2.2.2.2]; exact ⟨rfl, rfl⟩
  blk_simp
  rw [after0_7]
  exact row_emb m c t y ((win0_7.blk t).view.emb y) (by show win0_7.index t 0 * 256 + 1 * (y 0).val = _; rw [e.1]; omega)
    (by show win0_7.index t 1 * 2048 + 1 * (y 1).val = _; rw [e.2]; omega)

end Cert.EmbedIdeal.Val

end
-- ==== Proof.EmbedRef.lean ====
/-
  The prompt reference's result is the embedding's.
-/
module

public import proofs.«01_k».proof.Proof.EmbedSpec
public import proofs.«01_k».proof.Proof.Gen.EmbedRefIdeal.Read

@[expose] public section

set_option maxRecDepth 16384

noncomputable section

namespace Cert.EmbedRefIdeal.Val

open Cert.EmbedRefIdeal Cert.EmbedRefIdeal.Read Cert.Embedding Idealize.ShloMosaic Idealize.ShloMosaic.TcCoe Idealize.SL.Sem Idealize.ShloMosaic.Tactic

variable (x y : Tokens.Idx → EReal) (p : (⟨4, ![1, 1, 8192, 256]⟩ : Shape).Idx → EReal) (g : Gains.Idx → EReal) (w : Gate.Idx → EReal)
  (v : Embedding.Proj.Idx → EReal) (f : Last.Idx → EReal)

/-- The token of a row of the prompt. -/
def place (s : Fin 8192) : Fin 8320 := ⟨s.val, by omega⟩

/-- The tokens' rows. -/
theorem token_ref (s : Fin 8192) (k : Fin 2048) : val_main_v1 (F := Ideal) x y (ix2 s k) = token x y (place s) k := by
  pointwise [val_main_v1, val_main_v0]
  rfl

/-- The gate's argument. -/
theorem gated_ref (s : Fin 8192) (n : Fin 2048) : val_main_v21 (F := Ideal) x y g w (ix2 s n) = gated (token x y (place s)) (fun k => g (ix2 0 k)) w n := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [token_ref]
  rfl

/-- The row with its gated embedding. -/
theorem added_ref (s : Fin 8192) (n : Fin 2048) : val_main_v29 (F := Ideal) x y p g w v (ix2 s n)
    = added (token x y (place s)) (fun j => p (ix4 0 0 s j)) (fun k => g (ix2 0 k)) w v n := by
  pointwise [val_main_v29, val_main_v28, val_main_v27, val_main_v26, val_main_v25, val_main_v24, val_main_v23, val_main_v22, val_main_cst_2, val_main_cst_3,
    val_main_v5, val_main_v4, val_main_v3, val_main_v2]
  rw [token_ref, gated_ref]
  rfl

/-- The result. -/
theorem prompt_ref : val_main_v42 (F := Ideal) x y p g w v f = prompt x y p g w v f := by
  funext i
  obtain ⟨s, n, rfl⟩ : ∃ (s : Fin 8192) (n : Fin 2048), i = ix2 s n := ⟨i 0, i 1, by funext b; match b with | 0 => rfl | 1 => rfl⟩
  pointwise [val_main_v42, val_main_v41, val_main_v40, val_main_v39, val_main_v38, val_main_v37, val_main_v36, val_main_v35, val_main_v34, val_main_v33,
    val_main_v32, val_main_v31, val_main_v30, val_main_cst_4, val_main_cst_5, val_main_cst_6]
  simp only [added_ref]
  rfl

end Cert.EmbedRefIdeal.Val

end
-- ==== Proof.EmbedClaims.lean ====
/- The claims about the prompt's embedding, one theorem each. -/
module

public import proofs.«01_k».proof.Defs
public import proofs.«01_k».proof.Proof.Gen.Embed.Frame
public import proofs.«01_k».proof.Proof.Gen.EmbedIdeal.Frame
public import proofs.«01_k».proof.Proof.Gen.EmbedIdeal.Skeleton
public import proofs.«01_k».proof.Proof.Gen.EmbedIdeal.Value
public import proofs.«01_k».proof.Proof.Gen.EmbedRefIdeal.Run
public import proofs.«01_k».proof.Proof.Gen.EmbedRefIdeal.Read
public import proofs.«01_k».proof.Proof.EmbedValue
public import proofs.«01_k».proof.Proof.EmbedRef
public import Idealize.ShloMosaic.Lib.Quiescent
public import Idealize.ShloMosaic.Lib.Tactic

@[expose] public section

noncomputable section

namespace Cert.EmbedClaims

open Idealize.ShloMosaic Idealize.ShloMosaic.Tactic Idealize.ShloMosaic.TcCoe Idealize.SL.Sem

/-- The kernel runs to its end, leaves its arguments as they were and every counter at zero. -/
theorem frame_p : Cert.quiescent_Embed := fun m ρ _ => Cert.Embed.Gen.frame m ρ

/-- So does the idealized kernel. -/
theorem frame_pi : Cert.quiescent_EmbedIdeal := fun m ρ _ => Cert.EmbedIdeal.Gen.frame m ρ

/-- The reference runs to its end, leaves its arguments as they were and every counter at zero. -/
theorem frame_ri : Cert.quiescent_EmbedRefIdeal := fun m ρ _ =>
  (θ_run Cert.EmbedRefIdeal.defs _ _).mono (fun r h => ⟨fun c => (h c).2, sem_eq_zero_of_no_sems (by decide) r.2⟩)
    (Cert.EmbedRefIdeal.Value.run (F := Ideal) m ρ)

/-- Kernel and reference end with the same array over the extended reals: the prompt's tokens with their gated embeddings, normed. -/
theorem algebraic : Cert.algebraic_EmbedIdeal_EmbedRefIdeal := by
  intro m ρ m' ρ' _ hagree
  refine ⟨_, (θ_run Cert.EmbedIdeal.defs _ _).mono (fun _ h c => ⟨(h c).1.trans (Cert.EmbedIdeal.Val.final_7 m c), (h c).2⟩) (Cert.EmbedIdeal.Value.run_blocks (F := Ideal) m ρ), ?_⟩
  refine (θ_run Cert.EmbedRefIdeal.defs _ _).mono (fun _ h c => ?_) (Cert.EmbedRefIdeal.Value.run (F := Ideal) m' ρ')
  obtain ⟨a0, a1, a2, a3, a4, a5, a6⟩ := hagree c
  obtain ⟨h0, h⟩ := h c
  rw [Cert.EmbedRefIdeal.Read.val_main_v42_eq, a0, a1, a2, a3, a4, a5, a6] at h0
  exact ⟨h0.trans (Cert.EmbedRefIdeal.Val.prompt_ref _ _ _ _ _ _ _), h⟩

end Cert.EmbedClaims

end
-- ==== Proof.lean ====
module

public import proofs.«01_k».proof.Defs
public import proofs.«01_k».proof.Proof.AttnClaims
public import proofs.«01_k».proof.Proof.ProjClaims
public import proofs.«01_k».proof.Proof.MixClaims
public import proofs.«01_k».proof.Proof.ExpertsClaims
public import proofs.«01_k».proof.Proof.PoolClaims
public import proofs.«01_k».proof.Proof.PoolSClaims
public import proofs.«01_k».proof.Proof.ProjSClaims
public import proofs.«01_k».proof.Proof.EmbedSClaims
public import proofs.«01_k».proof.Proof.EmbedClaims
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Attn.Gen.facts, Cert.AttnIdeal.Gen.facts, Cert.AttnRefIdeal.Gen.facts,
  Cert.Proj.Gen.facts, Cert.ProjIdeal.Gen.facts, Cert.ProjRefIdeal.Gen.facts,
  Cert.Embed.Gen.facts, Cert.EmbedIdeal.Gen.facts, Cert.EmbedRefIdeal.Gen.facts, Cert.EmbedS.Gen.facts, Cert.EmbedSIdeal.Gen.facts, Cert.EmbedSRefIdeal.Gen.facts,
  Cert.Mix.Gen.facts, Cert.MixIdeal.Gen.facts, Cert.MixRefIdeal.Gen.facts,
  Cert.ProjS.Gen.facts, Cert.ProjSIdeal.Gen.facts, Cert.ProjSRefIdeal.Gen.facts,
  Cert.Experts.Gen.facts, Cert.ExpertsIdeal.Gen.facts, Cert.ExpertsRefIdeal.Gen.facts, Cert.Pool.Gen.facts, Cert.PoolIdeal.Gen.facts, Cert.PoolRefIdeal.Gen.facts,
  Cert.PoolS.Gen.facts, Cert.PoolSIdeal.Gen.facts, Cert.PoolSRefIdeal.Gen.facts, Cert.Pre_finite.Val.facts, Cert.Pre_plan.Val.facts, Cert.Pre_finite_inputs.Val.facts, Cert.Pre_finite_buffer.Val.facts,
  AttnClaims.frame_p, AttnClaims.frame_pi, AttnClaims.frame_pi_pre, AttnClaims.frame_ri, AttnClaims.frame_ri_pre,
  ProjClaims.frame_p, ProjClaims.frame_pi, ProjClaims.frame_ri,
  EmbedClaims.frame_p, EmbedClaims.frame_pi, EmbedClaims.frame_ri, EmbedSClaims.frame_p, EmbedSClaims.frame_pi, EmbedSClaims.frame_ri,
  MixClaims.frame_p, MixClaims.frame_pi, MixClaims.frame_ri, ProjSClaims.frame_p, ProjSClaims.frame_pi, ProjSClaims.frame_ri,
  ExpertsClaims.frame_p, ExpertsClaims.frame_pi, ExpertsClaims.frame_ri, ExpertsClaims.frame_ri_pre,
  PoolClaims.frame_p, PoolClaims.frame_pi, PoolClaims.frame_pi_pre, PoolClaims.frame_ri, PoolClaims.frame_ri_pre,
  PoolSClaims.frame_p, PoolSClaims.frame_pi, PoolSClaims.frame_pi_pre, PoolSClaims.frame_ri, PoolSClaims.frame_ri_pre,
  trivial, AttnClaims.algebraic, trivial, ProjClaims.algebraic, trivial, EmbedClaims.algebraic, trivial, EmbedSClaims.algebraic, trivial, MixClaims.algebraic, trivial, ProjSClaims.algebraic, trivial, ExpertsClaims.algebraic, trivial, PoolClaims.algebraic, trivial, PoolSClaims.algebraic⟩

end Cert.Proof

end
